-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rows [hPre_finite_rows : Cert.Pre_finite_rows.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rows [hPre_finite_rows : Cert.Pre_finite_rows.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite_rows [hKernel7Ideal : Cert.Kernel7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rows m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite_rows [hReference7Ideal : Cert.Reference7Ideal.Facts] [hPre_finite_rows : Cert.Pre_finite_rows.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rows m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14_2)) (v1 : (c : Dev Cert.Kernel2Ideal.nD) → Buf (Elt Ideal) ((c.tc : Thread Cert.Kernel2Ideal.nD Cert.Kernel2Ideal.τ).loc Cert.Kernel2Ideal.main_v16_0)) (v2 : (c : Dev Cert.Kernel2Ideal.nD) → Buf (Elt Ideal) ((c.tc : Thread Cert.Kernel2Ideal.nD Cert.Kernel2Ideal.τ).loc Cert.Kernel2Ideal.main_v16_1)) (v3 : (c : Dev Cert.Kernel2Ideal.nD) → Buf (Elt Ideal) ((c.tc : Thread Cert.Kernel2Ideal.nD Cert.Kernel2Ideal.τ).loc Cert.Kernel2Ideal.main_v16_2)) (v4 : (c : Dev Cert.Kernel2Ideal.nD) → Buf (Elt Ideal) ((c.tc : Thread Cert.Kernel2Ideal.nD Cert.Kernel2Ideal.τ).loc Cert.Kernel2Ideal.main_v14_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_2) = v0 c
          ∧ r.2.mem ((c.tc : Thread Cert.Kernel2Ideal.nD Cert.Kernel2Ideal.τ).loc Cert.Kernel2Ideal.main_v16_0) = v1 c
          ∧ r.2.mem ((c.tc : Thread Cert.Kernel2Ideal.nD Cert.Kernel2Ideal.τ).loc Cert.Kernel2Ideal.main_v16_1) = v2 c
          ∧ r.2.mem ((c.tc : Thread Cert.Kernel2Ideal.nD Cert.Kernel2Ideal.τ).loc Cert.Kernel2Ideal.main_v16_2) = v3 c
          ∧ r.2.mem ((c.tc : Thread Cert.Kernel2Ideal.nD Cert.Kernel2Ideal.τ).loc Cert.Kernel2Ideal.main_v14_3) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_v104) = v1 c
          ∧ r.2.mem ((c.tc : Thread Cert.Reference2Ideal.nD Cert.Reference2Ideal.τ).loc Cert.Reference2Ideal.main_v106) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel7_Kernel7Ideal : Prop :=
  True

def algebraic_Kernel7Ideal_Reference7Ideal_pre_finite_rows [hKernel7Ideal : Cert.Kernel7Ideal.Facts] [hReference7Ideal : Cert.Reference7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rows m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v80) = v0 c
          ∧ r.2.mem ((c.tc : Thread Cert.Reference7Ideal.nD Cert.Reference7Ideal.τ).loc Cert.Reference7Ideal.main_v63) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_v41) = v2 c
          ∧ r.2.mem ((c.tc : Thread Cert.Reference12Ideal.nD Cert.Reference12Ideal.τ).loc Cert.Reference12Ideal.main_v26) = v3 c
          ∧ r.2.mem ((c.tc : Thread Cert.Reference12Ideal.nD Cert.Reference12Ideal.τ).loc Cert.Reference12Ideal.main_v42) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v25)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v25) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v83) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v25)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v25) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v83) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v25)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v25) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v83) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel7 : Cert.Kernel7.Facts) (hKernel7Ideal : Cert.Kernel7Ideal.Facts) (hReference7Ideal : Cert.Reference7Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel7 (hKernel7 := hKernel7)
    ∧ quiescent_Kernel7Ideal (hKernel7Ideal := hKernel7Ideal)
    ∧ quiescent_Kernel7Ideal_pre_finite_rows (hKernel7Ideal := hKernel7Ideal) (hPre_finite_rows := hPre_finite_rows)
    ∧ quiescent_Reference7Ideal (hReference7Ideal := hReference7Ideal)
    ∧ quiescent_Reference7Ideal_pre_finite_rows (hReference7Ideal := hReference7Ideal) (hPre_finite_rows := hPre_finite_rows)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel7_Kernel7Ideal
    ∧ algebraic_Kernel7Ideal_Reference7Ideal_pre_finite_rows (hKernel7Ideal := hKernel7Ideal) (hReference7Ideal := hReference7Ideal) (hPre_finite_rows := hPre_finite_rows)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x1024x704 : S_.BroadcastsInDim S4x1024x704 (![] : Fin 0 → Fin S4x1024x704.rank)
  reducesTo_S4x1024x704_S_d0_1_2 : S4x1024x704.ReducesTo [0, 1, 2] S_
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn_part2 {F : FTy → Type} [FloatOps F] (main_v22 : IVec S_ 1) (main_v26 : IVec S_ 1) (main_v30 : IVec S_ 1) (main_v33 : IVec S_ 1) : IVec S_ 1 :=
  let main_v34 : IVec S_ 1 := andi main_v33 main_v22
  let main_v35 : IVec S_ 1 := andi main_v34 main_v26
  let main_v36 : IVec S_ 1 := andi main_v35 main_v30
  main_v36

def fn_part1 {F : FTy → Type} [FloatOps F] (main_arg4 : FVec F S4x704x1024 .bf16) (main_arg5 : FVec F S1x1024 .f32) (main_arg6 : FVec F S8192x1024 .f32) (main_v3 : IVec S_ 1) (main_v7 : IVec S_ 1) (main_v12 : IVec S_ 1) (main_v16 : IVec S4x1024x704 1) : IVec S_ 1 :=
  let main_c_5 : IVec S_ 1 := constantI S_ 1 1#1
  let main_v17 : IVec S_ 1 := (fun x v => Host.reduce IntOp.andi x v reducesTo_S4x1024x704_S_d0_1_2 h_S_) main_v16 main_c_5
  let main_v18 : FVec F S4x704x1024 .f32 := (extf .f32 · bitsLt_bf16_f32) main_arg4
  let main_v19 : FVec F S4x704x1024 .f32 := Host.absf main_v18
  let main_cst_6 : FVec F S_ .f32 := constant S_ .f32 0x7F800000#32
  let main_v20 : FVec F S4x704x1024 .f32 := broadcastInDim S4x704x1024 ![] bcast_S_S4x704x1024 main_cst_6
  let main_v21 : IVec S4x704x1024 1 := cmpf .olt main_v19 main_v20
  let main_c_7 : IVec S_ 1 := constantI S_ 1 1#1
  let main_v22 : IVec S_ 1 := (fun x v => Host.reduce IntOp.andi x v reducesTo_S4x704x1024_S_d0_1_2 h_S_) main_v21 main_c_7
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : FVec F S8192x1024 .f32 := Host.absf main_arg6
  let main_cst_10 : FVec F S_ .f32 := constant S_ .f32 0x7F800000#32
  let main_v28 : FVec F S8192x1024 .f32 := broadcastInDim S8192x1024 ![] bcast_S_S8192x1024 main_cst_10
  let main_v29 : IVec S8192x1024 1 := cmpf .olt main_v27 main_v28
  let main_c_11 : IVec S_ 1 := constantI S_ 1 1#1
  let main_v30 : IVec S_ 1 := (fun x v => Host.reduce IntOp.andi x v reducesTo_S8192x1024_S_d0_1 h_S_) main_v29 main_c_11
  let main_v31 : IVec S_ 1 := andi main_v3 main_v7
  let main_v32 : IVec S_ 1 := andi main_v31 main_v12
  let main_v33 : IVec S_ 1 := andi main_v32 main_v17
  fn_part2 (F := F) main_v22 main_v26 main_v30 main_v33

def fn {F : FTy → Type} [FloatOps F] (main_arg0 : FVec F S8192x1024 .f32) (main_arg1 : FVec F S1x1024 .f32) (main_arg2 : FVec F S4x1024x704 .bf16) (main_arg3 : FVec F S4x1024x704 .bf16) (main_arg4 : FVec F S4x704x1024 .bf16) (main_arg5 : FVec F S1x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S4x1024x704 .f32 := (extf .f32 · bitsLt_bf16_f32) main_arg2
  let main_v9 : FVec F S4x1024x704 .f32 := Host.absf main_v8
  let main_cst_2 : FVec F S_ .f32 := constant S_ .f32 0x7F800000#32
  let main_v10 : FVec F S4x1024x704 .f32 := broadcastInDim S4x1024x704 ![] bcast_S_S4x1024x704 main_cst_2
  let main_v11 : IVec S4x1024x704 1 := cmpf .olt main_v9 main_v10
  let main_c_3 : IVec S_ 1 := constantI S_ 1 1#1
  let main_v12 : IVec S_ 1 := (fun x v => Host.reduce IntOp.andi x v reducesTo_S4x1024x704_S_d0_1_2 h_S_) main_v11 main_c_3
  let main_v13 : FVec F S4x1024x704 .f32 := (extf .f32 · bitsLt_bf16_f32) main_arg3
  let main_v14 : FVec F S4x1024x704 .f32 := Host.absf main_v13
  let main_cst_4 : FVec F S_ .f32 := constant S_ .f32 0x7F800000#32
  let main_v15 : FVec F S4x1024x704 .f32 := broadcastInDim S4x1024x704 ![] bcast_S_S4x1024x704 main_cst_4
  let main_v16 : IVec S4x1024x704 1 := cmpf .olt main_v14 main_v15
  fn_part1 (F := F) main_arg4 main_arg5 main_arg6 main_v3 main_v7 main_v12 main_v16
-- ==== Pre_finite_rows.lean ====
abbrev S8192x3072 : Shape := ⟨2, ![8192, 3072]⟩
abbrev S1x8192x1536 : Shape := ⟨3, ![1, 8192, 1536]⟩
abbrev S4x2048x1536 : Shape := ⟨3, ![4, 2048, 1536]⟩
abbrev S16x512x1536 : Shape := ⟨3, ![16, 512, 1536]⟩
abbrev S1024x7680 : Shape := ⟨2, ![1024, 7680]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S1x8192x1536 : S_.BroadcastsInDim S1x8192x1536 (![] : Fin 0 → Fin S1x8192x1536.rank)
  reducesTo_S1x8192x1536_S_d0_1_2 : S1x8192x1536.ReducesTo [0, 1, 2] S_
  bcast_S_S4x2048x1536 : S_.BroadcastsInDim S4x2048x1536 (![] : Fin 0 → Fin S4x2048x1536.rank)
  reducesTo_S4x2048x1536_S_d0_1_2 : S4x2048x1536.ReducesTo [0, 1, 2] S_
  bcast_S_S16x512x1536 : S_.BroadcastsInDim S16x512x1536 (![] : Fin 0 → Fin S16x512x1536.rank)
  reducesTo_S16x512x1536_S_d0_1_2 : S16x512x1536.ReducesTo [0, 1, 2] S_
  bcast_S_S1024x7680 : S_.BroadcastsInDim S1024x7680 (![] : Fin 0 → Fin S1024x7680.rank)
  reducesTo_S1024x7680_S_d0_1 : S1024x7680.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v4 : IVec S_ 1) (main_v9 : IVec S_ 1) (main_v14 : IVec S_ 1) (main_v19 : IVec S_ 1) (main_v24 : IVec S_ 1) (main_v28 : IVec S_ 1) (main_v32 : IVec S_ 1) (main_v33 : FVec F S1x1024 .f32) : IVec S_ 1 :=
  let main_cst_12 : FVec F S_ .f32 := constant S_ .f32 0x7F800000#32
  let main_v34 : FVec F S1x1024 .f32 := broadcastInDim S1x1024 ![] bcast_S_S1x1024 main_cst_12
  let main_v35 : IVec S1x1024 1 := cmpf .olt main_v33 main_v34
  let main_c_13 : IVec S_ 1 := constantI S_ 1 1#1
  let main_v36 : IVec S_ 1 := (fun x v => Host.reduce IntOp.andi x v reducesTo_S1x1024_S_d0_1 h_S_) main_v35 main_c_13
  let main_v37 : IVec S_ 1 := andi main_v4 main_v9
  let main_v38 : IVec S_ 1 := andi main_v37 main_v14
  let main_v39 : IVec S_ 1 := andi main_v38 main_v19
  let main_v40 : IVec S_ 1 := andi main_v39 main_v24
  let main_v41 : IVec S_ 1 := andi main_v40 main_v28
  let main_v42 : IVec S_ 1 := andi main_v41 main_v32
  let main_v43 : IVec S_ 1 := andi main_v42 main_v36
  main_v43

def fn_part1 {F : FTy → Type} [FloatOps F] (main_arg4 : FVec F S1024x7680 .bf16) (main_arg5 : FVec F S8192x1024 .f32) (main_arg6 : FVec F S8192x1024 .f32) (main_arg7 : FVec F S1x1024 .f32) (main_v4 : IVec S_ 1) (main_v9 : IVec S_ 1) (main_v14 : IVec S_ 1) (main_v16 : FVec F S16x512x1536 .f32) (main_cst_4 : FVec F S_ .f32) : IVec S_ 1 :=
  let main_v17 : FVec F S16x512x1536 .f32 := broadcastInDim S16x512x1536 ![] bcast_S_S16x512x1536 main_cst_4
  let main_v18 : IVec S16x512x1536 1 := cmpf .olt main_v16 main_v17
  let main_c_5 : IVec S_ 1 := constantI S_ 1 1#1
  let main_v19 : IVec S_ 1 := (fun x v => Host.reduce IntOp.andi x v reducesTo_S16x512x1536_S_d0_1_2 h_S_) main_v18 main_c_5
  let main_v20 : FVec F S1024x7680 .f32 := (extf .f32 · bitsLt_bf16_f32) main_arg4
  let main_v21 : FVec F S1024x7680 .f32 := Host.absf main_v20
  let main_cst_6 : FVec F S_ .f32 := constant S_ .f32 0x7F800000#32
  let main_v22 : FVec F S1024x7680 .f32 := broadcastInDim S1024x7680 ![] bcast_S_S1024x7680 main_cst_6
  let main_v23 : IVec S1024x7680 1 := cmpf .olt main_v21 main_v22
  let main_c_7 : IVec S_ 1 := constantI S_ 1 1#1
  let main_v24 : IVec S_ 1 := (fun x v => Host.reduce IntOp.andi x v reducesTo_S1024x7680_S_d0_1 h_S_) main_v23 main_c_7
  let main_v25 : FVec F S8192x1024 .f32 := Host.absf main_arg5
  let main_cst_8 : FVec F S_ .f32 := constant S_ .f32 0x7F800000#32
  let main_v26 : FVec F S8192x1024 .f32 := broadcastInDim S8192x1024 ![] bcast_S_S8192x1024 main_cst_8
  let main_v27 : IVec S8192x1024 1 := cmpf .olt main_v25 main_v26
  let main_c_9 : IVec S_ 1 := constantI S_ 1 1#1
  let main_v28 : IVec S_ 1 := (fun x v => Host.reduce IntOp.andi x v reducesTo_S8192x1024_S_d0_1 h_S_) main_v27 main_c_9
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : FVec F S1x1024 .f32 := Host.absf main_arg7
  fn_part2 (F := F) main_v4 main_v9 main_v14 main_v19 main_v24 main_v28 main_v32 main_v33

def fn {F : FTy → Type} [FloatOps F] (main_arg0 : FVec F S8192x3072 .bf16) (main_arg1 : FVec F S1x8192x1536 .bf16) (main_arg2 : FVec F S4x2048x1536 .bf16) (main_arg3 : FVec F S16x512x1536 .bf16) (main_arg4 : FVec F S1024x7680 .bf16) (main_arg5 : FVec F S8192x1024 .f32) (main_arg6 : FVec F S8192x1024 .f32) (main_arg7 : FVec F S1x1024 .f32) : IVec S_ 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S1x8192x1536 .f32 := (extf .f32 · bitsLt_bf16_f32) main_arg1
  let main_v6 : FVec F S1x8192x1536 .f32 := Host.absf main_v5
  let main_cst_0 : FVec F S_ .f32 := constant S_ .f32 0x7F800000#32
  let main_v7 : FVec F S1x8192x1536 .f32 := broadcastInDim S1x8192x1536 ![] bcast_S_S1x8192x1536 main_cst_0
  let main_v8 : IVec S1x8192x1536 1 := cmpf .olt main_v6 main_v7
  let main_c_1 : IVec S_ 1 := constantI S_ 1 1#1
  let main_v9 : IVec S_ 1 := (fun x v => Host.reduce IntOp.andi x v reducesTo_S1x8192x1536_S_d0_1_2 h_S_) main_v8 main_c_1
  let main_v10 : FVec F S4x2048x1536 .f32 := (extf .f32 · bitsLt_bf16_f32) main_arg2
  let main_v11 : FVec F S4x2048x1536 .f32 := Host.absf main_v10
  let main_cst_2 : FVec F S_ .f32 := constant S_ .f32 0x7F800000#32
  let main_v12 : FVec F S4x2048x1536 .f32 := broadcastInDim S4x2048x1536 ![] bcast_S_S4x2048x1536 main_cst_2
  let main_v13 : IVec S4x2048x1536 1 := cmpf .olt main_v11 main_v12
  let main_c_3 : IVec S_ 1 := constantI S_ 1 1#1
  let main_v14 : IVec S_ 1 := (fun x v => Host.reduce IntOp.andi x v reducesTo_S4x2048x1536_S_d0_1_2 h_S_) main_v13 main_c_3
  let main_v15 : FVec F S16x512x1536 .f32 := (extf .f32 · bitsLt_bf16_f32) main_arg3
  let main_v16 : FVec F S16x512x1536 .f32 := Host.absf main_v15
  let main_cst_4 : FVec F S_ .f32 := constant S_ .f32 0x7F800000#32
  fn_part1 (F := F) main_arg4 main_arg5 main_arg6 main_arg7 main_v4 main_v9 main_v14 main_v16 main_cst_4
-- ==== Kernel.lean ====
abbrev S8192x512 : Shape := ⟨2, ![8192, 512]⟩
abbrev S8192x3072 : Shape := ⟨2, ![8192, 3072]⟩
abbrev S512x1024 : Shape := ⟨2, ![512, 1024]⟩
abbrev S1024x1024 : Shape := ⟨2, ![1024, 1024]⟩
abbrev S8192x1024 : Shape := ⟨2, ![8192, 1024]⟩
abbrev S512x3072 : Shape := ⟨2, ![512, 3072]⟩
abbrev S512x512 : Shape := ⟨2, ![512, 512]⟩

abbrev nBuf : Space → Nat
  | .hbm => 16
  | .vmem => 23
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3072, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x3072, .bf16⟩
  | .hbm, ⟨12, _⟩ => ⟨S8192x1024, .bf16⟩
  | .hbm, ⟨13, _⟩ => ⟨S8192x1024, .bf16⟩
  | .hbm, ⟨14, _⟩ => ⟨S8192x512, .f32⟩
  | .hbm, ⟨15, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x3072, .bf16⟩
  | .local _ .vmem, ⟨14, _⟩ => ⟨S512x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x512 : Shape := ⟨2, ![8192, 512]⟩
abbrev S8192x3072 : Shape := ⟨2, ![8192, 3072]⟩
abbrev S512x1024 : Shape := ⟨2, ![512, 1024]⟩
abbrev S1024x1024 : Shape := ⟨2, ![1024, 1024]⟩
abbrev S8192x1024 : Shape := ⟨2, ![8192, 1024]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3072, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S8192x1024, .bf16⟩
  | .hbm, ⟨7, _⟩ => ⟨S8192x512, .f32⟩
  | .hbm, ⟨8, _⟩ => ⟨S8192x512, .f32⟩
  | .hbm, ⟨9, _⟩ => ⟨S8192x3072, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x3072, .f32⟩
  | .hbm, ⟨81, _⟩ => ⟨S8192x1024, .f32⟩
  | .hbm, ⟨82, _⟩ => ⟨S_, .f32⟩
  | .hbm, ⟨83, _⟩ => ⟨S8192x3072, .f32⟩
  | .hbm, ⟨84, _⟩ => ⟨S8192x3072, .f32⟩
  | .hbm, ⟨85, _⟩ => ⟨S8192x512, .f32⟩
  | .hbm, ⟨86, _⟩ => ⟨S8192x512, .f32⟩
  | .hbm, ⟨87, _⟩ => ⟨S8192x3072, .bf16⟩
  | .hbm, ⟨88, _⟩ => ⟨S8192x1024, .bf16⟩
  | .hbm, ⟨89, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S4x8192x704 : Shape := ⟨3, ![4, 8192, 704]⟩
abbrev S512x1024 : Shape := ⟨2, ![512, 1024]⟩
abbrev S4x512x704 : Shape := ⟨3, ![4, 512, 704]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x128 : Shape := ⟨2, ![1, 128]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 35
  | .vmem => 51
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x704, .bf16⟩
  | .hbm, ⟨3, _⟩ => ⟨S4x1024x704, .bf16⟩
  | .hbm, ⟨4, _⟩ => ⟨S4x704x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S4x8192x704, .bf16⟩
  | .hbm, ⟨24, _⟩ => ⟨S4x8192x704, .bf16⟩
  | .hbm, ⟨25, _⟩ => ⟨S4x8192x704, .bf16⟩
  | .hbm, ⟨26, _⟩ => ⟨S8192x1024, .f32⟩
  | .hbm, ⟨27, _⟩ => ⟨S8192x1024, .bf16⟩
  | .hbm, ⟨28, _⟩ => ⟨S1x128, .f32⟩
  | .hbm, ⟨29, _⟩ => ⟨S1x1024, .f32⟩
  | .hbm, ⟨30, _⟩ => ⟨S4x8192x704, .bf16⟩
  | .hbm, ⟨31, _⟩ => ⟨S4x8192x704, .bf16⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x704, .bf16⟩
  | .local _ .vmem, ⟨3, _⟩ => ⟨S4x1024x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x704x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1x128, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S4x704x1024, .bf16⟩
  | .local _ .vmem, ⟨27, _⟩ => ⟨S4x512x704, .bf16⟩
  | .local _ .vmem, ⟨28, _⟩ => ⟨S4x512x704, .bf16⟩
  | .local _ .vmem, ⟨29, _⟩ => ⟨S4x512x704, .bf16⟩
  | .local _ .vmem, ⟨30, _⟩ => ⟨S4x512x704, .bf16⟩
  | .local _ .vmem, ⟨31, _⟩ => ⟨S4x512x704, .bf16⟩
  | .local _ .vmem, ⟨32, _⟩ => ⟨S4x512x704, .bf16⟩
  | .local _ .vmem, ⟨33, _⟩ => ⟨S4x512x704, .bf16⟩
  | .local _ .vmem, ⟨34, _⟩ => ⟨S4x512x704, .bf16⟩
  | .local _ .vmem, ⟨35, _⟩ => ⟨S4x512x704, .bf16⟩
  | .local _ .vmem, ⟨36, _⟩ => ⟨S4x512x704, .bf16⟩
  | .local _ .vmem, ⟨37, _⟩ => ⟨S4x512x704, .bf16⟩
  | .local _ .vmem, ⟨38, _⟩ => ⟨S4x512x704, .bf16⟩
  | .local _ .vmem, ⟨39, _⟩ => ⟨S4x1024x704, .bf16⟩
  | .local _ .vmem, ⟨40, _⟩ => ⟨S4x1024x704, .bf16⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S1x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .bf16⟩
  | .local _ .vmem, ⟨49, _⟩ => ⟨S512x1024, .bf16⟩
  | .local _ .vmem, ⟨50, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v15_0 : Ref sig .tc := ⟨.hbm, 30, rfl⟩
abbrev main_v15_1 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_stg8_0 : Ref sig .tc := ⟨.vmem, 48, rfl⟩
abbrev cc3_stg8_1 : Ref sig .tc := ⟨.vmem, 49, rfl⟩
abbrev cc3_stg9_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem8_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem4_1 : DmaSem sig := 42
abbrev cc3_sem5_0 : DmaSem sig := 43
abbrev cc3_sem5_1 : DmaSem sig := 44
abbrev cc3_sem6_0 : DmaSem sig := 45
abbrev cc3_sem7_0 : DmaSem sig := 46
abbrev cc3_sem7_1 : DmaSem sig := 47
abbrev cc3_sem8_0 : DmaSem sig := 48
abbrev cc3_sem8_1 : DmaSem sig := 49
abbrev cc3_sem9_0 : DmaSem sig := 50

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x704x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x512x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4x512x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4x512x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4x512x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x512x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x1024x704 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x1024x704 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]
-- ==== Reference2Ideal.lean ====
abbrev S8192x1024 : Shape := ⟨2, ![8192, 1024]⟩
abbrev S1x1024 : Shape := ⟨2, ![1, 1024]⟩
abbrev S4x1024x704 : Shape := ⟨3, ![4, 1024, 704]⟩
abbrev S4x704x1024 : Shape := ⟨3, ![4, 704, 1024]⟩
abbrev S1024x4x704 : Shape := ⟨3, ![1024, 4, 704]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x128 : Shape := ⟨2, ![1, 128]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S1x1024, .f32⟩
  | 2 => ⟨S4x1024x704, .bf16⟩
  | 3 => ⟨S4x1024x704, .bf16⟩
  | 4 => ⟨S4x704x1024, .bf16⟩
  | 5 => ⟨S1x1024, .f32⟩
  | 6 => ⟨S8192x1024, .f32⟩
  | 7 => ⟨S4x1024x704, .f32⟩
  | 8 => ⟨S1024x4x704, .f32⟩
  | 9 => ⟨S1024x2816, .f32⟩
  | 10 => ⟨S4x1024x704, .f32⟩
  | 11 => ⟨S1024x4x704, .f32⟩
  | 12 => ⟨S1024x2816, .f32⟩
  | 13 => ⟨S4x704x1024, .f32⟩
  | 14 => ⟨S2816x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S8192x1024, .f32⟩
  | 34 => ⟨S8192x2816, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x2816, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8192, .f32⟩
  | 89 => ⟨S_, .f32⟩
  | 90 => ⟨S8192, .f32⟩
  | 91 => ⟨S8192, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S8192x1024, .f32⟩
  | 101 => ⟨S_, .f32⟩
  | 102 => ⟨S8192, .f32⟩
  | 103 => ⟨S8192x1, .f32⟩
  | 104 => ⟨S8192x1024, .f32⟩
  | 105 => ⟨S8192x1024, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x2816, .f32⟩
  | 118 => ⟨S8192x2816, .f32⟩
  | 119 => ⟨S8192x2816, .f32⟩
  | 120 => ⟨S8192x1024, .f32⟩
  | 121 => ⟨S8192x2816, .f32⟩
  | 122 => ⟨S8192x2816, .f32⟩
  | 123 => ⟨S8192x2816, .f32⟩
  | 124 => ⟨S8192x2816, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S8192x1024, .f32⟩
  | 5 => ⟨S8192x1024, .f32⟩
  | 6 => ⟨S_, .f32⟩
  | 7 => ⟨S8192, .f32⟩
  | 8 => ⟨S8192x1, .f32⟩
  | 9 => ⟨S8192x1024, .f32⟩
  | 10 => ⟨S8192x1024, .f32⟩
  | 11 => ⟨S8192x1024, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S1x128, .f32⟩
  | 24 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_cst_12 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_cst_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]
-- ==== Kernel3.lean ====
abbrev S8192x1024 : Shape := ⟨2, ![8192, 1024]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S8192x1024 : Shape := ⟨2, ![8192, 1024]⟩
abbrev S4x8192x704 : Shape := ⟨3, ![4, 8192, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S_, .f32⟩
  | .hbm, ⟨3, _⟩ => ⟨S4x1024x704, .f32⟩
  | .hbm, ⟨4, _⟩ => ⟨S8192x1024, .f32⟩
  | .hbm, ⟨5, _⟩ => ⟨S4x704x8192, .f32⟩
  | .hbm, ⟨6, _⟩ => ⟨S4x8192x704, .f32⟩
  | .hbm, ⟨7, _⟩ => ⟨S4x8192x704, .f32⟩
  | .hbm, ⟨8, _⟩ => ⟨S4x704x8192, .f32⟩
  | .hbm, ⟨9, _⟩ => ⟨S4x704x1024, .f32⟩
  | .hbm, ⟨10, _⟩ => ⟨S4x1024x704, .f32⟩
  | .hbm, ⟨11, _⟩ => ⟨S4x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S1024x7680 : Shape := ⟨2, ![1024, 7680]⟩
abbrev S2048x1024 : Shape := ⟨2, ![2048, 1024]⟩
abbrev S2048x1536 : Shape := ⟨2, ![2048, 1536]⟩
abbrev S1024x1536 : Shape := ⟨2, ![1024, 1536]⟩
abbrev S1024x3072 : Shape := ⟨2, ![1024, 3072]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x7680, .bf16⟩
  | .hbm, ⟨3, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  let c0_i32_0 : BitVec 32 := 0#32
  ![c0_i32.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference8Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S8192x1536 : Shape := ⟨2, ![8192, 1536]⟩
abbrev S1024x7680 : Shape := ⟨2, ![1024, 7680]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S1024x7680, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference9Ideal.lean ====
abbrev S8192x1024 : Shape := ⟨2, ![8192, 1024]⟩
abbrev S8192x1536 : Shape := ⟨2, ![8192, 1536]⟩
abbrev S1024x7680 : Shape := ⟨2, ![1024, 7680]⟩
abbrev S_ : Shape := ⟨0, ![]⟩
abbrev S1024x1536 : Shape := ⟨2, ![1024, 1536]⟩
abbrev S1536x1024 : Shape := ⟨2, ![1536, 1024]⟩
abbrev S1024x512 : Shape := ⟨2, ![1024, 512]⟩
abbrev S1024x1024 : Shape := ⟨2, ![1024, 1024]⟩
abbrev S1024x4096 : Shape := ⟨2, ![1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x512, .bf16⟩
  | .hbm, ⟨12, _⟩ => ⟨S1024x1024, .bf16⟩
  | .hbm, ⟨13, _⟩ => ⟨S1024x512, .bf16⟩
  | .hbm, ⟨14, _⟩ => ⟨S1024x1024, .bf16⟩
  | .hbm, ⟨15, _⟩ => ⟨S1024x512, .bf16⟩
  | .hbm, ⟨16, _⟩ => ⟨S1024x4096, .bf16⟩
  | .hbm, ⟨17, _⟩ => ⟨S1024x7680, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel10.lean ====
abbrev S8192x1024 : Shape := ⟨2, ![8192, 1024]⟩
abbrev S8192x1536 : Shape := ⟨2, ![8192, 1536]⟩
abbrev S1024x7680 : Shape := ⟨2, ![1024, 7680]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S1024x7680, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c1_i32 : BitVec 32 := 1#32
  let v1 : BitVec 32 := Scalar.addi v0 c1_i32
  let c0_i32 : BitVec 32 := 0#32
  let c0_i32_0 : BitVec 32 := 0#32
  ![c0_i32.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference10Ideal.lean ====
abbrev S8192x1024 : Shape := ⟨2, ![8192, 1024]⟩
abbrev S8192x1536 : Shape := ⟨2, ![8192, 1536]⟩
abbrev S1024x7680 : Shape := ⟨2, ![1024, 7680]⟩
abbrev S_ : Shape := ⟨0, ![]⟩
abbrev S1024x1536 : Shape := ⟨2, ![1024, 1536]⟩
abbrev S1536x1024 : Shape := ⟨2, ![1536, 1024]⟩
abbrev S1024x512 : Shape := ⟨2, ![1024, 512]⟩
abbrev S1024x1024 : Shape := ⟨2, ![1024, 1024]⟩
abbrev S1024x3584 : Shape := ⟨2, ![1024, 3584]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x512, .bf16⟩
  | .hbm, ⟨12, _⟩ => ⟨S1024x512, .bf16⟩
  | .hbm, ⟨13, _⟩ => ⟨S1024x1024, .bf16⟩
  | .hbm, ⟨14, _⟩ => ⟨S1024x512, .bf16⟩
  | .hbm, ⟨15, _⟩ => ⟨S1024x1024, .bf16⟩
  | .hbm, ⟨16, _⟩ => ⟨S1024x512, .bf16⟩
  | .hbm, ⟨17, _⟩ => ⟨S1024x3584, .bf16⟩
  | .hbm, ⟨18, _⟩ => ⟨S1024x7680, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel11.lean ====
abbrev S8192x1024 : Shape := ⟨2, ![8192, 1024]⟩
abbrev S8192x1536 : Shape := ⟨2, ![8192, 1536]⟩
abbrev S1024x7680 : Shape := ⟨2, ![1024, 7680]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S1024x7680, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg1 c3_i32
  let c2_i32 : BitVec 32 := 2#32
  let v1 : BitVec 32 := Scalar.addi v0 c2_i32
  let c0_i32 : BitVec 32 := 0#32
  let c0_i32_0 : BitVec 32 := 0#32
  ![c0_i32.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S8192x1024 : Shape := ⟨2, ![8192, 1024]⟩
abbrev S8192x1536 : Shape := ⟨2, ![8192, 1536]⟩
abbrev S1024x7680 : Shape := ⟨2, ![1024, 7680]⟩
abbrev S_ : Shape := ⟨0, ![]⟩
abbrev S1024x1536 : Shape := ⟨2, ![1024, 1536]⟩
abbrev S1536x1024 : Shape := ⟨2, ![1536, 1024]⟩
abbrev S1024x1024 : Shape := ⟨2, ![1024, 1024]⟩
abbrev S1024x512 : Shape := ⟨2, ![1024, 512]⟩
abbrev S1024x3072 : Shape := ⟨2, ![1024, 3072]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x7680, .bf16⟩
  | .hbm, ⟨3, _⟩ => ⟨S_, .f32⟩
  | .hbm, ⟨4, _⟩ => ⟨S1024x1536, .f32⟩
  | .hbm, ⟨5, _⟩ => ⟨S8192x1024, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x1024, .bf16⟩
  | .hbm, ⟨12, _⟩ => ⟨S1024x512, .bf16⟩
  | .hbm, ⟨13, _⟩ => ⟨S1024x1024, .bf16⟩
  | .hbm, ⟨14, _⟩ => ⟨S1024x512, .bf16⟩
  | .hbm, ⟨15, _⟩ => ⟨S1024x1024, .bf16⟩
  | .hbm, ⟨16, _⟩ => ⟨S1024x512, .bf16⟩
  | .hbm, ⟨17, _⟩ => ⟨S1024x3072, .bf16⟩
  | .hbm, ⟨18, _⟩ => ⟨S1024x7680, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel7.lean ====
abbrev S8192x3072 : Shape := ⟨2, ![8192, 3072]⟩
abbrev S1x8192x1536 : Shape := ⟨3, ![1, 8192, 1536]⟩
abbrev S4x2048x1536 : Shape := ⟨3, ![4, 2048, 1536]⟩
abbrev S16x512x1536 : Shape := ⟨3, ![16, 512, 1536]⟩
abbrev S1024x7680 : Shape := ⟨2, ![1024, 7680]⟩
abbrev S8192x1024 : Shape := ⟨2, ![8192, 1024]⟩
abbrev S1x1024 : Shape := ⟨2, ![1, 1024]⟩
abbrev S512x3072 : Shape := ⟨2, ![512, 3072]⟩
abbrev S1x512x1536 : Shape := ⟨3, ![1, 512, 1536]⟩
abbrev S4x128x1536 : Shape := ⟨3, ![4, 128, 1536]⟩
abbrev S16x32x1536 : Shape := ⟨3, ![16, 32, 1536]⟩
abbrev S1024x1536 : Shape := ⟨2, ![1024, 1536]⟩
abbrev S1024x512 : Shape := ⟨2, ![1024, 512]⟩
abbrev S512x1024 : Shape := ⟨2, ![512, 1024]⟩
abbrev S8x512x128 : Shape := ⟨3, ![8, 512, 128]⟩
abbrev S512x1536 : Shape := ⟨2, ![512, 1536]⟩
abbrev S512x512 : Shape := ⟨2, ![512, 512]⟩
abbrev S128x1024 : Shape := ⟨2, ![128, 1024]⟩
abbrev S128x128 : Shape := ⟨2, ![128, 128]⟩
abbrev S1x512x128 : Shape := ⟨3, ![1, 512, 128]⟩
abbrev S512x128 : Shape := ⟨2, ![512, 128]⟩
abbrev S32x1024 : Shape := ⟨2, ![32, 1024]⟩
abbrev S32x128 : Shape := ⟨2, ![32, 128]⟩
abbrev S512 : Shape := ⟨1, ![512]⟩
abbrev S512x1 : Shape := ⟨2, ![512, 1]⟩
abbrev S1024 : Shape := ⟨1, ![1024]⟩

abbrev nBuf : Space → Nat
  | .hbm => 10
  | .vmem => 29
  | .smem => 0
  | _ => 0

abbrev bufTy : (tb : Table) → Fin (tcTables nBuf tb) → BufTy
  | .hbm, ⟨0, _⟩ => ⟨S8192x3072, .bf16⟩
  | .hbm, ⟨1, _⟩ => ⟨S1x8192x1536, .bf16⟩
  | .hbm, ⟨2, _⟩ => ⟨S4x2048x1536, .bf16⟩
  | .hbm, ⟨3, _⟩ => ⟨S16x512x1536, .bf16⟩
  | .hbm, ⟨4, _⟩ => ⟨S1024x7680, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1x512x1536, .bf16⟩
  | .local _ .vmem, ⟨3, _⟩ => ⟨S1x512x1536, .bf16⟩
  | .local _ .vmem, ⟨4, _⟩ => ⟨S4x128x1536, .bf16⟩
  | .local _ .vmem, ⟨5, _⟩ => ⟨S4x128x1536, .bf16⟩
  | .local _ .vmem, ⟨6, _⟩ => ⟨S16x32x1536, .bf16⟩
  | .local _ .vmem, ⟨7, _⟩ => ⟨S16x32x1536, .bf16⟩
  | .local _ .vmem, ⟨8, _⟩ => ⟨S1024x1536, .bf16⟩
  | .local _ .vmem, ⟨9, _⟩ => ⟨S1024x1536, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S8x512x128, .f32⟩
  | .local _ .vmem, ⟨28, _⟩ => ⟨S8x512x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem18_1 : DmaSem sig := 25
abbrev cc0_sem19_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_9 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_12 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_13 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_14 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x32x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference7Ideal.lean ====
abbrev S8192x3072 : Shape := ⟨2, ![8192, 3072]⟩
abbrev S1x8192x1536 : Shape := ⟨3, ![1, 8192, 1536]⟩
abbrev S4x2048x1536 : Shape := ⟨3, ![4, 2048, 1536]⟩
abbrev S16x512x1536 : Shape := ⟨3, ![16, 512, 1536]⟩
abbrev S1024x7680 : Shape := ⟨2, ![1024, 7680]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x7680 : Shape := ⟨2, ![8192, 7680]⟩
abbrev S8192x4608 : Shape := ⟨2, ![8192, 4608]⟩
abbrev S8192x3x3x512 : Shape := ⟨4, ![8192, 3, 3, 512]⟩
abbrev S8192x3x1x512 : Shape := ⟨4, ![8192, 3, 1, 512]⟩
abbrev S8192x3x512 : Shape := ⟨3, ![8192, 3, 512]⟩
abbrev S8192x1536 : Shape := ⟨2, ![8192, 1536]⟩
abbrev S8192x1x1536 : Shape := ⟨3, ![8192, 1, 1536]⟩
abbrev S2048x4x1536 : Shape := ⟨3, ![2048, 4, 1536]⟩
abbrev S512x16x1536 : Shape := ⟨3, ![512, 16, 1536]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x8192x1536, .bf16⟩
  | .hbm, ⟨2, _⟩ => ⟨S4x2048x1536, .bf16⟩
  | .hbm, ⟨3, _⟩ => ⟨S16x512x1536, .bf16⟩
  | .hbm, ⟨4, _⟩ => ⟨S1024x7680, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x7680, .f32⟩
  | .hbm, ⟨28, _⟩ => ⟨S8192x7680, .f32⟩
  | .hbm, ⟨29, _⟩ => ⟨S8192x4608, .f32⟩
  | .hbm, ⟨30, _⟩ => ⟨S8192x3x3x512, .f32⟩
  | .hbm, ⟨31, _⟩ => ⟨S8192x3072, .f32⟩
  | .hbm, ⟨32, _⟩ => ⟨S8192x3x1x512, .f32⟩
  | .hbm, ⟨33, _⟩ => ⟨S8192x3x512, .f32⟩
  | .hbm, ⟨34, _⟩ => ⟨S8192x1536, .f32⟩
  | .hbm, ⟨35, _⟩ => ⟨S8192x1x1536, .f32⟩
  | .hbm, ⟨36, _⟩ => ⟨S1x8192x1536, .f32⟩
  | .hbm, ⟨37, _⟩ => ⟨S8192x3x1x512, .f32⟩
  | .hbm, ⟨38, _⟩ => ⟨S8192x3x512, .f32⟩
  | .hbm, ⟨39, _⟩ => ⟨S8192x1536, .f32⟩
  | .hbm, ⟨40, _⟩ => ⟨S2048x4x1536, .f32⟩
  | .hbm, ⟨41, _⟩ => ⟨S4x2048x1536, .f32⟩
  | .hbm, ⟨42, _⟩ => ⟨S8192x3x1x512, .f32⟩
  | .hbm, ⟨43, _⟩ => ⟨S8192x3x512, .f32⟩
  | .hbm, ⟨44, _⟩ => ⟨S8192x1536, .f32⟩
  | .hbm, ⟨45, _⟩ => ⟨S512x16x1536, .f32⟩
  | .hbm, ⟨46, _⟩ => ⟨S16x512x1536, .f32⟩
  | .hbm, ⟨47, _⟩ => ⟨S8192x3072, .f32⟩
  | .hbm, ⟨48, _⟩ => ⟨S1x8192x1536, .f32⟩
  | .hbm, ⟨49, _⟩ => ⟨S4x2048x1536, .f32⟩
  | .hbm, ⟨50, _⟩ => ⟨S16x512x1536, .f32⟩
  | .hbm, ⟨51, _⟩ => ⟨S512x16x1536, .f32⟩
  | .hbm, ⟨52, _⟩ => ⟨S8192x1536, .f32⟩
  | .hbm, ⟨53, _⟩ => ⟨S8192x3x512, .f32⟩
  | .hbm, ⟨54, _⟩ => ⟨S8192x3x1x512, .f32⟩
  | .hbm, ⟨55, _⟩ => ⟨S_, .f32⟩
  | .hbm, ⟨56, _⟩ => ⟨S8192x3x3x512, .f32⟩
  | .hbm, ⟨57, _⟩ => ⟨S2048x4x1536, .f32⟩
  | .hbm, ⟨58, _⟩ => ⟨S8192x1536, .f32⟩
  | .hbm, ⟨59, _⟩ => ⟨S8192x3x512, .f32⟩
  | .hbm, ⟨60, _⟩ => ⟨S8192x3x1x512, .f32⟩
  | .hbm, ⟨61, _⟩ => ⟨S_, .f32⟩
  | .hbm, ⟨62, _⟩ => ⟨S8192x3x3x512, .f32⟩
  | .hbm, ⟨63, _⟩ => ⟨S8192x3x3x512, .f32⟩
  | .hbm, ⟨64, _⟩ => ⟨S8192x1x1536, .f32⟩
  | .hbm, ⟨65, _⟩ => ⟨S8192x1536, .f32⟩
  | .hbm, ⟨66, _⟩ => ⟨S8192x3x512, .f32⟩
  | .hbm, ⟨67, _⟩ => ⟨S8192x3x1x512, .f32⟩
  | .hbm, ⟨68, _⟩ => ⟨S_, .f32⟩
  | .hbm, ⟨69, _⟩ => ⟨S8192x3x3x512, .f32⟩
  | .hbm, ⟨70, _⟩ => ⟨S8192x3x3x512, .f32⟩
  | .hbm, ⟨71, _⟩ => ⟨S_, .f32⟩
  | .hbm, ⟨72, _⟩ => ⟨S8192x7680, .f32⟩
  | .hbm, ⟨73, _⟩ => ⟨S8192x4608, .f32⟩
  | .hbm, ⟨74, _⟩ => ⟨S_, .f32⟩
  | .hbm, ⟨75, _⟩ => ⟨S8192x7680, .f32⟩
  | .hbm, ⟨76, _⟩ => ⟨S8192x7680, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== Kernel12.lean ====
abbrev S8192x512 : Shape := ⟨2, ![8192, 512]⟩
abbrev S8192x3072 : Shape := ⟨2, ![8192, 3072]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3072, .bf16⟩
  | .hbm, ⟨3, _⟩ => ⟨S8192x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference12Ideal.lean ====
abbrev S8192x512 : Shape := ⟨2, ![8192, 512]⟩
abbrev S8192x3072 : Shape := ⟨2, ![8192, 3072]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x3072, .bf16⟩
  | .hbm, ⟨3, _⟩ => ⟨S8192x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S8192x512, .f32⟩
  | .hbm, ⟨9, _⟩ => ⟨S8192x512, .f32⟩
  | .hbm, ⟨10, _⟩ => ⟨S8192x3072, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x1024, .bf16⟩
  | .hbm, ⟨56, _⟩ => ⟨S8192x1024, .bf16⟩
  | .hbm, ⟨57, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel13.lean ====
abbrev S8192x1024 : Shape := ⟨2, ![8192, 1024]⟩
abbrev S1024x7680 : Shape := ⟨2, ![1024, 7680]⟩
abbrev S8192x3072 : Shape := ⟨2, ![8192, 3072]⟩
abbrev S1024x1024 : Shape := ⟨2, ![1024, 1024]⟩
abbrev S1024x1536 : Shape := ⟨2, ![1024, 1536]⟩
abbrev S1024x3072 : Shape := ⟨2, ![1024, 3072]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7680, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x3072, .bf16⟩
  | .local _ .vmem, ⟨5, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x1024 : Shape := ⟨2, ![8192, 1024]⟩
abbrev S1024x7680 : Shape := ⟨2, ![1024, 7680]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7680, .bf16⟩
  | .hbm, ⟨2, _⟩ => ⟨S8192x1024, .f32⟩
  | .hbm, ⟨3, _⟩ => ⟨S1024x3072, .bf16⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S8192 : Shape := ⟨1, ![8192]⟩
abbrev S1024x7680 : Shape := ⟨2, ![1024, 7680]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S8192x1536 : Shape := ⟨2, ![8192, 1536]⟩
abbrev S1024x1024 : Shape := ⟨2, ![1024, 1024]⟩
abbrev S1024x512 : Shape := ⟨2, ![1024, 512]⟩
abbrev S1024x128 : Shape := ⟨2, ![1024, 128]⟩
abbrev S1024x1536 : Shape := ⟨2, ![1024, 1536]⟩

abbrev nBuf : Space → Nat
  | .hbm => 35
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192, .f32⟩
  | .hbm, ⟨4, _⟩ => ⟨S8192x1, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S8192x64, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S8192x128, .f32⟩
  | .hbm, ⟨33, _⟩ => ⟨S8192x128, .f32⟩
  | .hbm, ⟨34, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1536, .bf16⟩
  | .local _ .vmem, ⟨10, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_3 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x1024 : Shape := ⟨2, ![8192, 1024]⟩
abbrev S8192 : Shape := ⟨1, ![8192]⟩
abbrev S1024x7680 : Shape := ⟨2, ![1024, 7680]⟩
abbrev S1024x512 : Shape := ⟨2, ![1024, 512]⟩
abbrev S8192x512 : Shape := ⟨2, ![8192, 512]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x1x8 : Shape := ⟨3, ![8192, 1, 8]⟩
abbrev S8192x8x64 : Shape := ⟨3, ![8192, 8, 64]⟩
abbrev S8192x8x8 : Shape := ⟨3, ![8192, 8, 8]⟩
abbrev S8192x8x48 : Shape := ⟨3, ![8192, 8, 48]⟩
abbrev S8192x1536 : Shape := ⟨2, ![8192, 1536]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192x1024, .f32⟩
  | .hbm, ⟨4, _⟩ => ⟨S1024x7680, .f32⟩
  | .hbm, ⟨5, _⟩ => ⟨S1024x512, .f32⟩
  | .hbm, ⟨6, _⟩ => ⟨S8192x512, .f32⟩
  | .hbm, ⟨7, _⟩ => ⟨S1024x512, .f32⟩
  | .hbm, ⟨8, _⟩ => ⟨S8192x512, .f32⟩
  | .hbm, ⟨9, _⟩ => ⟨S1024x512, .f32⟩
  | .hbm, ⟨10, _⟩ => ⟨S8192x512, .f32⟩
  | .hbm, ⟨11, _⟩ => ⟨S8192, .f32⟩
  | .hbm, ⟨12, _⟩ => ⟨S8192x1, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x1x8, .f32⟩
  | .hbm, ⟨33, _⟩ => ⟨S8192x8, .f32⟩
  | .hbm, ⟨34, _⟩ => ⟨S8192x1x8, .f32⟩
  | .hbm, ⟨35, _⟩ => ⟨S8192x8x64, .f32⟩
  | .hbm, ⟨36, _⟩ => ⟨S8192x8x8, .f32⟩
  | .hbm, ⟨37, _⟩ => ⟨S8192x8x8, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S8192x8x8, .f32⟩
  | .hbm, ⟨42, _⟩ => ⟨S8192x8x8, .f32⟩
  | .hbm, ⟨43, _⟩ => ⟨S8192x8x8, .f32⟩
  | .hbm, ⟨44, _⟩ => ⟨S8192x8x8, .f32⟩
  | .hbm, ⟨45, _⟩ => ⟨S8192x8x8, .f32⟩
  | .hbm, ⟨46, _⟩ => ⟨S8192x8x8, .f32⟩
  | .hbm, ⟨47, _⟩ => ⟨S8192x8x8, .f32⟩
  | .hbm, ⟨48, _⟩ => ⟨S8192x8x48, .f32⟩
  | .hbm, ⟨49, _⟩ => ⟨S8192x8x64, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192, .f32⟩
  | .hbm, ⟨55, _⟩ => ⟨S8192x1, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S1x8, .f32⟩
  | .hbm, ⟨71, _⟩ => ⟨S8192x8, .f32⟩
  | .hbm, ⟨72, _⟩ => ⟨S8192x8, .f32⟩
  | .hbm, ⟨73, _⟩ => ⟨S8192x8, .f32⟩
  | .hbm, ⟨74, _⟩ => ⟨S8192x8, .f32⟩
  | .hbm, ⟨75, _⟩ => ⟨S8192x1x8, .f32⟩
  | .hbm, ⟨76, _⟩ => ⟨S8192x8, .f32⟩
  | .hbm, ⟨77, _⟩ => ⟨S8192x1x8, .f32⟩
  | .hbm, ⟨78, _⟩ => ⟨S8192x8x64, .f32⟩
  | .hbm, ⟨79, _⟩ => ⟨S8192x8x8, .f32⟩
  | .hbm, ⟨80, _⟩ => ⟨S8192x8x8, .f32⟩
  | .hbm, ⟨81, _⟩ => ⟨S8192x8x8, .f32⟩
  | .hbm, ⟨82, _⟩ => ⟨S8192x8x8, .f32⟩
  | .hbm, ⟨83, _⟩ => ⟨S8192x8x8, .f32⟩
  | .hbm, ⟨84, _⟩ => ⟨S8192x8x8, .f32⟩
  | .hbm, ⟨85, _⟩ => ⟨S8192x8x8, .f32⟩
  | .hbm, ⟨86, _⟩ => ⟨S8192x8x8, .f32⟩
  | .hbm, ⟨87, _⟩ => ⟨S8192x8x8, .f32⟩
  | .hbm, ⟨88, _⟩ => ⟨S8192x8x8, .f32⟩
  | .hbm, ⟨89, _⟩ => ⟨S8192x8x8, .f32⟩
  | .hbm, ⟨90, _⟩ => ⟨S8192x8x8, .f32⟩
  | .hbm, ⟨91, _⟩ => ⟨S8192x8x48, .f32⟩
  | .hbm, ⟨92, _⟩ => ⟨S8192x8x64, .f32⟩
  | .hbm, ⟨93, _⟩ => ⟨S8192x512, .f32⟩
  | .hbm, ⟨94, _⟩ => ⟨S8192x1536, .f32⟩
  | .hbm, ⟨95, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩

abbrev nD : Nat := 1
abbrev τ : Topo := Topo.v7x

variable {F : FTy → Type} [FloatOps F]
-- ==== Kernel15.lean ====
abbrev S8192x1024 : Shape := ⟨2, ![8192, 1024]⟩
abbrev S8192 : Shape := ⟨1, ![8192]⟩
abbrev S1024x7680 : Shape := ⟨2, ![1024, 7680]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S8192x1536 : Shape := ⟨2, ![8192, 1536]⟩
abbrev S1024x1024 : Shape := ⟨2, ![1024, 1024]⟩
abbrev S1024x512 : Shape := ⟨2, ![1024, 512]⟩
abbrev S1024x128 : Shape := ⟨2, ![1024, 128]⟩
abbrev S1024x1536 : Shape := ⟨2, ![1024, 1536]⟩

abbrev nBuf : Space → Nat
  | .hbm => 35
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192, .f32⟩
  | .hbm, ⟨4, _⟩ => ⟨S8192x1, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S8192x64, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S8192x128, .f32⟩
  | .hbm, ⟨33, _⟩ => ⟨S8192x128, .f32⟩
  | .hbm, ⟨34, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1536, .bf16⟩
  | .local _ .vmem, ⟨10, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S8192x1024 : Shape := ⟨2, ![8192, 1024]⟩
abbrev S8192 : Shape := ⟨1, ![8192]⟩
abbrev S1024x7680 : Shape := ⟨2, ![1024, 7680]⟩
abbrev S1024x512 : Shape := ⟨2, ![1024, 512]⟩
abbrev S8192x512 : Shape := ⟨2, ![8192, 512]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x1x8 : Shape := ⟨3, ![8192, 1, 8]⟩
abbrev S8192x8x64 : Shape := ⟨3, ![8192, 8, 64]⟩
abbrev S8192x8x8 : Shape := ⟨3, ![8192, 8, 8]⟩
abbrev S8192x8x48 : Shape := ⟨3, ![8192, 8, 48]⟩
abbrev S8192x1536 : Shape := ⟨2, ![8192, 1536]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192x1024, .f32⟩
  | .hbm, ⟨4, _⟩ => ⟨S1024x7680, .f32⟩
  | .hbm, ⟨5, _⟩ => ⟨S1024x512, .f32⟩
  | .hbm, ⟨6, _⟩ => ⟨S8192x512, .f32⟩
  | .hbm, ⟨7, _⟩ => ⟨S1024x512, .f32⟩
  | .hbm, ⟨8, _⟩ => ⟨S8192x512, .f32⟩
  | .hbm, ⟨9, _⟩ => ⟨S1024x512, .f32⟩
  | .hbm, ⟨10, _⟩ => ⟨S8192x512, .f32⟩
  | .hbm, ⟨11, _⟩ => ⟨S8192, .f32⟩
  | .hbm, ⟨12, _⟩ => ⟨S8192x1, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x1x8, .f32⟩
  | .hbm, ⟨33, _⟩ => ⟨S8192x8, .f32⟩
  | .hbm, ⟨34, _⟩ => ⟨S8192x1x8, .f32⟩
  | .hbm, ⟨35, _⟩ => ⟨S8192x8x64, .f32⟩
  | .hbm, ⟨36, _⟩ => ⟨S8192x8x8, .f32⟩
  | .hbm, ⟨37, _⟩ => ⟨S8192x8x8, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S8192x8x8, .f32⟩
  | .hbm, ⟨42, _⟩ => ⟨S8192x8x8, .f32⟩
  | .hbm, ⟨43, _⟩ => ⟨S8192x8x8, .f32⟩
  | .hbm, ⟨44, _⟩ => ⟨S8192x8x8, .f32⟩
  | .hbm, ⟨45, _⟩ => ⟨S8192x8x8, .f32⟩
  | .hbm, ⟨46, _⟩ => ⟨S8192x8x8, .f32⟩
  | .hbm, ⟨47, _⟩ => ⟨S8192x8x8, .f32⟩
  | .hbm, ⟨48, _⟩ => ⟨S8192x8x48, .f32⟩
  | .hbm, ⟨49, _⟩ => ⟨S8192x8x64, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192, .f32⟩
  | .hbm, ⟨55, _⟩ => ⟨S8192x1, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S1x8, .f32⟩
  | .hbm, ⟨71, _⟩ => ⟨S8192x8, .f32⟩
  | .hbm, ⟨72, _⟩ => ⟨S8192x8, .f32⟩
  | .hbm, ⟨73, _⟩ => ⟨S8192x8, .f32⟩
  | .hbm, ⟨74, _⟩ => ⟨S8192x8, .f32⟩
  | .hbm, ⟨75, _⟩ => ⟨S8192x1x8, .f32⟩
  | .hbm, ⟨76, _⟩ => ⟨S8192x8, .f32⟩
  | .hbm, ⟨77, _⟩ => ⟨S8192x1x8, .f32⟩
  | .hbm, ⟨78, _⟩ => ⟨S8192x8x64, .f32⟩
  | .hbm, ⟨79, _⟩ => ⟨S8192x8x8, .f32⟩
  | .hbm, ⟨80, _⟩ => ⟨S8192x8x8, .f32⟩
  | .hbm, ⟨81, _⟩ => ⟨S8192x8x8, .f32⟩
  | .hbm, ⟨82, _⟩ => ⟨S8192x8x8, .f32⟩
  | .hbm, ⟨83, _⟩ => ⟨S8192x8x8, .f32⟩
  | .hbm, ⟨84, _⟩ => ⟨S8192x8x8, .f32⟩
  | .hbm, ⟨85, _⟩ => ⟨S8192x8x8, .f32⟩
  | .hbm, ⟨86, _⟩ => ⟨S8192x8x8, .f32⟩
  | .hbm, ⟨87, _⟩ => ⟨S8192x8x8, .f32⟩
  | .hbm, ⟨88, _⟩ => ⟨S8192x8x8, .f32⟩
  | .hbm, ⟨89, _⟩ => ⟨S8192x8x8, .f32⟩
  | .hbm, ⟨90, _⟩ => ⟨S8192x8x8, .f32⟩
  | .hbm, ⟨91, _⟩ => ⟨S8192x8x48, .f32⟩
  | .hbm, ⟨92, _⟩ => ⟨S8192x8x64, .f32⟩
  | .hbm, ⟨93, _⟩ => ⟨S8192x512, .f32⟩
  | .hbm, ⟨94, _⟩ => ⟨S8192x1536, .f32⟩
  | .hbm, ⟨95, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩

abbrev nD : Nat := 1
abbrev τ : Topo := Topo.v7x

variable {F : FTy → Type} [FloatOps F]
-- ==== Kernel16.lean ====
abbrev S8192x1024 : Shape := ⟨2, ![8192, 1024]⟩
abbrev S8192 : Shape := ⟨1, ![8192]⟩
abbrev S1024x7680 : Shape := ⟨2, ![1024, 7680]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S8192x1536 : Shape := ⟨2, ![8192, 1536]⟩
abbrev S1024x1024 : Shape := ⟨2, ![1024, 1024]⟩
abbrev S1024x512 : Shape := ⟨2, ![1024, 512]⟩
abbrev S1024x128 : Shape := ⟨2, ![1024, 128]⟩
abbrev S1024x1536 : Shape := ⟨2, ![1024, 1536]⟩

abbrev nBuf : Space → Nat
  | .hbm => 35
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192, .f32⟩
  | .hbm, ⟨4, _⟩ => ⟨S8192x1, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S8192x64, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x64, .f32⟩
  | .hbm, ⟨32, _⟩ => ⟨S8192x128, .f32⟩
  | .hbm, ⟨33, _⟩ => ⟨S8192x128, .f32⟩
  | .hbm, ⟨34, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1536, .bf16⟩
  | .local _ .vmem, ⟨10, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S8192x1024 : Shape := ⟨2, ![8192, 1024]⟩
abbrev S8192 : Shape := ⟨1, ![8192]⟩
abbrev S1024x7680 : Shape := ⟨2, ![1024, 7680]⟩
abbrev S1024x512 : Shape := ⟨2, ![1024, 512]⟩
abbrev S8192x512 : Shape := ⟨2, ![8192, 512]⟩
abbrev S8192x1 : Shape := ⟨2, ![8192, 1]⟩
abbrev S8 : Shape := ⟨1, ![8]⟩
abbrev S_ : Shape := ⟨0, ![]⟩
abbrev S1x8 : Shape := ⟨2, ![1, 8]⟩
abbrev S8192x8 : Shape := ⟨2, ![8192, 8]⟩
abbrev S8192x1x8 : Shape := ⟨3, ![8192, 1, 8]⟩
abbrev S8192x8x64 : Shape := ⟨3, ![8192, 8, 64]⟩
abbrev S8192x8x8 : Shape := ⟨3, ![8192, 8, 8]⟩
abbrev S8192x8x48 : Shape := ⟨3, ![8192, 8, 48]⟩
abbrev S8192x1536 : Shape := ⟨2, ![8192, 1536]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S1024x7680, .bf16⟩
  | .hbm, ⟨3, _⟩ => ⟨S8192x1024, .f32⟩
  | .hbm, ⟨4, _⟩ => ⟨S1024x7680, .f32⟩
  | .hbm, ⟨5, _⟩ => ⟨S1024x512, .f32⟩
  | .hbm, ⟨6, _⟩ => ⟨S8192x512, .f32⟩
  | .hbm, ⟨7, _⟩ => ⟨S1024x512, .f32⟩
  | .hbm, ⟨8, _⟩ => ⟨S8192x512, .f32⟩
  | .hbm, ⟨9, _⟩ => ⟨S1024x512, .f32⟩
  | .hbm, ⟨10, _⟩ => ⟨S8192x512, .f32⟩
  | .hbm, ⟨11, _⟩ => ⟨S8192, .f32⟩
  | .hbm, ⟨12, _⟩ => ⟨S8192x1, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x1x8, .f32⟩
  | .hbm, ⟨33, _⟩ => ⟨S8192x8, .f32⟩
  | .hbm, ⟨34, _⟩ => ⟨S8192x1x8, .f32⟩
  | .hbm, ⟨35, _⟩ => ⟨S8192x8x64, .f32⟩
  | .hbm, ⟨36, _⟩ => ⟨S8192x8x8, .f32⟩
  | .hbm, ⟨37, _⟩ => ⟨S8192x8x8, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S8192x8x8, .f32⟩
  | .hbm, ⟨42, _⟩ => ⟨S8192x8x8, .f32⟩
  | .hbm, ⟨43, _⟩ => ⟨S8192x8x8, .f32⟩
  | .hbm, ⟨44, _⟩ => ⟨S8192x8x8, .f32⟩
  | .hbm, ⟨45, _⟩ => ⟨S8192x8x8, .f32⟩
  | .hbm, ⟨46, _⟩ => ⟨S8192x8x8, .f32⟩
  | .hbm, ⟨47, _⟩ => ⟨S8192x8x8, .f32⟩
  | .hbm, ⟨48, _⟩ => ⟨S8192x8x48, .f32⟩
  | .hbm, ⟨49, _⟩ => ⟨S8192x8x64, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192, .f32⟩
  | .hbm, ⟨55, _⟩ => ⟨S8192x1, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S1x8, .f32⟩
  | .hbm, ⟨71, _⟩ => ⟨S8192x8, .f32⟩
  | .hbm, ⟨72, _⟩ => ⟨S8192x8, .f32⟩
  | .hbm, ⟨73, _⟩ => ⟨S8192x8, .f32⟩
  | .hbm, ⟨74, _⟩ => ⟨S8192x8, .f32⟩
  | .hbm, ⟨75, _⟩ => ⟨S8192x1x8, .f32⟩
  | .hbm, ⟨76, _⟩ => ⟨S8192x8, .f32⟩
  | .hbm, ⟨77, _⟩ => ⟨S8192x1x8, .f32⟩
  | .hbm, ⟨78, _⟩ => ⟨S8192x8x64, .f32⟩
  | .hbm, ⟨79, _⟩ => ⟨S8192x8x8, .f32⟩
  | .hbm, ⟨80, _⟩ => ⟨S8192x8x8, .f32⟩
  | .hbm, ⟨81, _⟩ => ⟨S8192x8x8, .f32⟩
  | .hbm, ⟨82, _⟩ => ⟨S8192x8x8, .f32⟩
  | .hbm, ⟨83, _⟩ => ⟨S8192x8x8, .f32⟩
  | .hbm, ⟨84, _⟩ => ⟨S8192x8x8, .f32⟩
  | .hbm, ⟨85, _⟩ => ⟨S8192x8x8, .f32⟩
  | .hbm, ⟨86, _⟩ => ⟨S8192x8x8, .f32⟩
  | .hbm, ⟨87, _⟩ => ⟨S8192x8x8, .f32⟩
  | .hbm, ⟨88, _⟩ => ⟨S8192x8x8, .f32⟩
  | .hbm, ⟨89, _⟩ => ⟨S8192x8x8, .f32⟩
  | .hbm, ⟨90, _⟩ => ⟨S8192x8x8, .f32⟩
  | .hbm, ⟨91, _⟩ => ⟨S8192x8x48, .f32⟩
  | .hbm, ⟨92, _⟩ => ⟨S8192x8x64, .f32⟩
  | .hbm, ⟨93, _⟩ => ⟨S8192x512, .f32⟩
  | .hbm, ⟨94, _⟩ => ⟨S8192x1536, .f32⟩
  | .hbm, ⟨95, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_cst_7 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩

abbrev nD : Nat := 1
abbrev τ : Topo := Topo.v7x

variable {F : FTy → Type} [FloatOps F]
-- ==== Proof.Gate.lean ====
/- The logistic gate in its two spellings: the reference divides one by one plus an exponential, the kernel scales and
   shifts a hyperbolic tangent. At every extended real the two are the same number. -/
module

public import Idealize.ShloMosaic.PureOps.Ideal.Laws
public import Idealize.ShloMosaic.Lib.IdealHost

@[expose] public section

noncomputable section

namespace Cert.Gate

open Idealize.ShloMosaic

/-- One half, as the kernel's constant spells it. -/
theorem half_f32 : Ideal.ofBits .f32 0x3F000000#32 = (((1 : ℝ) / 2 : ℝ) : EReal) := by
  simp [Ideal.ofBits, Ideal.ieee, -EReal.coe_mul]; norm_num

/-- On the reals, the logistic function is half a hyperbolic tangent plus one half. -/
theorem real_logistic (x : ℝ) : 1 / 2 * Real.tanh (1 / 2 * x) + 1 / 2 = (1 + Real.exp (-x))⁻¹ := by
  have h1 : (0 : ℝ) < Real.exp (1 / 2 * x) := Real.exp_pos _
  have e1 : Real.exp (-x) = (Real.exp (1 / 2 * x))⁻¹ ^ 2 := by
    rw [← Real.exp_neg, ← Real.exp_nat_mul]; congr 1; push_cast; ring
  rw [Real.tanh_eq_sinh_div_cosh, Real.sinh_eq, Real.cosh_eq, e1, Real.exp_neg]
  field_simp
  ring

/-- The gate: the value both spellings name. -/
def sg (x : EReal) : EReal := ((1 / 2 : ℝ) : EReal) * Ideal.tanh (((1 / 2 : ℝ) : EReal) * x) + ((1 / 2 : ℝ) : EReal)

/-- The reference's quotient is the gate, at the infinities too. -/
theorem div_eq (x : EReal) : Ideal.div 1 (1 + Ideal.exp (-x)) = sg x := by
  show Ideal.logistic x = sg x
  have h2 : (0 : ℝ) < 1 / 2 := by norm_num
  unfold sg
  induction x with
  | bot =>
    rw [Ideal.logistic_bot, EReal.coe_mul_bot_of_pos h2, Ideal.tanh_bot, mul_neg_one, ← EReal.coe_neg, ← EReal.coe_add]
    norm_num
  | coe x =>
    rw [Ideal.logistic_coe, ← EReal.coe_mul, Ideal.tanh_coe, ← EReal.coe_mul, ← EReal.coe_add, real_logistic]
  | top =>
    rw [Ideal.logistic_top, EReal.coe_mul_top_of_pos h2, Ideal.tanh_top, mul_one, ← EReal.coe_add]
    norm_num

end Cert.Gate

end
-- ==== Proof.Block.lean ====
/- What one grid point of the merge gradient writes: every output block, element by element, from the input blocks. -/
module

public import proofs.«01_k».proof.Proof.Gen.KernelIdeal.Value
public import proofs.«01_k».proof.Proof.Gate
public import Idealize.ShloMosaic.Lib.Pipeline.Value
public import Idealize.ShloMosaic.Lib.Pointwise

@[expose] public section

set_option maxRecDepth 16384

noncomputable section

namespace Cert.KernelIdeal.Block

open Cert.KernelIdeal Cert.KernelIdeal.Gen Idealize.ShloMosaic
open scoped BigOperators

variable (x0 x1 x2 x3 x4 x5 x6 : Vec Ideal S512x1024 .bf16) (x7 : Vec Ideal S1024x1024 .bf16)

theorem hz : (![0, 0] : Fin 2 → Nat) = fun _ => 0 := funext fun a => by fin_cases a <;> rfl

theorem ld0 {e : EltTy} (x : Vec Ideal S512x1024 e) : View.ld x r0_0 = x := View.ld_unit_zero hz _ x
theorem ld1 {e : EltTy} (x : Vec Ideal S1024x1024 e) : View.ld x r0_1 = x := View.ld_unit_zero hz _ x

/-- The output gradient through the transposed output matrix. -/
def dm (r : Fin 512) (k : Fin 1024) : EReal := ∑ j : Fin 1024, x0 (ix2 r j) * x7 (ix2 k j)

theorem pay4 (r : Fin 512) (k : Fin 1024) : k0_pay4 (F := Ideal) x0 x7 (ix2 r k) = dm x0 x7 r k := by
  pointwise [k0_pay4]
  unfold dm
  rfl

theorem pay5 (x : Vec Ideal S512x1024 .bf16) (r : Fin 512) (k : Fin 1024) : k0_pay5 (F := Ideal) x (ix2 r k) = Gate.sg (x (ix2 r k)) := by
  pointwise [k0_pay5]
  rw [Gate.half_f32]
  rfl

theorem pay6 (x : Vec Ideal S512x1024 .bf16) (r : Fin 512) (k : Fin 1024) : k0_pay6 (F := Ideal) x (ix2 r k) = Gate.sg (x (ix2 r k)) := by
  pointwise [k0_pay6]
  rw [Gate.half_f32]
  rfl

theorem pay7 (r : Fin 512) (k : Fin 1024) :
    k0_pay7 (F := Ideal) x0 x7 x1 (ix2 r k) = dm x0 x7 r k * Gate.sg (x1 (ix2 r k)) := by
  rw [← pay4, ← pay5]; rfl

theorem pay8 (r : Fin 512) (k : Fin 1024) :
    k0_pay8 (F := Ideal) x0 x7 x2 (ix2 r k) = dm x0 x7 r k * Gate.sg (x2 (ix2 r k)) := by
  rw [← pay4, ← pay6]; rfl

theorem pay10 (r : Fin 512) (k : Fin 1024) : k0_pay10 (F := Ideal) x0 x7 x1 x3 (ix2 r k)
    = dm x0 x7 r k * x3 (ix2 r k) * Gate.sg (x1 (ix2 r k)) * (1 - Gate.sg (x1 (ix2 r k))) := by
  rw [← pay4, ← pay5, ← Ideal.ofBits_one_f32]
  unfold k0_pay10
  simp only [shapeCast_self]
  rfl

theorem pay1 (a g : FVec Ideal S512x1024 .f32) (y : S512x1024.Idx) :
    k0_pay1 (F := Ideal) a g x4 y = a y * x4 y * g y * (1 - g y) := by
  rw [← Ideal.ofBits_one_f32]
  unfold k0_pay1
  simp only [shapeCast_self]
  rfl

theorem out9 (r : Fin 512) (k : Fin 1024) :
    out0_9 x0 x1 x2 x3 x4 x5 x6 x7 (ix2 r k) = dm x0 x7 r k * Gate.sg (x1 (ix2 r k)) := by
  unfold_out out0_9
  rw [View.canon_unit_zero hz, View.ld_unit_zero hz, View.ld_unit_zero hz, View.ld_unit_zero hz]
  exact pay7 x0 x1 x7 r k

theorem out10 (r : Fin 512) (k : Fin 1024) :
    out0_10 x0 x1 x2 x3 x4 x5 x6 x7 (ix2 r k) = dm x0 x7 r k * Gate.sg (x2 (ix2 r k)) := by
  unfold_out out0_10
  rw [View.canon_unit_zero hz, View.ld_unit_zero hz, View.ld_unit_zero hz, View.ld_unit_zero hz]
  exact pay8 x0 x2 x7 r k

theorem out11 (r j : Fin 512) : out0_11 x0 x1 x2 x3 x4 x5 x6 x7 (ix2 r j)
    = ∑ k : Fin 1024, dm x0 x7 r k * Gate.sg (x1 (ix2 r k)) * x5 (ix2 j k) := by
  unfold_out out0_11
  rw [View.canon_unit_zero hz]
  simp only [ld0, ld1]
  pointwise [k0_pay2]
  exact Finset.sum_congr rfl fun k _ => by rw [pay7]

theorem out12 (r j : Fin 512) : out0_12 x0 x1 x2 x3 x4 x5 x6 x7 (ix2 r j)
    = ∑ k : Fin 1024, dm x0 x7 r k * Gate.sg (x2 (ix2 r k)) * x6 (ix2 j k) := by
  unfold_out out0_12
  rw [View.canon_unit_zero hz]
  simp only [ld0, ld1]
  pointwise [k0_pay3]
  exact Finset.sum_congr rfl fun k _ => by rw [pay8]

/-- The gate block: zero, then the two gates' logit gradients. -/
def gates (y : S512x3072.Idx) : EReal :=
  if h : (y 1 : ℕ) < 1024 then 0
  else if h2 : (y 1 : ℕ) < 2048 then k0_pay10 (F := Ideal) x0 x7 x1 x3 (ix2 (y 0) ⟨(y 1 : ℕ) - 1024, by omega⟩)
  else k0_pay1 (F := Ideal) (k0_pay4 x0 x7) (k0_pay6 x2) x4 (ix2 (y 0) ⟨(y 1 : ℕ) - 2048, by have : (y 1 : ℕ) < 3072 := (y 1).isLt; omega⟩)

theorem gates_two (x : S512x1024.Idx) :
    k0_pay1 (F := Ideal) (k0_pay4 x0 x7) (k0_pay6 x2) x4 x = gates x0 x1 x2 x3 x4 x7 (r0_4.emb x) := by
  have hx : (x 1 : ℕ) < 1024 := (x 1).isLt
  have h1 : ((r0_4.emb x) 1 : ℕ) = 2048 + x 1 := by rw [Rect.emb_apply]; show 2048 + 1 * (x 1 : ℕ) = _; omega
  have h0 : ((r0_4.emb x) 0 : ℕ) = x 0 := by rw [Rect.emb_apply]; show 0 + 1 * (x 0 : ℕ) = _; omega
  unfold gates
  rw [dif_neg (by omega), dif_neg (by omega)]
  refine congrArg (k0_pay1 (F := Ideal) (k0_pay4 x0 x7) (k0_pay6 x2) x4) (Shape.idx_ext₂ h0.symm ?_)
  show (x 1 : ℕ) = (r0_4.emb x) 1 - 2048
  omega

theorem gates_one (x : S512x1024.Idx) :
    k0_pay10 (F := Ideal) x0 x7 x1 x3 x = gates x0 x1 x2 x3 x4 x7 (r0_3.emb x) := by
  have hx : (x 1 : ℕ) < 1024 := (x 1).isLt
  have h1 : ((r0_3.emb x) 1 : ℕ) = 1024 + x 1 := by rw [Rect.emb_apply]; show 1024 + 1 * (x 1 : ℕ) = _; omega
  have h0 : ((r0_3.emb x) 0 : ℕ) = x 0 := by rw [Rect.emb_apply]; show 0 + 1 * (x 0 : ℕ) = _; omega
  unfold gates
  rw [dif_neg (by omega), dif_pos (by omega)]
  refine congrArg (k0_pay10 (F := Ideal) x0 x7 x1 x3) (Shape.idx_ext₂ h0.symm ?_)
  show (x 1 : ℕ) = (r0_3.emb x) 1 - 1024
  omega

theorem gates_zero (x : S512x1024.Idx) : k0_pay9 (F := Ideal) x = gates x0 x1 x2 x3 x4 x7 (r0_2.emb x) := by
  have hx : (x 1 : ℕ) < 1024 := (x 1).isLt
  have h1 : ((r0_2.emb x) 1 : ℕ) = x 1 := by rw [Rect.emb_apply]; show 0 + 1 * (x 1 : ℕ) = _; omega
  unfold gates
  rw [dif_pos (by omega)]
  exact Ideal.ofBits_zero_bf16

theorem out8 (y : S512x3072.Idx) : out0_8 x0 x1 x2 x3 x4 x5 x6 x7 y = gates x0 x1 x2 x3 x4 x7 y := by
  unfold_out out0_8
  simp only [ld0, ld1]
  refine View.canon_apply_of_pieces (Val := Elt Ideal) (e := .bf16) (gates x0 x1 x2 x3 x4 x7) _ ?_ y (cover0_8 _ _ _ y)
  intro p hp x
  simp only [List.mem_cons, List.not_mem_nil, or_false] at hp
  rcases hp with rfl | rfl | rfl
  · exact gates_two x0 x1 x2 x3 x4 x7 x
  · exact gates_one x0 x1 x2 x3 x4 x7 x
  · exact gates_zero x0 x1 x2 x3 x4 x7 x

end Cert.KernelIdeal.Block

end
-- ==== Proof.MergeSpec.lean ====
/- The gradient of the gated merge, as plain sums over the extended reals: what both programs are shown to compute. -/
module

public import proofs.«01_k».proof.Proof.Gate
public import Idealize.ShloMosaic.Lib.Pointwise

@[expose] public section

noncomputable section

namespace Cert.MergeSpec

open Idealize.ShloMosaic
open scoped BigOperators

/-- A matrix of extended reals. -/
abbrev Mat (a b : ℕ) := (⟨2, ![a, b]⟩ : Shape).Idx → EReal

/-- The product with a transposed right factor, at one element. -/
def dotT {a b n : ℕ} (x : Mat a n) (w : Mat b n) (i : Fin a) (j : Fin b) : EReal := ∑ k : Fin n, x (ix2 i k) * w (ix2 j k)

/-- The plain product, at one element. -/
def dotP {a b n : ℕ} (x : Mat a n) (w : Mat n b) (i : Fin a) (j : Fin b) : EReal := ∑ k : Fin n, x (ix2 i k) * w (ix2 k j)

variable (attn sgu : Mat 8192 512) (gu : Mat 8192 3072) (wpa wps : Mat 512 1024) (wout : Mat 1024 1024) (ct : Mat 8192 1024)

/-- Column `j` of the gate columns that begin at `o`. -/
def gcol (o : ℕ) (ho : o + 1024 ≤ 3072) (i : Fin 8192) (j : Fin 1024) : EReal :=
  Gate.sg (gu (ix2 i ⟨o + j.val, by omega⟩))

/-- The gradient of the attention branch's projection. -/
def dpa (i : Fin 8192) (j : Fin 1024) : EReal := dotT ct wout i j * gcol gu 1024 (by omega) i j
/-- The gradient of the gating branch's projection. -/
def dps (i : Fin 8192) (j : Fin 1024) : EReal := dotT ct wout i j * gcol gu 2048 (by omega) i j

/-- The gradient of one gate column's logit. -/
def dlogit (o : ℕ) (ho : o + 1024 ≤ 3072) (x : Mat 8192 512) (w : Mat 512 1024) (i : Fin 8192) (j : Fin 1024) : EReal :=
  dotT ct wout i j * dotP x w i j * gcol gu o ho i j * (1 - gcol gu o ho i j)

/-- The gradient of the projected columns: zero under the first third, the two gates' logits under the others. -/
def dgu (i : Fin 8192) (j : Fin 3072) : EReal :=
  if h : j.val < 1024 then 0
  else if h2 : j.val < 2048 then dlogit gu wout ct 1024 (by omega) attn wpa i ⟨j.val - 1024, by omega⟩
  else dlogit gu wout ct 2048 (by omega) sgu wps i ⟨j.val - 2048, by have := j.isLt; omega⟩

/-- The gradient of a branch through its projection. -/
def dbranch (g : Fin 8192 → Fin 1024 → EReal) (w : Mat 512 1024) (i : Fin 8192) (j : Fin 512) : EReal :=
  ∑ k : Fin 1024, g i k * w (ix2 j k)

end Cert.MergeSpec

end
-- ==== Proof.Rows.lean ====
/- Where a grid point reads and writes: each window's block as rows of its array, and the output arrays covered. -/
module

public import proofs.«01_k».proof.Proof.Gen.KernelIdeal.Value
public import proofs.«01_k».proof.Proof.Block
public import proofs.«01_k».proof.Proof.MergeSpec
public import Idealize.ShloMosaic.Lib.Pipeline.Value
public import Idealize.ShloMosaic.Lib.Pointwise

@[expose] public section

set_option maxRecDepth 16384

noncomputable section

namespace Cert.KernelIdeal.Rows

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Row `r` of block `t`. -/
abbrev row (t : Fin cfg0.N) (r : Fin 512) : Fin 8192 :=
  ⟨512 * t.val + r.val, by have h := t.isLt; have e : cfg0.N = 16 := N_0; omega⟩

/-- The input windows that move down the rows. -/
theorem idx_rows : ∀ t : Fin cfg0.N, win0_0.index t 0 = t.val ∧ win0_0.index t 1 = 0 ∧ win0_1.index t 0 = t.val ∧ win0_1.index t 1 = 1
    ∧ win0_2.index t 0 = t.val ∧ win0_2.index t 1 = 2 ∧ win0_3.index t 0 = t.val ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 1
    ∧ win0_2.index t 0 = t.val ∧ win0_2.index t 1 = 2 ∧ win0_3.index t 0 = t.val ∧ win0_3.index t 1 = 0
    ∧ win0_4.index t 0 = t.val ∧ win0_4.index t 1 = 0)

/-- The matrices stay in place. -/
theorem idx_whole : ∀ t : Fin cfg0.N, win0_5.index t 0 = 0 ∧ win0_5.index t 1 = 0 ∧ win0_6.index t 0 = 0 ∧ win0_6.index t 1 = 0
    ∧ win0_7.index t 0 = 0 ∧ win0_7.index t 1 = 0 :=
  (by decide +kernel : ∀ t : Fin grid0.N, win0_5.index t 0 = 0 ∧ win0_5.index t 1 = 0 ∧ win0_6.index t 0 = 0 ∧ win0_6.index t 1 = 0
    ∧ win0_7.index t 0 = 0 ∧ win0_7.index t 1 = 0)

/-- The output windows move down the rows. -/
theorem idx_out : ∀ t : Fin cfg0.N, win0_8.index t 0 = t.val ∧ win0_8.index t 1 = 0
    ∧ win0_9.index t 0 = t.val ∧ win0_9.index t 1 = 0
    ∧ win0_10.index t 0 = t.val ∧ win0_10.index t 1 = 0
    ∧ win0_11.index t 0 = t.val ∧ win0_11.index t 1 = 0
    ∧ win0_12.index t 0 = t.val ∧ win0_12.index t 1 = 0 :=
  (by decide +kernel : ∀ t : Fin grid0.N, win0_8.index t 0 = t.val ∧ win0_8.index t 1 = 0
    ∧ win0_9.index t 0 = t.val ∧ win0_9.index t 1 = 0
    ∧ win0_10.index t 0 = t.val ∧ win0_10.index t 1 = 0
    ∧ win0_11.index t 0 = t.val ∧ win0_11.index t 1 = 0
    ∧ win0_12.index t 0 = t.val ∧ win0_12.index t 1 = 0)

theorem iblk0 (c : Dev nD) (t : Fin cfg0.N) (r : Fin 512) (k : Fin 1024) :
    (iblk m c 0 t : Vec Ideal S512x1024 .bf16) (ix2 r k) = V m c main_arg6 (ix2 (row t r) k) := by
  have hi := idx_rows t
  unfold iblk
  rw [View.read_apply]
  show V m c main_arg6 _ = V m c main_arg6 _
  congr 1
  funext a
  apply Fin.ext
  match a with
  | ⟨0, _⟩ => show win0_0.index t 0 * 512 + 1 * (r : ℕ) = 512 * t.val + r.val; rw [hi.1]; omega
  | ⟨1, _⟩ => show win0_0.index t 1 * 1024 + 1 * (k : ℕ) = k.val; rw [hi.2.1]; omega

theorem iblk1 (c : Dev nD) (t : Fin cfg0.N) (r : Fin 512) (k : Fin 1024) :
    (iblk m c 1 t : Vec Ideal S512x1024 .bf16) (ix2 r k) = V m c main_arg2 (ix2 (row t r) ⟨1024 + k.val, by omega⟩) := by
  have hi := idx_rows t
  unfold iblk
  rw [View.read_apply]
  show V m c main_arg2 _ = V m c main_arg2 _
  congr 1
  funext a
  apply Fin.ext
  match a with
  | ⟨0, _⟩ => show win0_1.index t 0 * 512 + 1 * (r : ℕ) = 512 * t.val + r.val; rw [hi.2.2.1]; omega
  | ⟨1, _⟩ => show win0_1.index t 1 * 1024 + 1 * (k : ℕ) = 1024 + k.val; rw [hi.2.2.2.1]; omega

theorem iblk2 (c : Dev nD) (t : Fin cfg0.N) (r : Fin 512) (k : Fin 1024) :
    (iblk m c 2 t : Vec Ideal S512x1024 .bf16) (ix2 r k) = V m c main_arg2 (ix2 (row t r) ⟨2048 + k.val, by omega⟩) := by
  have hi := idx_rows t
  unfold iblk
  rw [View.read_apply]
  show V m c main_arg2 _ = V m c main_arg2 _
  congr 1
  funext a
  apply Fin.ext
  match a with
  | ⟨0, _⟩ => show win0_2.index t 0 * 512 + 1 * (r : ℕ) = 512 * t.val + r.val; rw [hi.2.2.2.2.1]; omega
  | ⟨1, _⟩ => show win0_2.index t 1 * 1024 + 1 * (k : ℕ) = 2048 + k.val; rw [hi.2.2.2.2.2.1]; omega

theorem iblk3 (c : Dev nD) (t : Fin cfg0.N) (r : Fin 512) (k : Fin 1024) :
    (iblk m c 3 t : Vec Ideal S512x1024 .bf16) (ix2 r k) = V m c main_v1 (ix2 (row t r) k) := by
  have hi := idx_rows t
  unfold iblk
  rw [View.read_apply]
  show V m c main_v1 _ = V m c main_v1 _
  congr 1
  funext a
  apply Fin.ext
  match a with
  | ⟨0, _⟩ => show win0_3.index t 0 * 512 + 1 * (r : ℕ) = 512 * t.val + r.val; rw [hi.2.2.2.2.2.2.1]; omega
  | ⟨1, _⟩ => show win0_3.index t 1 * 1024 + 1 * (k : ℕ) = k.val; rw [hi.2.2.2.2.2.2.2.1]; omega

theorem iblk4 (c : Dev nD) (t : Fin cfg0.N) (r : Fin 512) (k : Fin 1024) :
    (iblk m c 4 t : Vec Ideal S512x1024 .bf16) (ix2 r k) = V m c main_v3 (ix2 (row t r) k) := by
  have hi := idx_rows t
  unfold iblk
  rw [View.read_apply]
  show V m c main_v3 _ = V m c main_v3 _
  congr 1
  funext a
  apply Fin.ext
  match a with
  | ⟨0, _⟩ => show win0_4.index t 0 * 512 + 1 * (r : ℕ) = 512 * t.val + r.val; rw [hi.2.2.2.2.2.2.2.2.1]; omega
  | ⟨1, _⟩ => show win0_4.index t 1 * 1024 + 1 * (k : ℕ) = k.val; rw [hi.2.2.2.2.2.2.2.2.2]; omega

theorem iblk5 (c : Dev nD) (t : Fin cfg0.N) (r : Fin 512) (k : Fin 1024) :
    (iblk m c 5 t : Vec Ideal S512x1024 .bf16) (ix2 r k) = V m c main_arg3 (ix2 r k) := by
  have hi := idx_whole t
  unfold iblk
  rw [View.read_apply]
  show V m c main_arg3 _ = V m c main_arg3 _
  congr 1
  funext a
  apply Fin.ext
  match a with
  | ⟨0, _⟩ => show win0_5.index t 0 * 512 + 1 * (r : ℕ) = r.val; rw [hi.1]; omega
  | ⟨1, _⟩ => show win0_5.index t 1 * 1024 + 1 * (k : ℕ) = k.val; rw [hi.2.1]; omega

theorem iblk6 (c : Dev nD) (t : Fin cfg0.N) (r : Fin 512) (k : Fin 1024) :
    (iblk m c 6 t : Vec Ideal S512x1024 .bf16) (ix2 r k) = V m c main_arg4 (ix2 r k) := by
  have hi := idx_whole t
  unfold iblk
  rw [View.read_apply]
  show V m c main_arg4 _ = V m c main_arg4 _
  congr 1
  funext a
  apply Fin.ext
  match a with
  | ⟨0, _⟩ => show win0_6.index t 0 * 512 + 1 * (r : ℕ) = r.val; rw [hi.2.2.1]; omega
  | ⟨1, _⟩ => show win0_6.index t 1 * 1024 + 1 * (k : ℕ) = k.val; rw [hi.2.2.2.1]; omega

theorem iblk7 (c : Dev nD) (t : Fin cfg0.N) (r : Fin 1024) (k : Fin 1024) :
    (iblk m c 7 t : Vec Ideal S1024x1024 .bf16) (ix2 r k) = V m c main_arg5 (ix2 r k) := by
  have hi := idx_whole t
  unfold iblk
  rw [View.read_apply]
  show V m c main_arg5 _ = V m c main_arg5 _
  congr 1
  funext a
  apply Fin.ext
  match a with
  | ⟨0, _⟩ => show win0_7.index t 0 * 1024 + 1 * (r : ℕ) = r.val; rw [hi.2.2.2.2.1]; omega
  | ⟨1, _⟩ => show win0_7.index t 1 * 1024 + 1 * (k : ℕ) = k.val; rw [hi.2.2.2.2.2]; omega

theorem emb8 (t : Fin cfg0.N) (y : S512x3072.Idx) :
    (((cfg0.win 8).blk t).view.emb y : S8192x3072.Idx) = ix2 (row t (y 0)) (y 1) := by
  have hi := idx_out t
  funext a
  apply Fin.ext
  match a with
  | ⟨0, _⟩ => show win0_8.index t 0 * 512 + 1 * (y 0 : ℕ) = 512 * t.val + (y 0 : ℕ); rw [hi.1]; omega
  | ⟨1, _⟩ => show win0_8.index t 1 * 3072 + 1 * (y 1 : ℕ) = (y 1 : ℕ); rw [hi.2.1]; omega

theorem cover8 (i : S8192x3072.Idx) :
    ∃ t : Fin cfg0.N, (cfg0.win 8).flush t = true ∧ i ∈ ((cfg0.win 8).blk t).view.set := by
  have h0 : (i 0 : ℕ) < 8192 := (i 0).isLt
  have hN : cfg0.N = 16 := N_0
  refine ⟨⟨(i 0 : ℕ) / 512, by omega⟩, flush0_8 _, ?_⟩
  refine Finset.mem_map.mpr ⟨ix2 ⟨(i 0 : ℕ) % 512, by omega⟩ (i 1), Finset.mem_univ _, ?_⟩
  rw [emb8]
  refine Shape.idx_ext₂ ?_ rfl
  show 512 * ((i 0 : ℕ) / 512) + (i 0 : ℕ) % 512 = (i 0 : ℕ)
  omega

theorem emb9 (t : Fin cfg0.N) (y : S512x1024.Idx) :
    (((cfg0.win 9).blk t).view.emb y : S8192x1024.Idx) = ix2 (row t (y 0)) (y 1) := by
  have hi := idx_out t
  funext a
  apply Fin.ext
  match a with
  | ⟨0, _⟩ => show win0_9.index t 0 * 512 + 1 * (y 0 : ℕ) = 512 * t.val + (y 0 : ℕ); rw [hi.2.2.1]; omega
  | ⟨1, _⟩ => show win0_9.index t 1 * 1024 + 1 * (y 1 : ℕ) = (y 1 : ℕ); rw [hi.2.2.2.1]; omega

theorem cover9 (i : S8192x1024.Idx) :
    ∃ t : Fin cfg0.N, (cfg0.win 9).flush t = true ∧ i ∈ ((cfg0.win 9).blk t).view.set := by
  have h0 : (i 0 : ℕ) < 8192 := (i 0).isLt
  have hN : cfg0.N = 16 := N_0
  refine ⟨⟨(i 0 : ℕ) / 512, by omega⟩, flush0_9 _, ?_⟩
  refine Finset.mem_map.mpr ⟨ix2 ⟨(i 0 : ℕ) % 512, by omega⟩ (i 1), Finset.mem_univ _, ?_⟩
  rw [emb9]
  refine Shape.idx_ext₂ ?_ rfl
  show 512 * ((i 0 : ℕ) / 512) + (i 0 : ℕ) % 512 = (i 0 : ℕ)
  omega

theorem emb10 (t : Fin cfg0.N) (y : S512x1024.Idx) :
    (((cfg0.win 10).blk t).view.emb y : S8192x1024.Idx) = ix2 (row t (y 0)) (y 1) := by
  have hi := idx_out t
  funext a
  apply Fin.ext
  match a with
  | ⟨0, _⟩ => show win0_10.index t 0 * 512 + 1 * (y 0 : ℕ) = 512 * t.val + (y 0 : ℕ); rw [hi.2.2.2.2.1]; omega
  | ⟨1, _⟩ => show win0_10.index t 1 * 1024 + 1 * (y 1 : ℕ) = (y 1 : ℕ); rw [hi.2.2.2.2.2.1]; omega

theorem cover10 (i : S8192x1024.Idx) :
    ∃ t : Fin cfg0.N, (cfg0.win 10).flush t = true ∧ i ∈ ((cfg0.win 10).blk t).view.set := by
  have h0 : (i 0 : ℕ) < 8192 := (i 0).isLt
  have hN : cfg0.N = 16 := N_0
  refine ⟨⟨(i 0 : ℕ) / 512, by omega⟩, flush0_10 _, ?_⟩
  refine Finset.mem_map.mpr ⟨ix2 ⟨(i 0 : ℕ) % 512, by omega⟩ (i 1), Finset.mem_univ _, ?_⟩
  rw [emb10]
  refine Shape.idx_ext₂ ?_ rfl
  show 512 * ((i 0 : ℕ) / 512) + (i 0 : ℕ) % 512 = (i 0 : ℕ)
  omega

theorem emb11 (t : Fin cfg0.N) (y : S512x512.Idx) :
    (((cfg0.win 11).blk t).view.emb y : S8192x512.Idx) = ix2 (row t (y 0)) (y 1) := by
  have hi := idx_out t
  funext a
  apply Fin.ext
  match a with
  | ⟨0, _⟩ => show win0_11.index t 0 * 512 + 1 * (y 0 : ℕ) = 512 * t.val + (y 0 : ℕ); rw [hi.2.2.2.2.2.2.1]; omega
  | ⟨1, _⟩ => show win0_11.index t 1 * 512 + 1 * (y 1 : ℕ) = (y 1 : ℕ); rw [hi.2.2.2.2.2.2.2.1]; omega

theorem cover11 (i : S8192x512.Idx) :
    ∃ t : Fin cfg0.N, (cfg0.win 11).flush t = true ∧ i ∈ ((cfg0.win 11).blk t).view.set := by
  have h0 : (i 0 : ℕ) < 8192 := (i 0).isLt
  have hN : cfg0.N = 16 := N_0
  refine ⟨⟨(i 0 : ℕ) / 512, by omega⟩, flush0_11 _, ?_⟩
  refine Finset.mem_map.mpr ⟨ix2 ⟨(i 0 : ℕ) % 512, by omega⟩ (i 1), Finset.mem_univ _, ?_⟩
  rw [emb11]
  refine Shape.idx_ext₂ ?_ rfl
  show 512 * ((i 0 : ℕ) / 512) + (i 0 : ℕ) % 512 = (i 0 : ℕ)
  omega

theorem emb12 (t : Fin cfg0.N) (y : S512x512.Idx) :
    (((cfg0.win 12).blk t).view.emb y : S8192x512.Idx) = ix2 (row t (y 0)) (y 1) := by
  have hi := idx_out t
  funext a
  apply Fin.ext
  match a with
  | ⟨0, _⟩ => show win0_12.index t 0 * 512 + 1 * (y 0 : ℕ) = 512 * t.val + (y 0 : ℕ); rw [hi.2.2.2.2.2.2.2.2.1]; omega
  | ⟨1, _⟩ => show win0_12.index t 1 * 512 + 1 * (y 1 : ℕ) = (y 1 : ℕ); rw [hi.2.2.2.2.2.2.2.2.2]; omega

theorem cover12 (i : S8192x512.Idx) :
    ∃ t : Fin cfg0.N, (cfg0.win 12).flush t = true ∧ i ∈ ((cfg0.win 12).blk t).view.set := by
  have h0 : (i 0 : ℕ) < 8192 := (i 0).isLt
  have hN : cfg0.N = 16 := N_0
  refine ⟨⟨(i 0 : ℕ) / 512, by omega⟩, flush0_12 _, ?_⟩
  refine Finset.mem_map.mpr ⟨ix2 ⟨(i 0 : ℕ) % 512, by omega⟩ (i 1), Finset.mem_univ _, ?_⟩
  rw [emb12]
  refine Shape.idx_ext₂ ?_ rfl
  show 512 * ((i 0 : ℕ) / 512) + (i 0 : ℕ) % 512 = (i 0 : ℕ)
  omega

end Cert.KernelIdeal.Rows

end
-- ==== Proof.Arrays.lean ====
/- The output arrays of the merge gradient, as the plain sums of the specification. -/
module

public import proofs.«01_k».proof.Proof.Gen.KernelIdeal.Value
public import proofs.«01_k».proof.Proof.Rows
public import proofs.«01_k».proof.Proof.MergeSpec
public import Idealize.ShloMosaic.Lib.Pipeline.Value
public import Idealize.ShloMosaic.Lib.Pointwise

@[expose] public section

set_option maxRecDepth 16384

noncomputable section

namespace Cert.KernelIdeal.Arrays

open Cert.KernelIdeal Cert.KernelIdeal.Gen Cert.KernelIdeal.Rows Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

abbrev attn : MergeSpec.Mat 8192 512 := m ((c : Thread nD τ).loc main_arg0)
abbrev sgu : MergeSpec.Mat 8192 512 := m ((c : Thread nD τ).loc main_arg1)
abbrev gu : MergeSpec.Mat 8192 3072 := m ((c : Thread nD τ).loc main_arg2)
abbrev wpa : MergeSpec.Mat 512 1024 := m ((c : Thread nD τ).loc main_arg3)
abbrev wps : MergeSpec.Mat 512 1024 := m ((c : Thread nD τ).loc main_arg4)
abbrev wout : MergeSpec.Mat 1024 1024 := m ((c : Thread nD τ).loc main_arg5)
abbrev ct : MergeSpec.Mat 8192 1024 := m ((c : Thread nD τ).loc main_arg6)

theorem V_v1 (i : Fin 8192) (j : Fin 1024) : (V m c main_v1 : S8192x1024.Idx → EReal) (ix2 i j) = MergeSpec.dotP (attn m c) (wpa m c) i j := by
  have e : V m c main_v1 = truncf .bf16 (Host.dotGeneral (F := Ideal) (φ₁ := .bf16) (φ₂ := .bf16) dot_S8192x512_S512x1024_S8192x1024_1_0_0_1_n_n none (attn m c) (wpa m c)) bitsLt_bf16_f32 := by
    unfold V
    after_results_simp
  rw [e]
  pointwise
  unfold MergeSpec.dotP
  rfl

theorem V_v3 (i : Fin 8192) (j : Fin 1024) : (V m c main_v3 : S8192x1024.Idx → EReal) (ix2 i j) = MergeSpec.dotP (sgu m c) (wps m c) i j := by
  have e : V m c main_v3 = truncf .bf16 (Host.dotGeneral (F := Ideal) (φ₁ := .bf16) (φ₂ := .bf16) dot_S8192x512_S512x1024_S8192x1024_1_0_0_1_n_n none (sgu m c) (wps m c)) bitsLt_bf16_f32 := by
    unfold V
    after_results_simp
  rw [e]
  pointwise
  unfold MergeSpec.dotP
  rfl

theorem dm_eq (t : Fin cfg0.N) (r : Fin 512) (k : Fin 1024) :
    Block.dm (iblk m c 0 t) (iblk m c 7 t) r k = MergeSpec.dotT (ct m c) (wout m c) (row t r) k := by
  unfold Block.dm MergeSpec.dotT
  exact Finset.sum_congr rfl fun j _ => by rw [iblk0, iblk7, V_main_arg6, V_main_arg5]

theorem gate1 (t : Fin cfg0.N) (r : Fin 512) (k : Fin 1024) :
    Gate.sg ((iblk m c 1 t : Vec Ideal S512x1024 .bf16) (ix2 r k)) = MergeSpec.gcol (gu m c) 1024 (by omega) (row t r) k := by
  rw [iblk1, V_main_arg2]; rfl

theorem gate2 (t : Fin cfg0.N) (r : Fin 512) (k : Fin 1024) :
    Gate.sg ((iblk m c 2 t : Vec Ideal S512x1024 .bf16) (ix2 r k)) = MergeSpec.gcol (gu m c) 2048 (by omega) (row t r) k := by
  rw [iblk2, V_main_arg2]; rfl

/-- The specification's arrays, from this device's arguments. -/
abbrev R8 (y : S8192x3072.Idx) : EReal := MergeSpec.dgu (attn m c) (sgu m c) (gu m c) (wpa m c) (wps m c) (wout m c) (ct m c) (y 0) (y 1)
abbrev R9 (y : S8192x1024.Idx) : EReal := MergeSpec.dpa (gu m c) (wout m c) (ct m c) (y 0) (y 1)
abbrev R10 (y : S8192x1024.Idx) : EReal := MergeSpec.dps (gu m c) (wout m c) (ct m c) (y 0) (y 1)
abbrev R11 (y : S8192x512.Idx) : EReal := MergeSpec.dbranch (MergeSpec.dpa (gu m c) (wout m c) (ct m c)) (wpa m c) (y 0) (y 1)
abbrev R12 (y : S8192x512.Idx) : EReal := MergeSpec.dbranch (MergeSpec.dps (gu m c) (wout m c) (ct m c)) (wps m c) (y 0) (y 1)

theorem point9 (t : Fin cfg0.N) (r : Fin 512) (k : Fin 1024) :
    out0_9 (F := Ideal) (iblk m c 0 t) (iblk m c 1 t) (iblk m c 2 t) (iblk m c 3 t) (iblk m c 4 t) (iblk m c 5 t) (iblk m c 6 t) (iblk m c 7 t) (ix2 r k) = R9 m c (ix2 (row t r) k) := by
  rw [Block.out9, dm_eq, gate1]; rfl

theorem point10 (t : Fin cfg0.N) (r : Fin 512) (k : Fin 1024) :
    out0_10 (F := Ideal) (iblk m c 0 t) (iblk m c 1 t) (iblk m c 2 t) (iblk m c 3 t) (iblk m c 4 t) (iblk m c 5 t) (iblk m c 6 t) (iblk m c 7 t) (ix2 r k) = R10 m c (ix2 (row t r) k) := by
  rw [Block.out10, dm_eq, gate2]; rfl

theorem point11 (t : Fin cfg0.N) (r : Fin 512) (k : Fin 512) :
    out0_11 (F := Ideal) (iblk m c 0 t) (iblk m c 1 t) (iblk m c 2 t) (iblk m c 3 t) (iblk m c 4 t) (iblk m c 5 t) (iblk m c 6 t) (iblk m c 7 t) (ix2 r k) = R11 m c (ix2 (row t r) k) := by
  rw [Block.out11]
  exact Finset.sum_congr rfl fun j _ => by rw [dm_eq, gate1, iblk5, V_main_arg3]; rfl

theorem point12 (t : Fin cfg0.N) (r : Fin 512) (k : Fin 512) :
    out0_12 (F := Ideal) (iblk m c 0 t) (iblk m c 1 t) (iblk m c 2 t) (iblk m c 3 t) (iblk m c 4 t) (iblk m c 5 t) (iblk m c 6 t) (iblk m c 7 t) (ix2 r k) = R12 m c (ix2 (row t r) k) := by
  rw [Block.out12]
  exact Finset.sum_congr rfl fun j _ => by rw [dm_eq, gate2, iblk6, V_main_arg4]; rfl

theorem point8 (t : Fin cfg0.N) (r : Fin 512) (k : Fin 3072) :
    out0_8 (F := Ideal) (iblk m c 0 t) (iblk m c 1 t) (iblk m c 2 t) (iblk m c 3 t) (iblk m c 4 t) (iblk m c 5 t) (iblk m c 6 t) (iblk m c 7 t) (ix2 r k) = R8 m c (ix2 (row t r) k) := by
  rw [Block.out8]
  show Block.gates _ _ _ _ _ _ (ix2 r k) = MergeSpec.dgu _ _ _ _ _ _ _ (row t r) k
  unfold Block.gates MergeSpec.dgu
  by_cases h : k.val < 1024
  · rw [dif_pos h]; exact dif_pos h
  by_cases h2 : k.val < 2048
  · rw [dif_neg h, dif_pos h2]
    refine ((dif_neg h).trans (dif_pos h2)).trans ?_
    unfold MergeSpec.dlogit
    rw [← gate1, ← V_v1, ← dm_eq, ← iblk3]
    exact Block.pay10 _ _ _ _ r ⟨k.val - 1024, by omega⟩
  · have hk := k.isLt
    rw [dif_neg h, dif_neg h2]
    refine ((dif_neg h).trans (dif_neg h2)).trans ?_
    unfold MergeSpec.dlogit
    rw [← gate2, ← V_v3, ← dm_eq, ← iblk4]
    refine (Block.pay1 _ _ _ _).trans ?_
    rw [← Block.pay4, ← Block.pay6]
    rfl

theorem final8 : (dats m 0 c).arrAt 8 cfg0.N = R8 m c :=
  (dats m 0 c).arrAt_eq_of_cover 8 (R8 m c) (fun t _ => by
    rw [Value.flushed8]
    funext y
    rw [View.read_apply]
    show out0_8 (F := Ideal) (iblk m c 0 t) (iblk m c 1 t) (iblk m c 2 t) (iblk m c 3 t) (iblk m c 4 t) (iblk m c 5 t) (iblk m c 6 t) (iblk m c 7 t) y = R8 m c (((cfg0.win 8).blk t).view.emb y)
    let z : S512x3072.Idx := y
    exact (congrArg (out0_8 (F := Ideal) (iblk m c 0 t) (iblk m c 1 t) (iblk m c 2 t) (iblk m c 3 t) (iblk m c 4 t) (iblk m c 5 t) (iblk m c 6 t) (iblk m c 7 t)) (eq_ix2 z)).trans ((point8 m c t (z 0) (z 1)).trans (congrArg (R8 m c) (emb8 t z).symm))) cover8

theorem final9 : (dats m 0 c).arrAt 9 cfg0.N = R9 m c :=
  (dats m 0 c).arrAt_eq_of_cover 9 (R9 m c) (fun t _ => by
    rw [Value.flushed9]
    funext y
    rw [View.read_apply]
    show out0_9 (F := Ideal) (iblk m c 0 t) (iblk m c 1 t) (iblk m c 2 t) (iblk m c 3 t) (iblk m c 4 t) (iblk m c 5 t) (iblk m c 6 t) (iblk m c 7 t) y = R9 m c (((cfg0.win 9).blk t).view.emb y)
    let z : S512x1024.Idx := y
    exact (congrArg (out0_9 (F := Ideal) (iblk m c 0 t) (iblk m c 1 t) (iblk m c 2 t) (iblk m c 3 t) (iblk m c 4 t) (iblk m c 5 t) (iblk m c 6 t) (iblk m c 7 t)) (eq_ix2 z)).trans ((point9 m c t (z 0) (z 1)).trans (congrArg (R9 m c) (emb9 t z).symm))) cover9

theorem final10 : (dats m 0 c).arrAt 10 cfg0.N = R10 m c :=
  (dats m 0 c).arrAt_eq_of_cover 10 (R10 m c) (fun t _ => by
    rw [Value.flushed10]
    funext y
    rw [View.read_apply]
    show out0_10 (F := Ideal) (iblk m c 0 t) (iblk m c 1 t) (iblk m c 2 t) (iblk m c 3 t) (iblk m c 4 t) (iblk m c 5 t) (iblk m c 6 t) (iblk m c 7 t) y = R10 m c (((cfg0.win 10).blk t).view.emb y)
    let z : S512x1024.Idx := y
    exact (congrArg (out0_10 (F := Ideal) (iblk m c 0 t) (iblk m c 1 t) (iblk m c 2 t) (iblk m c 3 t) (iblk m c 4 t) (iblk m c 5 t) (iblk m c 6 t) (iblk m c 7 t)) (eq_ix2 z)).trans ((point10 m c t (z 0) (z 1)).trans (congrArg (R10 m c) (emb10 t z).symm))) cover10

theorem final11 : (dats m 0 c).arrAt 11 cfg0.N = R11 m c :=
  (dats m 0 c).arrAt_eq_of_cover 11 (R11 m c) (fun t _ => by
    rw [Value.flushed11]
    funext y
    rw [View.read_apply]
    show out0_11 (F := Ideal) (iblk m c 0 t) (iblk m c 1 t) (iblk m c 2 t) (iblk m c 3 t) (iblk m c 4 t) (iblk m c 5 t) (iblk m c 6 t) (iblk m c 7 t) y = R11 m c (((cfg0.win 11).blk t).view.emb y)
    let z : S512x512.Idx := y
    exact (congrArg (out0_11 (F := Ideal) (iblk m c 0 t) (iblk m c 1 t) (iblk m c 2 t) (iblk m c 3 t) (iblk m c 4 t) (iblk m c 5 t) (iblk m c 6 t) (iblk m c 7 t)) (eq_ix2 z)).trans ((point11 m c t (z 0) (z 1)).trans (congrArg (R11 m c) (emb11 t z).symm))) cover11

theorem final12 : (dats m 0 c).arrAt 12 cfg0.N = R12 m c :=
  (dats m 0 c).arrAt_eq_of_cover 12 (R12 m c) (fun t _ => by
    rw [Value.flushed12]
    funext y
    rw [View.read_apply]
    show out0_12 (F := Ideal) (iblk m c 0 t) (iblk m c 1 t) (iblk m c 2 t) (iblk m c 3 t) (iblk m c 4 t) (iblk m c 5 t) (iblk m c 6 t) (iblk m c 7 t) y = R12 m c (((cfg0.win 12).blk t).view.emb y)
    let z : S512x512.Idx := y
    exact (congrArg (out0_12 (F := Ideal) (iblk m c 0 t) (iblk m c 1 t) (iblk m c 2 t) (iblk m c 3 t) (iblk m c 4 t) (iblk m c 5 t) (iblk m c 6 t) (iblk m c 7 t)) (eq_ix2 z)).trans ((point12 m c t (z 0) (z 1)).trans (congrArg (R12 m c) (emb12 t z).symm))) cover12

end Cert.KernelIdeal.Arrays

end
-- ==== Proof.RefGrad.lean ====
/- The reference's five results, read as the plain sums of the specification. -/
module

public import proofs.«01_k».proof.Proof.Gen.ReferenceIdeal.Run
public import proofs.«01_k».proof.Proof.MergeSpec
public import Idealize.ShloMosaic.Lib.Pointwise

@[expose] public section

set_option maxRecDepth 16384

noncomputable section

namespace Cert.ReferenceIdeal.Grad

open Cert.ReferenceIdeal Cert.ReferenceIdeal.Gen Idealize.ShloMosaic Idealize.ShloMosaic.TcCoe
open scoped BigOperators

variable (attn sgu : FVec Ideal S8192x512 .bf16) (gu : FVec Ideal S8192x3072 .bf16) (wpa wps : FVec Ideal S512x1024 .bf16)
  (wout : FVec Ideal S1024x1024 .bf16) (ct : FVec Ideal S8192x1024 .bf16)

/-- The gate over one third of the columns, as the reference spells it. -/
abbrev gate (off : Fin 2 → ℕ) (h : S8192x3072.Slices off S8192x1024) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 off (extf .f32 gu bitsLt_bf16_f32) h))))

/-- The output gradient through the transposed output matrix, as the reference spells it. -/
abbrev dmerged : FVec Ideal S8192x1024 .f32 :=
  Host.dotGeneral dot_S8192x1024_S1024x1024_S8192x1024_1_1_0_0_n_n none (extf .f32 ct bitsLt_bf16_f32) (extf .f32 wout bitsLt_bf16_f32)

/-- One branch's projection, as the reference spells it. -/
abbrev proj (x : FVec Ideal S8192x512 .bf16) (w : FVec Ideal S512x1024 .bf16) : FVec Ideal S8192x1024 .f32 :=
  Host.dotGeneral dot_S8192x512_S512x1024_S8192x1024_1_0_0_1_n_n none (extf .f32 x bitsLt_bf16_f32) (extf .f32 w bitsLt_bf16_f32)

theorem dmerged_apply (i : Fin 8192) (j : Fin 1024) : dmerged wout ct (ix2 i j) = MergeSpec.dotT ct wout i j := by
  pointwise
  rfl

theorem proj_apply (x : FVec Ideal S8192x512 .bf16) (w : FVec Ideal S512x1024 .bf16) (i : Fin 8192) (j : Fin 1024) :
    proj x w (ix2 i j) = MergeSpec.dotP x w i j := by
  pointwise
  rfl

theorem gate1_apply (i : Fin 8192) (j : Fin 1024) :
    gate gu ![0, 1024] slices_S8192x3072_S8192x1024_0_1024 (ix2 i j) = MergeSpec.gcol gu 1024 (by omega) i j := by
  pointwise
  exact Gate.div_eq _

theorem gate2_apply (i : Fin 8192) (j : Fin 1024) :
    gate gu ![0, 2048] slices_S8192x3072_S8192x1024_0_2048 (ix2 i j) = MergeSpec.gcol gu 2048 (by omega) i j := by
  pointwise
  exact Gate.div_eq _

/-- One gate's logit gradient, as the reference spells it. -/
abbrev logit (off : Fin 2 → ℕ) (h : S8192x3072.Slices off S8192x1024) (x : FVec Ideal S8192x512 .bf16) (w : FVec Ideal S512x1024 .bf16) :
    FVec Ideal S8192x1024 .f32 :=
  mulf (mulf (dmerged wout ct) (proj x w)) (mulf (gate gu off h) (subf (broadcastInDim S8192x1024 ![] bcast_S_S8192x1024 (constant S_ .f32 0x3F800000#32)) (gate gu off h)))

theorem one_apply (y : S8192x1024.Idx) :
    (broadcastInDim S8192x1024 ![] bcast_S_S8192x1024 (constant (F := Ideal) S_ .f32 0x3F800000#32)) y = 1 :=
  Ideal.ofBits_one_f32

theorem logit1_apply (i : Fin 8192) (j : Fin 1024) :
    logit gu wout ct ![0, 1024] slices_S8192x3072_S8192x1024_0_1024 attn wpa (ix2 i j) = MergeSpec.dlogit gu wout ct 1024 (by omega) attn wpa i j := by
  unfold MergeSpec.dlogit
  rw [← dmerged_apply, ← proj_apply, ← gate1_apply, ← one_apply (ix2 i j)]
  exact (mul_assoc _ _ _).symm

theorem logit2_apply (i : Fin 8192) (j : Fin 1024) :
    logit gu wout ct ![0, 2048] slices_S8192x3072_S8192x1024_0_2048 sgu wps (ix2 i j) = MergeSpec.dlogit gu wout ct 2048 (by omega) sgu wps i j := by
  unfold MergeSpec.dlogit
  rw [← dmerged_apply, ← proj_apply, ← gate2_apply, ← one_apply (ix2 i j)]
  exact (mul_assoc _ _ _).symm

theorem pads_apply (X Y : FVec Ideal S8192x1024 .f32) (i : Fin 8192) (j : Fin 3072) :
    addf (pad S8192x3072 ![0, 2048] ![0, 0] ![0, 0] Y (constant S_ .f32 0x00000000#32) pads_S8192x1024_S8192x3072_000_204800 h_S_)
      (pad S8192x3072 ![0, 1024] ![0, 1024] ![0, 0] X (constant S_ .f32 0x00000000#32) pads_S8192x1024_S8192x3072_000_102410240 h_S_) (ix2 i j)
    = if h : j.val < 1024 then 0
      else if h2 : j.val < 2048 then X (ix2 i ⟨j.val - 1024, by omega⟩)
      else Y (ix2 i ⟨j.val - 2048, by have := j.isLt; omega⟩) := by
  have hj := j.isLt
  pointwise
  by_cases h : j.val < 1024
  · rw [dif_neg (by omega), dif_neg (by omega), dif_pos h, add_zero]
  by_cases h2 : j.val < 2048
  · rw [dif_neg (by omega), dif_pos (by omega), dif_neg h, dif_pos h2, zero_add]
  · rw [dif_pos (by omega), dif_neg (by omega), dif_neg h, dif_neg h2, add_zero]

theorem dgu_apply (i : Fin 8192) (j : Fin 3072) :
    truncf .bf16 (addf (pad S8192x3072 ![0, 2048] ![0, 0] ![0, 0] (logit gu wout ct ![0, 2048] slices_S8192x3072_S8192x1024_0_2048 sgu wps) (constant S_ .f32 0x00000000#32) pads_S8192x1024_S8192x3072_000_204800 h_S_)
      (pad S8192x3072 ![0, 1024] ![0, 1024] ![0, 0] (logit gu wout ct ![0, 1024] slices_S8192x3072_S8192x1024_0_1024 attn wpa) (constant S_ .f32 0x00000000#32) pads_S8192x1024_S8192x3072_000_102410240 h_S_)) bitsLt_bf16_f32 (ix2 i j)
    = MergeSpec.dgu attn sgu gu wpa wps wout ct i j := by
  refine (pads_apply _ _ i j).trans ?_
  unfold MergeSpec.dgu
  simp only [logit1_apply, logit2_apply]

theorem dpa_apply (i : Fin 8192) (j : Fin 1024) :
    mulf (gate gu ![0, 1024] slices_S8192x3072_S8192x1024_0_1024) (dmerged wout ct) (ix2 i j) = MergeSpec.dpa gu wout ct i j := by
  unfold MergeSpec.dpa
  rw [← dmerged_apply, ← gate1_apply]
  exact mul_comm _ _

theorem dps_apply (i : Fin 8192) (j : Fin 1024) :
    mulf (gate gu ![0, 2048] slices_S8192x3072_S8192x1024_0_2048) (dmerged wout ct) (ix2 i j) = MergeSpec.dps gu wout ct i j := by
  unfold MergeSpec.dps
  rw [← dmerged_apply, ← gate2_apply]
  exact mul_comm _ _

theorem back_apply (g : FVec Ideal S8192x1024 .f32) (w : FVec Ideal S512x1024 .bf16) (i : Fin 8192) (j : Fin 512) :
    Host.dotGeneral dot_S8192x1024_S512x1024_S8192x512_1_1_0_0_n_n none g (extf .f32 w bitsLt_bf16_f32) (ix2 i j)
    = MergeSpec.dbranch (fun i k => g (ix2 i k)) w i j := by
  pointwise
  rfl

end Cert.ReferenceIdeal.Grad

end
-- ==== Proof.FfnWin.lean ====
/- Where a grid point of each of the four calls reads and writes: each window's block as rows of its array, and the
   arrays that move down the rows covered. -/
module

public import proofs.«01_k».proof.Proof.Gen.Kernel2Ideal.Frame
public import Idealize.ShloMosaic.Lib.Pipeline.Value
public import Idealize.ShloMosaic.Lib.Pointwise

@[expose] public section

set_option maxRecDepth 16384

noncomputable section

namespace Cert.Kernel2Ideal.Win

open Cert.Kernel2Ideal Cert.Kernel2Ideal.Gen Idealize.ShloMosaic Idealize.ShloMosaic.TcCoe Idealize.SL.Sem
open Idealize.ShloMosaic.Pipeline (Dat)
open scoped BigOperators

/-- Row `r` of block `n`. -/
def row (n : ℕ) (h : n < 16) (r : Fin 512) : Fin 8192 := ⟨512 * n + r.val, by omega⟩

variable (V : (c : Dev nD) → (b : Ref sig .tc) → Buf (Elt Ideal) ((c : Thread nD τ).loc b))

/-! ## Call 0 -/

theorem lt0 (t : Fin cfg0.N) : t.val < 16 := lt_of_lt_of_eq t.isLt N_0

/-- Row `r` of the block at point `t`. -/
abbrev row0 (t : Fin cfg0.N) (r : Fin 512) : Fin 8192 := row t.val (lt0 t) r

theorem idx0_0 : ∀ t : Fin cfg0.N, win0_0.index t 0 = t.val ∧ win0_0.index t 1 = 0 :=
  (by decide +kernel : ∀ t : Fin grid0.N, win0_0.index t 0 = t.val ∧ win0_0.index t 1 = 0)

theorem blk0_0 (c : Dev nD) (t : Fin cfg0.N) (r : Fin 512) (k : Fin 1024) :
    (iblk0 V c 0 t : Vec Ideal S512x1024 .bf16) (ix2 r k) = V c main_v12 (ix2 (row0 t r) k) := by
  have hi := idx0_0 t
  unfold iblk0
  rw [View.read_apply]
  show V c main_v12 _ = V c main_v12 _
  congr 1
  funext a
  apply Fin.ext
  match a with
  | ⟨0, _⟩ => show win0_0.index t 0 * 512 + 1 * (r : ℕ) = 512 * t.val + (r : ℕ); rw [hi.1]; omega
  | ⟨1, _⟩ => show win0_0.index t 1 * 1024 + 1 * (k : ℕ) = (k : ℕ); rw [hi.2]; omega

theorem idx0_1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem blk0_1 (c : Dev nD) (t : Fin cfg0.N) (s : Fin 4) (p : Fin 1024) (q : Fin 704) :
    (iblk0 V c 1 t : Vec Ideal S4x1024x704 .bf16) (ix3 s p q) = V c main_arg2 (ix3 s p q) := by
  have hi := idx0_1 t
  unfold iblk0
  rw [View.read_apply]
  show V c main_arg2 _ = V c main_arg2 _
  congr 1
  funext a
  apply Fin.ext
  match a with
  | ⟨0, _⟩ => show win0_1.index t 0 * 4 + 1 * (s : ℕ) = (s : ℕ); rw [hi.1]; omega
  | ⟨1, _⟩ => show win0_1.index t 1 * 1024 + 1 * (p : ℕ) = (p : ℕ); rw [hi.2.1]; omega
  | ⟨2, _⟩ => show win0_1.index t 2 * 704 + 1 * (q : ℕ) = (q : ℕ); rw [hi.2.2]; omega

theorem idx0_2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem blk0_2 (c : Dev nD) (t : Fin cfg0.N) (s : Fin 4) (p : Fin 1024) (q : Fin 704) :
    (iblk0 V c 2 t : Vec Ideal S4x1024x704 .bf16) (ix3 s p q) = V c main_arg3 (ix3 s p q) := by
  have hi := idx0_2 t
  unfold iblk0
  rw [View.read_apply]
  show V c main_arg3 _ = V c main_arg3 _
  congr 1
  funext a
  apply Fin.ext
  match a with
  | ⟨0, _⟩ => show win0_2.index t 0 * 4 + 1 * (s : ℕ) = (s : ℕ); rw [hi.1]; omega
  | ⟨1, _⟩ => show win0_2.index t 1 * 1024 + 1 * (p : ℕ) = (p : ℕ); rw [hi.2.1]; omega
  | ⟨2, _⟩ => show win0_2.index t 2 * 704 + 1 * (q : ℕ) = (q : ℕ); rw [hi.2.2]; omega

theorem idx0_3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem emb0_3 (t : Fin cfg0.N) (y : S4x512x704.Idx) :
    (((cfg0.win 3).blk t).view.emb y : S4x8192x704.Idx) = ix3 (y 0) (row0 t (y 1)) (y 2) := by
  have hi := idx0_3 t
  funext a
  apply Fin.ext
  match a with
  | ⟨0, _⟩ => show win0_3.index t 0 * 4 + 1 * (y 0 : ℕ) = (y 0 : ℕ); rw [hi.1]; omega
  | ⟨1, _⟩ => show win0_3.index t 1 * 512 + 1 * (y 1 : ℕ) = 512 * t.val + (y 1 : ℕ); rw [hi.2.1]; omega
  | ⟨2, _⟩ => show win0_3.index t 2 * 704 + 1 * (y 2 : ℕ) = (y 2 : ℕ); rw [hi.2.2]; omega

theorem cover0_3 (i : S4x8192x704.Idx) :
    ∃ t : Fin cfg0.N, (cfg0.win 3).flush t = true ∧ i ∈ ((cfg0.win 3).blk t).view.set := by
  have h0 : (i 1 : ℕ) < 8192 := (i 1).isLt
  have hN : cfg0.N = 16 := N_0
  refine ⟨⟨(i 1 : ℕ) / 512, by omega⟩, flush0_3 _, ?_⟩
  refine Finset.mem_map.mpr ⟨ix3 (i 0) ⟨(i 1 : ℕ) % 512, by omega⟩ (i 2), Finset.mem_univ _, ?_⟩
  rw [emb0_3]
  funext a
  apply Fin.ext
  match a with
  | ⟨0, _⟩ => rfl
  | ⟨1, _⟩ => show 512 * ((i 1 : ℕ) / 512) + (i 1 : ℕ) % 512 = (i 1 : ℕ); omega
  | ⟨2, _⟩ => rfl

theorem idx0_4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)

theorem emb0_4 (t : Fin cfg0.N) (y : S4x512x704.Idx) :
    (((cfg0.win 4).blk t).view.emb y : S4x8192x704.Idx) = ix3 (y 0) (row0 t (y 1)) (y 2) := by
  have hi := idx0_4 t
  funext a
  apply Fin.ext
  match a with
  | ⟨0, _⟩ => show win0_4.index t 0 * 4 + 1 * (y 0 : ℕ) = (y 0 : ℕ); rw [hi.1]; omega
  | ⟨1, _⟩ => show win0_4.index t 1 * 512 + 1 * (y 1 : ℕ) = 512 * t.val + (y 1 : ℕ); rw [hi.2.1]; omega
  | ⟨2, _⟩ => show win0_4.index t 2 * 704 + 1 * (y 2 : ℕ) = (y 2 : ℕ); rw [hi.2.2]; omega

theorem cover0_4 (i : S4x8192x704.Idx) :
    ∃ t : Fin cfg0.N, (cfg0.win 4).flush t = true ∧ i ∈ ((cfg0.win 4).blk t).view.set := by
  have h0 : (i 1 : ℕ) < 8192 := (i 1).isLt
  have hN : cfg0.N = 16 := N_0
  refine ⟨⟨(i 1 : ℕ) / 512, by omega⟩, flush0_4 _, ?_⟩
  refine Finset.mem_map.mpr ⟨ix3 (i 0) ⟨(i 1 : ℕ) % 512, by omega⟩ (i 2), Finset.mem_univ _, ?_⟩
  rw [emb0_4]
  funext a
  apply Fin.ext
  match a with
  | ⟨0, _⟩ => rfl
  | ⟨1, _⟩ => show 512 * ((i 1 : ℕ) / 512) + (i 1 : ℕ) % 512 = (i 1 : ℕ); omega
  | ⟨2, _⟩ => rfl

theorem idx0_5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)

theorem emb0_5 (t : Fin cfg0.N) (y : S4x512x704.Idx) :
    (((cfg0.win 5).blk t).view.emb y : S4x8192x704.Idx) = ix3 (y 0) (row0 t (y 1)) (y 2) := by
  have hi := idx0_5 t
  funext a
  apply Fin.ext
  match a with
  | ⟨0, _⟩ => show win0_5.index t 0 * 4 + 1 * (y 0 : ℕ) = (y 0 : ℕ); rw [hi.1]; omega
  | ⟨1, _⟩ => show win0_5.index t 1 * 512 + 1 * (y 1 : ℕ) = 512 * t.val + (y 1 : ℕ); rw [hi.2.1]; omega
  | ⟨2, _⟩ => show win0_5.index t 2 * 704 + 1 * (y 2 : ℕ) = (y 2 : ℕ); rw [hi.2.2]; omega

theorem cover0_5 (i : S4x8192x704.Idx) :
    ∃ t : Fin cfg0.N, (cfg0.win 5).flush t = true ∧ i ∈ ((cfg0.win 5).blk t).view.set := by
  have h0 : (i 1 : ℕ) < 8192 := (i 1).isLt
  have hN : cfg0.N = 16 := N_0
  refine ⟨⟨(i 1 : ℕ) / 512, by omega⟩, flush0_5 _, ?_⟩
  refine Finset.mem_map.mpr ⟨ix3 (i 0) ⟨(i 1 : ℕ) % 512, by omega⟩ (i 2), Finset.mem_univ _, ?_⟩
  rw [emb0_5]
  funext a
  apply Fin.ext
  match a with
  | ⟨0, _⟩ => rfl
  | ⟨1, _⟩ => show 512 * ((i 1 : ℕ) / 512) + (i 1 : ℕ) % 512 = (i 1 : ℕ); omega
  | ⟨2, _⟩ => rfl

/-! ## Call 1 -/

theorem lt1 (t : Fin cfg1.N) : t.val < 16 := lt_of_lt_of_eq t.isLt N_1

/-- Row `r` of the block at point `t`. -/
abbrev row1 (t : Fin cfg1.N) (r : Fin 512) : Fin 8192 := row t.val (lt1 t) r

theorem idx1_0 : ∀ t : Fin cfg1.N, win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0)

theorem blk1_0 (c : Dev nD) (t : Fin cfg1.N) (s : Fin 4) (r : Fin 512) (j : Fin 704) :
    (iblk1 V c 0 t : Vec Ideal S4x512x704 .bf16) (ix3 s r j) = V c main_v13_2 (ix3 s (row1 t r) j) := by
  have hi := idx1_0 t
  unfold iblk1
  rw [View.read_apply]
  show V c main_v13_2 _ = V c main_v13_2 _
  congr 1
  funext a
  apply Fin.ext
  match a with
  | ⟨0, _⟩ => show win1_0.index t 0 * 4 + 1 * (s : ℕ) = (s : ℕ); rw [hi.1]; omega
  | ⟨1, _⟩ => show win1_0.index t 1 * 512 + 1 * (r : ℕ) = 512 * t.val + (r : ℕ); rw [hi.2.1]; omega
  | ⟨2, _⟩ => show win1_0.index t 2 * 704 + 1 * (j : ℕ) = (j : ℕ); rw [hi.2.2]; omega

theorem idx1_1 : ∀ t : Fin cfg1.N, win1_1.index t 0 = 0 ∧ win1_1.index t 1 = 0 ∧ win1_1.index t 2 = 0 :=
  (by decide +kernel : ∀ t : Fin grid1.N, win1_1.index t 0 = 0 ∧ win1_1.index t 1 = 0 ∧ win1_1.index t 2 = 0)

theorem blk1_1 (c : Dev nD) (t : Fin cfg1.N) (s : Fin 4) (p : Fin 704) (q : Fin 1024) :
    (iblk1 V c 1 t : Vec Ideal S4x704x1024 .bf16) (ix3 s p q) = V c main_arg4 (ix3 s p q) := by
  have hi := idx1_1 t
  unfold iblk1
  rw [View.read_apply]
  show V c main_arg4 _ = V c main_arg4 _
  congr 1
  funext a
  apply Fin.ext
  match a with
  | ⟨0, _⟩ => show win1_1.index t 0 * 4 + 1 * (s : ℕ) = (s : ℕ); rw [hi.1]; omega
  | ⟨1, _⟩ => show win1_1.index t 1 * 704 + 1 * (p : ℕ) = (p : ℕ); rw [hi.2.1]; omega
  | ⟨2, _⟩ => show win1_1.index t 2 * 1024 + 1 * (q : ℕ) = (q : ℕ); rw [hi.2.2]; omega

theorem idx1_2 : ∀ t : Fin cfg1.N, win1_2.index t 0 = t.val ∧ win1_2.index t 1 = 0 :=
  (by decide +kernel : ∀ t : Fin grid1.N, win1_2.index t 0 = t.val ∧ win1_2.index t 1 = 0)

theorem blk1_2 (c : Dev nD) (t : Fin cfg1.N) (r : Fin 512) (k : Fin 1024) :
    (iblk1 V c 2 t : Vec Ideal S512x1024 .f32) (ix2 r k) = V c main_arg0 (ix2 (row1 t r) k) := by
  have hi := idx1_2 t
  unfold iblk1
  rw [View.read_apply]
  show V c main_arg0 _ = V c main_arg0 _
  congr 1
  funext a
  apply Fin.ext
  match a with
  | ⟨0, _⟩ => show win1_2.index t 0 * 512 + 1 * (r : ℕ) = 512 * t.val + (r : ℕ); rw [hi.1]; omega
  | ⟨1, _⟩ => show win1_2.index t 1 * 1024 + 1 * (k : ℕ) = (k : ℕ); rw [hi.2]; omega

theorem idx1_3 : ∀ t : Fin cfg1.N, win1_3.index t 0 = t.val ∧ win1_3.index t 1 = 0 :=
  (by decide +kernel : ∀ t : Fin grid1.N, win1_3.index t 0 = t.val ∧ win1_3.index t 1 = 0)

theorem blk1_3 (c : Dev nD) (t : Fin cfg1.N) (r : Fin 512) (k : Fin 1024) :
    (iblk1 V c 3 t : Vec Ideal S512x1024 .f32) (ix2 r k) = V c main_arg6 (ix2 (row1 t r) k) := by
  have hi := idx1_3 t
  unfold iblk1
  rw [View.read_apply]
  show V c main_arg6 _ = V c main_arg6 _
  congr 1
  funext a
  apply Fin.ext
  match a with
  | ⟨0, _⟩ => show win1_3.index t 0 * 512 + 1 * (r : ℕ) = 512 * t.val + (r : ℕ); rw [hi.1]; omega
  | ⟨1, _⟩ => show win1_3.index t 1 * 1024 + 1 * (k : ℕ) = (k : ℕ); rw [hi.2]; omega

theorem idx1_4 : ∀ t : Fin cfg1.N, win1_4.index t 0 = 0 ∧ win1_4.index t 1 = 0 :=
  (by decide +kernel : ∀ t : Fin grid1.N, win1_4.index t 0 = 0 ∧ win1_4.index t 1 = 0)

theorem blk1_4 (c : Dev nD) (t : Fin cfg1.N) (r : Fin 1) (k : Fin 1024) :
    (iblk1 V c 4 t : Vec Ideal S1x1024 .f32) (ix2 r k) = V c main_arg5 (ix2 r k) := by
  have hi := idx1_4 t
  unfold iblk1
  rw [View.read_apply]
  show V c main_arg5 _ = V c main_arg5 _
  congr 1
  funext a
  apply Fin.ext
  match a with
  | ⟨0, _⟩ => show win1_4.index t 0 * 1 + 1 * (r : ℕ) = (r : ℕ); rw [hi.1]; omega
  | ⟨1, _⟩ => show win1_4.index t 1 * 1024 + 1 * (k : ℕ) = (k : ℕ); rw [hi.2]; omega

theorem idx1_5 : ∀ t : Fin cfg1.N, win1_5.index t 0 = t.val ∧ win1_5.index t 1 = 0 :=
  (by decide +kernel : ∀ t : Fin grid1.N, win1_5.index t 0 = t.val ∧ win1_5.index t 1 = 0)

theorem emb1_5 (t : Fin cfg1.N) (y : S512x1024.Idx) :
    (((cfg1.win 5).blk t).view.emb y : S8192x1024.Idx) = ix2 (row1 t (y 0)) (y 1) := by
  have hi := idx1_5 t
  funext a
  apply Fin.ext
  match a with
  | ⟨0, _⟩ => show win1_5.index t 0 * 512 + 1 * (y 0 : ℕ) = 512 * t.val + (y 0 : ℕ); rw [hi.1]; omega
  | ⟨1, _⟩ => show win1_5.index t 1 * 1024 + 1 * (y 1 : ℕ) = (y 1 : ℕ); rw [hi.2]; omega

theorem cover1_5 (i : S8192x1024.Idx) :
    ∃ t : Fin cfg1.N, (cfg1.win 5).flush t = true ∧ i ∈ ((cfg1.win 5).blk t).view.set := by
  have h0 : (i 0 : ℕ) < 8192 := (i 0).isLt
  have hN : cfg1.N = 16 := N_1
  refine ⟨⟨(i 0 : ℕ) / 512, by omega⟩, flush1_5 _, ?_⟩
  refine Finset.mem_map.mpr ⟨ix2 ⟨(i 0 : ℕ) % 512, by omega⟩ (i 1), Finset.mem_univ _, ?_⟩
  rw [emb1_5]
  refine Shape.idx_ext₂ ?_ rfl
  show 512 * ((i 0 : ℕ) / 512) + (i 0 : ℕ) % 512 = (i 0 : ℕ)
  omega

theorem idx1_6 : ∀ t : Fin cfg1.N, win1_6.index t 0 = t.val ∧ win1_6.index t 1 = 0 :=
  (by decide +kernel : ∀ t : Fin grid1.N, win1_6.index t 0 = t.val ∧ win1_6.index t 1 = 0)

theorem emb1_6 (t : Fin cfg1.N) (y : S512x1024.Idx) :
    (((cfg1.win 6).blk t).view.emb y : S8192x1024.Idx) = ix2 (row1 t (y 0)) (y 1) := by
  have hi := idx1_6 t
  funext a
  apply Fin.ext
  match a with
  | ⟨0, _⟩ => show win1_6.index t 0 * 512 + 1 * (y 0 : ℕ) = 512 * t.val + (y 0 : ℕ); rw [hi.1]; omega
  | ⟨1, _⟩ => show win1_6.index t 1 * 1024 + 1 * (y 1 : ℕ) = (y 1 : ℕ); rw [hi.2]; omega

theorem cover1_6 (i : S8192x1024.Idx) :
    ∃ t : Fin cfg1.N, (cfg1.win 6).flush t = true ∧ i ∈ ((cfg1.win 6).blk t).view.set := by
  have h0 : (i 0 : ℕ) < 8192 := (i 0).isLt
  have hN : cfg1.N = 16 := N_1
  refine ⟨⟨(i 0 : ℕ) / 512, by omega⟩, flush1_6 _, ?_⟩
  refine Finset.mem_map.mpr ⟨ix2 ⟨(i 0 : ℕ) % 512, by omega⟩ (i 1), Finset.mem_univ _, ?_⟩
  rw [emb1_6]
  refine Shape.idx_ext₂ ?_ rfl
  show 512 * ((i 0 : ℕ) / 512) + (i 0 : ℕ) % 512 = (i 0 : ℕ)
  omega

/-! ## Call 2 -/

theorem lt2 (t : Fin cfg2.N) : t.val < 16 := lt_of_lt_of_eq t.isLt N_2

/-- Row `r` of the block at point `t`. -/
abbrev row2 (t : Fin cfg2.N) (r : Fin 512) : Fin 8192 := row t.val (lt2 t) r

theorem idx2_0 : ∀ t : Fin cfg2.N, win2_0.index t 0 = t.val ∧ win2_0.index t 1 = 0 :=
  (by decide +kernel : ∀ t : Fin grid2.N, win2_0.index t 0 = t.val ∧ win2_0.index t 1 = 0)

theorem blk2_0 (c : Dev nD) (t : Fin cfg2.N) (r : Fin 512) (k : Fin 1024) :
    (iblk2 V c 0 t : Vec Ideal S512x1024 .bf16) (ix2 r k) = V c main_v14_1 (ix2 (row2 t r) k) := by
  have hi := idx2_0 t
  unfold iblk2
  rw [View.read_apply]
  show V c main_v14_1 _ = V c main_v14_1 _
  congr 1
  funext a
  apply Fin.ext
  match a with
  | ⟨0, _⟩ => show win2_0.index t 0 * 512 + 1 * (r : ℕ) = 512 * t.val + (r : ℕ); rw [hi.1]; omega
  | ⟨1, _⟩ => show win2_0.index t 1 * 1024 + 1 * (k : ℕ) = (k : ℕ); rw [hi.2]; omega

theorem idx2_1 : ∀ t : Fin cfg2.N, win2_1.index t 0 = 0 ∧ win2_1.index t 1 = 0 ∧ win2_1.index t 2 = 0 :=
  (by decide +kernel : ∀ t : Fin grid2.N, win2_1.index t 0 = 0 ∧ win2_1.index t 1 = 0 ∧ win2_1.index t 2 = 0)

theorem blk2_1 (c : Dev nD) (t : Fin cfg2.N) (s : Fin 4) (p : Fin 704) (q : Fin 1024) :
    (iblk2 V c 1 t : Vec Ideal S4x704x1024 .bf16) (ix3 s p q) = V c main_arg4 (ix3 s p q) := by
  have hi := idx2_1 t
  unfold iblk2
  rw [View.read_apply]
  show V c main_arg4 _ = V c main_arg4 _
  congr 1
  funext a
  apply Fin.ext
  match a with
  | ⟨0, _⟩ => show win2_1.index t 0 * 4 + 1 * (s : ℕ) = (s : ℕ); rw [hi.1]; omega
  | ⟨1, _⟩ => show win2_1.index t 1 * 704 + 1 * (p : ℕ) = (p : ℕ); rw [hi.2.1]; omega
  | ⟨2, _⟩ => show win2_1.index t 2 * 1024 + 1 * (q : ℕ) = (q : ℕ); rw [hi.2.2]; omega

theorem idx2_2 : ∀ t : Fin cfg2.N, win2_2.index t 0 = 0 ∧ win2_2.index t 1 = t.val ∧ win2_2.index t 2 = 0 :=
  (by decide +kernel : ∀ t : Fin grid2.N, win2_2.index t 0 = 0 ∧ win2_2.index t 1 = t.val ∧ win2_2.index t 2 = 0)

theorem blk2_2 (c : Dev nD) (t : Fin cfg2.N) (s : Fin 4) (r : Fin 512) (j : Fin 704) :
    (iblk2 V c 2 t : Vec Ideal S4x512x704 .bf16) (ix3 s r j) = V c main_v13_0 (ix3 s (row2 t r) j) := by
  have hi := idx2_2 t
  unfold iblk2
  rw [View.read_apply]
  show V c main_v13_0 _ = V c main_v13_0 _
  congr 1
  funext a
  apply Fin.ext
  match a with
  | ⟨0, _⟩ => show win2_2.index t 0 * 4 + 1 * (s : ℕ) = (s : ℕ); rw [hi.1]; omega
  | ⟨1, _⟩ => show win2_2.index t 1 * 512 + 1 * (r : ℕ) = 512 * t.val + (r : ℕ); rw [hi.2.1]; omega
  | ⟨2, _⟩ => show win2_2.index t 2 * 704 + 1 * (j : ℕ) = (j : ℕ); rw [hi.2.2]; omega

theorem idx2_3 : ∀ t : Fin cfg2.N, win2_3.index t 0 = 0 ∧ win2_3.index t 1 = t.val ∧ win2_3.index t 2 = 0 :=
  (by decide +kernel : ∀ t : Fin grid2.N, win2_3.index t 0 = 0 ∧ win2_3.index t 1 = t.val ∧ win2_3.index t 2 = 0)

theorem blk2_3 (c : Dev nD) (t : Fin cfg2.N) (s : Fin 4) (r : Fin 512) (j : Fin 704) :
    (iblk2 V c 3 t : Vec Ideal S4x512x704 .bf16) (ix3 s r j) = V c main_v13_1 (ix3 s (row2 t r) j) := by
  have hi := idx2_3 t
  unfold iblk2
  rw [View.read_apply]
  show V c main_v13_1 _ = V c main_v13_1 _
  congr 1
  funext a
  apply Fin.ext
  match a with
  | ⟨0, _⟩ => show win2_3.index t 0 * 4 + 1 * (s : ℕ) = (s : ℕ); rw [hi.1]; omega
  | ⟨1, _⟩ => show win2_3.index t 1 * 512 + 1 * (r : ℕ) = 512 * t.val + (r : ℕ); rw [hi.2.1]; omega
  | ⟨2, _⟩ => show win2_3.index t 2 * 704 + 1 * (j : ℕ) = (j : ℕ); rw [hi.2.2]; omega

theorem idx2_4 : ∀ t : Fin cfg2.N, win2_4.index t 0 = 0 ∧ win2_4.index t 1 = t.val ∧ win2_4.index t 2 = 0 :=
  (by decide +kernel : ∀ t : Fin grid2.N, win2_4.index t 0 = 0 ∧ win2_4.index t 1 = t.val ∧ win2_4.index t 2 = 0)

theorem emb2_4 (t : Fin cfg2.N) (y : S4x512x704.Idx) :
    (((cfg2.win 4).blk t).view.emb y : S4x8192x704.Idx) = ix3 (y 0) (row2 t (y 1)) (y 2) := by
  have hi := idx2_4 t
  funext a
  apply Fin.ext
  match a with
  | ⟨0, _⟩ => show win2_4.index t 0 * 4 + 1 * (y 0 : ℕ) = (y 0 : ℕ); rw [hi.1]; omega
  | ⟨1, _⟩ => show win2_4.index t 1 * 512 + 1 * (y 1 : ℕ) = 512 * t.val + (y 1 : ℕ); rw [hi.2.1]; omega
  | ⟨2, _⟩ => show win2_4.index t 2 * 704 + 1 * (y 2 : ℕ) = (y 2 : ℕ); rw [hi.2.2]; omega

theorem cover2_4 (i : S4x8192x704.Idx) :
    ∃ t : Fin cfg2.N, (cfg2.win 4).flush t = true ∧ i ∈ ((cfg2.win 4).blk t).view.set := by
  have h0 : (i 1 : ℕ) < 8192 := (i 1).isLt
  have hN : cfg2.N = 16 := N_2
  refine ⟨⟨(i 1 : ℕ) / 512, by omega⟩, flush2_4 _, ?_⟩
  refine Finset.mem_map.mpr ⟨ix3 (i 0) ⟨(i 1 : ℕ) % 512, by omega⟩ (i 2), Finset.mem_univ _, ?_⟩
  rw [emb2_4]
  funext a
  apply Fin.ext
  match a with
  | ⟨0, _⟩ => rfl
  | ⟨1, _⟩ => show 512 * ((i 1 : ℕ) / 512) + (i 1 : ℕ) % 512 = (i 1 : ℕ); omega
  | ⟨2, _⟩ => rfl

theorem idx2_5 : ∀ t : Fin cfg2.N, win2_5.index t 0 = 0 ∧ win2_5.index t 1 = t.val ∧ win2_5.index t 2 = 0 :=
  (by decide +kernel : ∀ t : Fin grid2.N, win2_5.index t 0 = 0 ∧ win2_5.index t 1 = t.val ∧ win2_5.index t 2 = 0)

theorem emb2_5 (t : Fin cfg2.N) (y : S4x512x704.Idx) :
    (((cfg2.win 5).blk t).view.emb y : S4x8192x704.Idx) = ix3 (y 0) (row2 t (y 1)) (y 2) := by
  have hi := idx2_5 t
  funext a
  apply Fin.ext
  match a with
  | ⟨0, _⟩ => show win2_5.index t 0 * 4 + 1 * (y 0 : ℕ) = (y 0 : ℕ); rw [hi.1]; omega
  | ⟨1, _⟩ => show win2_5.index t 1 * 512 + 1 * (y 1 : ℕ) = 512 * t.val + (y 1 : ℕ); rw [hi.2.1]; omega
  | ⟨2, _⟩ => show win2_5.index t 2 * 704 + 1 * (y 2 : ℕ) = (y 2 : ℕ); rw [hi.2.2]; omega

theorem cover2_5 (i : S4x8192x704.Idx) :
    ∃ t : Fin cfg2.N, (cfg2.win 5).flush t = true ∧ i ∈ ((cfg2.win 5).blk t).view.set := by
  have h0 : (i 1 : ℕ) < 8192 := (i 1).isLt
  have hN : cfg2.N = 16 := N_2
  refine ⟨⟨(i 1 : ℕ) / 512, by omega⟩, flush2_5 _, ?_⟩
  refine Finset.mem_map.mpr ⟨ix3 (i 0) ⟨(i 1 : ℕ) % 512, by omega⟩ (i 2), Finset.mem_univ _, ?_⟩
  rw [emb2_5]
  funext a
  apply Fin.ext
  match a with
  | ⟨0, _⟩ => rfl
  | ⟨1, _⟩ => show 512 * ((i 1 : ℕ) / 512) + (i 1 : ℕ) % 512 = (i 1 : ℕ); omega
  | ⟨2, _⟩ => rfl

/-! ## Call 3 -/

theorem lt3 (t : Fin cfg3.N) : t.val < 16 := lt_of_lt_of_eq t.isLt N_3

/-- Row `r` of the block at point `t`. -/
abbrev row3 (t : Fin cfg3.N) (r : Fin 512) : Fin 8192 := row t.val (lt3 t) r

theorem idx3_0 : ∀ t : Fin cfg3.N, win3_0.index t 0 = 0 ∧ win3_0.index t 1 = t.val ∧ win3_0.index t 2 = 0 :=
  (by decide +kernel : ∀ t : Fin grid3.N, win3_0.index t 0 = 0 ∧ win3_0.index t 1 = t.val ∧ win3_0.index t 2 = 0)

theorem blk3_0 (c : Dev nD) (t : Fin cfg3.N) (s : Fin 4) (r : Fin 512) (j : Fin 704) :
    (iblk3 V c 0 t : Vec Ideal S4x512x704 .bf16) (ix3 s r j) = V c main_v15_0 (ix3 s (row3 t r) j) := by
  have hi := idx3_0 t
  unfold iblk3
  rw [View.read_apply]
  show V c main_v15_0 _ = V c main_v15_0 _
  congr 1
  funext a
  apply Fin.ext
  match a with
  | ⟨0, _⟩ => show win3_0.index t 0 * 4 + 1 * (s : ℕ) = (s : ℕ); rw [hi.1]; omega
  | ⟨1, _⟩ => show win3_0.index t 1 * 512 + 1 * (r : ℕ) = 512 * t.val + (r : ℕ); rw [hi.2.1]; omega
  | ⟨2, _⟩ => show win3_0.index t 2 * 704 + 1 * (j : ℕ) = (j : ℕ); rw [hi.2.2]; omega

theorem idx3_1 : ∀ t : Fin cfg3.N, win3_1.index t 0 = 0 ∧ win3_1.index t 1 = t.val ∧ win3_1.index t 2 = 0 :=
  (by decide +kernel : ∀ t : Fin grid3.N, win3_1.index t 0 = 0 ∧ win3_1.index t 1 = t.val ∧ win3_1.index t 2 = 0)

theorem blk3_1 (c : Dev nD) (t : Fin cfg3.N) (s : Fin 4) (r : Fin 512) (j : Fin 704) :
    (iblk3 V c 1 t : Vec Ideal S4x512x704 .bf16) (ix3 s r j) = V c main_v15_1 (ix3 s (row3 t r) j) := by
  have hi := idx3_1 t
  unfold iblk3
  rw [View.read_apply]
  show V c main_v15_1 _ = V c main_v15_1 _
  congr 1
  funext a
  apply Fin.ext
  match a with
  | ⟨0, _⟩ => show win3_1.index t 0 * 4 + 1 * (s : ℕ) = (s : ℕ); rw [hi.1]; omega
  | ⟨1, _⟩ => show win3_1.index t 1 * 512 + 1 * (r : ℕ) = 512 * t.val + (r : ℕ); rw [hi.2.1]; omega
  | ⟨2, _⟩ => show win3_1.index t 2 * 704 + 1 * (j : ℕ) = (j : ℕ); rw [hi.2.2]; omega

theorem idx3_2 : ∀ t : Fin cfg3.N, win3_2.index t 0 = 0 ∧ win3_2.index t 1 = 0 ∧ win3_2.index t 2 = 0 :=
  (by decide +kernel : ∀ t : Fin grid3.N, win3_2.index t 0 = 0 ∧ win3_2.index t 1 = 0 ∧ win3_2.index t 2 = 0)

theorem blk3_2 (c : Dev nD) (t : Fin cfg3.N) (s : Fin 4) (p : Fin 1024) (q : Fin 704) :
    (iblk3 V c 2 t : Vec Ideal S4x1024x704 .bf16) (ix3 s p q) = V c main_arg2 (ix3 s p q) := by
  have hi := idx3_2 t
  unfold iblk3
  rw [View.read_apply]
  show V c main_arg2 _ = V c main_arg2 _
  congr 1
  funext a
  apply Fin.ext
  match a with
  | ⟨0, _⟩ => show win3_2.index t 0 * 4 + 1 * (s : ℕ) = (s : ℕ); rw [hi.1]; omega
  | ⟨1, _⟩ => show win3_2.index t 1 * 1024 + 1 * (p : ℕ) = (p : ℕ); rw [hi.2.1]; omega
  | ⟨2, _⟩ => show win3_2.index t 2 * 704 + 1 * (q : ℕ) = (q : ℕ); rw [hi.2.2]; omega

theorem idx3_3 : ∀ t : Fin cfg3.N, win3_3.index t 0 = 0 ∧ win3_3.index t 1 = 0 ∧ win3_3.index t 2 = 0 :=
  (by decide +kernel : ∀ t : Fin grid3.N, win3_3.index t 0 = 0 ∧ win3_3.index t 1 = 0 ∧ win3_3.index t 2 = 0)

theorem blk3_3 (c : Dev nD) (t : Fin cfg3.N) (s : Fin 4) (p : Fin 1024) (q : Fin 704) :
    (iblk3 V c 3 t : Vec Ideal S4x1024x704 .bf16) (ix3 s p q) = V c main_arg3 (ix3 s p q) := by
  have hi := idx3_3 t
  unfold iblk3
  rw [View.read_apply]
  show V c main_arg3 _ = V c main_arg3 _
  congr 1
  funext a
  apply Fin.ext
  match a with
  | ⟨0, _⟩ => show win3_3.index t 0 * 4 + 1 * (s : ℕ) = (s : ℕ); rw [hi.1]; omega
  | ⟨1, _⟩ => show win3_3.index t 1 * 1024 + 1 * (p : ℕ) = (p : ℕ); rw [hi.2.1]; omega
  | ⟨2, _⟩ => show win3_3.index t 2 * 704 + 1 * (q : ℕ) = (q : ℕ); rw [hi.2.2]; omega

theorem idx3_4 : ∀ t : Fin cfg3.N, win3_4.index t 0 = t.val ∧ win3_4.index t 1 = 0 :=
  (by decide +kernel : ∀ t : Fin grid3.N, win3_4.index t 0 = t.val ∧ win3_4.index t 1 = 0)

theorem blk3_4 (c : Dev nD) (t : Fin cfg3.N) (r : Fin 512) (k : Fin 1024) :
    (iblk3 V c 4 t : Vec Ideal S512x1024 .f32) (ix2 r k) = V c main_arg0 (ix2 (row3 t r) k) := by
  have hi := idx3_4 t
  unfold iblk3
  rw [View.read_apply]
  show V c main_arg0 _ = V c main_arg0 _
  congr 1
  funext a
  apply Fin.ext
  match a with
  | ⟨0, _⟩ => show win3_4.index t 0 * 512 + 1 * (r : ℕ) = 512 * t.val + (r : ℕ); rw [hi.1]; omega
  | ⟨1, _⟩ => show win3_4.index t 1 * 1024 + 1 * (k : ℕ) = (k : ℕ); rw [hi.2]; omega

theorem idx3_5 : ∀ t : Fin cfg3.N, win3_5.index t 0 = t.val ∧ win3_5.index t 1 = 0 :=
  (by decide +kernel : ∀ t : Fin grid3.N, win3_5.index t 0 = t.val ∧ win3_5.index t 1 = 0)

theorem blk3_5 (c : Dev nD) (t : Fin cfg3.N) (r : Fin 512) (k : Fin 1024) :
    (iblk3 V c 5 t : Vec Ideal S512x1024 .f32) (ix2 r k) = V c main_v14_0 (ix2 (row3 t r) k) := by
  have hi := idx3_5 t
  unfold iblk3
  rw [View.read_apply]
  show V c main_v14_0 _ = V c main_v14_0 _
  congr 1
  funext a
  apply Fin.ext
  match a with
  | ⟨0, _⟩ => show win3_5.index t 0 * 512 + 1 * (r : ℕ) = 512 * t.val + (r : ℕ); rw [hi.1]; omega
  | ⟨1, _⟩ => show win3_5.index t 1 * 1024 + 1 * (k : ℕ) = (k : ℕ); rw [hi.2]; omega

theorem idx3_6 : ∀ t : Fin cfg3.N, win3_6.index t 0 = 0 ∧ win3_6.index t 1 = 0 :=
  (by decide +kernel : ∀ t : Fin grid3.N, win3_6.index t 0 = 0 ∧ win3_6.index t 1 = 0)

theorem blk3_6 (c : Dev nD) (t : Fin cfg3.N) (r : Fin 1) (k : Fin 1024) :
    (iblk3 V c 6 t : Vec Ideal S1x1024 .f32) (ix2 r k) = V c main_arg1 (ix2 r k) := by
  have hi := idx3_6 t
  unfold iblk3
  rw [View.read_apply]
  show V c main_arg1 _ = V c main_arg1 _
  congr 1
  funext a
  apply Fin.ext
  match a with
  | ⟨0, _⟩ => show win3_6.index t 0 * 1 + 1 * (r : ℕ) = (r : ℕ); rw [hi.1]; omega
  | ⟨1, _⟩ => show win3_6.index t 1 * 1024 + 1 * (k : ℕ) = (k : ℕ); rw [hi.2]; omega

theorem idx3_7 : ∀ t : Fin cfg3.N, win3_7.index t 0 = t.val ∧ win3_7.index t 1 = 0 :=
  (by decide +kernel : ∀ t : Fin grid3.N, win3_7.index t 0 = t.val ∧ win3_7.index t 1 = 0)

theorem emb3_7 (t : Fin cfg3.N) (y : S512x1024.Idx) :
    (((cfg3.win 7).blk t).view.emb y : S8192x1024.Idx) = ix2 (row3 t (y 0)) (y 1) := by
  have hi := idx3_7 t
  funext a
  apply Fin.ext
  match a with
  | ⟨0, _⟩ => show win3_7.index t 0 * 512 + 1 * (y 0 : ℕ) = 512 * t.val + (y 0 : ℕ); rw [hi.1]; omega
  | ⟨1, _⟩ => show win3_7.index t 1 * 1024 + 1 * (y 1 : ℕ) = (y 1 : ℕ); rw [hi.2]; omega

theorem cover3_7 (i : S8192x1024.Idx) :
    ∃ t : Fin cfg3.N, (cfg3.win 7).flush t = true ∧ i ∈ ((cfg3.win 7).blk t).view.set := by
  have h0 : (i 0 : ℕ) < 8192 := (i 0).isLt
  have hN : cfg3.N = 16 := N_3
  refine ⟨⟨(i 0 : ℕ) / 512, by omega⟩, flush3_7 _, ?_⟩
  refine Finset.mem_map.mpr ⟨ix2 ⟨(i 0 : ℕ) % 512, by omega⟩ (i 1), Finset.mem_univ _, ?_⟩
  rw [emb3_7]
  refine Shape.idx_ext₂ ?_ rfl
  show 512 * ((i 0 : ℕ) / 512) + (i 0 : ℕ) % 512 = (i 0 : ℕ)
  omega

theorem idx3_8 : ∀ t : Fin cfg3.N, win3_8.index t 0 = t.val ∧ win3_8.index t 1 = 0 :=
  (by decide +kernel : ∀ t : Fin grid3.N, win3_8.index t 0 = t.val ∧ win3_8.index t 1 = 0)

theorem emb3_8 (t : Fin cfg3.N) (y : S512x1024.Idx) :
    (((cfg3.win 8).blk t).view.emb y : S8192x1024.Idx) = ix2 (row3 t (y 0)) (y 1) := by
  have hi := idx3_8 t
  funext a
  apply Fin.ext
  match a with
  | ⟨0, _⟩ => show win3_8.index t 0 * 512 + 1 * (y 0 : ℕ) = 512 * t.val + (y 0 : ℕ); rw [hi.1]; omega
  | ⟨1, _⟩ => show win3_8.index t 1 * 1024 + 1 * (y 1 : ℕ) = (y 1 : ℕ); rw [hi.2]; omega

theorem cover3_8 (i : S8192x1024.Idx) :
    ∃ t : Fin cfg3.N, (cfg3.win 8).flush t = true ∧ i ∈ ((cfg3.win 8).blk t).view.set := by
  have h0 : (i 0 : ℕ) < 8192 := (i 0).isLt
  have hN : cfg3.N = 16 := N_3
  refine ⟨⟨(i 0 : ℕ) / 512, by omega⟩, flush3_8 _, ?_⟩
  refine Finset.mem_map.mpr ⟨ix2 ⟨(i 0 : ℕ) % 512, by omega⟩ (i 1), Finset.mem_univ _, ?_⟩
  rw [emb3_8]
  refine Shape.idx_ext₂ ?_ rfl
  show 512 * ((i 0 : ℕ) / 512) + (i 0 : ℕ) % 512 = (i 0 : ℕ)
  omega

end Cert.Kernel2Ideal.Win

end
-- ==== Proof.Reals.lean ====
/- Extended reals that are real numbers: sums, quotients and roots of such numbers, and the constants of the step. -/
module

public import Idealize.ShloMosaic.PureOps.Ideal.Laws
public import Idealize.ShloMosaic.Lib.IdealHost
public import Idealize.ShloMosaic.Lib.Pointwise
public import proofs.«01_k».proof.Proof.Gate

@[expose] public section

noncomputable section

namespace Cert.Reals

open Idealize.ShloMosaic
open scoped BigOperators

/-- A finite sum of reals, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The small number under the root: 8796093 / 2 ^ 43. -/
def eps : ℝ := 8796093 / 8796093022208

theorem eps_pos : 0 < eps := by unfold eps; norm_num

theorem eps_f32 : Ideal.ofBits .f32 0x358637BD#32 = ((eps : ℝ) : EReal) := by
  simp [Ideal.ofBits, Ideal.ieee, -EReal.coe_mul, eps]; norm_num
theorem width_f32 : Ideal.ofBits .f32 0x44800000#32 = ((1024 : ℝ) : EReal) := by
  simp [Ideal.ofBits, Ideal.ieee, -EReal.coe_mul]; norm_num
theorem inv_width_f32 : Ideal.ofBits .f32 0x3A800000#32 = ((1 / 1024 : ℝ) : EReal) := by
  simp [Ideal.ofBits, Ideal.ieee, -EReal.coe_mul]; norm_num
theorem half_inv_width_f32 : Ideal.ofBits .f32 0x3A000000#32 = ((1 / 2048 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem neg_half_f32 : Ideal.ofBits .f32 0xBF000000#32 = ((-(1 / 2) : ℝ) : EReal) := by
  simp [Ideal.ofBits, Ideal.ieee, -EReal.coe_mul]; norm_num
theorem half_f32 : Ideal.ofBits .f32 0x3F000000#32 = ((1 / 2 : ℝ) : EReal) := Gate.half_f32

/-- Division by a real number that is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal root of a positive real. -/
theorem rsqrt_coe {x : ℝ} (h : 0 < x) : Ideal.rsqrt (x : EReal) = (((√x)⁻¹ : ℝ) : EReal) := by
  rw [Ideal.rsqrt_coe, if_neg (not_lt.mpr h.le), if_neg h.ne']

/-- The logistic function on the reals. -/
def lgs (x : ℝ) : ℝ := (1 + Real.exp (-x))⁻¹

theorem gate_coe (x : ℝ) : Gate.sg (x : EReal) = ((lgs x : ℝ) : EReal) := by
  unfold Gate.sg lgs
  rw [← EReal.coe_mul, Ideal.tanh_coe, ← EReal.coe_mul, ← EReal.coe_add, Gate.real_logistic]

theorem one_coe : (1 : EReal) = ((1 : ℝ) : EReal) := rfl

/-! Vectors of real numbers. -/

/-- A vector of one, two or three axes whose entries are the given reals. -/
abbrev Is2 {n k : ℕ} (v : (⟨2, ![n, k]⟩ : Shape).Idx → EReal) (f : Fin n → Fin k → ℝ) : Prop :=
  ∀ i j, v (ix2 i j) = (f i j : EReal)

end Cert.Reals

end
-- ==== Proof.FfnSpec.lean ====
/- The feed-forward sub-layer, the final normalisation and the squared loss, with every gradient towards the
   activations and the two norm gains, on real numbers. -/
module

public import proofs.«01_k».proof.Proof.Reals

@[expose] public section

noncomputable section

namespace Cert.Ffn

open Cert.Reals
open scoped BigOperators

/-- A row of the residual stream. -/
abbrev Row := Fin 1024 → ℝ

/-- Mean square plus the small number. -/
def ms (v : Row) : ℝ := (∑ k, v k * v k) / 1024 + eps

theorem ms_pos (v : Row) : 0 < ms v :=
  add_pos_of_nonneg_of_pos (div_nonneg (Finset.sum_nonneg fun k _ => mul_self_nonneg _) (by norm_num)) eps_pos

/-- The reciprocal root of the mean square. -/
def rs (v : Row) : ℝ := (√(ms v))⁻¹

/-- The normalised row. -/
def hat (v : Row) (k : Fin 1024) : ℝ := v k * rs v

/-- The gradient of a row's normalisation with gain `g`, against `dy`. -/
def back (dy g v : Row) (k : Fin 1024) : ℝ := rs v * (dy k * g k - hat v k * ((∑ q, dy q * g q * hat v q) / 1024))

/-- What the sub-layer reads, as real numbers. -/
structure Args where
  x : Fin 8192 → Row
  g2 : Row
  wg : Fin 4 → Fin 1024 → Fin 704 → ℝ
  wu : Fin 4 → Fin 1024 → Fin 704 → ℝ
  wd : Fin 4 → Fin 704 → Fin 1024 → ℝ
  gf : Row
  tgt : Fin 8192 → Row

variable (A : Args)

/-- The sub-layer's input: the normalised stream. -/
def h (i : Fin 8192) (k : Fin 1024) : ℝ := hat (A.x i) k * A.g2 k

/-- The gate's and the value's projection. -/
def a (i : Fin 8192) (s : Fin 4) (j : Fin 704) : ℝ := ∑ k, h A i k * A.wg s k j
def b (i : Fin 8192) (s : Fin 4) (j : Fin 704) : ℝ := ∑ k, h A i k * A.wu s k j

/-- The derivative of the product towards the gate's projection, towards the value's, and the product. -/
def fa (i : Fin 8192) (s : Fin 4) (j : Fin 704) : ℝ := b A i s j * (lgs (a A i s j) * (1 + a A i s j * (1 - lgs (a A i s j))))
def fb (i : Fin 8192) (s : Fin 4) (j : Fin 704) : ℝ := a A i s j * lgs (a A i s j)
def ff (i : Fin 8192) (s : Fin 4) (j : Fin 704) : ℝ := a A i s j * lgs (a A i s j) * b A i s j

/-- The stream after the sub-layer. -/
def x2 (i : Fin 8192) (d : Fin 1024) : ℝ := A.x i d + ∑ s, ∑ j, ff A i s j * A.wd s j d

/-- The distance to the target. -/
def diff (i : Fin 8192) (d : Fin 1024) : ℝ := hat (x2 A i) d * A.gf d - A.tgt i d

/-- Half the squared distance, averaged over a row and summed over the rows. -/
def loss : ℝ := ∑ i, (∑ d, diff A i d * diff A i d) * (1 / 2048)

def dy (i : Fin 8192) (d : Fin 1024) : ℝ := diff A i d * (1 / 1024)
def dgf (d : Fin 1024) : ℝ := ∑ i, dy A i d * hat (x2 A i) d
def dx2 (i : Fin 8192) (d : Fin 1024) : ℝ := back (dy A i) A.gf (x2 A i) d
def dff (i : Fin 8192) (s : Fin 4) (j : Fin 704) : ℝ := ∑ d, dx2 A i d * A.wd s j d
def da (i : Fin 8192) (s : Fin 4) (j : Fin 704) : ℝ := dff A i s j * fa A i s j
def db (i : Fin 8192) (s : Fin 4) (j : Fin 704) : ℝ := dff A i s j * fb A i s j

/-- The gradient towards the sub-layer's input. -/
def acc (i : Fin 8192) (k : Fin 1024) : ℝ := ∑ s, ((∑ j, da A i s j * A.wg s k j) + ∑ j, db A i s j * A.wu s k j)
def dg2 (k : Fin 1024) : ℝ := ∑ i, acc A i k * hat (A.x i) k
def dx1 (i : Fin 8192) (k : Fin 1024) : ℝ := dx2 A i k + back (acc A i) A.g2 (A.x i) k

end Cert.Ffn

end
-- ==== Proof.FfnUp.lean ====
/- One grid point of the gate and value projections: the three output blocks, element by element, on real inputs. -/
module

public import proofs.«01_k».proof.Proof.Gen.Kernel2Ideal.Frame.Region0
public import proofs.«01_k».proof.Proof.FfnSpec
public import Idealize.ShloMosaic.Lib.Pipeline.Value
public import Idealize.ShloMosaic.Lib.Pointwise

@[expose] public section

set_option maxRecDepth 16384

noncomputable section

namespace Cert.Kernel2Ideal.Up

open Cert.Kernel2Ideal Cert.Kernel2Ideal.Gen Cert.Reals Idealize.ShloMosaic
open scoped BigOperators

/-! ## One chip's slice -/

section chip

variable (x : Vec Ideal S512x1024 .bf16) (w u : Vec Ideal S1x1024x704 .bf16)
  (X : Fin 512 → Fin 1024 → ℝ) (W U : Fin 1024 → Fin 704 → ℝ)

/-- The projection of a block's row. -/
def pr (X : Fin 512 → Fin 1024 → ℝ) (W : Fin 1024 → Fin 704 → ℝ) (r : Fin 512) (j : Fin 704) : ℝ := ∑ k, X r k * W k j

/-- The three derivatives and products of a row's gate `p` and value `q`. -/
def fa1 (p q : ℝ) : ℝ := q * (lgs p * (1 + p * (1 - lgs p)))
def fb1 (p : ℝ) : ℝ := p * lgs p
def ff1 (p q : ℝ) : ℝ := p * lgs p * q

theorem mm (hx : Is2 x X) (hw : ∀ k j, w (ix3 0 k j) = (W k j : EReal)) (r : Fin 512) (j : Fin 704) :
    k0_pay2 (F := Ideal) x w (ix2 r j) = ((pr X W r j : ℝ) : EReal) := by
  pointwise [k0_pay2, k0_pay1]
  unfold pr
  simp only [hx, hw, ← EReal.coe_mul, coe_sum]

theorem mm' (hx : Is2 x X) (hu : ∀ k j, u (ix3 0 k j) = (U k j : EReal)) (r : Fin 512) (j : Fin 704) :
    k0_pay3 (F := Ideal) x u (ix2 r j) = ((pr X U r j : ℝ) : EReal) := by
  pointwise [k0_pay3, k0_pay1]
  unfold pr
  simp only [hx, hu, ← EReal.coe_mul, coe_sum]

theorem sg (hx : Is2 x X) (hw : ∀ k j, w (ix3 0 k j) = (W k j : EReal)) (r : Fin 512) (j : Fin 704) :
    k0_pay4 (F := Ideal) x w (ix2 r j) = ((lgs (pr X W r j) : ℝ) : EReal) := by
  rw [← gate_coe, ← mm x w X W hx hw]
  pointwise [k0_pay4]
  rw [Gate.half_f32]
  rfl

theorem chip_fa (hx : Is2 x X) (hw : ∀ k j, w (ix3 0 k j) = (W k j : EReal)) (hu : ∀ k j, u (ix3 0 k j) = (U k j : EReal)) (r : Fin 512) (j : Fin 704) :
    k0_pay6 (F := Ideal) x w u (ix3 0 r j) = ((fa1 (pr X W r j) (pr X U r j) : ℝ) : EReal) := by
  pointwise [k0_pay6]
  unfold fa1
  rw [mm x w X W hx hw, mm' x u X U hx hu, sg x w X W hx hw]
  push_cast
  rfl

theorem chip_fb (hx : Is2 x X) (hw : ∀ k j, w (ix3 0 k j) = (W k j : EReal)) (r : Fin 512) (j : Fin 704) :
    k0_pay7 (F := Ideal) x w (ix3 0 r j) = ((fb1 (pr X W r j) : ℝ) : EReal) := by
  pointwise [k0_pay7, k0_pay5]
  unfold fb1
  rw [mm x w X W hx hw, sg x w X W hx hw]
  push_cast
  rfl

theorem chip_ff (hx : Is2 x X) (hw : ∀ k j, w (ix3 0 k j) = (W k j : EReal)) (hu : ∀ k j, u (ix3 0 k j) = (U k j : EReal)) (r : Fin 512) (j : Fin 704) :
    k0_pay9 (k0_pay8 (F := Ideal) x w u) (ix3 0 r j) = ((ff1 (pr X W r j) (pr X U r j) : ℝ) : EReal) := by
  pointwise [k0_pay9, k0_pay8, k0_pay5]
  unfold ff1
  rw [mm x w X W hx hw, mm' x u X U hx hu, sg x w X W hx hw]
  push_cast
  rfl

end chip

/-! ## The output blocks -/

section block

variable (x0 : Vec Ideal S512x1024 .bf16) (x1 x2 : Vec Ideal S4x1024x704 .bf16)
  (X : Fin 512 → Fin 1024 → ℝ) (W U : Fin 4 → Fin 1024 → Fin 704 → ℝ)

theorem hz : (![0, 0] : Fin 2 → Nat) = fun _ => 0 := funext fun a => by fin_cases a <;> rfl

theorem ldx {e : EltTy} (x : Vec Ideal S512x1024 e) : View.ld x r0_0 = x := View.ld_unit_zero hz _ x

theorem at3 (f : S1x512x704.Idx → EReal) (g : Fin 512 → Fin 704 → EReal) (h : ∀ r j, f (ix3 0 r j) = g r j) (x : S1x512x704.Idx) :
    f x = g (x 1) (x 2) := by
  rw [← h (x 1) (x 2)]
  refine congrArg f ?_
  funext a
  match a with
  | ⟨0, _⟩ => exact Subsingleton.elim (α := Fin 1) _ _
  | ⟨1, _⟩ => rfl
  | ⟨2, _⟩ => rfl

theorem emb_w0 (y : S1x1024x704.Idx) : r0_1.emb y = ix3 (⟨0, by omega⟩ : Fin 4) (y 1 : Fin 1024) (y 2 : Fin 704) := by
  have h0 : (y 0 : ℕ) < 1 := (y 0).isLt
  funext a
  apply Fin.ext
  rw [Rect.emb_apply]
  match a with
  | ⟨0, _⟩ => show 0 + 1 * (y 0 : ℕ) = 0; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem emb_o0 (y : S1x512x704.Idx) : r0_2.emb y = ix3 (⟨0, by omega⟩ : Fin 4) (y 1 : Fin 512) (y 2 : Fin 704) := by
  have h0 : (y 0 : ℕ) < 1 := (y 0).isLt
  funext a
  apply Fin.ext
  rw [Rect.emb_apply]
  match a with
  | ⟨0, _⟩ => show 0 + 1 * (y 0 : ℕ) = 0; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w0 (x : Vec Ideal S4x1024x704 .bf16) (k : Fin 1024) (j : Fin 704) : View.ld x r0_1 (ix3 0 k j) = x (ix3 0 k j) := by
  show x (r0_1.emb _) = _
  rw [emb_w0]
  rfl

theorem ld_o0 (x : Vec Ideal S4x512x704 .bf16) (r : Fin 512) (j : Fin 704) : View.ld x r0_2 (ix3 0 r j) = x (ix3 0 r j) := by
  show x (r0_2.emb _) = _
  rw [emb_o0]
  rfl

theorem emb_w1 (y : S1x1024x704.Idx) : r0_3.emb y = ix3 (⟨1, by omega⟩ : Fin 4) (y 1 : Fin 1024) (y 2 : Fin 704) := by
  have h0 : (y 0 : ℕ) < 1 := (y 0).isLt
  funext a
  apply Fin.ext
  rw [Rect.emb_apply]
  match a with
  | ⟨0, _⟩ => show 1 + 1 * (y 0 : ℕ) = 1; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem emb_o1 (y : S1x512x704.Idx) : r0_4.emb y = ix3 (⟨1, by omega⟩ : Fin 4) (y 1 : Fin 512) (y 2 : Fin 704) := by
  have h0 : (y 0 : ℕ) < 1 := (y 0).isLt
  funext a
  apply Fin.ext
  rw [Rect.emb_apply]
  match a with
  | ⟨0, _⟩ => show 1 + 1 * (y 0 : ℕ) = 1; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w1 (x : Vec Ideal S4x1024x704 .bf16) (k : Fin 1024) (j : Fin 704) : View.ld x r0_3 (ix3 0 k j) = x (ix3 1 k j) := by
  show x (r0_3.emb _) = _
  rw [emb_w1]
  rfl

theorem ld_o1 (x : Vec Ideal S4x512x704 .bf16) (r : Fin 512) (j : Fin 704) : View.ld x r0_4 (ix3 0 r j) = x (ix3 1 r j) := by
  show x (r0_4.emb _) = _
  rw [emb_o1]
  rfl

theorem emb_w2 (y : S1x1024x704.Idx) : r0_5.emb y = ix3 (⟨2, by omega⟩ : Fin 4) (y 1 : Fin 1024) (y 2 : Fin 704) := by
  have h0 : (y 0 : ℕ) < 1 := (y 0).isLt
  funext a
  apply Fin.ext
  rw [Rect.emb_apply]
  match a with
  | ⟨0, _⟩ => show 2 + 1 * (y 0 : ℕ) = 2; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem emb_o2 (y : S1x512x704.Idx) : r0_6.emb y = ix3 (⟨2, by omega⟩ : Fin 4) (y 1 : Fin 512) (y 2 : Fin 704) := by
  have h0 : (y 0 : ℕ) < 1 := (y 0).isLt
  funext a
  apply Fin.ext
  rw [Rect.emb_apply]
  match a with
  | ⟨0, _⟩ => show 2 + 1 * (y 0 : ℕ) = 2; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w2 (x : Vec Ideal S4x1024x704 .bf16) (k : Fin 1024) (j : Fin 704) : View.ld x r0_5 (ix3 0 k j) = x (ix3 2 k j) := by
  show x (r0_5.emb _) = _
  rw [emb_w2]
  rfl

theorem ld_o2 (x : Vec Ideal S4x512x704 .bf16) (r : Fin 512) (j : Fin 704) : View.ld x r0_6 (ix3 0 r j) = x (ix3 2 r j) := by
  show x (r0_6.emb _) = _
  rw [emb_o2]
  rfl

theorem emb_w3 (y : S1x1024x704.Idx) : r0_7.emb y = ix3 (⟨3, by omega⟩ : Fin 4) (y 1 : Fin 1024) (y 2 : Fin 704) := by
  have h0 : (y 0 : ℕ) < 1 := (y 0).isLt
  funext a
  apply Fin.ext
  rw [Rect.emb_apply]
  match a with
  | ⟨0, _⟩ => show 3 + 1 * (y 0 : ℕ) = 3; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem emb_o3 (y : S1x512x704.Idx) : r0_8.emb y = ix3 (⟨3, by omega⟩ : Fin 4) (y 1 : Fin 512) (y 2 : Fin 704) := by
  have h0 : (y 0 : ℕ) < 1 := (y 0).isLt
  funext a
  apply Fin.ext
  rw [Rect.emb_apply]
  match a with
  | ⟨0, _⟩ => show 3 + 1 * (y 0 : ℕ) = 3; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w3 (x : Vec Ideal S4x1024x704 .bf16) (k : Fin 1024) (j : Fin 704) : View.ld x r0_7 (ix3 0 k j) = x (ix3 3 k j) := by
  show x (r0_7.emb _) = _
  rw [emb_w3]
  rfl

theorem ld_o3 (x : Vec Ideal S4x512x704 .bf16) (r : Fin 512) (j : Fin 704) : View.ld x r0_8 (ix3 0 r j) = x (ix3 3 r j) := by
  show x (r0_8.emb _) = _
  rw [emb_o3]
  rfl

def fav (X : Fin 512 → Fin 1024 → ℝ) (W U : Fin 4 → Fin 1024 → Fin 704 → ℝ) (s : Fin 4) (r : Fin 512) (j : Fin 704) : ℝ := fa1 (pr X (W s) r j) (pr X (U s) r j)

theorem out_fa (hx : Is2 x0 X) (hw : ∀ s k j, x1 (ix3 s k j) = (W s k j : EReal)) (hu : ∀ s k j, x2 (ix3 s k j) = (U s k j : EReal))
    (y : S4x512x704.Idx) :
    out0_3 x0 x1 x2 y = ((fav X W U (y 0) (y 1) (y 2) : ℝ) : EReal) := by
  unfold out0_3 k0_pay33
  rw [ldx]
  refine View.canon_apply_of_pieces (Val := Elt Ideal) (e := .bf16) (fun y : S4x512x704.Idx => ((fav X W U (y 0) (y 1) (y 2) : ℝ) : EReal)) _ ?_ y (cover0_3 _ _ _ _ y)
  intro p hp x
  simp only [List.mem_cons, List.not_mem_nil, or_false] at hp
  rcases hp with rfl | rfl | rfl | rfl
  · show _ = (((fav X W U _ _ _ : ℝ)) : EReal)
    rw [emb_o3]
    exact at3 _ (fun r j => ((fav X W U 3 r j : ℝ) : EReal)) (chip_fa x0 (View.ld x1 r0_7) (View.ld x2 r0_7) X (W 3) (U 3) hx (fun k j => (ld_w3 x1 k j).trans (hw 3 k j)) (fun k j => (ld_w3 x2 k j).trans (hu 3 k j))) x
  · show _ = (((fav X W U _ _ _ : ℝ)) : EReal)
    rw [emb_o2]
    exact at3 _ (fun r j => ((fav X W U 2 r j : ℝ) : EReal)) (chip_fa x0 (View.ld x1 r0_5) (View.ld x2 r0_5) X (W 2) (U 2) hx (fun k j => (ld_w2 x1 k j).trans (hw 2 k j)) (fun k j => (ld_w2 x2 k j).trans (hu 2 k j))) x
  · show _ = (((fav X W U _ _ _ : ℝ)) : EReal)
    rw [emb_o1]
    exact at3 _ (fun r j => ((fav X W U 1 r j : ℝ) : EReal)) (chip_fa x0 (View.ld x1 r0_3) (View.ld x2 r0_3) X (W 1) (U 1) hx (fun k j => (ld_w1 x1 k j).trans (hw 1 k j)) (fun k j => (ld_w1 x2 k j).trans (hu 1 k j))) x
  · show _ = (((fav X W U _ _ _ : ℝ)) : EReal)
    rw [emb_o0]
    exact at3 _ (fun r j => ((fav X W U 0 r j : ℝ) : EReal)) (chip_fa x0 (View.ld x1 r0_1) (View.ld x2 r0_1) X (W 0) (U 0) hx (fun k j => (ld_w0 x1 k j).trans (hw 0 k j)) (fun k j => (ld_w0 x2 k j).trans (hu 0 k j))) x

def fbv (X : Fin 512 → Fin 1024 → ℝ) (W U : Fin 4 → Fin 1024 → Fin 704 → ℝ) (s : Fin 4) (r : Fin 512) (j : Fin 704) : ℝ := fb1 (pr X (W s) r j)

theorem out_fb (hx : Is2 x0 X) (hw : ∀ s k j, x1 (ix3 s k j) = (W s k j : EReal)) (hu : ∀ s k j, x2 (ix3 s k j) = (U s k j : EReal))
    (y : S4x512x704.Idx) :
    out0_4 x0 x1 x2 y = ((fbv X W U (y 0) (y 1) (y 2) : ℝ) : EReal) := by
  unfold out0_4 k0_pay33
  rw [ldx]
  refine View.canon_apply_of_pieces (Val := Elt Ideal) (e := .bf16) (fun y : S4x512x704.Idx => ((fbv X W U (y 0) (y 1) (y 2) : ℝ) : EReal)) _ ?_ y (cover0_4 _ _ _ _ y)
  intro p hp x
  simp only [List.mem_cons, List.not_mem_nil, or_false] at hp
  rcases hp with rfl | rfl | rfl | rfl
  · show _ = (((fbv X W U _ _ _ : ℝ)) : EReal)
    rw [emb_o3]
    exact at3 _ (fun r j => ((fbv X W U 3 r j : ℝ) : EReal)) (chip_fb x0 (View.ld x1 r0_7) X (W 3) hx (fun k j => (ld_w3 x1 k j).trans (hw 3 k j))) x
  · show _ = (((fbv X W U _ _ _ : ℝ)) : EReal)
    rw [emb_o2]
    exact at3 _ (fun r j => ((fbv X W U 2 r j : ℝ) : EReal)) (chip_fb x0 (View.ld x1 r0_5) X (W 2) hx (fun k j => (ld_w2 x1 k j).trans (hw 2 k j))) x
  · show _ = (((fbv X W U _ _ _ : ℝ)) : EReal)
    rw [emb_o1]
    exact at3 _ (fun r j => ((fbv X W U 1 r j : ℝ) : EReal)) (chip_fb x0 (View.ld x1 r0_3) X (W 1) hx (fun k j => (ld_w1 x1 k j).trans (hw 1 k j))) x
  · show _ = (((fbv X W U _ _ _ : ℝ)) : EReal)
    rw [emb_o0]
    exact at3 _ (fun r j => ((fbv X W U 0 r j : ℝ) : EReal)) (chip_fb x0 (View.ld x1 r0_1) X (W 0) hx (fun k j => (ld_w0 x1 k j).trans (hw 0 k j))) x

def ffv (X : Fin 512 → Fin 1024 → ℝ) (W U : Fin 4 → Fin 1024 → Fin 704 → ℝ) (s : Fin 4) (r : Fin 512) (j : Fin 704) : ℝ := ff1 (pr X (W s) r j) (pr X (U s) r j)

theorem out_ff (hx : Is2 x0 X) (hw : ∀ s k j, x1 (ix3 s k j) = (W s k j : EReal)) (hu : ∀ s k j, x2 (ix3 s k j) = (U s k j : EReal))
    (y : S4x512x704.Idx) :
    out0_5 x0 x1 x2 y = ((ffv X W U (y 0) (y 1) (y 2) : ℝ) : EReal) := by
  unfold out0_5 k0_pay33
  rw [ldx]
  refine View.canon_apply_of_pieces (Val := Elt Ideal) (e := .bf16) (fun y : S4x512x704.Idx => ((ffv X W U (y 0) (y 1) (y 2) : ℝ) : EReal)) _ ?_ y (cover0_5 _ _ _ _ y)
  intro p hp x
  simp only [List.mem_cons, List.not_mem_nil, or_false] at hp
  rcases hp with rfl | rfl | rfl | rfl
  · show _ = (((ffv X W U _ _ _ : ℝ)) : EReal)
    rw [emb_o3]
    exact at3 _ (fun r j => ((ffv X W U 3 r j : ℝ) : EReal)) (chip_ff x0 (View.ld x1 r0_7) (View.ld x2 r0_7) X (W 3) (U 3) hx (fun k j => (ld_w3 x1 k j).trans (hw 3 k j)) (fun k j => (ld_w3 x2 k j).trans (hu 3 k j))) x
  · show _ = (((ffv X W U _ _ _ : ℝ)) : EReal)
    rw [emb_o2]
    exact at3 _ (fun r j => ((ffv X W U 2 r j : ℝ) : EReal)) (chip_ff x0 (View.ld x1 r0_5) (View.ld x2 r0_5) X (W 2) (U 2) hx (fun k j => (ld_w2 x1 k j).trans (hw 2 k j)) (fun k j => (ld_w2 x2 k j).trans (hu 2 k j))) x
  · show _ = (((ffv X W U _ _ _ : ℝ)) : EReal)
    rw [emb_o1]
    exact at3 _ (fun r j => ((ffv X W U 1 r j : ℝ) : EReal)) (chip_ff x0 (View.ld x1 r0_3) (View.ld x2 r0_3) X (W 1) (U 1) hx (fun k j => (ld_w1 x1 k j).trans (hw 1 k j)) (fun k j => (ld_w1 x2 k j).trans (hu 1 k j))) x
  · show _ = (((ffv X W U _ _ _ : ℝ)) : EReal)
    rw [emb_o0]
    exact at3 _ (fun r j => ((ffv X W U 0 r j : ℝ) : EReal)) (chip_ff x0 (View.ld x1 r0_1) (View.ld x2 r0_1) X (W 0) (U 0) hx (fun k j => (ld_w0 x1 k j).trans (hw 0 k j)) (fun k j => (ld_w0 x2 k j).trans (hu 0 k j))) x

end block
end Cert.Kernel2Ideal.Up

end
-- ==== Proof.FfnAct.lean ====
/- One grid point of the gradient towards the gate's and the value's projection: the two output blocks, element by
   element, on real inputs. -/
module

public import proofs.«01_k».proof.Proof.Gen.Kernel2Ideal.Frame.Region2
public import proofs.«01_k».proof.Proof.FfnUp

@[expose] public section

set_option maxRecDepth 16384

noncomputable section

namespace Cert.Kernel2Ideal.Act

open Cert.Kernel2Ideal Cert.Kernel2Ideal.Gen Cert.Kernel2Ideal.Up Cert.Reals Idealize.ShloMosaic
open scoped BigOperators

/-- A row of the gradient through one chip's transposed matrix, times that chip's factor. -/
def act (D : Fin 512 → Fin 1024 → ℝ) (W : Fin 704 → Fin 1024 → ℝ) (P : Fin 512 → Fin 704 → ℝ) (r : Fin 512) (j : Fin 704) : ℝ :=
  (∑ d, D r d * W j d) * P r j

theorem chip (x : Vec Ideal S512x1024 .bf16) (w : Vec Ideal S1x704x1024 .bf16) (p : Vec Ideal S1x512x704 .bf16)
    (D : Fin 512 → Fin 1024 → ℝ) (W : Fin 704 → Fin 1024 → ℝ) (P : Fin 512 → Fin 704 → ℝ)
    (hx : Is2 x D) (hw : ∀ j d, w (ix3 0 j d) = (W j d : EReal)) (hp : ∀ r j, p (ix3 0 r j) = (P r j : EReal)) (r : Fin 512) (j : Fin 704) :
    k2_pay6 (F := Ideal) x w p (ix3 0 r j) = ((act D W P r j : ℝ) : EReal) := by
  pointwise [k2_pay6, k2_pay5, k2_pay4]
  unfold act
  simp only [hx _ _, hw, hp, ← EReal.coe_mul, coe_sum]

theorem emb_w0 (y : S1x704x1024.Idx) : r2_1.emb y = ix3 (⟨0, by omega⟩ : Fin 4) (y 1 : Fin 704) (y 2 : Fin 1024) := by
  have h0 : (y 0 : ℕ) < 1 := (y 0).isLt
  funext a
  apply Fin.ext
  rw [Rect.emb_apply]
  match a with
  | ⟨0, _⟩ => show 0 + 1 * (y 0 : ℕ) = 0; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w0 (x : Vec Ideal S4x704x1024 .bf16) (j : Fin 704) (d : Fin 1024) : View.ld x r2_1 (ix3 0 j d) = x (ix3 0 j d) := by
  show x (r2_1.emb _) = _
  rw [emb_w0]
  rfl

theorem emb_w1 (y : S1x704x1024.Idx) : r2_3.emb y = ix3 (⟨1, by omega⟩ : Fin 4) (y 1 : Fin 704) (y 2 : Fin 1024) := by
  have h0 : (y 0 : ℕ) < 1 := (y 0).isLt
  funext a
  apply Fin.ext
  rw [Rect.emb_apply]
  match a with
  | ⟨0, _⟩ => show 1 + 1 * (y 0 : ℕ) = 1; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w1 (x : Vec Ideal S4x704x1024 .bf16) (j : Fin 704) (d : Fin 1024) : View.ld x r2_3 (ix3 0 j d) = x (ix3 1 j d) := by
  show x (r2_3.emb _) = _
  rw [emb_w1]
  rfl

theorem emb_w2 (y : S1x704x1024.Idx) : r2_5.emb y = ix3 (⟨2, by omega⟩ : Fin 4) (y 1 : Fin 704) (y 2 : Fin 1024) := by
  have h0 : (y 0 : ℕ) < 1 := (y 0).isLt
  funext a
  apply Fin.ext
  rw [Rect.emb_apply]
  match a with
  | ⟨0, _⟩ => show 2 + 1 * (y 0 : ℕ) = 2; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w2 (x : Vec Ideal S4x704x1024 .bf16) (j : Fin 704) (d : Fin 1024) : View.ld x r2_5 (ix3 0 j d) = x (ix3 2 j d) := by
  show x (r2_5.emb _) = _
  rw [emb_w2]
  rfl

theorem emb_w3 (y : S1x704x1024.Idx) : r2_7.emb y = ix3 (⟨3, by omega⟩ : Fin 4) (y 1 : Fin 704) (y 2 : Fin 1024) := by
  have h0 : (y 0 : ℕ) < 1 := (y 0).isLt
  funext a
  apply Fin.ext
  rw [Rect.emb_apply]
  match a with
  | ⟨0, _⟩ => show 3 + 1 * (y 0 : ℕ) = 3; omega
  | ⟨1, _⟩ => show 0 + 1 * (y 1 : ℕ) = _; rw [Nat.zero_add, Nat.one_mul]; rfl
  | ⟨2, _⟩ => show 0 + 1 * (y 2 : ℕ) = _; rw [Nat.zero_add, Nat.one_mul]; rfl

theorem ld_w3 (x : Vec Ideal S4x704x1024 .bf16) (j : Fin 704) (d : Fin 1024) : View.ld x r2_7 (ix3 0 j d) = x (ix3 3 j d) := by
  show x (r2_7.emb _) = _
  rw [emb_w3]
  rfl

variable (x0 : Vec Ideal S512x1024 .bf16) (x1 : Vec Ideal S4x704x1024 .bf16) (x2 x3 : Vec Ideal S4x512x704 .bf16)
  (D : Fin 512 → Fin 1024 → ℝ) (W : Fin 4 → Fin 704 → Fin 1024 → ℝ) (P Q : Fin 4 → Fin 512 → Fin 704 → ℝ)

theorem o4 (hx : Is2 x0 D) (hw : ∀ s j d, x1 (ix3 s j d) = (W s j d : EReal)) (hp : ∀ s r j, x2 (ix3 s r j) = (P s r j : EReal))
    (y : S4x512x704.Idx) : out2_4 x0 x1 x2 x3 y = ((act D (W (y 0)) (P (y 0)) (y 1) (y 2) : ℝ) : EReal) := by
  unfold out2_4 k2_pay15
  rw [ldx]
  refine View.canon_apply_of_pieces (Val := Elt Ideal) (e := .bf16) (fun y : S4x512x704.Idx => ((act D (W (y 0)) (P (y 0)) (y 1) (y 2) : ℝ) : EReal)) _ ?_ y (cover2_4 _ _ _ _ y)
  intro pc hpc x
  simp only [List.mem_cons, List.not_mem_nil, or_false] at hpc
  rcases hpc with rfl | rfl | rfl | rfl
  · show _ = ((act D _ _ _ _ : ℝ) : EReal)
    rw [emb_o3]
    exact at3 _ (fun r j => ((act D (W 3) (P 3) r j : ℝ) : EReal)) (chip x0 (View.ld x1 r2_7) (View.ld x2 r2_8) D (W 3) (P 3) hx
      (fun j d => (ld_w3 x1 j d).trans (hw 3 j d)) (fun r j => (ld_o3 x2 r j).trans (hp 3 r j))) x
  · show _ = ((act D _ _ _ _ : ℝ) : EReal)
    rw [emb_o2]
    exact at3 _ (fun r j => ((act D (W 2) (P 2) r j : ℝ) : EReal)) (chip x0 (View.ld x1 r2_5) (View.ld x2 r2_6) D (W 2) (P 2) hx
      (fun j d => (ld_w2 x1 j d).trans (hw 2 j d)) (fun r j => (ld_o2 x2 r j).trans (hp 2 r j))) x
  · show _ = ((act D _ _ _ _ : ℝ) : EReal)
    rw [emb_o1]
    exact at3 _ (fun r j => ((act D (W 1) (P 1) r j : ℝ) : EReal)) (chip x0 (View.ld x1 r2_3) (View.ld x2 r2_4) D (W 1) (P 1) hx
      (fun j d => (ld_w1 x1 j d).trans (hw 1 j d)) (fun r j => (ld_o1 x2 r j).trans (hp 1 r j))) x
  · show _ = ((act D _ _ _ _ : ℝ) : EReal)
    rw [emb_o0]
    exact at3 _ (fun r j => ((act D (W 0) (P 0) r j : ℝ) : EReal)) (chip x0 (View.ld x1 r2_1) (View.ld x2 r2_2) D (W 0) (P 0) hx
      (fun j d => (ld_w0 x1 j d).trans (hw 0 j d)) (fun r j => (ld_o0 x2 r j).trans (hp 0 r j))) x

theorem o5 (hx : Is2 x0 D) (hw : ∀ s j d, x1 (ix3 s j d) = (W s j d : EReal)) (hq : ∀ s r j, x3 (ix3 s r j) = (Q s r j : EReal))
    (y : S4x512x704.Idx) : out2_5 x0 x1 x2 x3 y = ((act D (W (y 0)) (Q (y 0)) (y 1) (y 2) : ℝ) : EReal) := by
  unfold out2_5 k2_pay15
  rw [ldx]
  refine View.canon_apply_of_pieces (Val := Elt Ideal) (e := .bf16) (fun y : S4x512x704.Idx => ((act D (W (y 0)) (Q (y 0)) (y 1) (y 2) : ℝ) : EReal)) _ ?_ y (cover2_5 _ _ _ _ y)
  intro pc hpc x
  simp only [List.mem_cons, List.not_mem_nil, or_false] at hpc
  rcases hpc with rfl | rfl | rfl | rfl
  · show _ = ((act D _ _ _ _ : ℝ) : EReal)
    rw [emb_o3]
    exact at3 _ (fun r j => ((act D (W 3) (Q 3) r j : ℝ) : EReal)) (chip x0 (View.ld x1 r2_7) (View.ld x3 r2_8) D (W 3) (Q 3) hx
      (fun j d => (ld_w3 x1 j d).trans (hw 3 j d)) (fun r j => (ld_o3 x3 r j).trans (hq 3 r j))) x
  · show _ = ((act D _ _ _ _ : ℝ) : EReal)
    rw [emb_o2]
    exact at3 _ (fun r j => ((act D (W 2) (Q 2) r j : ℝ) : EReal)) (chip x0 (View.ld x1 r2_5) (View.ld x3 r2_6) D (W 2) (Q 2) hx
      (fun j d => (ld_w2 x1 j d).trans (hw 2 j d)) (fun r j => (ld_o2 x3 r j).trans (hq 2 r j))) x
  · show _ = ((act D _ _ _ _ : ℝ) : EReal)
    rw [emb_o1]
    exact at3 _ (fun r j => ((act D (W 1) (Q 1) r j : ℝ) : EReal)) (chip x0 (View.ld x1 r2_3) (View.ld x3 r2_4) D (W 1) (Q 1) hx
      (fun j d => (ld_w1 x1 j d).trans (hw 1 j d)) (fun r j => (ld_o1 x3 r j).trans (hq 1 r j))) x
  · show _ = ((act D _ _ _ _ : ℝ) : EReal)
    rw [emb_o0]
    exact at3 _ (fun r j => ((act D (W 0) (Q 0) r j : ℝ) : EReal)) (chip x0 (View.ld x1 r2_1) (View.ld x3 r2_2) D (W 0) (Q 0) hx
      (fun j d => (ld_w0 x1 j d).trans (hw 0 j d)) (fun r j => (ld_o0 x3 r j).trans (hq 0 r j))) x

end Cert.Kernel2Ideal.Act

end
-- ==== Proof.FfnArr.lean ====
/- The first and the third call's output arrays, as the specification's real numbers, from what each call finds in its input arrays. -/
module

public import proofs.«01_k».proof.Proof.FfnWin
public import proofs.«01_k».proof.Proof.FfnUp
public import proofs.«01_k».proof.Proof.FfnAct

@[expose] public section

set_option maxRecDepth 16384

noncomputable section

namespace Cert.Kernel2Ideal.Arr

open Cert.Kernel2Ideal Cert.Kernel2Ideal.Gen Cert.Kernel2Ideal.Win Cert.Kernel2Ideal.Up Cert.Reals Cert.Ffn
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b)) (c : Dev nD) (A : Args)

/-- An array of one matrix per chip, and a matrix, at real numbers. -/
abbrev Chips (v : S4x8192x704.Idx → EReal) (f : Fin 8192 → Fin 4 → Fin 704 → ℝ) : Prop := ∀ s i j, v (ix3 s i j) = (f i s j : EReal)
def chips (f : Fin 8192 → Fin 4 → Fin 704 → ℝ) : S4x8192x704.Idx → EReal := fun y => ((f (y 1) (y 0) (y 2) : ℝ) : EReal)
def rows (f : Fin 8192 → Row) : S8192x1024.Idx → EReal := fun y => ((f (y 0) (y 1) : ℝ) : EReal)

/-! ## The gate and value projections -/

section call0

variable (hh : Is2 (V c main_v12 : S8192x1024.Idx → EReal) (h A))
  (hwg : ∀ s k j, (V c main_arg2 : S4x1024x704.Idx → EReal) (ix3 s k j) = (A.wg s k j : EReal))
  (hwu : ∀ s k j, (V c main_arg3 : S4x1024x704.Idx → EReal) (ix3 s k j) = (A.wu s k j : EReal))
include hh hwg hwu

theorem point0_3 (t : Fin cfg0.N) (y : S4x512x704.Idx) :
    out0_3 (F := Ideal) (iblk0 V c 0 t) (iblk0 V c 1 t) (iblk0 V c 2 t) y = chips (Ffn.fa A) (ix3 (y 0) (row0 t (y 1)) (y 2)) := by
  refine (out_fa (iblk0 V c 0 t) (iblk0 V c 1 t) (iblk0 V c 2 t) (fun r k => h A (row0 t r) k) A.wg A.wu
      (fun r k => (blk0_0 V c t r k).trans (hh _ _)) (fun s k j => (blk0_1 V c t s k j).trans (hwg s k j))
      (fun s k j => (blk0_2 V c t s k j).trans (hwu s k j)) y).trans ?_
  rfl

theorem arr0_3 : (dat0 V c).arrAt 3 cfg0.N = chips (Ffn.fa A) :=
  (dat0 V c).arrAt_eq_of_cover 3 (chips (Ffn.fa A)) (fun t _ => by
    show (cfg0.win 3).cut (grid0.coords t) ((dat0 V c).after 3 t) = _
    rw [after0_3]
    funext y
    rw [View.read_apply]
    show out0_3 (F := Ideal) (iblk0 V c 0 t) (iblk0 V c 1 t) (iblk0 V c 2 t) y = chips (Ffn.fa A) (((cfg0.win 3).blk t).view.emb y)
    let z : S4x512x704.Idx := y
    exact (point0_3 V c A hh hwg hwu t z).trans (congrArg (chips (Ffn.fa A)) (emb0_3 t z).symm)) Win.cover0_3

theorem point0_4 (t : Fin cfg0.N) (y : S4x512x704.Idx) :
    out0_4 (F := Ideal) (iblk0 V c 0 t) (iblk0 V c 1 t) (iblk0 V c 2 t) y = chips (Ffn.fb A) (ix3 (y 0) (row0 t (y 1)) (y 2)) := by
  refine (out_fb (iblk0 V c 0 t) (iblk0 V c 1 t) (iblk0 V c 2 t) (fun r k => h A (row0 t r) k) A.wg A.wu
      (fun r k => (blk0_0 V c t r k).trans (hh _ _)) (fun s k j => (blk0_1 V c t s k j).trans (hwg s k j))
      (fun s k j => (blk0_2 V c t s k j).trans (hwu s k j)) y).trans ?_
  rfl

theorem arr0_4 : (dat0 V c).arrAt 4 cfg0.N = chips (Ffn.fb A) :=
  (dat0 V c).arrAt_eq_of_cover 4 (chips (Ffn.fb A)) (fun t _ => by
    show (cfg0.win 4).cut (grid0.coords t) ((dat0 V c).after 4 t) = _
    rw [after0_4]
    funext y
    rw [View.read_apply]
    show out0_4 (F := Ideal) (iblk0 V c 0 t) (iblk0 V c 1 t) (iblk0 V c 2 t) y = chips (Ffn.fb A) (((cfg0.win 4).blk t).view.emb y)
    let z : S4x512x704.Idx := y
    exact (point0_4 V c A hh hwg hwu t z).trans (congrArg (chips (Ffn.fb A)) (emb0_4 t z).symm)) Win.cover0_4

theorem point0_5 (t : Fin cfg0.N) (y : S4x512x704.Idx) :
    out0_5 (F := Ideal) (iblk0 V c 0 t) (iblk0 V c 1 t) (iblk0 V c 2 t) y = chips (Ffn.ff A) (ix3 (y 0) (row0 t (y 1)) (y 2)) := by
  refine (out_ff (iblk0 V c 0 t) (iblk0 V c 1 t) (iblk0 V c 2 t) (fun r k => h A (row0 t r) k) A.wg A.wu
      (fun r k => (blk0_0 V c t r k).trans (hh _ _)) (fun s k j => (blk0_1 V c t s k j).trans (hwg s k j))
      (fun s k j => (blk0_2 V c t s k j).trans (hwu s k j)) y).trans ?_
  rfl

theorem arr0_5 : (dat0 V c).arrAt 5 cfg0.N = chips (Ffn.ff A) :=
  (dat0 V c).arrAt_eq_of_cover 5 (chips (Ffn.ff A)) (fun t _ => by
    show (cfg0.win 5).cut (grid0.coords t) ((dat0 V c).after 5 t) = _
    rw [after0_5]
    funext y
    rw [View.read_apply]
    show out0_5 (F := Ideal) (iblk0 V c 0 t) (iblk0 V c 1 t) (iblk0 V c 2 t) y = chips (Ffn.ff A) (((cfg0.win 5).blk t).view.emb y)
    let z : S4x512x704.Idx := y
    exact (point0_5 V c A hh hwg hwu t z).trans (congrArg (chips (Ffn.ff A)) (emb0_5 t z).symm)) Win.cover0_5

end call0

/-! ## The gradient towards the two projections -/

section call2

variable (hd : Is2 (V c main_v14_1 : S8192x1024.Idx → EReal) (dx2 A))
  (hwd : ∀ s j d, (V c main_arg4 : S4x704x1024.Idx → EReal) (ix3 s j d) = (A.wd s j d : EReal))
include hd hwd

theorem point2_4 (hf : Chips (V c main_v13_0) (Ffn.fa A)) (t : Fin cfg2.N) (y : S4x512x704.Idx) :
    out2_4 (F := Ideal) (iblk2 V c 0 t) (iblk2 V c 1 t) (iblk2 V c 2 t) (iblk2 V c 3 t) y = chips (Ffn.da A) (ix3 (y 0) (row2 t (y 1)) (y 2)) := by
  refine (Act.o4 (iblk2 V c 0 t) (iblk2 V c 1 t) (iblk2 V c 2 t) (iblk2 V c 3 t) (fun r d => dx2 A (row2 t r) d) A.wd (fun s r j => Ffn.fa A (row2 t r) s j)
      (fun r k => (blk2_0 V c t r k).trans (hd _ _)) (fun s j d => (blk2_1 V c t s j d).trans (hwd s j d))
      (fun s r j => (blk2_2 V c t s r j).trans (hf s _ j)) y).trans ?_
  rfl

theorem arr2_4 (hf : Chips (V c main_v13_0) (Ffn.fa A)) : (dat2 V c).arrAt 4 cfg2.N = chips (Ffn.da A) :=
  (dat2 V c).arrAt_eq_of_cover 4 (chips (Ffn.da A)) (fun t _ => by
    show (cfg2.win 4).cut (grid2.coords t) ((dat2 V c).after 4 t) = _
    rw [after2_4]
    funext y
    rw [View.read_apply]
    show out2_4 (F := Ideal) (iblk2 V c 0 t) (iblk2 V c 1 t) (iblk2 V c 2 t) (iblk2 V c 3 t) y = chips (Ffn.da A) (((cfg2.win 4).blk t).view.emb y)
    let z : S4x512x704.Idx := y
    exact (point2_4 V c A hd hwd hf t z).trans (congrArg (chips (Ffn.da A)) (emb2_4 t z).symm)) Win.cover2_4

theorem point2_5 (hf : Chips (V c main_v13_1) (Ffn.fb A)) (t : Fin cfg2.N) (y : S4x512x704.Idx) :
    out2_5 (F := Ideal) (iblk2 V c 0 t) (iblk2 V c 1 t) (iblk2 V c 2 t) (iblk2 V c 3 t) y = chips (Ffn.db A) (ix3 (y 0) (row2 t (y 1)) (y 2)) := by
  refine (Act.o5 (iblk2 V c 0 t) (iblk2 V c 1 t) (iblk2 V c 2 t) (iblk2 V c 3 t) (fun r d => dx2 A (row2 t r) d) A.wd (fun s r j => Ffn.fb A (row2 t r) s j)
      (fun r k => (blk2_0 V c t r k).trans (hd _ _)) (fun s j d => (blk2_1 V c t s j d).trans (hwd s j d))
      (fun s r j => (blk2_3 V c t s r j).trans (hf s _ j)) y).trans ?_
  rfl

theorem arr2_5 (hf : Chips (V c main_v13_1) (Ffn.fb A)) : (dat2 V c).arrAt 5 cfg2.N = chips (Ffn.db A) :=
  (dat2 V c).arrAt_eq_of_cover 5 (chips (Ffn.db A)) (fun t _ => by
    show (cfg2.win 5).cut (grid2.coords t) ((dat2 V c).after 5 t) = _
    rw [after2_5]
    funext y
    rw [View.read_apply]
    show out2_5 (F := Ideal) (iblk2 V c 0 t) (iblk2 V c 1 t) (iblk2 V c 2 t) (iblk2 V c 3 t) y = chips (Ffn.db A) (((cfg2.win 5).blk t).view.emb y)
    let z : S4x512x704.Idx := y
    exact (point2_5 V c A hd hwd hf t z).trans (congrArg (chips (Ffn.db A)) (emb2_5 t z).symm)) Win.cover2_5

end call2

/-! ## Sums over the points -/

/-- The sum of `f` over the rows of block `n`. -/
def blockSum (f : Fin 8192 → ℝ) (n : ℕ) : ℝ := if hn : n < 16 then ∑ r, f (row n hn r) else 0

theorem blockSum_all (f : Fin 8192 → ℝ) : ∑ n ∈ Finset.range 16, blockSum f n = ∑ i, f i := by
  rw [Finset.sum_range, ← (finProdFinEquiv (m := 16) (n := 512)).sum_comp f, Fintype.sum_prod_type]
  refine Finset.sum_congr rfl fun n _ => ?_
  unfold blockSum
  rw [dif_pos n.isLt]
  refine Finset.sum_congr rfl fun r _ => congrArg f (Fin.ext ?_)
  show 512 * n.val + r.val = r.val + 512 * n.val
  omega

end Cert.Kernel2Ideal.Arr

end
-- ==== Proof.FfnPay1.lean ====
/- One grid point of the down projection with the final normalisation and the loss: each value of its body, element by
   element, on real inputs. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Kernel2Ideal.Pay1

open Cert.Kernel2Ideal Cert.Kernel2Ideal.Gen Cert.Reals Cert.Ffn Idealize.ShloMosaic
open scoped BigOperators

/-! ## The four chips' products -/

theorem pay5 (f0 f1 f2 f3 : Vec Ideal S1x512x704 .bf16) (w0 w1 w2 w3 : Vec Ideal S1x704x1024 .bf16)
    (P : Fin 4 → Fin 512 → Fin 704 → ℝ) (W : Fin 4 → Fin 704 → Fin 1024 → ℝ)
    (hf0 : ∀ r j, f0 (ix3 0 r j) = (P 0 r j : EReal)) (hf1 : ∀ r j, f1 (ix3 0 r j) = (P 1 r j : EReal))
    (hf2 : ∀ r j, f2 (ix3 0 r j) = (P 2 r j : EReal)) (hf3 : ∀ r j, f3 (ix3 0 r j) = (P 3 r j : EReal))
    (hw0 : ∀ j d, w0 (ix3 0 j d) = (W 0 j d : EReal)) (hw1 : ∀ j d, w1 (ix3 0 j d) = (W 1 j d : EReal))
    (hw2 : ∀ j d, w2 (ix3 0 j d) = (W 2 j d : EReal)) (hw3 : ∀ j d, w3 (ix3 0 j d) = (W 3 j d : EReal)) :
    Is2 (k1_pay5 (F := Ideal) f0 w0 f1 w1 f2 w2 f3 w3) (fun r d => ∑ s, ∑ j, P s r j * W s j d) := by
  intro r d
  pointwise [k1_pay5]
  simp only [hf0, hf1, hf2, hf3, hw0, hw1, hw2, hw3, ← EReal.coe_mul, coe_sum, Fin.sum_univ_four, ← EReal.coe_add]

section

variable (v25 : FVec Ideal S512x1024 .f32) (v26 : Vec Ideal S512x1024 .f32) (v28 : Vec Ideal S1x1024 .f32)
  (v41 : Vec Ideal S512x1024 .f32) (S X T : Fin 512 → Row) (G : Row)

/-- The stream's rows after the sub-layer. -/
def z (S X : Fin 512 → Row) (r : Fin 512) : Row := fun d => X r d + S r d

/-- A row's distance to its target, and the gradient of half its mean square. -/
def df (S X T : Fin 512 → Row) (G : Row) (r : Fin 512) : Row := fun d => hat (z S X r) d * G d - T r d
def dq (S X T : Fin 512 → Row) (G : Row) (r : Fin 512) : Row := fun d => df S X T G r d * (1 / 1024)

theorem pay6 (hS : Is2 v25 S) (hX : Is2 v26 X) : Is2 (k1_pay6 (F := Ideal) v25 v26) (z S X) := by
  intro r d
  pointwise [k1_pay6]
  rw [hS, hX, ← EReal.coe_add]
  rfl

theorem pay7 (hS : Is2 v25 S) (hX : Is2 v26 X) : Is2 (k1_pay7 (F := Ideal) v25 v26) (fun r _ => rs (z S X r)) := by
  intro r d
  pointwise [k1_pay7]
  simp only [pay6 v25 v26 S X hS hX _ _, ← EReal.coe_mul, coe_sum]
  rw [width_f32, eps_f32, div_coe _ (by norm_num), ← EReal.coe_add]
  exact rsqrt_coe (ms_pos (z S X r))

theorem pay8 (hS : Is2 v25 S) (hX : Is2 v26 X) : Is2 (k1_pay8 (F := Ideal) v25 v26) (fun r => hat (z S X r)) := by
  intro r d
  pointwise [k1_pay8]
  rw [pay6 v25 v26 S X hS hX, pay7 v25 v26 S X hS hX, ← EReal.coe_mul]
  rfl

theorem pay9 (hS : Is2 v25 S) (hX : Is2 v26 X) (hG : ∀ d, v28 (ix2 0 d) = (G d : EReal)) (hT : Is2 v41 T) :
    Is2 (k1_pay9 (F := Ideal) v25 v26 v28 v41) (df S X T G) := by
  intro r d
  pointwise [k1_pay9]
  rw [pay8 v25 v26 S X hS hX, hG, hT, ← EReal.coe_mul, ← EReal.coe_sub]
  rfl

theorem pay11 (hS : Is2 v25 S) (hX : Is2 v26 X) (hG : ∀ d, v28 (ix2 0 d) = (G d : EReal)) (hT : Is2 v41 T) :
    Is2 (k1_pay11 (F := Ideal) v25 v26 v28 v41) (dq S X T G) := by
  intro r d
  pointwise [k1_pay11]
  rw [pay9 v25 v26 v28 v41 S X T G hS hX hG hT, inv_width_f32, ← EReal.coe_mul]
  rfl

theorem pay10 (v46 : Vec Ideal S1x128 .f32) (L : ℝ) (hL : ∀ l, v46 (ix2 0 l) = (L : EReal))
    (hS : Is2 v25 S) (hX : Is2 v26 X) (hG : ∀ d, v28 (ix2 0 d) = (G d : EReal)) (hT : Is2 v41 T) (l : Fin 128) :
    k1_pay10 (F := Ideal) v25 v26 v28 v41 v46 (ix2 0 l)
      = ((L + (∑ r, ∑ d, df S X T G r d * df S X T G r d) * (1 / 2048) : ℝ) : EReal) := by
  pointwise [k1_pay10]
  simp only [pay9 v25 v26 v28 v41 S X T G hS hX hG hT _ _, ← EReal.coe_mul, coe_sum]
  rw [hL, half_inv_width_f32, ← EReal.coe_mul, ← EReal.coe_add]

theorem pay12 (v58 : Vec Ideal S1x1024 .f32) (L : Row) (hL : ∀ l, v58 (ix2 0 l) = (L l : EReal))
    (hS : Is2 v25 S) (hX : Is2 v26 X) (hG : ∀ d, v28 (ix2 0 d) = (G d : EReal)) (hT : Is2 v41 T) (d : Fin 1024) :
    k1_pay12 (F := Ideal) v25 v26 v28 v41 v58 (ix2 0 d)
      = ((L d + ∑ r, dq S X T G r d * hat (z S X r) d : ℝ) : EReal) := by
  pointwise [k1_pay12]
  simp only [pay11 v25 v26 v28 v41 S X T G hS hX hG hT _ _, pay8 v25 v26 S X hS hX _ _, ← EReal.coe_mul, coe_sum]
  rw [hL, ← EReal.coe_add]

theorem pay1 (hS : Is2 v25 S) (hX : Is2 v26 X) (hG : ∀ d, v28 (ix2 0 d) = (G d : EReal)) (hT : Is2 v41 T) :
    Is2 (k1_pay1 (F := Ideal) v28 (k1_pay7 v25 v26) (k1_pay8 v25 v26) (k1_pay11 v25 v26 v28 v41))
      (fun r => back (dq S X T G r) G (z S X r)) := by
  intro r d
  pointwise [k1_pay1]
  simp only [pay11 v25 v26 v28 v41 S X T G hS hX hG hT _ _, pay8 v25 v26 S X hS hX _ _, pay7 v25 v26 S X hS hX _ _, hG,
    ← EReal.coe_mul, coe_sum]
  rw [width_f32, div_coe _ (by norm_num), ← EReal.coe_mul, ← EReal.coe_sub, ← EReal.coe_mul]
  rfl

end

end Cert.Kernel2Ideal.Pay1

end
-- ==== Proof.FfnDown.lean ====
/- What the down projection's call leaves in its staging buffers at one grid point, as its body's values. -/
module

public import proofs.«01_k».proof.Proof.Gen.Kernel2Ideal.Frame.Region1
public import proofs.«01_k».proof.Proof.FfnAct
public import proofs.«01_k».proof.Proof.FfnPay1

@[expose] public section

set_option maxRecDepth 16384

noncomputable section

namespace Cert.Kernel2Ideal.Down

open Cert.Kernel2Ideal Cert.Kernel2Ideal.Gen Cert.Kernel2Ideal.Up Cert.Reals Idealize.ShloMosaic Idealize.ShloMosaic.TcCoe

/-- The four chips' products of one block. -/
abbrev S1 (x0 : Vec Ideal S4x512x704 .bf16) (x1 : Vec Ideal S4x704x1024 .bf16) : FVec Ideal S512x1024 .f32 :=
  k1_pay5 (View.ld x0 r0_2) (View.ld x1 r2_1) (View.ld x0 r0_4) (View.ld x1 r2_3) (View.ld x0 r0_6) (View.ld x1 r2_5) (View.ld x0 r0_8) (View.ld x1 r2_7)

theorem A_5 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : cond1_0 i)
    (x0 : Vec Ideal S4x512x704 .bf16) (x1 : Vec Ideal S4x704x1024 .bf16) (x2 x3 : Vec Ideal S512x1024 .f32) (x4 : Vec Ideal S1x1024 .f32) :
    out1_A_5 c i arg1 harg1 arg2 harg2 arg3 harg3 arg4 harg4 arg5 harg5 arg6 harg6 arg7 harg7 arg8 harg8 arg9 harg9 hc0 x0 x1 x2 x3 x4 = k1_pay1 (F := Ideal) x4 (k1_pay7 (S1 x0 x1) x2) (k1_pay8 (S1 x0 x1) x2) (k1_pay11 (S1 x0 x1) x2 x4 x3) := by
  unfold out1_A_5
  rw [View.read_writes_eq_canon _ _ _ (cover1_A_5 c i arg1 harg1 arg2 harg2 arg3 harg3 arg4 harg4 arg5 harg5 arg6 harg6 arg7 harg7 arg8 harg8 arg9 harg9 hc0 x0 x1 x2 x3 x4)]
  unfold kernelRun1_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem A_6 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : cond1_0 i)
    (x0 : Vec Ideal S4x512x704 .bf16) (x1 : Vec Ideal S4x704x1024 .bf16) (x2 x3 : Vec Ideal S512x1024 .f32) (x4 : Vec Ideal S1x1024 .f32) :
    out1_A_6 c i arg1 harg1 arg2 harg2 arg3 harg3 arg4 harg4 arg5 harg5 arg6 harg6 arg7 harg7 arg8 harg8 arg9 harg9 hc0 x0 x1 x2 x3 x4 = k1_pay2 (F := Ideal) x4 (k1_pay7 (S1 x0 x1) x2) (k1_pay8 (S1 x0 x1) x2) (k1_pay11 (S1 x0 x1) x2 x4 x3) := by
  unfold out1_A_6
  rw [View.read_writes_eq_canon _ _ _ (cover1_A_6 c i arg1 harg1 arg2 harg2 arg3 harg3 arg4 harg4 arg5 harg5 arg6 harg6 arg7 harg7 arg8 harg8 arg9 harg9 hc0 x0 x1 x2 x3 x4)]
  unfold kernelRun1_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem A_7 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : cond1_0 i)
    (x0 : Vec Ideal S4x512x704 .bf16) (x1 : Vec Ideal S4x704x1024 .bf16) (x2 x3 : Vec Ideal S512x1024 .f32) (x4 : Vec Ideal S1x1024 .f32) :
    out1_A_7 c i arg1 harg1 arg2 harg2 arg3 harg3 arg4 harg4 arg5 harg5 arg6 harg6 arg7 harg7 arg8 harg8 arg9 harg9 hc0 x0 x1 x2 x3 x4 = k1_pay10 (F := Ideal) (S1 x0 x1) x2 x4 x3 (k1_pay3 (F := Ideal)) := by
  unfold out1_A_7
  rw [View.read_writes_eq_canon _ _ _ (cover1_A_7 c i arg1 harg1 arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem A_8 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : cond1_0 i)
    (x0 : Vec Ideal S4x512x704 .bf16) (x1 : Vec Ideal S4x704x1024 .bf16) (x2 x3 : Vec Ideal S512x1024 .f32) (x4 : Vec Ideal S1x1024 .f32) :
    out1_A_8 c i arg1 harg1 arg2 harg2 arg3 harg3 arg4 harg4 arg5 harg5 arg6 harg6 arg7 harg7 arg8 harg8 arg9 harg9 hc0 x0 x1 x2 x3 x4 = k1_pay12 (F := Ideal) (S1 x0 x1) x2 x4 x3 (k1_pay4 (F := Ideal)) := by
  unfold out1_A_8
  rw [View.read_writes_eq_canon _ _ _ (cover1_A_8 c i arg1 harg1 arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem B_5 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : ¬cond1_0 i)
    (x0 : Vec Ideal S4x512x704 .bf16) (x1 : Vec Ideal S4x704x1024 .bf16) (x2 x3 : Vec Ideal S512x1024 .f32) (x4 : Vec Ideal S1x1024 .f32) (xo7 : Vec Ideal S1x128 .f32) (xo8 : Vec Ideal S1x1024 .f32) :
    out1_B_5 c i arg1 harg1 arg2 harg2 arg3 harg3 arg4 harg4 arg5 harg5 arg6 harg6 arg7 harg7 arg8 harg8 arg9 harg9 hc0 x0 x1 x2 x3 x4 xo7 xo8 = k1_pay1 (F := Ideal) x4 (k1_pay7 (S1 x0 x1) x2) (k1_pay8 (S1 x0 x1) x2) (k1_pay11 (S1 x0 x1) x2 x4 x3) := by
  unfold out1_B_5
  rw [View.read_writes_eq_canon _ _ _ (cover1_B_5 c i arg1 harg1 arg2 harg2 arg3 harg3 arg4 harg4 arg5 harg5 arg6 harg6 arg7 harg7 arg8 harg8 arg9 harg9 hc0 x0 x1 x2 x3 x4 xo7 xo8)]
  unfold kernelRun1_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem B_6 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : ¬cond1_0 i)
    (x0 : Vec Ideal S4x512x704 .bf16) (x1 : Vec Ideal S4x704x1024 .bf16) (x2 x3 : Vec Ideal S512x1024 .f32) (x4 : Vec Ideal S1x1024 .f32) (xo7 : Vec Ideal S1x128 .f32) (xo8 : Vec Ideal S1x1024 .f32) :
    out1_B_6 c i arg1 harg1 arg2 harg2 arg3 harg3 arg4 harg4 arg5 harg5 arg6 harg6 arg7 harg7 arg8 harg8 arg9 harg9 hc0 x0 x1 x2 x3 x4 xo7 xo8 = k1_pay2 (F := Ideal) x4 (k1_pay7 (S1 x0 x1) x2) (k1_pay8 (S1 x0 x1) x2) (k1_pay11 (S1 x0 x1) x2 x4 x3) := by
  unfold out1_B_6
  rw [View.read_writes_eq_canon _ _ _ (cover1_B_6 c i arg1 harg1 arg2 harg2 arg3 harg3 arg4 harg4 arg5 harg5 arg6 harg6 arg7 harg7 arg8 harg8 arg9 harg9 hc0 x0 x1 x2 x3 x4 xo7 xo8)]
  unfold kernelRun1_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem B_7 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : ¬cond1_0 i)
    (x0 : Vec Ideal S4x512x704 .bf16) (x1 : Vec Ideal S4x704x1024 .bf16) (x2 x3 : Vec Ideal S512x1024 .f32) (x4 : Vec Ideal S1x1024 .f32) (xo7 : Vec Ideal S1x128 .f32) (xo8 : Vec Ideal S1x1024 .f32) :
    out1_B_7 c i arg1 harg1 arg2 harg2 arg3 harg3 arg4 harg4 arg5 harg5 arg6 harg6 arg7 harg7 arg8 harg8 arg9 harg9 hc0 x0 x1 x2 x3 x4 xo7 xo8 = k1_pay10 (F := Ideal) (S1 x0 x1) x2 x4 x3 xo7 := by
  unfold out1_B_7
  rw [View.read_writes_eq_canon _ _ _ (cover1_B_7 c i arg1 harg1 arg2 harg2 arg3 harg3 arg4 harg4 arg5 harg5 arg6 harg6 arg7 harg7 arg8 harg8 arg9 harg9 hc0 x0 x1 x2 x3 x4 xo7 xo8)]
  unfold kernelRun1_B
  dsimp only
  sl_unfold_words
  rw [View.canon_unit_zero (S := S1x128) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

theorem B_8 (c : Dev nD) (i : grid1.Coords) (arg1 : Memref sig .tc .vmem S4x512x704 .bf16) (harg1 : arg1.IsWhole) (arg2 : Memref sig .tc .vmem S4x704x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x1024 .f32) (harg9 : arg9.IsWhole) (hc0 : ¬cond1_0 i)
    (x0 : Vec Ideal S4x512x704 .bf16) (x1 : Vec Ideal S4x704x1024 .bf16) (x2 x3 : Vec Ideal S512x1024 .f32) (x4 : Vec Ideal S1x1024 .f32) (xo7 : Vec Ideal S1x128 .f32) (xo8 : Vec Ideal S1x1024 .f32) :
    out1_B_8 c i arg1 harg1 arg2 harg2 arg3 harg3 arg4 harg4 arg5 harg5 arg6 harg6 arg7 harg7 arg8 harg8 arg9 harg9 hc0 x0 x1 x2 x3 x4 xo7 xo8 = k1_pay12 (F := Ideal) (S1 x0 x1) x2 x4 x3 xo8 := by
  unfold out1_B_8
  rw [View.read_writes_eq_canon _ _ _ (cover1_B_8 c i arg1 harg1 arg2 harg2 arg3 harg3 arg4 harg4 arg5 harg5 arg6 harg6 arg7 harg7 arg8 harg8 arg9 harg9 hc0 x0 x1 x2 x3 x4 xo7 xo8)]
  unfold kernelRun1_B
  dsimp only
  sl_unfold_words
  rw [View.canon_unit_zero (S := S1x1024) hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S1x128) hz]

end Cert.Kernel2Ideal.Down

end
-- ==== Proof.FfnArr1.lean ====
/- The second call's output arrays, as the specification's real numbers, from what each call finds in its input arrays. -/
module

public import proofs.«01_k».proof.Proof.FfnArr
public import proofs.«01_k».proof.Proof.FfnDown

@[expose] public section

set_option maxRecDepth 16384

noncomputable section

namespace Cert.Kernel2Ideal.Arr

open Cert.Kernel2Ideal Cert.Kernel2Ideal.Gen Cert.Kernel2Ideal.Win Cert.Kernel2Ideal.Up Cert.Reals Cert.Ffn
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b)) (c : Dev nD) (A : Args)

/-! ## The down projection, the final normalisation and the loss -/

/-! ### What each point leaves -/

abbrev last1 : Fin cfg1.N := ⟨15, by rw [show cfg1.N = 16 from N_1]; decide⟩

theorem at1_A_5 (t : Fin cfg1.N) (h0 : t.val % 16 = 0) : (outsAt1 V c t.val t.isLt).1 = k1_pay1 (F := Ideal) (iblk1 V c 4 t) (k1_pay7 (Down.S1 (iblk1 V c 0 t) (iblk1 V c 1 t)) (iblk1 V c 2 t)) (k1_pay8 (Down.S1 (iblk1 V c 0 t) (iblk1 V c 1 t)) (iblk1 V c 2 t)) (k1_pay11 (Down.S1 (iblk1 V c 0 t) (iblk1 V c 1 t)) (iblk1 V c 2 t) (iblk1 V c 4 t) (iblk1 V c 3 t)) := by
  have e := Down.A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t)
  rw [← e, outsAt1_A V c t h0]

theorem at1_B_5 (t : Fin cfg1.N) (h0 : ¬t.val % 16 = 0) : (outsAt1 V c t.val t.isLt).1 = k1_pay1 (F := Ideal) (iblk1 V c 4 t) (k1_pay7 (Down.S1 (iblk1 V c 0 t) (iblk1 V c 1 t)) (iblk1 V c 2 t)) (k1_pay8 (Down.S1 (iblk1 V c 0 t) (iblk1 V c 1 t)) (iblk1 V c 2 t)) (k1_pay11 (Down.S1 (iblk1 V c 0 t) (iblk1 V c 1 t)) (iblk1 V c 2 t) (iblk1 V c 4 t) (iblk1 V c 3 t)) := by
  have e := Down.B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  rw [← e, outsAt1_B V c t h0]

theorem at1_A_6 (t : Fin cfg1.N) (h0 : t.val % 16 = 0) : (outsAt1 V c t.val t.isLt).2.1 = k1_pay2 (F := Ideal) (iblk1 V c 4 t) (k1_pay7 (Down.S1 (iblk1 V c 0 t) (iblk1 V c 1 t)) (iblk1 V c 2 t)) (k1_pay8 (Down.S1 (iblk1 V c 0 t) (iblk1 V c 1 t)) (iblk1 V c 2 t)) (k1_pay11 (Down.S1 (iblk1 V c 0 t) (iblk1 V c 1 t)) (iblk1 V c 2 t) (iblk1 V c 4 t) (iblk1 V c 3 t)) := by
  have e := Down.A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t)
  rw [← e, outsAt1_A V c t h0]

theorem at1_B_6 (t : Fin cfg1.N) (h0 : ¬t.val % 16 = 0) : (outsAt1 V c t.val t.isLt).2.1 = k1_pay2 (F := Ideal) (iblk1 V c 4 t) (k1_pay7 (Down.S1 (iblk1 V c 0 t) (iblk1 V c 1 t)) (iblk1 V c 2 t)) (k1_pay8 (Down.S1 (iblk1 V c 0 t) (iblk1 V c 1 t)) (iblk1 V c 2 t)) (k1_pay11 (Down.S1 (iblk1 V c 0 t) (iblk1 V c 1 t)) (iblk1 V c 2 t) (iblk1 V c 4 t) (iblk1 V c 3 t)) := by
  have e := Down.B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  rw [← e, outsAt1_B V c t h0]

theorem at1_A_7 (t : Fin cfg1.N) (h0 : t.val % 16 = 0) : (outsAt1 V c t.val t.isLt).2.2.1 = k1_pay10 (F := Ideal) (Down.S1 (iblk1 V c 0 t) (iblk1 V c 1 t)) (iblk1 V c 2 t) (iblk1 V c 4 t) (iblk1 V c 3 t) (k1_pay3 (F := Ideal)) := by
  have e := Down.A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t)
  rw [← e, outsAt1_A V c t h0]

theorem at1_B_7 (t : Fin cfg1.N) (h0 : ¬t.val % 16 = 0) : (outsAt1 V c t.val t.isLt).2.2.1 = k1_pay10 (F := Ideal) (Down.S1 (iblk1 V c 0 t) (iblk1 V c 1 t)) (iblk1 V c 2 t) (iblk1 V c 4 t) (iblk1 V c 3 t) (outsAt1 V c (t.val - 1) (Nat.lt_of_le_of_lt (Nat.sub_le _ _) t.isLt)).2.2.1 := by
  have e := Down.B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  rw [← e, outsAt1_B V c t h0]

theorem at1_A_8 (t : Fin cfg1.N) (h0 : t.val % 16 = 0) : (outsAt1 V c t.val t.isLt).2.2.2 = k1_pay12 (F := Ideal) (Down.S1 (iblk1 V c 0 t) (iblk1 V c 1 t)) (iblk1 V c 2 t) (iblk1 V c 4 t) (iblk1 V c 3 t) (k1_pay4 (F := Ideal)) := by
  have e := Down.A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t)
  rw [← e, outsAt1_A V c t h0]

theorem at1_B_8 (t : Fin cfg1.N) (h0 : ¬t.val % 16 = 0) : (outsAt1 V c t.val t.isLt).2.2.2 = k1_pay12 (F := Ideal) (Down.S1 (iblk1 V c 0 t) (iblk1 V c 1 t)) (iblk1 V c 2 t) (iblk1 V c 4 t) (iblk1 V c 3 t) (outsAt1 V c (t.val - 1) (Nat.lt_of_le_of_lt (Nat.sub_le _ _) t.isLt)).2.2.2 := by
  have e := Down.B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2
  rw [← e, outsAt1_B V c t h0]

section call1

variable (hff : Chips (V c main_v13_2) (ff A))
  (hwd : ∀ s j d, (V c main_arg4 : S4x704x1024.Idx → EReal) (ix3 s j d) = (A.wd s j d : EReal))
  (hx : Is2 (V c main_arg0 : S8192x1024.Idx → EReal) A.x)
  (ht : Is2 (V c main_arg6 : S8192x1024.Idx → EReal) A.tgt)
  (hg : ∀ d, (V c main_arg5 : S1x1024.Idx → EReal) (ix2 0 d) = (A.gf d : EReal))
include hff hwd hx ht hg

/-- The products of block `t`, as real numbers. -/
abbrev dn (A : Args) (t : Fin cfg1.N) (r : Fin 512) : Row := fun d => ∑ s, ∑ j, ff A (row1 t r) s j * A.wd s j d
abbrev xr (A : Args) (t : Fin cfg1.N) (r : Fin 512) : Row := A.x (row1 t r)
abbrev tr (A : Args) (t : Fin cfg1.N) (r : Fin 512) : Row := A.tgt (row1 t r)

theorem s1 (t : Fin cfg1.N) : Is2 (Down.S1 (iblk1 V c 0 t) (iblk1 V c 1 t)) (dn A t) :=
  Pay1.pay5 _ _ _ _ _ _ _ _ (fun s r j => ff A (row1 t r) s j) A.wd
    (fun r j => (ld_o0 _ r j).trans ((blk1_0 V c t 0 r j).trans (hff 0 _ j)))
    (fun r j => (ld_o1 _ r j).trans ((blk1_0 V c t 1 r j).trans (hff 1 _ j)))
    (fun r j => (ld_o2 _ r j).trans ((blk1_0 V c t 2 r j).trans (hff 2 _ j)))
    (fun r j => (ld_o3 _ r j).trans ((blk1_0 V c t 3 r j).trans (hff 3 _ j)))
    (fun j d => (Act.ld_w0 _ j d).trans ((blk1_1 V c t 0 j d).trans (hwd 0 j d)))
    (fun j d => (Act.ld_w1 _ j d).trans ((blk1_1 V c t 1 j d).trans (hwd 1 j d)))
    (fun j d => (Act.ld_w2 _ j d).trans ((blk1_1 V c t 2 j d).trans (hwd 2 j d)))
    (fun j d => (Act.ld_w3 _ j d).trans ((blk1_1 V c t 3 j d).trans (hwd 3 j d)))

theorem pt5 (t : Fin cfg1.N) : Is2 (outsAt1 V c t.val t.isLt).1 (fun r d => dx2 A (row1 t r) d) := by
  have key := Pay1.pay1 _ _ (iblk1 V c 4 t) _ (dn A t) (xr A t) (tr A t) A.gf (s1 V c A hff hwd hx ht hg t) (fun r k => (blk1_2 V c t r k).trans (hx _ _)) (fun d => (blk1_4 V c t 0 d).trans (hg d))
    (fun r k => (blk1_3 V c t r k).trans (ht _ _))
  by_cases h0 : t.val % 16 = 0
  · have e := at1_A_5 V c t h0
    exact fun i j => (congrFun e (ix2 i j)).trans (key i j)
  · have e := at1_B_5 V c t h0
    exact fun i j => (congrFun e (ix2 i j)).trans (key i j)

theorem pt6 (t : Fin cfg1.N) : Is2 (outsAt1 V c t.val t.isLt).2.1 (fun r d => dx2 A (row1 t r) d) := by
  have key := Pay1.pay1 _ _ (iblk1 V c 4 t) _ (dn A t) (xr A t) (tr A t) A.gf (s1 V c A hff hwd hx ht hg t) (fun r k => (blk1_2 V c t r k).trans (hx _ _)) (fun d => (blk1_4 V c t 0 d).trans (hg d))
    (fun r k => (blk1_3 V c t r k).trans (ht _ _))
  by_cases h0 : t.val % 16 = 0
  · have e := at1_A_6 V c t h0
    exact fun i j => (congrFun e (ix2 i j)).trans (key i j)
  · have e := at1_B_6 V c t h0
    exact fun i j => (congrFun e (ix2 i j)).trans (key i j)

/-- A row's part of the loss, and of the final gain's gradient. -/
abbrev lrow (A : Args) (i : Fin 8192) : ℝ := (∑ d, diff A i d * diff A i d) * (1 / 2048)
abbrev grow (A : Args) (d : Fin 1024) (i : Fin 8192) : ℝ := dy A i d * hat (x2 A i) d

theorem lstep (t : Fin cfg1.N) (L : ℝ) (v : Vec Ideal S1x128 .f32) (hv : ∀ l, v (ix2 0 l) = (L : EReal)) (l : Fin 128) :
    k1_pay10 (F := Ideal) (Down.S1 (iblk1 V c 0 t) (iblk1 V c 1 t)) (iblk1 V c 2 t) (iblk1 V c 4 t) (iblk1 V c 3 t) v (ix2 0 l)
      = ((L + blockSum (lrow A) t.val : ℝ) : EReal) := by
  refine (Pay1.pay10 _ _ (iblk1 V c 4 t) _ (dn A t) (xr A t) (tr A t) A.gf v L hv (s1 V c A hff hwd hx ht hg t) (fun r k => (blk1_2 V c t r k).trans (hx _ _)) (fun d => (blk1_4 V c t 0 d).trans (hg d))
    (fun r k => (blk1_3 V c t r k).trans (ht _ _)) l).trans ?_
  unfold blockSum
  rw [dif_pos (lt1 t), Finset.sum_mul]
  rfl

theorem gstep (t : Fin cfg1.N) (L : Row) (v : Vec Ideal S1x1024 .f32) (hv : ∀ l, v (ix2 0 l) = (L l : EReal)) (d : Fin 1024) :
    k1_pay12 (F := Ideal) (Down.S1 (iblk1 V c 0 t) (iblk1 V c 1 t)) (iblk1 V c 2 t) (iblk1 V c 4 t) (iblk1 V c 3 t) v (ix2 0 d)
      = ((L d + blockSum (grow A d) t.val : ℝ) : EReal) := by
  refine (Pay1.pay12 _ _ (iblk1 V c 4 t) _ (dn A t) (xr A t) (tr A t) A.gf v L hv (s1 V c A hff hwd hx ht hg t) (fun r k => (blk1_2 V c t r k).trans (hx _ _)) (fun d => (blk1_4 V c t 0 d).trans (hg d))
    (fun r k => (blk1_3 V c t r k).trans (ht _ _)) d).trans ?_
  unfold blockSum
  rw [dif_pos (lt1 t)]
  rfl

theorem pt7 : ∀ (n : ℕ) (hn : n < cfg1.N) (l : Fin 128),
    (outsAt1 V c n hn).2.2.1 (ix2 0 l) = ((∑ k ∈ Finset.range (n + 1), blockSum (lrow A) k : ℝ) : EReal)
  | 0, hn, l => by
    refine (congrFun (at1_A_7 V c ⟨0, hn⟩ rfl) _).trans ?_
    refine (lstep V c A hff hwd hx ht hg ⟨0, hn⟩ 0 (k1_pay3 (F := Ideal)) (fun l => by
      pointwise [k1_pay3]
      exact EReal.coe_zero.symm) l).trans ?_
    rw [Finset.sum_range_one, zero_add]
  | n + 1, hn, l => by
    have hN : cfg1.N = 16 := N_1
    have hB : ¬(⟨n + 1, hn⟩ : Fin cfg1.N).val % 16 = 0 := by dsimp only; omega
    refine (congrFun (at1_B_7 V c ⟨n + 1, hn⟩ hB) _).trans ?_
    refine (lstep V c A hff hwd hx ht hg ⟨n + 1, hn⟩ _ _ (fun l => pt7 n (Nat.lt_of_succ_lt hn) l) l).trans (congrArg _ (Finset.sum_range_succ _ (n + 1)).symm)

theorem pt8 : ∀ (n : ℕ) (hn : n < cfg1.N) (d : Fin 1024),
    (outsAt1 V c n hn).2.2.2 (ix2 0 d) = ((∑ k ∈ Finset.range (n + 1), blockSum (grow A d) k : ℝ) : EReal)
  | 0, hn, d => by
    refine (congrFun (at1_A_8 V c ⟨0, hn⟩ rfl) _).trans ?_
    refine (gstep V c A hff hwd hx ht hg ⟨0, hn⟩ (fun _ => 0) (k1_pay4 (F := Ideal)) (fun d => by
      pointwise [k1_pay4]
      exact EReal.coe_zero.symm) d).trans ?_
    rw [Finset.sum_range_one, zero_add]
  | n + 1, hn, d => by
    have hN : cfg1.N = 16 := N_1
    have hB : ¬(⟨n + 1, hn⟩ : Fin cfg1.N).val % 16 = 0 := by dsimp only; omega
    refine (congrFun (at1_B_8 V c ⟨n + 1, hn⟩ hB) _).trans ?_
    refine (gstep V c A hff hwd hx ht hg ⟨n + 1, hn⟩ (fun d => ∑ k ∈ Finset.range (n + 1), blockSum (grow A d) k) _ (fun d => pt8 n (Nat.lt_of_succ_lt hn) d) d).trans (congrArg _ (Finset.sum_range_succ _ (n + 1)).symm)

theorem arr1_5 : (dat1 V c).arrAt 5 cfg1.N = rows (dx2 A) :=
  (dat1 V c).arrAt_eq_of_cover 5 (rows (dx2 A)) (fun t _ => by
    show (cfg1.win 5).cut (grid1.coords t) ((dat1 V c).after 5 t) = _
    rw [after1_5]
    funext y
    rw [View.read_apply]
    let z : S512x1024.Idx := y
    have e : (outsAt1 V c t.val t.isLt).1 z = rows (dx2 A) (ix2 (row1 t (z 0)) (z 1)) :=
      (congrArg _ (eq_ix2 z)).trans (pt5 V c A hff hwd hx ht hg t (z 0) (z 1))
    exact e.trans (congrArg (rows (dx2 A)) (emb1_5 t z).symm)) Win.cover1_5

theorem arr1_6 : (dat1 V c).arrAt 6 cfg1.N = rows (dx2 A) :=
  (dat1 V c).arrAt_eq_of_cover 6 (rows (dx2 A)) (fun t _ => by
    show (cfg1.win 6).cut (grid1.coords t) ((dat1 V c).after 6 t) = _
    rw [after1_6]
    funext y
    rw [View.read_apply]
    let z : S512x1024.Idx := y
    have e : (outsAt1 V c t.val t.isLt).2.1 z = rows (dx2 A) (ix2 (row1 t (z 0)) (z 1)) :=
      (congrArg _ (eq_ix2 z)).trans (pt6 V c A hff hwd hx ht hg t (z 0) (z 1))
    exact e.trans (congrArg (rows (dx2 A)) (emb1_6 t z).symm)) Win.cover1_6

theorem arr1_7 : (dat1 V c).arrAt 7 cfg1.N = (fun y : S1x128.Idx => ((loss A : ℝ) : EReal)) := by
  have hN : cfg1.N = 16 := N_1
  refine (dat1 V c).arrAt_eq_of_cover 7 (fun y : S1x128.Idx => ((loss A : ℝ) : EReal) : Buf (Elt Ideal) ((c : Thread nD τ).loc main_v14_2)) (fun t hf => ?_) fun i => ?_
  · have h15 : t.val = 15 := by have := (flush1_7 t).mp hf; have := t.isLt; omega
    obtain rfl : t = last1 := Fin.ext h15
    show (cfg1.win 7).cut (grid1.coords last1) ((dat1 V c).after 7 last1) = _
    rw [after1_7]
    have hz' : (fun a => win1_7.index last1 a * main_v14_2.ty.shape.size a) = fun _ => 0 := funext fun a => by fin_cases a <;> decide
    refine Eq.trans ?_ (Memref.read_access_unit_zero (Elt Ideal) main_v14_2 hz' (fun a => by rw [congrFun hz' a]; simp) (fun y : S1x128.Idx => ((loss A : ℝ) : EReal))).symm
    funext y
    let z : S1x128.Idx := y
    have e : z = ix2 0 (z 1) := (eq_ix2 z).trans (congrArg (fun q : Fin 1 => (ix2 q (z 1) : S1x128.Idx)) (Subsingleton.elim _ _))
    refine (congrArg _ e).trans ((pt7 V c A hff hwd hx ht hg 15 (by omega) (z 1)).trans ?_)
    rw [blockSum_all]
    rfl
  · refine ⟨last1, (flush1_7 _).mpr rfl, ?_⟩
    show i ∈ ((View.whole main_v14_2).slice (win1_7.rect last1)).set
    rw [View.set_slice_whole, Rect.mem_set_unit]
    intro a
    have h0 : (i 0 : Nat) < 1 := (i 0).isLt
    have h1 : (i 1 : Nat) < 128 := (i 1).isLt
    match a with
    | ⟨0, _⟩ => show win1_7.index last1 0 * win1_7.size 0 ≤ (i 0 : Nat) ∧ (i 0 : Nat) < win1_7.index last1 0 * win1_7.size 0 + win1_7.xsize (grid1.coords last1) 0
                rw [show win1_7.index last1 0 * win1_7.size 0 = 0 from by decide +kernel, show win1_7.xsize (grid1.coords last1) 0 = 1 from by decide +kernel]; omega
    | ⟨1, _⟩ => show win1_7.index last1 1 * win1_7.size 1 ≤ (i 1 : Nat) ∧ (i 1 : Nat) < win1_7.index last1 1 * win1_7.size 1 + win1_7.xsize (grid1.coords last1) 1
                rw [show win1_7.index last1 1 * win1_7.size 1 = 0 from by decide +kernel, show win1_7.xsize (grid1.coords last1) 1 = 128 from by decide +kernel]; omega

theorem arr1_8 : (dat1 V c).arrAt 8 cfg1.N = (fun y : S1x1024.Idx => ((dgf A (y 1) : ℝ) : EReal)) := by
  have hN : cfg1.N = 16 := N_1
  refine (dat1 V c).arrAt_eq_of_cover 8 (fun y : S1x1024.Idx => ((dgf A (y 1) : ℝ) : EReal) : Buf (Elt Ideal) ((c : Thread nD τ).loc main_v14_3)) (fun t hf => ?_) fun i => ?_
  · have h15 : t.val = 15 := by have := (flush1_8 t).mp hf; have := t.isLt; omega
    obtain rfl : t = last1 := Fin.ext h15
    show (cfg1.win 8).cut (grid1.coords last1) ((dat1 V c).after 8 last1) = _
    rw [after1_8]
    have hz' : (fun a => win1_8.index last1 a * main_v14_3.ty.shape.size a) = fun _ => 0 := funext fun a => by fin_cases a <;> decide
    refine Eq.trans ?_ (Memref.read_access_unit_zero (Elt Ideal) main_v14_3 hz' (fun a => by rw [congrFun hz' a]; simp) (fun y : S1x1024.Idx => ((dgf A (y 1) : ℝ) : EReal))).symm
    funext y
    let z : S1x1024.Idx := y
    have e : z = ix2 0 (z 1) := (eq_ix2 z).trans (congrArg (fun q : Fin 1 => (ix2 q (z 1) : S1x1024.Idx)) (Subsingleton.elim _ _))
    refine (congrArg _ e).trans ((pt8 V c A hff hwd hx ht hg 15 (by omega) (z 1)).trans ?_)
    rw [blockSum_all]
    rfl
  · refine ⟨last1, (flush1_8 _).mpr rfl, ?_⟩
    show i ∈ ((View.whole main_v14_3).slice (win1_8.rect last1)).set
    rw [View.set_slice_whole, Rect.mem_set_unit]
    intro a
    have h0 : (i 0 : Nat) < 1 := (i 0).isLt
    have h1 : (i 1 : Nat) < 1024 := (i 1).isLt
    match a with
    | ⟨0, _⟩ => show win1_8.index last1 0 * win1_8.size 0 ≤ (i 0 : Nat) ∧ (i 0 : Nat) < win1_8.index last1 0 * win1_8.size 0 + win1_8.xsize (grid1.coords last1) 0
                rw [show win1_8.index last1 0 * win1_8.size 0 = 0 from by decide +kernel, show win1_8.xsize (grid1.coords last1) 0 = 1 from by decide +kernel]; omega
    | ⟨1, _⟩ => show win1_8.index last1 1 * win1_8.size 1 ≤ (i 1 : Nat) ∧ (i 1 : Nat) < win1_8.index last1 1 * win1_8.size 1 + win1_8.xsize (grid1.coords last1) 1
                rw [show win1_8.index last1 1 * win1_8.size 1 = 0 from by decide +kernel, show win1_8.xsize (grid1.coords last1) 1 = 1024 from by decide +kernel]; omega

end call1

end Cert.Kernel2Ideal.Arr

end
-- ==== Proof.FfnPay3.lean ====
/- One grid point of the gradient towards the sub-layer's input: each value of its body, element by element, on real
   inputs. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Kernel2Ideal.Pay3

open Cert.Kernel2Ideal Cert.Kernel2Ideal.Gen Cert.Reals Cert.Ffn Idealize.ShloMosaic
open scoped BigOperators

/-! ## The four chips' products -/

theorem pay8 (f0 f1 f2 f3 e0 e1 e2 e3 : Vec Ideal S1x512x704 .bf16) (w0 w1 w2 w3 u0 u1 u2 u3 : Vec Ideal S1x1024x704 .bf16)
    (P Q : Fin 4 → Fin 512 → Fin 704 → ℝ) (W U : Fin 4 → Fin 1024 → Fin 704 → ℝ)
    (hf0 : ∀ r j, f0 (ix3 0 r j) = (P 0 r j : EReal)) (he0 : ∀ r j, e0 (ix3 0 r j) = (Q 0 r j : EReal))
    (hw0 : ∀ k j, w0 (ix3 0 k j) = (W 0 k j : EReal)) (hu0 : ∀ k j, u0 (ix3 0 k j) = (U 0 k j : EReal))
    (hf1 : ∀ r j, f1 (ix3 0 r j) = (P 1 r j : EReal)) (he1 : ∀ r j, e1 (ix3 0 r j) = (Q 1 r j : EReal))
    (hw1 : ∀ k j, w1 (ix3 0 k j) = (W 1 k j : EReal)) (hu1 : ∀ k j, u1 (ix3 0 k j) = (U 1 k j : EReal))
    (hf2 : ∀ r j, f2 (ix3 0 r j) = (P 2 r j : EReal)) (he2 : ∀ r j, e2 (ix3 0 r j) = (Q 2 r j : EReal))
    (hw2 : ∀ k j, w2 (ix3 0 k j) = (W 2 k j : EReal)) (hu2 : ∀ k j, u2 (ix3 0 k j) = (U 2 k j : EReal))
    (hf3 : ∀ r j, f3 (ix3 0 r j) = (P 3 r j : EReal)) (he3 : ∀ r j, e3 (ix3 0 r j) = (Q 3 r j : EReal))
    (hw3 : ∀ k j, w3 (ix3 0 k j) = (W 3 k j : EReal)) (hu3 : ∀ k j, u3 (ix3 0 k j) = (U 3 k j : EReal)) :
    Is2 (k3_pay8 (F := Ideal) (k3_pay7 f0 w0 e0 u0 f1 w1 e1 u1) f2 w2 e2 u2 f3 w3 e3 u3)
      (fun r k => ∑ s, ((∑ j, P s r j * W s k j) + ∑ j, Q s r j * U s k j)) := by
  intro r k
  pointwise [k3_pay8, k3_pay7]
  simp only [hf0, he0, hw0, hu0, hf1, he1, hw1, hu1, hf2, he2, hw2, hu2, hf3, he3, hw3, hu3, ← EReal.coe_mul, coe_sum, Fin.sum_univ_four, ← EReal.coe_add]

section

variable (v49 : FVec Ideal S512x1024 .f32) (v50 : Vec Ideal S512x1024 .f32) (C X D : Fin 512 → Row) (G : Row)

theorem pay1 (hX : Is2 v50 X) : Is2 (k3_pay1 (F := Ideal) (k3_pay9 v50)) (fun r _ => rs (X r)) := by
  intro r d
  pointwise [k3_pay1, k3_pay9]
  simp only [hX _ _, ← EReal.coe_mul, coe_sum]
  rw [width_f32, eps_f32, div_coe _ (by norm_num), ← EReal.coe_add]
  exact rsqrt_coe (ms_pos (X r))

theorem pay2 (hX : Is2 v50 X) : Is2 (k3_pay2 (F := Ideal) v50 (k3_pay9 v50)) (fun r => hat (X r)) := by
  intro r d
  pointwise [k3_pay2]
  rw [hX, pay1 v50 X hX, ← EReal.coe_mul]
  rfl

theorem pay3 (v61 : Vec Ideal S1x1024 .f32) (L : Row) (hL : ∀ l, v61 (ix2 0 l) = (L l : EReal))
    (hC : Is2 v49 C) (hX : Is2 v50 X) (d : Fin 1024) :
    k3_pay3 (F := Ideal) v49 v50 (k3_pay9 v50) v61 (ix2 0 d) = ((L d + ∑ r, C r d * hat (X r) d : ℝ) : EReal) := by
  pointwise [k3_pay3]
  simp only [hC _ _, pay2 v50 X hX _ _, ← EReal.coe_mul, coe_sum]
  rw [hL, ← EReal.coe_add]

theorem pay4 (v68 : Vec Ideal S512x1024 .f32) (v70 : Vec Ideal S1x1024 .f32)
    (hC : Is2 v49 C) (hX : Is2 v50 X) (hD : Is2 v68 D) (hG : ∀ d, v70 (ix2 0 d) = (G d : EReal)) :
    Is2 (k3_pay4 (F := Ideal) v49 v50 (k3_pay9 v50) v68 v70) (fun r d => D r d + back (C r) G (X r) d) := by
  intro r d
  pointwise [k3_pay4]
  simp only [hC _ _, hD _ _, pay2 v50 X hX _ _, pay1 v50 X hX _ _, hG, ← EReal.coe_mul, coe_sum]
  rw [width_f32, div_coe _ (by norm_num), ← EReal.coe_mul, ← EReal.coe_sub, ← EReal.coe_mul, ← EReal.coe_add]
  rfl

end

end Cert.Kernel2Ideal.Pay3

end
-- ==== Proof.FfnInp.lean ====
/- What the input gradient's call leaves in its staging buffers at one grid point, as its body's values. -/
module

public import proofs.«01_k».proof.Proof.Gen.Kernel2Ideal.Frame.Region3
public import proofs.«01_k».proof.Proof.FfnUp
public import proofs.«01_k».proof.Proof.FfnPay3

@[expose] public section

set_option maxRecDepth 16384

noncomputable section

namespace Cert.Kernel2Ideal.Inp

open Cert.Kernel2Ideal Cert.Kernel2Ideal.Gen Cert.Kernel2Ideal.Up Cert.Reals Idealize.ShloMosaic Idealize.ShloMosaic.TcCoe

/-- The four chips' products of one block. -/
abbrev S3 (x0 x1 : Vec Ideal S4x512x704 .bf16) (x2 x3 : Vec Ideal S4x1024x704 .bf16) : FVec Ideal S512x1024 .f32 :=
  k3_pay8 (k3_pay7 (View.ld x0 r0_2) (View.ld x2 r0_1) (View.ld x1 r0_2) (View.ld x3 r0_1) (View.ld x0 r0_4) (View.ld x2 r0_3) (View.ld x1 r0_4) (View.ld x3 r0_3))
    (View.ld x0 r0_6) (View.ld x2 r0_5) (View.ld x1 r0_6) (View.ld x3 r0_5) (View.ld x0 r0_8) (View.ld x2 r0_7) (View.ld x1 r0_8) (View.ld x3 r0_7)

theorem A_7 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : cond3_0 i)
    (x0 x1 : Vec Ideal S4x512x704 .bf16) (x2 x3 : Vec Ideal S4x1024x704 .bf16) (x4 x5 : Vec Ideal S512x1024 .f32) (x6 : Vec Ideal S1x1024 .f32) :
    out3_A_7 c i arg1 harg1 arg2 harg2 arg3 harg3 arg4 harg4 arg5 harg5 arg6 harg6 arg7 harg7 arg8 harg8 arg9 harg9 arg10 harg10 hc0 x0 x1 x2 x3 x4 x5 x6 = k3_pay4 (F := Ideal) (S3 x0 x1 x2 x3) x4 (k3_pay9 x4) x5 x6 := by
  unfold out3_A_7
  rw [View.read_writes_eq_canon _ _ _ (cover3_A_7 c i arg1 harg1 arg2 harg2 arg3 harg3 arg4 harg4 arg5 harg5 arg6 harg6 arg7 harg7 arg8 harg8 arg9 harg9 arg10 harg10 hc0 x0 x1 x2 x3 x4 x5 x6)]
  unfold kernelRun3_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

theorem A_8 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : cond3_0 i)
    (x0 x1 : Vec Ideal S4x512x704 .bf16) (x2 x3 : Vec Ideal S4x1024x704 .bf16) (x4 x5 : Vec Ideal S512x1024 .f32) (x6 : Vec Ideal S1x1024 .f32) :
    out3_A_8 c i arg1 harg1 arg2 harg2 arg3 harg3 arg4 harg4 arg5 harg5 arg6 harg6 arg7 harg7 arg8 harg8 arg9 harg9 arg10 harg10 hc0 x0 x1 x2 x3 x4 x5 x6 = k3_pay5 (F := Ideal) (S3 x0 x1 x2 x3) x4 (k3_pay9 x4) x5 x6 := by
  unfold out3_A_8
  rw [View.read_writes_eq_canon _ _ _ (cover3_A_8 c i arg1 harg1 arg2 harg2 arg3 harg3 arg4 harg4 arg5 harg5 arg6 harg6 arg7 harg7 arg8 harg8 arg9 harg9 arg10 harg10 hc0 x0 x1 x2 x3 x4 x5 x6)]
  unfold kernelRun3_A
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

theorem A_9 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : cond3_0 i)
    (x0 x1 : Vec Ideal S4x512x704 .bf16) (x2 x3 : Vec Ideal S4x1024x704 .bf16) (x4 x5 : Vec Ideal S512x1024 .f32) (x6 : Vec Ideal S1x1024 .f32) :
    out3_A_9 c i arg1 harg1 arg2 harg2 arg3 harg3 arg4 harg4 arg5 harg5 arg6 harg6 arg7 harg7 arg8 harg8 arg9 harg9 arg10 harg10 hc0 x0 x1 x2 x3 x4 x5 x6 = k3_pay3 (F := Ideal) (S3 x0 x1 x2 x3) x4 (k3_pay9 x4) (k3_pay6 (F := Ideal)) := by
  unfold out3_A_9
  rw [View.read_writes_eq_canon _ _ _ (cover3_A_9 c i arg1 harg1 arg2 harg2 arg3 harg3 arg4 harg4 arg5 harg5 arg6 harg6 arg7 harg7 arg8 harg8 arg9 harg9 arg10 harg10 hc0 x0 x1 x2 x3 x4 x5 x6)]
  unfold kernelRun3_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

theorem B_7 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : ¬cond3_0 i)
    (x0 x1 : Vec Ideal S4x512x704 .bf16) (x2 x3 : Vec Ideal S4x1024x704 .bf16) (x4 x5 : Vec Ideal S512x1024 .f32) (x6 : Vec Ideal S1x1024 .f32) (xo9 : Vec Ideal S1x1024 .f32) :
    out3_B_7 c i arg1 harg1 arg2 harg2 arg3 harg3 arg4 harg4 arg5 harg5 arg6 harg6 arg7 harg7 arg8 harg8 arg9 harg9 arg10 harg10 hc0 x0 x1 x2 x3 x4 x5 x6 xo9 = k3_pay4 (F := Ideal) (S3 x0 x1 x2 x3) x4 (k3_pay9 x4) x5 x6 := by
  unfold out3_B_7
  rw [View.read_writes_eq_canon _ _ _ (cover3_B_7 c i arg1 harg1 arg2 harg2 arg3 harg3 arg4 harg4 arg5 harg5 arg6 harg6 arg7 harg7 arg8 harg8 arg9 harg9 arg10 harg10 hc0 x0 x1 x2 x3 x4 x5 x6 xo9)]
  unfold kernelRun3_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

theorem B_8 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : ¬cond3_0 i)
    (x0 x1 : Vec Ideal S4x512x704 .bf16) (x2 x3 : Vec Ideal S4x1024x704 .bf16) (x4 x5 : Vec Ideal S512x1024 .f32) (x6 : Vec Ideal S1x1024 .f32) (xo9 : Vec Ideal S1x1024 .f32) :
    out3_B_8 c i arg1 harg1 arg2 harg2 arg3 harg3 arg4 harg4 arg5 harg5 arg6 harg6 arg7 harg7 arg8 harg8 arg9 harg9 arg10 harg10 hc0 x0 x1 x2 x3 x4 x5 x6 xo9 = k3_pay5 (F := Ideal) (S3 x0 x1 x2 x3) x4 (k3_pay9 x4) x5 x6 := by
  unfold out3_B_8
  rw [View.read_writes_eq_canon _ _ _ (cover3_B_8 c i arg1 harg1 arg2 harg2 arg3 harg3 arg4 harg4 arg5 harg5 arg6 harg6 arg7 harg7 arg8 harg8 arg9 harg9 arg10 harg10 hc0 x0 x1 x2 x3 x4 x5 x6 xo9)]
  unfold kernelRun3_B
  dsimp only
  sl_unfold_words
  rw [View.canon_unit_zero (S := S512x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

theorem B_9 (c : Dev nD) (i : grid3.Coords) (arg1 : Memref sig .tc .vmem S4x512x704 .bf16) (harg1 : arg1.IsWhole) (arg2 : Memref sig .tc .vmem S4x512x704 .bf16) (harg2 : arg2.IsWhole) (arg3 : Memref sig .tc .vmem S4x1024x704 .bf16) (harg3 : arg3.IsWhole) (arg4 : Memref sig .tc .vmem S4x1024x704 .bf16) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1024 .f32) (harg10 : arg10.IsWhole) (hc0 : ¬cond3_0 i)
    (x0 x1 : Vec Ideal S4x512x704 .bf16) (x2 x3 : Vec Ideal S4x1024x704 .bf16) (x4 x5 : Vec Ideal S512x1024 .f32) (x6 : Vec Ideal S1x1024 .f32) (xo9 : Vec Ideal S1x1024 .f32) :
    out3_B_9 c i arg1 harg1 arg2 harg2 arg3 harg3 arg4 harg4 arg5 harg5 arg6 harg6 arg7 harg7 arg8 harg8 arg9 harg9 arg10 harg10 hc0 x0 x1 x2 x3 x4 x5 x6 xo9 = k3_pay3 (F := Ideal) (S3 x0 x1 x2 x3) x4 (k3_pay9 x4) xo9 := by
  unfold out3_B_9
  rw [View.read_writes_eq_canon _ _ _ (cover3_B_9 c i arg1 harg1 arg2 harg2 arg3 harg3 arg4 harg4 arg5 harg5 arg6 harg6 arg7 harg7 arg8 harg8 arg9 harg9 arg10 harg10 hc0 x0 x1 x2 x3 x4 x5 x6 xo9)]
  unfold kernelRun3_B
  dsimp only
  sl_unfold_words
  rw [View.canon_unit_zero (S := S1x1024) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1x1024) hz]

end Cert.Kernel2Ideal.Inp

end
-- ==== Proof.FfnArr3.lean ====
/- The fourth call's output arrays, as the specification's real numbers, from what each call finds in its input arrays. -/
module

public import proofs.«01_k».proof.Proof.FfnArr
public import proofs.«01_k».proof.Proof.FfnInp

@[expose] public section

set_option maxRecDepth 16384

noncomputable section

namespace Cert.Kernel2Ideal.Arr

open Cert.Kernel2Ideal Cert.Kernel2Ideal.Gen Cert.Kernel2Ideal.Win Cert.Kernel2Ideal.Up Cert.Reals Cert.Ffn
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b)) (c : Dev nD) (A : Args)

/-! ## The gradient towards the sub-layer's input -/

/-! ### What each point leaves -/

abbrev last3 : Fin cfg3.N := ⟨15, by rw [show cfg3.N = 16 from N_3]; decide⟩

theorem at3_A_7 (t : Fin cfg3.N) (h0 : t.val % 16 = 0) : (outsAt3 V c t.val t.isLt).1 = k3_pay4 (F := Ideal) (Inp.S3 (iblk3 V c 0 t) (iblk3 V c 1 t) (iblk3 V c 2 t) (iblk3 V c 3 t)) (iblk3 V c 4 t) (k3_pay9 (iblk3 V c 4 t)) (iblk3 V c 5 t) (iblk3 V c 6 t) := by
  have e := Inp.A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)
  rw [← e, outsAt3_A V c t h0]

theorem at3_B_7 (t : Fin cfg3.N) (h0 : ¬t.val % 16 = 0) : (outsAt3 V c t.val t.isLt).1 = k3_pay4 (F := Ideal) (Inp.S3 (iblk3 V c 0 t) (iblk3 V c 1 t) (iblk3 V c 2 t) (iblk3 V c 3 t)) (iblk3 V c 4 t) (k3_pay9 (iblk3 V c 4 t)) (iblk3 V c 5 t) (iblk3 V c 6 t) := by
  have e := Inp.B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2
  rw [← e, outsAt3_B V c t h0]

theorem at3_A_8 (t : Fin cfg3.N) (h0 : t.val % 16 = 0) : (outsAt3 V c t.val t.isLt).2.1 = k3_pay5 (F := Ideal) (Inp.S3 (iblk3 V c 0 t) (iblk3 V c 1 t) (iblk3 V c 2 t) (iblk3 V c 3 t)) (iblk3 V c 4 t) (k3_pay9 (iblk3 V c 4 t)) (iblk3 V c 5 t) (iblk3 V c 6 t) := by
  have e := Inp.A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)
  rw [← e, outsAt3_A V c t h0]

theorem at3_B_8 (t : Fin cfg3.N) (h0 : ¬t.val % 16 = 0) : (outsAt3 V c t.val t.isLt).2.1 = k3_pay5 (F := Ideal) (Inp.S3 (iblk3 V c 0 t) (iblk3 V c 1 t) (iblk3 V c 2 t) (iblk3 V c 3 t)) (iblk3 V c 4 t) (k3_pay9 (iblk3 V c 4 t)) (iblk3 V c 5 t) (iblk3 V c 6 t) := by
  have e := Inp.B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2
  rw [← e, outsAt3_B V c t h0]

theorem at3_A_9 (t : Fin cfg3.N) (h0 : t.val % 16 = 0) : (outsAt3 V c t.val t.isLt).2.2 = k3_pay3 (F := Ideal) (Inp.S3 (iblk3 V c 0 t) (iblk3 V c 1 t) (iblk3 V c 2 t) (iblk3 V c 3 t)) (iblk3 V c 4 t) (k3_pay9 (iblk3 V c 4 t)) (k3_pay6 (F := Ideal)) := by
  have e := Inp.A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) ((hcond3_0 t).mpr h0) (iblk3 V c 0 t) (iblk3 V c 1 t) (iblk3 V c 2 t) (iblk3 V c 3 t) (iblk3 V c 4 t) (iblk3 V c 5 t) (iblk3 V c 6 t)
  rw [← e, outsAt3_A V c t h0]

theorem at3_B_9 (t : Fin cfg3.N) (h0 : ¬t.val % 16 = 0) : (outsAt3 V c t.val t.isLt).2.2 = k3_pay3 (F := Ideal) (Inp.S3 (iblk3 V c 0 t) (iblk3 V c 1 t) (iblk3 V c 2 t) (iblk3 V c 3 t)) (iblk3 V c 4 t) (k3_pay9 (iblk3 V c 4 t)) (outsAt3 V c (t.val - 1) (Nat.lt_of_le_of_lt (Nat.sub_le _ _) t.isLt)).2.2 := by
  have e := Inp.B_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).2.2
  rw [← e, outsAt3_B V c t h0]

section call3

variable (ha : Chips (V c main_v15_0) (da A)) (hb : Chips (V c main_v15_1) (db A))
  (hwg : ∀ s k j, (V c main_arg2 : S4x1024x704.Idx → EReal) (ix3 s k j) = (A.wg s k j : EReal))
  (hwu : ∀ s k j, (V c main_arg3 : S4x1024x704.Idx → EReal) (ix3 s k j) = (A.wu s k j : EReal))
  (hx : Is2 (V c main_arg0 : S8192x1024.Idx → EReal) A.x)
  (hd : Is2 (V c main_v14_0 : S8192x1024.Idx → EReal) (dx2 A))
  (hg : ∀ d, (V c main_arg1 : S1x1024.Idx → EReal) (ix2 0 d) = (A.g2 d : EReal))
include ha hb hwg hwu hx hd hg

theorem s3 (t : Fin cfg3.N) : Is2 (Inp.S3 (iblk3 V c 0 t) (iblk3 V c 1 t) (iblk3 V c 2 t) (iblk3 V c 3 t)) (fun r => acc A (row3 t r)) :=
  Pay3.pay8 _ _ _ _ _ _ _ _ _ _ _ _ _ _ _ _ (fun s r j => da A (row3 t r) s j) (fun s r j => db A (row3 t r) s j) A.wg A.wu
    (fun r j => (ld_o0 _ r j).trans ((blk3_0 V c t 0 r j).trans (ha 0 _ j))) (fun r j => (ld_o0 _ r j).trans ((blk3_1 V c t 0 r j).trans (hb 0 _ j)))
    (fun k j => (ld_w0 _ k j).trans ((blk3_2 V c t 0 k j).trans (hwg 0 k j))) (fun k j => (ld_w0 _ k j).trans ((blk3_3 V c t 0 k j).trans (hwu 0 k j)))
    (fun r j => (ld_o1 _ r j).trans ((blk3_0 V c t 1 r j).trans (ha 1 _ j))) (fun r j => (ld_o1 _ r j).trans ((blk3_1 V c t 1 r j).trans (hb 1 _ j)))
    (fun k j => (ld_w1 _ k j).trans ((blk3_2 V c t 1 k j).trans (hwg 1 k j))) (fun k j => (ld_w1 _ k j).trans ((blk3_3 V c t 1 k j).trans (hwu 1 k j)))
    (fun r j => (ld_o2 _ r j).trans ((blk3_0 V c t 2 r j).trans (ha 2 _ j))) (fun r j => (ld_o2 _ r j).trans ((blk3_1 V c t 2 r j).trans (hb 2 _ j)))
    (fun k j => (ld_w2 _ k j).trans ((blk3_2 V c t 2 k j).trans (hwg 2 k j))) (fun k j => (ld_w2 _ k j).trans ((blk3_3 V c t 2 k j).trans (hwu 2 k j)))
    (fun r j => (ld_o3 _ r j).trans ((blk3_0 V c t 3 r j).trans (ha 3 _ j))) (fun r j => (ld_o3 _ r j).trans ((blk3_1 V c t 3 r j).trans (hb 3 _ j)))
    (fun k j => (ld_w3 _ k j).trans ((blk3_2 V c t 3 k j).trans (hwg 3 k j))) (fun k j => (ld_w3 _ k j).trans ((blk3_3 V c t 3 k j).trans (hwu 3 k j)))

theorem pt3_7 (t : Fin cfg3.N) : Is2 (outsAt3 V c t.val t.isLt).1 (fun r d => dx1 A (row3 t r) d) := by
  have key := Pay3.pay4 _ _ (fun r => acc A (row3 t r)) (fun r => A.x (row3 t r)) (fun r => dx2 A (row3 t r)) A.g2 _ (iblk3 V c 6 t) (s3 V c A ha hb hwg hwu hx hd hg t) (fun r k => (blk3_4 V c t r k).trans (hx _ _))
    (fun r k => (blk3_5 V c t r k).trans (hd _ _)) (fun d => (blk3_6 V c t 0 d).trans (hg d))
  by_cases h0 : t.val % 16 = 0
  · have e := at3_A_7 V c t h0
    exact fun i j => (congrFun e (ix2 i j)).trans (key i j)
  · have e := at3_B_7 V c t h0
    exact fun i j => (congrFun e (ix2 i j)).trans (key i j)

theorem pt3_8 (t : Fin cfg3.N) : Is2 (outsAt3 V c t.val t.isLt).2.1 (fun r d => dx1 A (row3 t r) d) := by
  have key := Pay3.pay4 _ _ (fun r => acc A (row3 t r)) (fun r => A.x (row3 t r)) (fun r => dx2 A (row3 t r)) A.g2 _ (iblk3 V c 6 t) (s3 V c A ha hb hwg hwu hx hd hg t) (fun r k => (blk3_4 V c t r k).trans (hx _ _))
    (fun r k => (blk3_5 V c t r k).trans (hd _ _)) (fun d => (blk3_6 V c t 0 d).trans (hg d))
  by_cases h0 : t.val % 16 = 0
  · have e := at3_A_8 V c t h0
    exact fun i j => (congrFun e (ix2 i j)).trans (key i j)
  · have e := at3_B_8 V c t h0
    exact fun i j => (congrFun e (ix2 i j)).trans (key i j)

/-- A row's part of the gain's gradient. -/
abbrev hrow (A : Args) (d : Fin 1024) (i : Fin 8192) : ℝ := acc A i d * hat (A.x i) d

theorem hstep (t : Fin cfg3.N) (L : Row) (v : Vec Ideal S1x1024 .f32) (hv : ∀ l, v (ix2 0 l) = (L l : EReal)) (d : Fin 1024) :
    k3_pay3 (F := Ideal) (Inp.S3 (iblk3 V c 0 t) (iblk3 V c 1 t) (iblk3 V c 2 t) (iblk3 V c 3 t)) (iblk3 V c 4 t) (k3_pay9 (iblk3 V c 4 t)) v (ix2 0 d)
      = ((L d + blockSum (hrow A d) t.val : ℝ) : EReal) := by
  refine (Pay3.pay3 _ _ (fun r => acc A (row3 t r)) (fun r => A.x (row3 t r)) v L hv (s3 V c A ha hb hwg hwu hx hd hg t) (fun r k => (blk3_4 V c t r k).trans (hx _ _)) d).trans ?_
  unfold blockSum
  rw [dif_pos (lt3 t)]

theorem pt9 : ∀ (n : ℕ) (hn : n < cfg3.N) (d : Fin 1024),
    (outsAt3 V c n hn).2.2 (ix2 0 d) = ((∑ k ∈ Finset.range (n + 1), blockSum (hrow A d) k : ℝ) : EReal)
  | 0, hn, d => by
    refine (congrFun (at3_A_9 V c ⟨0, hn⟩ rfl) _).trans ?_
    refine (hstep V c A ha hb hwg hwu hx hd hg ⟨0, hn⟩ (fun _ => 0) (k3_pay6 (F := Ideal)) (fun d => by
      pointwise [k3_pay6]
      exact EReal.coe_zero.symm) d).trans ?_
    rw [Finset.sum_range_one, zero_add]
  | n + 1, hn, d => by
    have hN : cfg3.N = 16 := N_3
    have hB : ¬(⟨n + 1, hn⟩ : Fin cfg3.N).val % 16 = 0 := by dsimp only; omega
    refine (congrFun (at3_B_9 V c ⟨n + 1, hn⟩ hB) _).trans ?_
    refine (hstep V c A ha hb hwg hwu hx hd hg ⟨n + 1, hn⟩ (fun d => ∑ k ∈ Finset.range (n + 1), blockSum (hrow A d) k) _ (fun d => pt9 n (Nat.lt_of_succ_lt hn) d) d).trans (congrArg _ (Finset.sum_range_succ _ (n + 1)).symm)

theorem arr3_7 : (dat3 V c).arrAt 7 cfg3.N = rows (dx1 A) :=
  (dat3 V c).arrAt_eq_of_cover 7 (rows (dx1 A)) (fun t _ => by
    show (cfg3.win 7).cut (grid3.coords t) ((dat3 V c).after 7 t) = _
    rw [after3_7]
    funext y
    rw [View.read_apply]
    let z : S512x1024.Idx := y
    have e : (outsAt3 V c t.val t.isLt).1 z = rows (dx1 A) (ix2 (row3 t (z 0)) (z 1)) :=
      (congrArg _ (eq_ix2 z)).trans (pt3_7 V c A ha hb hwg hwu hx hd hg t (z 0) (z 1))
    exact e.trans (congrArg (rows (dx1 A)) (emb3_7 t z).symm)) Win.cover3_7

theorem arr3_8 : (dat3 V c).arrAt 8 cfg3.N = rows (dx1 A) :=
  (dat3 V c).arrAt_eq_of_cover 8 (rows (dx1 A)) (fun t _ => by
    show (cfg3.win 8).cut (grid3.coords t) ((dat3 V c).after 8 t) = _
    rw [after3_8]
    funext y
    rw [View.read_apply]
    let z : S512x1024.Idx := y
    have e : (outsAt3 V c t.val t.isLt).2.1 z = rows (dx1 A) (ix2 (row3 t (z 0)) (z 1)) :=
      (congrArg _ (eq_ix2 z)).trans (pt3_8 V c A ha hb hwg hwu hx hd hg t (z 0) (z 1))
    exact e.trans (congrArg (rows (dx1 A)) (emb3_8 t z).symm)) Win.cover3_8

theorem arr3_9 : (dat3 V c).arrAt 9 cfg3.N = (fun y : S1x1024.Idx => ((dg2 A (y 1) : ℝ) : EReal)) := by
  have hN : cfg3.N = 16 := N_3
  refine (dat3 V c).arrAt_eq_of_cover 9 (fun y : S1x1024.Idx => ((dg2 A (y 1) : ℝ) : EReal) : Buf (Elt Ideal) ((c : Thread nD τ).loc main_v16_2)) (fun t hf => ?_) fun i => ?_
  · have h15 : t.val = 15 := by have := (flush3_9 t).mp hf; have := t.isLt; omega
    obtain rfl : t = last3 := Fin.ext h15
    show (cfg3.win 9).cut (grid3.coords last3) ((dat3 V c).after 9 last3) = _
    rw [after3_9]
    have hz' : (fun a => win3_9.index last3 a * main_v16_2.ty.shape.size a) = fun _ => 0 := funext fun a => by fin_cases a <;> decide
    refine Eq.trans ?_ (Memref.read_access_unit_zero (Elt Ideal) main_v16_2 hz' (fun a => by rw [congrFun hz' a]; simp) (fun y : S1x1024.Idx => ((dg2 A (y 1) : ℝ) : EReal))).symm
    funext y
    let z : S1x1024.Idx := y
    have e : z = ix2 0 (z 1) := (eq_ix2 z).trans (congrArg (fun q : Fin 1 => (ix2 q (z 1) : S1x1024.Idx)) (Subsingleton.elim _ _))
    refine (congrArg _ e).trans ((pt9 V c A ha hb hwg hwu hx hd hg 15 (by omega) (z 1)).trans ?_)
    rw [blockSum_all]
    rfl
  · refine ⟨last3, (flush3_9 _).mpr rfl, ?_⟩
    show i ∈ ((View.whole main_v16_2).slice (win3_9.rect last3)).set
    rw [View.set_slice_whole, Rect.mem_set_unit]
    intro a
    have h0 : (i 0 : Nat) < 1 := (i 0).isLt
    have h1 : (i 1 : Nat) < 1024 := (i 1).isLt
    match a with
    | ⟨0, _⟩ => show win3_9.index last3 0 * win3_9.size 0 ≤ (i 0 : Nat) ∧ (i 0 : Nat) < win3_9.index last3 0 * win3_9.size 0 + win3_9.xsize (grid3.coords last3) 0
                rw [show win3_9.index last3 0 * win3_9.size 0 = 0 from by decide +kernel, show win3_9.xsize (grid3.coords last3) 0 = 1 from by decide +kernel]; omega
    | ⟨1, _⟩ => show win3_9.index last3 1 * win3_9.size 1 ≤ (i 1 : Nat) ∧ (i 1 : Nat) < win3_9.index last3 1 * win3_9.size 1 + win3_9.xsize (grid3.coords last3) 1
                rw [show win3_9.index last3 1 * win3_9.size 1 = 0 from by decide +kernel, show win3_9.xsize (grid3.coords last3) 1 = 1024 from by decide +kernel]; omega

end call3

end Cert.Kernel2Ideal.Arr

end
-- ==== Proof.FfnFinite.lean ====
/- Finite arguments are arrays of real numbers. -/
module

public import proofs.«01_k».proof.Pre_finite
public import proofs.«01_k».proof.Proof.FfnSpec
public import Idealize.ShloMosaic.Lib.ReduceAll
public import Idealize.ShloMosaic.Lib.Pointwise

@[expose] public section

set_option maxRecDepth 16384

noncomputable section

namespace Cert.Ffn

open Cert.Pre_finite Cert.Reals Idealize.ShloMosaic

/-- The seven argument arrays hold the sub-layer's real numbers. -/
structure Holds (x : S8192x1024.Idx → EReal) (g2 : S1x1024.Idx → EReal) (wg wu : S4x1024x704.Idx → EReal) (wd : S4x704x1024.Idx → EReal)
    (gf : S1x1024.Idx → EReal) (tgt : S8192x1024.Idx → EReal) (A : Args) : Prop where
  x : Is2 x A.x
  g2 : ∀ k, g2 (ix2 0 k) = (A.g2 k : EReal)
  wg : ∀ s k j, wg (ix3 s k j) = (A.wg s k j : EReal)
  wu : ∀ s k j, wu (ix3 s k j) = (A.wu s k j : EReal)
  wd : ∀ s j d, wd (ix3 s j d) = (A.wd s j d : EReal)
  gf : ∀ d, gf (ix2 0 d) = (A.gf d : EReal)
  tgt : Is2 tgt A.tgt

/-- The side conditions the precondition's operations take. -/
theorem facts : Cert.Pre_finite.Facts where
  bcast_S_S8192x1024 := by decide
  reducesTo_S8192x1024_S_d0_1 := by decide
  h_S_ := by decide
  bcast_S_S1x1024 := by decide
  reducesTo_S1x1024_S_d0_1 := by decide
  bitsLt_bf16_f32 := by decide
  bcast_S_S4x1024x704 := by decide
  reducesTo_S4x1024x704_S_d0_1_2 := by decide
  bcast_S_S4x704x1024 := by decide
  reducesTo_S4x704x1024_S_d0_1_2 := by decide

/-- A number whose absolute value is below something is real. -/
theorem real_of_lt (v y : EReal) (h : BitVec.ofBool (decide (max v (-v) < y)) = 1#1) : v = (v.toReal : EReal) := by
  have h1 : max v (-v) < y := by
    by_contra hn
    rw [decide_eq_false hn] at h
    exact absurd h (by decide)
  refine (EReal.coe_toReal (fun e => ?_) (fun e => ?_)).symm
  · subst e
    exact absurd h1 (not_lt.2 (le_top.trans (le_max_left _ _)))
  · subst e
    exact absurd h1 (not_lt.2 (le_top.trans (le_max_right _ _)))

/-- The numbers an array of finite entries holds. -/
def argsOf (x : S8192x1024.Idx → EReal) (g2 : S1x1024.Idx → EReal) (wg wu : S4x1024x704.Idx → EReal) (wd : S4x704x1024.Idx → EReal)
    (gf : S1x1024.Idx → EReal) (tgt : S8192x1024.Idx → EReal) : Args where
  x i k := (x (ix2 i k)).toReal
  g2 k := (g2 (ix2 0 k)).toReal
  wg s k j := (wg (ix3 s k j)).toReal
  wu s k j := (wu (ix3 s k j)).toReal
  wd s j d := (wd (ix3 s j d)).toReal
  gf d := (gf (ix2 0 d)).toReal
  tgt i k := (tgt (ix2 i k)).toReal

instance : Subsingleton S_.Idx := ⟨fun a b => funext fun q => nomatch q⟩

/-- Where the precondition is all ones, every argument holds real numbers. -/
theorem holds_of_finite (hf : Cert.Pre_finite.Facts) (x : FVec Ideal S8192x1024 .f32) (g2 : FVec Ideal S1x1024 .f32)
    (wg wu : FVec Ideal S4x1024x704 .bf16) (wd : FVec Ideal S4x704x1024 .bf16) (gf : FVec Ideal S1x1024 .f32) (tgt : FVec Ideal S8192x1024 .f32)
    (h : Cert.Pre_finite.fn (F := Ideal) x g2 wg wu wd gf tgt = fun _ => 1#1) : Holds x g2 wg wu wd gf tgt (argsOf x g2 wg wu wd gf tgt) := by
  have e := congrFun h (fun q => nomatch q)
  unfold Cert.Pre_finite.fn Cert.Pre_finite.fn_part1 Cert.Pre_finite.fn_part2 at e
  dsimp only at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i k => ?_, fun k => ?_, fun s k j => ?_, fun s k j => ?_, fun s j d => ?_, fun d => ?_, fun i k => ?_⟩
  · have q := Host.reduce_andi_all _ _ _ _ _ e0 (ix2 i k)
    pointwise at q
    exact real_of_lt _ _ q
  · have q := Host.reduce_andi_all _ _ _ _ _ e1 (ix2 0 k)
    pointwise at q
    exact real_of_lt _ _ q
  · have q := Host.reduce_andi_all _ _ _ _ _ e2 (ix3 s k j)
    pointwise at q
    exact real_of_lt _ _ q
  · have q := Host.reduce_andi_all _ _ _ _ _ e3 (ix3 s k j)
    pointwise at q
    exact real_of_lt _ _ q
  · have q := Host.reduce_andi_all _ _ _ _ _ e4 (ix3 s j d)
    pointwise at q
    exact real_of_lt _ _ q
  · have q := Host.reduce_andi_all _ _ _ _ _ e5 (ix2 0 d)
    pointwise at q
    exact real_of_lt _ _ q
  · have q := Host.reduce_andi_all _ _ _ _ _ e6 (ix2 i k)
    pointwise at q
    exact real_of_lt _ _ q

end Cert.Ffn

end
-- ==== Proof.FfnRun.lean ====
/- The whole sub-layer's run on one device: its results, as the specification's real numbers. -/
module

public import proofs.«01_k».proof.Proof.FfnArr1
public import proofs.«01_k».proof.Proof.FfnArr3
public import proofs.«01_k».proof.Proof.FfnFinite

@[expose] public section

set_option maxRecDepth 16384

noncomputable section

namespace Cert.Kernel2Ideal.Run

open Cert.Kernel2Ideal Cert.Kernel2Ideal.Gen Cert.Kernel2Ideal.Arr Cert.Reals Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

section device

variable (c : Dev nD) (A : Args)
  (H : Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) A)
include H

/-- The host's lines before the first call leave the normalised stream. -/
theorem v12 : Is2 (V1 m ρ c main_v12 : S8192x1024.Idx → EReal) (h A) := by
  have e : V1 m ρ c main_v12 = truncf .bf16 (mulf (mulf (m ((c.tc : Thread nD τ).loc main_arg0)) (broadcastInDim S8192x1024 ![0, 1] bcast_S8192x1_S8192x1024_0_1
      (Host.rsqrt (F := Ideal) (φ := .f32) (addf (Host.divf (F := Ideal) (φ := .f32) (broadcastInDim S8192x1 ![0] bcast_S8192_S8192x1_0 (Host.reduceAdd (F := Ideal) (φ := .f32) (mulf (m ((c.tc : Thread nD τ).loc main_arg0)) (m ((c.tc : Thread nD τ).loc main_arg0))) (constant S_ .f32 0x00000000#32) reducesTo_S8192x1024_S8192_d1 h_S_))
        (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 (m ((c.tc : Thread nD τ).loc main_arg1)))) bitsLt_bf16_f32 := by
    show StableHlo.after hostOps0 (W0 m ρ c) (Proc.devRef .tc main_v12) = _
    after_results_simp
  intro i k
  rw [e]
  pointwise
  simp only [H.x i, H.g2, ← EReal.coe_mul, coe_sum]
  rw [width_f32, eps_f32, div_coe _ (by norm_num), ← EReal.coe_add]
  refine (congrArg (fun v => _ * v * _) (rsqrt_coe (ms_pos (A.x i)))).trans ?_
  rw [← EReal.coe_mul, ← EReal.coe_mul]
  rfl

theorem a1_2 : ∀ s k j, (V1 m ρ c main_arg2 : S4x1024x704.Idx → EReal) (ix3 s k j) = (A.wg s k j : EReal) := fun s k j =>
  (congrFun (W1_args m ρ c main_arg2 (by decide)) (ix3 s k j)).trans (H.wg s k j)

theorem a1_3 : ∀ s k j, (V1 m ρ c main_arg3 : S4x1024x704.Idx → EReal) (ix3 s k j) = (A.wu s k j : EReal) := fun s k j =>
  (congrFun (W1_args m ρ c main_arg3 (by decide)) (ix3 s k j)).trans (H.wu s k j)

theorem a2_0 : Is2 (V2 m ρ c main_arg0 : S8192x1024.Idx → EReal) A.x := fun i k =>
  (congrFun (W2_args m ρ c main_arg0 (by decide)) (ix2 i k)).trans (H.x i k)

theorem a2_4 : ∀ s j d, (V2 m ρ c main_arg4 : S4x704x1024.Idx → EReal) (ix3 s j d) = (A.wd s j d : EReal) := fun s j d =>
  (congrFun (W2_args m ρ c main_arg4 (by decide)) (ix3 s j d)).trans (H.wd s j d)

theorem a2_5 : ∀ k, (V2 m ρ c main_arg5 : S1x1024.Idx → EReal) (ix2 0 k) = (A.gf k : EReal) := fun k =>
  (congrFun (W2_args m ρ c main_arg5 (by decide)) (ix2 0 k)).trans (H.gf k)

theorem a2_6 : Is2 (V2 m ρ c main_arg6 : S8192x1024.Idx → EReal) A.tgt := fun i k =>
  (congrFun (W2_args m ρ c main_arg6 (by decide)) (ix2 i k)).trans (H.tgt i k)

theorem a3_4 : ∀ s j d, (V3 m ρ c main_arg4 : S4x704x1024.Idx → EReal) (ix3 s j d) = (A.wd s j d : EReal) := fun s j d =>
  (congrFun (W3_args m ρ c main_arg4 (by decide)) (ix3 s j d)).trans (H.wd s j d)

theorem a4_0 : Is2 (V4 m ρ c main_arg0 : S8192x1024.Idx → EReal) A.x := fun i k =>
  (congrFun (W4_args m ρ c main_arg0 (by decide)) (ix2 i k)).trans (H.x i k)

theorem a4_1 : ∀ k, (V4 m ρ c main_arg1 : S1x1024.Idx → EReal) (ix2 0 k) = (A.g2 k : EReal) := fun k =>
  (congrFun (W4_args m ρ c main_arg1 (by decide)) (ix2 0 k)).trans (H.g2 k)

theorem a4_2 : ∀ s k j, (V4 m ρ c main_arg2 : S4x1024x704.Idx → EReal) (ix3 s k j) = (A.wg s k j : EReal) := fun s k j =>
  (congrFun (W4_args m ρ c main_arg2 (by decide)) (ix3 s k j)).trans (H.wg s k j)

theorem a4_3 : ∀ s k j, (V4 m ρ c main_arg3 : S4x1024x704.Idx → EReal) (ix3 s k j) = (A.wu s k j : EReal) := fun s k j =>
  (congrFun (W4_args m ρ c main_arg3 (by decide)) (ix3 s k j)).trans (H.wu s k j)

/-! ### What each call finds in the calls' arrays before it -/

theorem v13_0 : Chips (V2 m ρ c main_v13_0) (fa A) := fun s i j =>
  congrFun ((W2_arr m ρ c 3).trans (arr0_3 (V1 m ρ) c A (v12 m ρ c A H) (a1_2 m ρ c A H) (a1_3 m ρ c A H))) (ix3 s i j)
theorem v13_1 : Chips (V2 m ρ c main_v13_1) (fb A) := fun s i j =>
  congrFun ((W2_arr m ρ c 4).trans (arr0_4 (V1 m ρ) c A (v12 m ρ c A H) (a1_2 m ρ c A H) (a1_3 m ρ c A H))) (ix3 s i j)
theorem v13_2 : Chips (V2 m ρ c main_v13_2) (ff A) := fun s i j =>
  congrFun ((W2_arr m ρ c 5).trans (arr0_5 (V1 m ρ) c A (v12 m ρ c A H) (a1_2 m ρ c A H) (a1_3 m ρ c A H))) (ix3 s i j)
theorem w13_0 : Chips (V3 m ρ c main_v13_0) (fa A) := fun s i j =>
  (congrFun (W3_of m ρ c main_v13_0 (by decide)) (ix3 s i j)).trans (v13_0 m ρ c A H s i j)
theorem w13_1 : Chips (V3 m ρ c main_v13_1) (fb A) := fun s i j =>
  (congrFun (W3_of m ρ c main_v13_1 (by decide)) (ix3 s i j)).trans (v13_1 m ρ c A H s i j)
theorem v14_0 : Is2 (V4 m ρ c main_v14_0 : S8192x1024.Idx → EReal) (dx2 A) := fun i k =>
  congrFun ((W4_of m ρ c main_v14_0 (by decide)).trans ((W3_arr m ρ c 5).trans (arr1_5 (V2 m ρ) c A (v13_2 m ρ c A H) (a2_4 m ρ c A H) (a2_0 m ρ c A H) (a2_6 m ρ c A H) (a2_5 m ρ c A H)))) (ix2 i k)
theorem v14_1 : Is2 (V3 m ρ c main_v14_1 : S8192x1024.Idx → EReal) (dx2 A) := fun i k =>
  congrFun ((W3_arr m ρ c 6).trans (arr1_6 (V2 m ρ) c A (v13_2 m ρ c A H) (a2_4 m ρ c A H) (a2_0 m ρ c A H) (a2_6 m ρ c A H) (a2_5 m ρ c A H))) (ix2 i k)
theorem v15_0 : Chips (V4 m ρ c main_v15_0) (da A) := fun s i j =>
  congrFun ((W4_arr m ρ c 4).trans (arr2_4 (V3 m ρ) c A (v14_1 m ρ c A H) (a3_4 m ρ c A H) (w13_0 m ρ c A H))) (ix3 s i j)
theorem v15_1 : Chips (V4 m ρ c main_v15_1) (db A) := fun s i j =>
  congrFun ((W4_arr m ρ c 5).trans (arr2_5 (V3 m ρ) c A (v14_1 m ρ c A H) (a3_4 m ρ c A H) (w13_1 m ρ c A H))) (ix3 s i j)

/-! ### The results -/

abbrev lossArr (A : Args) : S1x128.Idx → EReal := fun _ => ((loss A : ℝ) : EReal)
abbrev dgfArr (A : Args) : S1x1024.Idx → EReal := fun y => ((dgf A (y 1) : ℝ) : EReal)
abbrev dg2Arr (A : Args) : S1x1024.Idx → EReal := fun y => ((dg2 A (y 1) : ℝ) : EReal)

theorem res_loss : W5 m ρ c (Proc.devRef .tc main_v14_2) = lossArr A :=
  (W5_of m ρ c main_v14_2 (by decide)).trans ((W4_of m ρ c main_v14_2 (by decide)).trans ((W3_arr m ρ c 7).trans (arr1_7 (V2 m ρ) c A (v13_2 m ρ c A H) (a2_4 m ρ c A H) (a2_0 m ρ c A H) (a2_6 m ρ c A H) (a2_5 m ρ c A H))))
theorem res_dgf : W5 m ρ c (Proc.devRef .tc main_v14_3) = dgfArr A :=
  (W5_of m ρ c main_v14_3 (by decide)).trans ((W4_of m ρ c main_v14_3 (by decide)).trans ((W3_arr m ρ c 8).trans (arr1_8 (V2 m ρ) c A (v13_2 m ρ c A H) (a2_4 m ρ c A H) (a2_0 m ρ c A H) (a2_6 m ρ c A H) (a2_5 m ρ c A H))))
theorem res_dx1 : W5 m ρ c (Proc.devRef .tc main_v16_0) = rows (dx1 A) := (W5_arr m ρ c 7).trans (arr3_7 (V4 m ρ) c A (v15_0 m ρ c A H) (v15_1 m ρ c A H) (a4_2 m ρ c A H) (a4_3 m ρ c A H) (a4_0 m ρ c A H) (v14_0 m ρ c A H) (a4_1 m ρ c A H))
theorem res_dx1b : W5 m ρ c (Proc.devRef .tc main_v16_1) = rows (dx1 A) := (W5_arr m ρ c 8).trans (arr3_8 (V4 m ρ) c A (v15_0 m ρ c A H) (v15_1 m ρ c A H) (a4_2 m ρ c A H) (a4_3 m ρ c A H) (a4_0 m ρ c A H) (v14_0 m ρ c A H) (a4_1 m ρ c A H))
theorem res_dg2 : W5 m ρ c (Proc.devRef .tc main_v16_2) = dg2Arr A := (W5_arr m ρ c 9).trans (arr3_9 (V4 m ρ) c A (v15_0 m ρ c A H) (v15_1 m ρ c A H) (a4_2 m ρ c A H) (a4_3 m ρ c A H) (a4_0 m ρ c A H) (v14_0 m ρ c A H) (a4_1 m ρ c A H))

end device

set_option backward.isDefEq.respectTransparency.types false in
/-- Every weakly fair execution ends with the specification's results, and with the arguments unchanged. -/
theorem run (A : Dev nD → Args)
    (H : ∀ c : Dev nD, Holds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (A c)) :
    θ_run defs (onTc (τ := τ) (main (F := Ideal))) ⟨m, fun _ => 0, ρ⟩ (fun r => ∀ c : Dev nD,
      r.2.mem ((c.tc : Thread nD τ).loc main_v14_2) = lossArr (A c)
      ∧ r.2.mem ((c.tc : Thread nD τ).loc main_v16_0) = rows (dx1 (A c))
      ∧ r.2.mem ((c.tc : Thread nD τ).loc main_v16_1) = rows (dx1 (A c))
      ∧ r.2.mem ((c.tc : Thread nD τ).loc main_v16_2) = dg2Arr (A c)
      ∧ r.2.mem ((c.tc : Thread nD τ).loc main_v14_3) = dgfArr (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v14_2 (by decide))).trans (res_loss m ρ c (A c) (H c)),
       (h c _ (mem_uc main_v16_0 (by decide))).trans (res_dx1 m ρ c (A c) (H c)),
       (h c _ (mem_uc main_v16_1 (by decide))).trans (res_dx1b m ρ c (A c) (H c)),
       (h c _ (mem_uc main_v16_2 (by decide))).trans (res_dg2 m ρ c (A c) (H c)),
       (h c _ (mem_uc main_v14_3 (by decide))).trans (res_dgf m ρ c (A c) (H c)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.Kernel2Ideal.Run

end
-- ==== Proof.FfnRef.lean ====
/- The reference's lines for the feed-forward sub-layer and the loss, as the specification's real numbers. -/
module

public import proofs.«01_k».proof.Proof.Gen.Reference2Ideal.Run
public import proofs.«01_k».proof.Proof.FfnFinite

@[expose] public section

set_option maxRecDepth 16384

noncomputable section

namespace Cert.Reference2Ideal.Ffn

open Cert.Reference2Ideal Cert.Reference2Ideal.Gen Cert.Reference2Ideal.Value Cert.Reals Cert.Ffn
open Idealize.ShloMosaic Idealize.ShloMosaic.TcCoe Idealize.ShloMosaic.StableHlo
open scoped BigOperators

/-! ## Reals -/

theorem logistic_coe (x : ℝ) : Ideal.div 1 (1 + Ideal.exp (-(x : EReal))) = ((lgs x : ℝ) : EReal) := by
  rw [← EReal.coe_neg, Ideal.exp_coe, one_coe, ← EReal.coe_add, div_coe _ (by positivity), one_div]
  rfl

/-- The chip and the place of a column. -/
abbrev cs (q : Fin 2816) : Fin 4 := ⟨q.val / 704, by omega⟩
abbrev cj (q : Fin 2816) : Fin 704 := ⟨q.val % 704, by omega⟩

theorem sum_cols (f : Fin 4 → Fin 704 → ℝ) : ∑ q, f (cs q) (cj q) = ∑ s, ∑ j, f s j := by
  rw [← (finProdFinEquiv (m := 4) (n := 704)).sum_comp, Fintype.sum_prod_type]
  refine Finset.sum_congr rfl fun s _ => Finset.sum_congr rfl fun j _ => ?_
  have hs : cs (finProdFinEquiv (s, j)) = s := Fin.ext (by show (j.val + 704 * s.val) / 704 = s.val; omega)
  have hj : cj (finProdFinEquiv (s, j)) = j := Fin.ext (by show (j.val + 704 * s.val) % 704 = j.val; omega)
  rw [hs, hj]

theorem rs_sq (v : Row) : rs v * rs v = (ms v)⁻¹ := by
  unfold rs
  rw [← mul_inv, Real.mul_self_sqrt (ms_pos v).le]

/-- The normalisation's gradient as the reference spells it: through the root, and through the mean square, twice. -/
theorem back_eq (dy g v : Row) (k : Fin 1024) :
    dy k * g k * rs v + v k * ((∑ q, v q * (dy q * g q)) * (-(1 / 2) * (rs v / ms v)) / 1024)
      + (∑ q, v q * (dy q * g q)) * (-(1 / 2) * (rs v / ms v)) / 1024 * v k = back dy g v k := by
  have e : ∑ q, dy q * g q * hat v q = rs v * ∑ q, v q * (dy q * g q) := by
    rw [Finset.mul_sum]
    refine Finset.sum_congr rfl fun q _ => ?_
    unfold hat
    ring
  unfold back
  rw [e, div_eq_mul_inv (rs v), ← rs_sq]
  unfold hat
  ring

/-- A sum over a unit axis. -/
theorem unit_sum (f : Fin 1 → EReal) (v : EReal) (h : ∀ u, f u = v) : ∑ u, f u = v := by
  rw [Fin.sum_univ_one]
  exact h 0

/-- A row's mean, times the root's derivative. -/
theorem mean_coe (s r : ℝ) {d : ℝ} (h : 0 < d) :
    Ideal.div ((s : EReal) * (Ideal.ofBits .f32 0xBF000000#32 * Ideal.div (r : EReal) (d : EReal))) (Ideal.ofBits .f32 0x44800000#32)
      = ((s * (-(1 / 2) * (r / d)) / 1024 : ℝ) : EReal) := by
  rw [neg_half_f32, width_f32, div_coe _ h.ne', ← EReal.coe_mul, ← EReal.coe_mul, div_coe _ (by norm_num)]

/-- The gradient towards the gate's projection, whose logistic factor the reference differentiates by itself. -/
theorem gate_back (f b l a : ℝ) : f * b * l + a * (f * b) * (l * (1 - l)) = f * (b * (l * (1 + a * (1 - l)))) := by
  ring

/-! ## The lines -/

variable (V : Valuation τ sig (Elt Ideal)) (A : Args)

/-- The arguments hold the sub-layer's real numbers. -/
abbrev Given : Prop := Holds (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6)) A

variable (H : Given V A)
include H

theorem v2 : Is2 (res_main_v2 V : S1024x2816.Idx → EReal) (fun k q => A.wg (cs q) k (cj q)) := by
  intro k q
  unfold res_main_v2
  pointwise
  exact H.wg _ _ _
theorem v5 : Is2 (res_main_v5 V : S1024x2816.Idx → EReal) (fun k q => A.wu (cs q) k (cj q)) := by
  intro k q
  unfold res_main_v5
  pointwise
  exact H.wu _ _ _
theorem v7 : Is2 (res_main_v7 V : S2816x1024.Idx → EReal) (fun q d => A.wd (cs q) (cj q) d) := by
  intro q d
  unfold res_main_v7
  pointwise
  exact H.wd _ _ _
theorem v14 (i : Fin 8192) : (res_main_v14 V : S8192x1.Idx → EReal) (ix2 i 0) = (ms (A.x i) : EReal) := by
  unfold res_main_v14
  pointwise
  simp only [H.x i, ← EReal.coe_mul, coe_sum]
  rw [width_f32, eps_f32, div_coe _ (by norm_num), ← EReal.coe_add]
  rfl
theorem v15 (i : Fin 8192) : (res_main_v15 V : S8192x1.Idx → EReal) (ix2 i 0) = (rs (A.x i) : EReal) := by
  unfold res_main_v15
  pointwise
  rw [v14 V A H]
  exact rsqrt_coe (ms_pos (A.x i))
theorem v20 : Is2 (res_main_v20 V : S8192x1024.Idx → EReal) (fun i => hat (A.x i)) := by
  intro i k
  unfold res_main_v20
  pointwise
  rw [H.x, v15 V A H, ← EReal.coe_mul]
  rfl
theorem v22 : Is2 (res_main_v22 V : S8192x1024.Idx → EReal) (h A) := by
  intro i k
  unfold res_main_v22
  pointwise
  rw [v20 V A H, H.g2, ← EReal.coe_mul]
  rfl
theorem v23 : Is2 (res_main_v23 V : S8192x2816.Idx → EReal) (fun i q => a A i (cs q) (cj q)) := by
  intro i q
  unfold res_main_v23
  pointwise
  simp only [v22 V A H _ _, v2 V A H _ _, ← EReal.coe_mul, coe_sum]
  rfl
theorem v24_2 : Is2 (res_main_v24_2 V : S8192x2816.Idx → EReal) (fun i q => lgs (a A i (cs q) (cj q))) := by
  intro i q
  unfold res_main_v24_2
  pointwise
  rw [v23 V A H]
  exact logistic_coe _
theorem v24_0 : Is2 (res_main_v24_0 V : S8192x2816.Idx → EReal) (fun i q => fb A i (cs q) (cj q)) := by
  intro i q
  unfold res_main_v24_0
  pointwise
  rw [v23 V A H, v24_2 V A H, ← EReal.coe_mul]
  rfl
theorem v25 : Is2 (res_main_v25 V : S8192x2816.Idx → EReal) (fun i q => b A i (cs q) (cj q)) := by
  intro i q
  unfold res_main_v25
  pointwise
  simp only [v22 V A H _ _, v5 V A H _ _, ← EReal.coe_mul, coe_sum]
  rfl
theorem v28 : Is2 (res_main_v28 V : S8192x1024.Idx → EReal) (x2 A) := by
  intro i d
  unfold res_main_v28
  pointwise
  simp only [v24_0 V A H _ _, v25 V A H _ _, v7 V A H _ _, ← EReal.coe_mul, coe_sum]
  rw [H.x, ← EReal.coe_add]
  unfold x2
  exact congrArg (fun v : ℝ => ((A.x i d + v : ℝ) : EReal)) (sum_cols (fun s j => ff A i s j * A.wd s j d))
theorem v35 (i : Fin 8192) : (res_main_v35 V : S8192x1.Idx → EReal) (ix2 i 0) = (ms (x2 A i) : EReal) := by
  unfold res_main_v35
  pointwise
  simp only [v28 V A H i, ← EReal.coe_mul, coe_sum]
  rw [width_f32, eps_f32, div_coe _ (by norm_num), ← EReal.coe_add]
  rfl
theorem v36 (i : Fin 8192) : (res_main_v36 V : S8192x1.Idx → EReal) (ix2 i 0) = (rs (x2 A i) : EReal) := by
  unfold res_main_v36
  pointwise
  rw [v35 V A H]
  exact rsqrt_coe (ms_pos (x2 A i))
theorem v41 : Is2 (res_main_v41 V : S8192x1024.Idx → EReal) (fun i => hat (x2 A i)) := by
  intro i k
  unfold res_main_v41
  pointwise
  rw [v28 V A H, v36 V A H, ← EReal.coe_mul]
  rfl
theorem v44 : Is2 (res_main_v44 V : S8192x1024.Idx → EReal) (diff A) := by
  intro i k
  unfold res_main_v44
  pointwise
  rw [v41 V A H, H.gf, H.tgt, ← EReal.coe_mul, ← EReal.coe_sub]
  rfl
theorem v58 : Is2 (res_main_v58 V : S8192x1024.Idx → EReal) (dy A) := by
  intro i k
  unfold res_main_v58
  pointwise
  rw [v44 V A H, half_f32, two_f32, width_f32, div_coe _ (by norm_num), ← EReal.coe_mul, ← EReal.coe_mul]
  refine congrArg _ ?_
  unfold dy
  ring
theorem v63 : Is2 (res_main_v63 V : S8192x1024.Idx → EReal) (fun i d => dy A i d * A.gf d) := by
  intro i k
  unfold res_main_v63
  pointwise
  rw [v58 V A H, H.gf, ← EReal.coe_mul]
theorem v73 : Is2 (res_main_v73 V : S8192x1024.Idx → EReal)
    (fun i _ => (∑ q, x2 A i q * (dy A i q * A.gf q)) * (-(1 / 2) * (rs (x2 A i) / ms (x2 A i))) / 1024) := by
  intro i k
  unfold res_main_v73
  pointwise
  simp only [v28 V A H _ _, v63 V A H _ _, ← EReal.coe_mul, coe_sum]
  refine unit_sum _ _ fun u => ?_
  rw [show (ix2 i u : S8192x1.Idx) = ix2 i 0 from congrArg (ix2 i) (Subsingleton.elim _ _), v36 V A H, v35 V A H]
  exact mean_coe _ _ (ms_pos (x2 A i))
theorem v77 : Is2 (res_main_v77 V : S8192x1024.Idx → EReal) (dx2 A) := by
  intro i k
  unfold res_main_v77
  pointwise
  rw [v63 V A H, v36 V A H, v28 V A H, v73 V A H, ← EReal.coe_mul, ← EReal.coe_mul, ← EReal.coe_mul, ← EReal.coe_add, ← EReal.coe_add]
  exact congrArg _ (back_eq (dy A i) A.gf (x2 A i) k)
theorem v78 : Is2 (res_main_v78 V : S8192x2816.Idx → EReal) (fun i q => dff A i (cs q) (cj q)) := by
  intro i q
  unfold res_main_v78
  pointwise
  simp only [v77 V A H _ _, v7 V A H _ _, ← EReal.coe_mul, coe_sum]
  rfl
theorem v80 : Is2 (res_main_v80 V : S8192x2816.Idx → EReal) (fun i q => dff A i (cs q) (cj q) * b A i (cs q) (cj q)) := by
  intro i q
  unfold res_main_v80
  pointwise
  rw [v78 V A H, v25 V A H, ← EReal.coe_mul]
theorem v84 : Is2 (res_main_v84 V : S8192x1024.Idx → EReal) (acc A) := by
  intro i k
  unfold res_main_v84
  pointwise
  simp only [v24_0 V A H _ _, v78 V A H _ _, v5 V A H _ _, v80 V A H _ _, v24_2 V A H _ _, v23 V A H _ _, v2 V A H _ _,
    one_coe, ← EReal.coe_mul, ← EReal.coe_sub, ← EReal.coe_add, coe_sum, gate_back]
  refine congrArg _ ?_
  rw [sum_cols (fun s j => fb A i s j * dff A i s j * A.wu s k j),
    sum_cols (fun s j => dff A i s j * (b A i s j * (lgs (a A i s j) * (1 + a A i s j * (1 - lgs (a A i s j))))) * A.wg s k j),
    ← Finset.sum_add_distrib]
  refine Finset.sum_congr rfl fun s _ => (add_comm _ _).trans (congrArg₂ (· + ·) rfl ?_)
  exact Finset.sum_congr rfl fun j _ => congrArg (· * A.wu s k j) (mul_comm _ _)
theorem v89 : Is2 (res_main_v89 V : S8192x1024.Idx → EReal) (fun i k => acc A i k * A.g2 k) := by
  intro i k
  unfold res_main_v89
  pointwise
  rw [v84 V A H, H.g2, ← EReal.coe_mul]
theorem v100 : Is2 (res_main_v100 V : S8192x1024.Idx → EReal)
    (fun i _ => (∑ q, A.x i q * (acc A i q * A.g2 q)) * (-(1 / 2) * (rs (A.x i) / ms (A.x i))) / 1024) := by
  intro i k
  unfold res_main_v100
  pointwise
  simp only [H.x _ _, v89 V A H _ _, ← EReal.coe_mul, coe_sum]
  refine unit_sum _ _ fun u => ?_
  rw [show (ix2 i u : S8192x1.Idx) = ix2 i 0 from congrArg (ix2 i) (Subsingleton.elim _ _), v15 V A H, v14 V A H]
  exact mean_coe _ _ (ms_pos (A.x i))

/-! ## The results -/

omit H in
theorem res_dx1_spec (i : Fin 8192) (k : Fin 1024) (u w : ℝ) (h : u = dx2 A i k) (hw : w = (∑ q, A.x i q * (acc A i q * A.g2 q)) * (-(1 / 2) * (rs (A.x i) / ms (A.x i))) / 1024) :
    u + acc A i k * A.g2 k * rs (A.x i) + A.x i k * w + w * A.x i k = dx1 A i k := by
  subst h hw
  unfold dx1
  rw [← back_eq (acc A i) A.g2 (A.x i) k]
  ring
theorem res_dx1 (i : Fin 8192) (k : Fin 1024) : (addf (addf (addf (res_main_v77 V) (mulf (res_main_v89 V) (broadcastInDim S8192x1024 ![0, 1] bcast_S8192x1_S8192x1024_0_1 (res_main_v15 V)))) (mulf (V (Proc.devRef .tc main_arg0)) (res_main_v100 V))) (mulf (res_main_v100 V) (V (Proc.devRef .tc main_arg0))) : S8192x1024.Idx → EReal) (ix2 i k) = (dx1 A i k : EReal) := by
  pointwise
  rw [v77 V A H, v89 V A H, v15 V A H, H.x, v100 V A H, ← EReal.coe_mul, ← EReal.coe_mul, ← EReal.coe_mul, ← EReal.coe_add, ← EReal.coe_add, ← EReal.coe_add]
  exact congrArg _ (res_dx1_spec A i k _ _ rfl rfl)
theorem arr_dx1 : (addf (addf (addf (res_main_v77 V) (mulf (res_main_v89 V) (broadcastInDim S8192x1024 ![0, 1] bcast_S8192x1_S8192x1024_0_1 (res_main_v15 V)))) (mulf (V (Proc.devRef .tc main_arg0)) (res_main_v100 V))) (mulf (res_main_v100 V) (V (Proc.devRef .tc main_arg0))) : S8192x1024.Idx → EReal) = fun y => ((dx1 A (y 0) (y 1) : ℝ) : EReal) := by
  funext y
  rw [eq_ix2 y]
  exact res_dx1 V A H (y 0) (y 1)
theorem res_loss (i : Fin 1) (k : Fin 128) : (broadcastInDim S1x128 ![] bcast_S_S1x128 (mulf (constant S_ .f32 0x3F000000#32) (Host.reduceAdd (Host.divf (Host.reduceAdd (mulf (res_main_v44 V) (res_main_v44 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : S1x128.Idx → EReal) (ix2 i k) = (loss A : EReal) := by
  pointwise
  simp only [v44 V A H _ _, ← EReal.coe_mul, coe_sum]
  rw [half_f32, width_f32]
  simp only [div_coe _ (show (1024 : ℝ) ≠ 0 by norm_num), coe_sum]
  rw [← EReal.coe_mul, Finset.mul_sum]
  refine congrArg _ (Finset.sum_congr rfl fun i _ => ?_)
  ring
theorem arr_loss : (broadcastInDim S1x128 ![] bcast_S_S1x128 (mulf (constant S_ .f32 0x3F000000#32) (Host.reduceAdd (Host.divf (Host.reduceAdd (mulf (res_main_v44 V) (res_main_v44 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : S1x128.Idx → EReal) = fun y => ((loss A : ℝ) : EReal) := by
  funext y
  rw [eq_ix2 y]
  exact res_loss V A H (y 0) (y 1)
theorem res_dg2 (i : Fin 1) (k : Fin 1024) : (shapeCast S1x1024 (Host.reduceAdd (mulf (res_main_v20 V) (res_main_v84 V)) (constant S_ .f32 0x00000000#32) reducesTo_S8192x1024_S1024_d0 h_S_) shapeCasts_S1024_S1x1024 : S1x1024.Idx → EReal) (ix2 i k) = (dg2 A k : EReal) := by
  pointwise
  simp only [v20 V A H _ _, v84 V A H _ _, ← EReal.coe_mul, coe_sum]
  refine congrArg _ ?_
  exact Finset.sum_congr rfl fun i _ => mul_comm _ _
theorem arr_dg2 : (shapeCast S1x1024 (Host.reduceAdd (mulf (res_main_v20 V) (res_main_v84 V)) (constant S_ .f32 0x00000000#32) reducesTo_S8192x1024_S1024_d0 h_S_) shapeCasts_S1024_S1x1024 : S1x1024.Idx → EReal) = fun y => ((dg2 A (y 1) : ℝ) : EReal) := by
  funext y
  rw [eq_ix2 y]
  exact res_dg2 V A H (y 0) (y 1)
theorem res_dgf (i : Fin 1) (k : Fin 1024) : (shapeCast S1x1024 (Host.reduceAdd (mulf (res_main_v41 V) (res_main_v58 V)) (constant S_ .f32 0x00000000#32) reducesTo_S8192x1024_S1024_d0 h_S_) shapeCasts_S1024_S1x1024 : S1x1024.Idx → EReal) (ix2 i k) = (dgf A k : EReal) := by
  pointwise
  simp only [v41 V A H _ _, v58 V A H _ _, ← EReal.coe_mul, coe_sum]
  refine congrArg _ ?_
  exact Finset.sum_congr rfl fun i _ => mul_comm _ _
theorem arr_dgf : (shapeCast S1x1024 (Host.reduceAdd (mulf (res_main_v41 V) (res_main_v58 V)) (constant S_ .f32 0x00000000#32) reducesTo_S8192x1024_S1024_d0 h_S_) shapeCasts_S1024_S1x1024 : S1x1024.Idx → EReal) = fun y => ((dgf A (y 1) : ℝ) : EReal) := by
  funext y
  rw [eq_ix2 y]
  exact res_dgf V A H (y 0) (y 1)

end Cert.Reference2Ideal.Ffn

end
-- ==== Proof.WgSum.lean ====
/- A weight's gradient sums over the tokens in four blocks: the sums of the blocks, added up one after the other, are
   the sum over all tokens. -/
module

public import Mathlib.Data.EReal.Operations
public import Mathlib.Algebra.BigOperators.Fin
public import Mathlib.Logic.Equiv.Fin.Basic

@[expose] public section

namespace Cert.Wg

open scoped BigOperators

/-- Token `x` of block `q`. -/
abbrev tok (q : ℕ) (hq : q < 4) (x : Fin 2048) : Fin 8192 := ⟨2048 * q + x.val, by omega⟩

theorem sum_tok (f : Fin 8192 → EReal) : ∑ q : Fin 4, ∑ x, f (tok q.val q.isLt x) = ∑ t, f t := by
  rw [← (finProdFinEquiv (m := 4) (n := 2048)).sum_comp f, Fintype.sum_prod_type]
  refine Finset.sum_congr rfl fun q _ => Finset.sum_congr rfl fun x _ => congrArg f (Fin.ext ?_)
  show 2048 * q.val + x.val = x.val + 2048 * q.val
  omega

/-- A running sum that starts afresh at every fourth point holds, at the last of the four, the sum over all tokens. -/
theorem fold_tok {N : ℕ} (S : (n : ℕ) → n < N → EReal) (g : ℕ → Fin 8192 → EReal)
    (hA : ∀ n h, n % 4 = 0 → S n h = ∑ x, g (n / 4) (tok (n % 4) (Nat.mod_lt _ (by decide)) x))
    (hB : ∀ n h, n % 4 ≠ 0 → S n h = S (n - 1) (by omega) + ∑ x, g (n / 4) (tok (n % 4) (Nat.mod_lt _ (by decide)) x))
    (n : ℕ) (h : n < N) (h3 : n % 4 = 3) : S n h = ∑ t, g (n / 4) t := by
  obtain ⟨p, rfl⟩ : ∃ p, n = 4 * p + 3 := ⟨n / 4, by omega⟩
  have e (j : ℕ) (hj : j < 4) : (4 * p + j) / 4 = p ∧ (4 * p + j) % 4 = j := by omega
  have s0 := hA (4 * p) (by omega) (by omega)
  have s1 := hB (4 * p + 1) (by omega) (by omega)
  have s2 := hB (4 * p + 2) (by omega) (by omega)
  have s3 := hB (4 * p + 3) h (by omega)
  have d0 : 4 * p / 4 = p ∧ 4 * p % 4 = 0 := e 0 (by decide)
  simp only [d0, (e 1 (by decide)), (e 2 (by decide)), (e 3 (by decide)), Nat.add_sub_cancel,
    show 4 * p + 2 - 1 = 4 * p + 1 from rfl, show 4 * p + 3 - 1 = 4 * p + 2 from rfl] at s0 s1 s2 s3 ⊢
  rw [s3, s2, s1, s0, ← sum_tok, Fin.sum_univ_four]
  rfl

/-- Entries at columns of one number are equal. -/
theorem col_congr {n : ℕ} {α : Type} (f : Fin n → α) {a b : ℕ} {ha : a < n} {hb : b < n} (h : a = b) : f ⟨a, ha⟩ = f ⟨b, hb⟩ := by
  subst h
  rfl

end Cert.Wg
-- ==== Proof.WgUp.lean ====
/- The gradient of the gate's and of the value's weights: what its call leaves in its array. -/
module

public import proofs.«01_k».proof.Proof.Gen.Kernel3Ideal.Value
public import proofs.«01_k».proof.Proof.Gen.Reference3Ideal.Run
public import proofs.«01_k».proof.Proof.WgSum
public import Idealize.ShloMosaic.Lib.Pointwise

@[expose] public section

set_option maxRecDepth 16384

noncomputable section

namespace Cert.Kernel3Ideal.Wg

open Cert.Kernel3Ideal Cert.Kernel3Ideal.Gen Cert.Kernel3Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

variable (m : (ℓ : Loc nD τ sig) → Buf (Elt Ideal) ℓ) (c : Dev nD)

/-! ## The blocks read -/

theorem lt16 (t : Fin cfg0.N) : t.val < 16 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  unfold iblk
  rw [View.read_apply]
  refine congrArg (m ((c : Thread nD τ).loc main_arg0)) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

theorem blk1 (t : Fin cfg0.N) (x : Fin 2048) (j : Fin 704) :
    (iblk m c 1 t : Vec Ideal S1x2048x704 .bf16) (ix3 0 x j)
      = m ((c : Thread nD τ).loc main_arg1) (ix3 ⟨t.val / 4, by have := lt16 t; omega⟩ (tok (t.val % 4) (Nat.mod_lt _ (by decide)) x) j) := by
  have hi := idx1 t
  unfold iblk
  rw [View.read_apply]
  refine congrArg (m ((c : Thread nD τ).loc main_arg1)) (funext fun a => Fin.ext ?_)
  match a with
  | ⟨0, _⟩ => show win0_1.index t 0 * 1 + 1 * 0 = t.val / 4; rw [hi.1]; omega
  | ⟨1, _⟩ => show win0_1.index t 1 * 2048 + 1 * (x : ℕ) = 2048 * (t.val % 4) + (x : ℕ); rw [hi.2.1]; omega
  | ⟨2, _⟩ => show win0_1.index t 2 * 704 + 1 * (j : ℕ) = (j : ℕ); rw [hi.2.2]; omega

/-! ## The body's values -/

theorem pay1_at (a : Vec Ideal S2048x1024 .bf16) (b : Vec Ideal S1x2048x704 .bf16) (k : Fin 1024) (j : Fin 704) :
    k0_pay1 (F := Ideal) a b (ix2 k j) = ∑ x : Fin 2048, a (ix2 x k) * b (ix3 0 x j) := by
  pointwise [k0_pay1]
theorem pay2_at (a : Vec Ideal S2048x1024 .bf16) (b : Vec Ideal S1x2048x704 .bf16) (k : Fin 1024) (j : Fin 704) :
    k0_pay2 (F := Ideal) a b (ix2 k j) = ∑ x : Fin 2048, a (ix2 x k) * b (ix3 0 x j) := by
  pointwise [k0_pay2]
  exact pay1_at a b k j
theorem pay3_at (a : Vec Ideal S2048x1024 .bf16) (b : Vec Ideal S1x2048x704 .bf16) (s : Vec Ideal S1024x704 .f32) (k : Fin 1024) (j : Fin 704) :
    k0_pay3 (F := Ideal) a b s (ix2 k j) = s (ix2 k j) + ∑ x : Fin 2048, a (ix2 x k) * b (ix3 0 x j) := by
  pointwise [k0_pay3]
  exact congrArg _ (pay1_at a b k j)
theorem pay4_at (s : Vec Ideal S1024x704 .f32) (k : Fin 1024) (j : Fin 704) : k0_pay4 (F := Ideal) s (ix3 0 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x704) hz]
  simp only [View.readAt_eq_ld, (hs0_0 t).read_unread, (hs0_1 t).read_unread, View.ld_unit_zero (S := S2048x1024) hz, View.ld_unit_zero (S := S1x2048x704) hz3]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x704) hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S1024x704) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x704) hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S1024x704) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1x1024x704) hz3, View.readCov_unit_zero (S := S1024x704) _ hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S1024x704) hz]

/-! ## The array -/

/-- One token's part of an entry of the gradient (`n` the tensor's piece). -/
def term (X : Vec Ideal S8192x1024 .bf16) (Y : Vec Ideal S4x8192x704 .bf16) (k : Fin 1024) (j : Fin 704) (n : ℕ) (t : Fin 8192) : EReal :=
  X (ix2 t k) * Y (ix3 ⟨n % 4, Nat.mod_lt _ (by decide)⟩ t j)

theorem part (X : Vec Ideal S8192x1024 .bf16) (Y : Vec Ideal S4x8192x704 .bf16) (n : ℕ) (hn : n < 16) (k : Fin 1024) (j : Fin 704)
    (a : Vec Ideal S2048x1024 .bf16) (b : Vec Ideal S1x2048x704 .bf16) (hq : n % 4 < 4)
    (ha : ∀ x, a (ix2 x k) = X (ix2 (tok (n % 4) hq x) k)) (hb : ∀ x, b (ix3 0 x j) = Y (ix3 ⟨n / 4, by omega⟩ (tok (n % 4) hq x) j)) :
    (∑ x : Fin 2048, a (ix2 x k) * b (ix3 0 x j)) = ∑ x, term X Y k j (n / 4) (tok (n % 4) hq x) := by
  refine Finset.sum_congr rfl fun x _ => ?_
  rw [ha x, hb x]
  refine congrArg (fun q => X (ix2 (tok (n % 4) hq x) k) * Y (ix3 q (tok (n % 4) hq x) j)) (Fin.ext ?_)
  show n / 4 = n / 4 % 4
  omega

theorem sum_at (n : ℕ) (h : n < cfg0.N) (h3 : n % 4 = 3) (k : Fin 1024) (j : Fin 704) :
    (outsAt0 m c n h).2 (ix2 k j) = ∑ t, term (m ((c : Thread nD τ).loc main_arg0)) (m ((c : Thread nD τ).loc main_arg1)) k j (n / 4) t := by
  refine fold_tok (fun n h => (outsAt0 m c n h).2 (ix2 k j)) _ (fun n h h0 => ?_) (fun n h h0 => ?_) n h h3
  · exact (congrFun (sumA m c ⟨n, h⟩ h0) _).trans ((pay2_at _ _ k j).trans (part _ _ n (lt16 ⟨n, h⟩) k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n (lt16 ⟨n, h⟩) k j _ _ _ (blk0 m c ⟨n, h⟩ · k) (blk1 m c ⟨n, h⟩ · j))))

theorem G_at (s : Fin 4) (k : Fin 1024) (j : Fin 704) :
    G2 m c (ix3 s k j) = ∑ t, term (m ((c : Thread nD τ).loc main_arg0)) (m ((c : Thread nD τ).loc main_arg1)) k j s.val t := by
  have hs := s.isLt
  have hk := k.isLt
  have hj := j.isLt
  have hp : pt2Of (ix3 s k j) = 4 * s.val + 3 := by
    show 4 * (1 * (s.val / 1 - 0) + 1 * (k.val / 1024 - 0) + 1 * (j.val / 704 - 0)) + 3 = _
    omega
  have hl : loc2Of (ix3 s k j) = ix3 0 k j := by
    funext a
    match a with
    | ⟨0, _⟩ => exact Fin.ext (show s.val % 1 = 0 by omega)
    | ⟨1, _⟩ => exact Fin.ext (show k.val % 1024 = k.val by omega)
    | ⟨2, _⟩ => exact Fin.ext (show j.val % 704 = j.val by omega)
  have hN : pt2Of (ix3 s k j) < cfg0.N := by rw [hp]; exact lt_of_lt_of_eq (by omega) N_0.symm
  have h3 : pt2Of (ix3 s k j) % 4 = 3 := by omega
  unfold G2
  rw [dif_pos hN, ← outsAt0_sweep m c _ hN, hl]
  refine (congrFun (outC m c ⟨_, hN⟩ (by show ¬pt2Of (ix3 s k j) % 4 = 0; omega) h3) _).trans ((pay4_at _ k j).trans ((sum_at m c _ hN h3 k j).trans ?_))
  rw [show pt2Of (ix3 s k j) / 4 = s.val by omega]

/-! ## The reference -/

/-- The gradient as one array: the token products of each entry, summed. -/
def grad (X : Vec Ideal S8192x1024 .bf16) (Y : Vec Ideal S4x8192x704 .bf16) : Vec Ideal S4x1024x704 .bf16 :=
  fun y => ∑ t, term X Y (y 1) (y 2) (y 0).val t

theorem G_eq : G2 m c = grad (m ((c : Thread nD τ).loc main_arg0)) (m ((c : Thread nD τ).loc main_arg1)) := by
  funext y
  rw [eq_ix3 y]
  exact G_at m c (y 0) (y 1) (y 2)

end Cert.Kernel3Ideal.Wg

namespace Cert.Reference3Ideal.Wg

open Cert.Reference3Ideal Cert.Reference3Ideal.Gen Cert.Reference3Ideal.Value Idealize.ShloMosaic Idealize.ShloMosaic.TcCoe
open scoped BigOperators

theorem ref_at (X : Vec Ideal S8192x1024 .bf16) (Y : Vec Ideal S4x8192x704 .bf16) (s : Fin 4) (k : Fin 1024) (j : Fin 704) :
    (truncf (F := Ideal) .bf16 (transpose S4x1024x704 [0, 2, 1] (Host.dotGeneral dot_S4x704x8192_S8192x1024_S4x704x1024_2_0_01_1_n_n none (transpose S4x704x8192 [0, 2, 1] (extf .f32 Y bitsLt_bf16_f32) transposes_S4x8192x704_S4x704x8192_0_2_1) (extf .f32 X bitsLt_bf16_f32)) transposes_S4x704x1024_S4x1024x704_0_2_1) bitsLt_bf16_f32) (ix3 s k j)
      = ∑ t : Fin 8192, Y (ix3 s t j) * X (ix2 t k) := by
  pointwise

theorem ref_eq (X : Vec Ideal S8192x1024 .bf16) (Y : Vec Ideal S4x8192x704 .bf16) :
    (truncf (F := Ideal) .bf16 (transpose S4x1024x704 [0, 2, 1] (Host.dotGeneral dot_S4x704x8192_S8192x1024_S4x704x1024_2_0_01_1_n_n none (transpose S4x704x8192 [0, 2, 1] (extf .f32 Y bitsLt_bf16_f32) transposes_S4x8192x704_S4x704x8192_0_2_1) (extf .f32 X bitsLt_bf16_f32)) transposes_S4x704x1024_S4x1024x704_0_2_1) bitsLt_bf16_f32)
      = Kernel3Ideal.Wg.grad X Y := by
  funext y
  rw [eq_ix3 y]
  refine (ref_at X Y (y 0) (y 1) (y 2)).trans (Finset.sum_congr rfl fun t _ => (mul_comm _ _).trans ?_)
  refine congrArg (fun q => X (ix2 t (y 1)) * Y (ix3 q t (y 2))) (Fin.ext ?_)
  have h : (y 0).val < 4 := (y 0).isLt
  show (y 0).val = (y 0).val % 4
  omega

end Cert.Reference3Ideal.Wg

end
-- ==== Proof.WgDown.lean ====
/- The gradient of the feed-forward network's output weights: what its call leaves in its array. -/
module

public import proofs.«01_k».proof.Proof.Gen.Kernel4Ideal.Value
public import proofs.«01_k».proof.Proof.Gen.Reference4Ideal.Run
public import proofs.«01_k».proof.Proof.WgSum
public import Idealize.ShloMosaic.Lib.Pointwise

@[expose] public section

set_option maxRecDepth 16384

noncomputable section

namespace Cert.Kernel4Ideal.Wg

open Cert.Kernel4Ideal Cert.Kernel4Ideal.Gen Cert.Kernel4Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

variable (m : (ℓ : Loc nD τ sig) → Buf (Elt Ideal) ℓ) (c : Dev nD)

/-! ## The blocks read -/

theorem lt16 (t : Fin cfg0.N) : t.val < 16 := lt_of_lt_of_eq t.isLt N_0

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem blk0 (t : Fin cfg0.N) (x : Fin 2048) (j : Fin 704) :
    (iblk m c 0 t : Vec Ideal S1x2048x704 .bf16) (ix3 0 x j)
      = m ((c : Thread nD τ).loc main_arg0) (ix3 ⟨t.val / 4, by have := lt16 t; omega⟩ (tok (t.val % 4) (Nat.mod_lt _ (by decide)) x) j) := by
  have hi := idx0 t
  unfold iblk
  rw [View.read_apply]
  refine congrArg (m ((c : Thread nD τ).loc main_arg0)) (funext fun a => Fin.ext ?_)
  match a with
  | ⟨0, _⟩ => show win0_0.index t 0 * 1 + 1 * 0 = t.val / 4; rw [hi.1]; omega
  | ⟨1, _⟩ => show win0_0.index t 1 * 2048 + 1 * (x : ℕ) = 2048 * (t.val % 4) + (x : ℕ); rw [hi.2.1]; omega
  | ⟨2, _⟩ => show win0_0.index t 2 * 704 + 1 * (j : ℕ) = (j : ℕ); rw [hi.2.2]; omega

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem blk1 (t : Fin cfg0.N) (x : Fin 2048) (k : Fin 1024) :
    (iblk m c 1 t : Vec Ideal S2048x1024 .bf16) (ix2 x k)
      = m ((c : Thread nD τ).loc main_arg1) (ix2 (tok (t.val % 4) (Nat.mod_lt _ (by decide)) x) k) := by
  have hi := idx1 t
  unfold iblk
  rw [View.read_apply]
  refine congrArg (m ((c : Thread nD τ).loc main_arg1)) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 1024 + 1 * (k : ℕ) = (k : ℕ); rw [hi.2]; omega

/-! ## The body's values -/

theorem pay1_at (a : Vec Ideal S1x2048x704 .bf16) (b : Vec Ideal S2048x1024 .bf16) (j : Fin 704) (k : Fin 1024) :
    k0_pay1 (F := Ideal) a b (ix2 j k) = ∑ x : Fin 2048, a (ix3 0 x j) * b (ix2 x k) := by
  pointwise [k0_pay1]
theorem pay2_at (a : Vec Ideal S1x2048x704 .bf16) (b : Vec Ideal S2048x1024 .bf16) (j : Fin 704) (k : Fin 1024) :
    k0_pay2 (F := Ideal) a b (ix2 j k) = ∑ x : Fin 2048, a (ix3 0 x j) * b (ix2 x k) := by
  pointwise [k0_pay2]
  exact pay1_at a b j k
theorem pay3_at (a : Vec Ideal S1x2048x704 .bf16) (b : Vec Ideal S2048x1024 .bf16) (s : Vec Ideal S704x1024 .f32) (j : Fin 704) (k : Fin 1024) :
    k0_pay3 (F := Ideal) a b s (ix2 j k) = s (ix2 j k) + ∑ x : Fin 2048, a (ix3 0 x j) * b (ix2 x k) := by
  pointwise [k0_pay3]
  exact congrArg _ (pay1_at a b j k)
theorem pay4_at (s : Vec Ideal S704x1024 .f32) (j : Fin 704) (k : Fin 1024) : k0_pay4 (F := Ideal) s (ix3 0 j k) = s (ix2 j k) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S704x1024) hz]
  simp only [View.readAt_eq_ld, (hs0_0 t).read_unread, (hs0_1 t).read_unread, View.ld_unit_zero (S := S2048x1024) hz, View.ld_unit_zero (S := S1x2048x704) hz3]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S704x1024) hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S704x1024) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S704x1024) hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S704x1024) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1x704x1024) hz3, View.readCov_unit_zero (S := S704x1024) _ hz]
  simp only [View.readAt_eq_ld, (hs0_0 t).read_unread, (hs0_1 t).read_unread, (Memref.isWhole_whole _).read_unread, View.ld_unit_zero (S := S2048x1024) hz, View.ld_unit_zero (S := S1x2048x704) hz3, View.ld_unit_zero (S := S704x1024) hz]

/-! ## The array -/

/-- One token's part of an entry of the gradient (`n` the tensor's piece). -/
def term (X : Vec Ideal S4x8192x704 .bf16) (Y : Vec Ideal S8192x1024 .bf16) (j : Fin 704) (k : Fin 1024) (n : ℕ) (t : Fin 8192) : EReal :=
  X (ix3 ⟨n % 4, Nat.mod_lt _ (by decide)⟩ t j) * Y (ix2 t k)

theorem part (X : Vec Ideal S4x8192x704 .bf16) (Y : Vec Ideal S8192x1024 .bf16) (n : ℕ) (hn : n < 16) (j : Fin 704) (k : Fin 1024)
    (a : Vec Ideal S1x2048x704 .bf16) (b : Vec Ideal S2048x1024 .bf16) (hq : n % 4 < 4)
    (ha : ∀ x, a (ix3 0 x j) = X (ix3 ⟨n / 4, by omega⟩ (tok (n % 4) hq x) j)) (hb : ∀ x, b (ix2 x k) = Y (ix2 (tok (n % 4) hq x) k)) :
    (∑ x : Fin 2048, a (ix3 0 x j) * b (ix2 x k)) = ∑ x, term X Y j k (n / 4) (tok (n % 4) hq x) := by
  refine Finset.sum_congr rfl fun x _ => ?_
  rw [ha x, hb x]
  refine congrArg (fun q => X (ix3 q (tok (n % 4) hq x) j) * Y (ix2 (tok (n % 4) hq x) k)) (Fin.ext ?_)
  show n / 4 = n / 4 % 4
  omega

theorem sum_at (n : ℕ) (h : n < cfg0.N) (h3 : n % 4 = 3) (j : Fin 704) (k : Fin 1024) :
    (outsAt0 m c n h).2 (ix2 j k) = ∑ t, term (m ((c : Thread nD τ).loc main_arg0)) (m ((c : Thread nD τ).loc main_arg1)) j k (n / 4) t := by
  refine fold_tok (fun n h => (outsAt0 m c n h).2 (ix2 j k)) _ (fun n h h0 => ?_) (fun n h h0 => ?_) n h h3
  · exact (congrFun (sumA m c ⟨n, h⟩ h0) _).trans ((pay2_at _ _ j k).trans (part _ _ n (lt16 ⟨n, h⟩) j k _ _ _ (blk0 m c ⟨n, h⟩ · j) (blk1 m c ⟨n, h⟩ · k)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ j k).trans (congrArg _ (part _ _ n (lt16 ⟨n, h⟩) j k _ _ _ (blk0 m c ⟨n, h⟩ · j) (blk1 m c ⟨n, h⟩ · k))))

theorem G_at (s : Fin 4) (j : Fin 704) (k : Fin 1024) :
    G2 m c (ix3 s j k) = ∑ t, term (m ((c : Thread nD τ).loc main_arg0)) (m ((c : Thread nD τ).loc main_arg1)) j k s.val t := by
  have hs := s.isLt
  have hk := k.isLt
  have hj := j.isLt
  have hp : pt2Of (ix3 s j k) = 4 * s.val + 3 := by
    show 4 * (1 * (s.val / 1 - 0) + 1 * (j.val / 704 - 0) + 1 * (k.val / 1024 - 0)) + 3 = _
    omega
  have hl : loc2Of (ix3 s j k) = ix3 0 j k := by
    funext a
    match a with
    | ⟨0, _⟩ => exact Fin.ext (show s.val % 1 = 0 by omega)
    | ⟨1, _⟩ => exact Fin.ext (show j.val % 704 = j.val by omega)
    | ⟨2, _⟩ => exact Fin.ext (show k.val % 1024 = k.val by omega)
  have hN : pt2Of (ix3 s j k) < cfg0.N := by rw [hp]; exact lt_of_lt_of_eq (by omega) N_0.symm
  have h3 : pt2Of (ix3 s j k) % 4 = 3 := by omega
  unfold G2
  rw [dif_pos hN, ← outsAt0_sweep m c _ hN, hl]
  refine (congrFun (outC m c ⟨_, hN⟩ (by show ¬pt2Of (ix3 s j k) % 4 = 0; omega) h3) _).trans ((pay4_at _ j k).trans ((sum_at m c _ hN h3 j k).trans ?_))
  rw [show pt2Of (ix3 s j k) / 4 = s.val by omega]

/-! ## The reference -/

/-- The gradient as one array: the token products of each entry, summed. -/
def grad (X : Vec Ideal S4x8192x704 .bf16) (Y : Vec Ideal S8192x1024 .bf16) : Vec Ideal S4x704x1024 .bf16 :=
  fun y => ∑ t, term X Y (y 1) (y 2) (y 0).val t

theorem G_eq : G2 m c = grad (m ((c : Thread nD τ).loc main_arg0)) (m ((c : Thread nD τ).loc main_arg1)) := by
  funext y
  rw [eq_ix3 y]
  exact G_at m c (y 0) (y 1) (y 2)

end Cert.Kernel4Ideal.Wg

namespace Cert.Reference4Ideal.Wg

open Cert.Reference4Ideal Cert.Reference4Ideal.Gen Cert.Reference4Ideal.Value Idealize.ShloMosaic Idealize.ShloMosaic.TcCoe
open scoped BigOperators

theorem ref_at (X : Vec Ideal S4x8192x704 .bf16) (Y : Vec Ideal S8192x1024 .bf16) (s : Fin 4) (j : Fin 704) (k : Fin 1024) :
    (truncf (F := Ideal) .bf16 (transpose S4x704x1024 [1, 2, 0] (Host.dotGeneral dot_S8192x1024_S4x8192x704_S1024x4x704_0_1_1_02_n_n none (extf .f32 Y bitsLt_bf16_f32) (extf .f32 X bitsLt_bf16_f32)) transposes_S1024x4x704_S4x704x1024_1_2_0) bitsLt_bf16_f32) (ix3 s j k)
      = ∑ t : Fin 8192, Y (ix2 t k) * X (ix3 s t j) := by
  pointwise

theorem ref_eq (X : Vec Ideal S4x8192x704 .bf16) (Y : Vec Ideal S8192x1024 .bf16) :
    (truncf (F := Ideal) .bf16 (transpose S4x704x1024 [1, 2, 0] (Host.dotGeneral dot_S8192x1024_S4x8192x704_S1024x4x704_0_1_1_02_n_n none (extf .f32 Y bitsLt_bf16_f32) (extf .f32 X bitsLt_bf16_f32)) transposes_S1024x4x704_S4x704x1024_1_2_0) bitsLt_bf16_f32)
      = Kernel4Ideal.Wg.grad X Y := by
  funext y
  rw [eq_ix3 y]
  refine (ref_at X Y (y 0) (y 1) (y 2)).trans (Finset.sum_congr rfl fun t _ => (mul_comm _ _).trans ?_)
  refine congrArg (fun q => X (ix3 q t (y 1)) * Y (ix2 t (y 2))) (Fin.ext ?_)
  have h : (y 0).val < 4 := (y 0).isLt
  show (y 0).val = (y 0).val % 4
  omega

end Cert.Reference4Ideal.Wg

end
-- ==== Proof.WgOut.lean ====
/- The gradient of the merge's output weights: what its call leaves in its array. -/
module

public import proofs.«01_k».proof.Proof.Gen.Kernel5Ideal.Value
public import proofs.«01_k».proof.Proof.Gen.Reference5Ideal.Run
public import proofs.«01_k».proof.Proof.WgSum
public import Idealize.ShloMosaic.Lib.Pointwise

@[expose] public section

set_option maxRecDepth 16384

noncomputable section

namespace Cert.Kernel5Ideal.Wg

open Cert.Kernel5Ideal Cert.Kernel5Ideal.Gen Cert.Kernel5Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt4 (t : Fin cfg0.N) : t.val < 4 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  unfold iblk
  rw [View.read_apply]
  refine congrArg (m ((c : Thread nD τ).loc main_arg0)) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem blk1 (t : Fin cfg0.N) (x : Fin 2048) (j : Fin 1024) :
    (iblk m c 1 t : Vec Ideal S2048x1024 .bf16) (ix2 x j)
      = m ((c : Thread nD τ).loc main_arg1) (ix2 (tok (t.val % 4) (Nat.mod_lt _ (by decide)) x) j) := by
  have hi := idx1 t
  unfold iblk
  rw [View.read_apply]
  refine congrArg (m ((c : Thread nD τ).loc main_arg1)) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 1024 + 1 * (j : ℕ) = (j : ℕ); rw [hi.2]; omega

/-! ## The body's values -/

theorem pay1_at (a : Vec Ideal S2048x1024 .bf16) (b : Vec Ideal S2048x1024 .bf16) (k : Fin 1024) (j : Fin 1024) :
    k0_pay1 (F := Ideal) a b (ix2 k j) = ∑ x : Fin 2048, a (ix2 x k) * b (ix2 x j) := by
  pointwise [k0_pay1]
theorem pay2_at (a : Vec Ideal S2048x1024 .bf16) (b : Vec Ideal S2048x1024 .bf16) (k : Fin 1024) (j : Fin 1024) :
    k0_pay2 (F := Ideal) a b (ix2 k j) = ∑ x : Fin 2048, a (ix2 x k) * b (ix2 x j) := by
  pointwise [k0_pay2]
  exact pay1_at a b k j
theorem pay3_at (a : Vec Ideal S2048x1024 .bf16) (b : Vec Ideal S2048x1024 .bf16) (s : Vec Ideal S1024x1024 .f32) (k : Fin 1024) (j : Fin 1024) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S1024x1024 .f32) (k : Fin 1024) (j : Fin 1024) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by have := lt4 t; omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x1024) hz]
  simp only [View.readAt_eq_ld, (hs0_0 t).read_unread, (hs0_1 t).read_unread, View.ld_unit_zero (S := S2048x1024) hz, View.ld_unit_zero (S := S2048x1024) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x1024) hz]
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x1024) hz]
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1024x1024) hz, View.readCov_unit_zero (S := S1024x1024) _ hz]
  simp only [View.readAt_eq_ld, (hs0_0 t).read_unread, (hs0_1 t).read_unread, (Memref.isWhole_whole _).read_unread, View.ld_unit_zero (S := S2048x1024) hz, View.ld_unit_zero (S := S2048x1024) hz, View.ld_unit_zero (S := S1024x1024) hz]

/-! ## The array -/

/-- One token's part of an entry of the gradient. -/
def term (X : Vec Ideal S8192x1024 .bf16) (Y : Vec Ideal S8192x1024 .bf16) (k : Fin 1024) (j : Fin 1024) (t : Fin 8192) : EReal :=
  X (ix2 t k) * Y (ix2 t j)

theorem part (X : Vec Ideal S8192x1024 .bf16) (Y : Vec Ideal S8192x1024 .bf16) (n : ℕ) (k : Fin 1024) (j : Fin 1024)
    (a : Vec Ideal S2048x1024 .bf16) (b : Vec Ideal S2048x1024 .bf16) (hq : n % 4 < 4)
    (ha : ∀ x, a (ix2 x k) = X (ix2 (tok (n % 4) hq x) k)) (hb : ∀ x, b (ix2 x j) = Y (ix2 (tok (n % 4) hq x) j)) :
    (∑ x : Fin 2048, a (ix2 x k) * b (ix2 x j)) = ∑ x, term X Y k j (tok (n % 4) hq x) :=
  Finset.sum_congr rfl fun x _ => by rw [ha x, hb x]; rfl

theorem sum_at (n : ℕ) (h : n < cfg0.N) (h3 : n % 4 = 3) (k : Fin 1024) (j : Fin 1024) :
    (outsAt0 m c n h).2 (ix2 k j) = ∑ t, term (m ((c : Thread nD τ).loc main_arg0)) (m ((c : Thread nD τ).loc main_arg1)) k j t := by
  refine fold_tok (fun n h => (outsAt0 m c n h).2 (ix2 k j)) (fun _ => term (m ((c : Thread nD τ).loc main_arg0)) (m ((c : Thread nD τ).loc main_arg1)) k j) (fun n h h0 => ?_) (fun n h h0 => ?_) n h h3
  · exact (congrFun (sumA m c ⟨n, h⟩ h0) _).trans ((pay2_at _ _ k j).trans (part _ _ n k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n k j _ _ _ (blk0 m c ⟨n, h⟩ · k) (blk1 m c ⟨n, h⟩ · j))))

theorem G_at (k : Fin 1024) (j : Fin 1024) :
    G2 m c (ix2 k j) = ∑ t, term (m ((c : Thread nD τ).loc main_arg0)) (m ((c : Thread nD τ).loc main_arg1)) k j t := by
  have hk := k.isLt
  have hj := j.isLt
  have hp : pt2Of (ix2 k j) = 3 := by
    show 4 * (1 * (k.val / 1024 - 0) + 1 * (j.val / 1024 - 0)) + 3 = _
    omega
  have hl : loc2Of (ix2 k j) = ix2 k j := by
    funext a
    match a with
    | ⟨0, _⟩ => exact Fin.ext (show k.val % 1024 = k.val by omega)
    | ⟨1, _⟩ => exact Fin.ext (show j.val % 1024 = j.val by omega)
  have hN : pt2Of (ix2 k j) < cfg0.N := by rw [hp]; exact lt_of_lt_of_eq (by omega) N_0.symm
  have h3 : pt2Of (ix2 k j) % 4 = 3 := by omega
  unfold G2
  rw [dif_pos hN, ← outsAt0_sweep m c _ hN, hl]
  refine (congrFun (outC m c ⟨_, hN⟩ (by show ¬pt2Of (ix2 k j) % 4 = 0; omega) h3) _).trans ((pay4_at _ k j).trans (sum_at m c _ hN h3 k j))

/-! ## The reference -/

/-- The gradient as one array: the token products of each entry, summed. -/
def grad (X : Vec Ideal S8192x1024 .bf16) (Y : Vec Ideal S8192x1024 .bf16) : Vec Ideal S1024x1024 .bf16 :=
  fun y => ∑ t, term X Y (y 0) (y 1) t

theorem G_eq : G2 m c = grad (m ((c : Thread nD τ).loc main_arg0)) (m ((c : Thread nD τ).loc main_arg1)) := by
  funext y
  rw [eq_ix2 y]
  exact G_at m c (y 0) (y 1)

end Cert.Kernel5Ideal.Wg

namespace Cert.Reference5Ideal.Wg

open Cert.Reference5Ideal Cert.Reference5Ideal.Gen Cert.Reference5Ideal.Value Idealize.ShloMosaic Idealize.ShloMosaic.TcCoe
open scoped BigOperators

theorem ref_at (X : Vec Ideal S8192x1024 .bf16) (Y : Vec Ideal S8192x1024 .bf16) (k : Fin 1024) (j : Fin 1024) :
    (truncf (F := Ideal) .bf16 (transpose S1024x1024 [1, 0] (Host.dotGeneral dot_S8192x1024_S8192x1024_S1024x1024_0_0_1_1_n_n none (extf .f32 Y bitsLt_bf16_f32) (extf .f32 X bitsLt_bf16_f32)) transposes_S1024x1024_S1024x1024_1_0) bitsLt_bf16_f32) (ix2 k j)
      = ∑ t : Fin 8192, Y (ix2 t j) * X (ix2 t k) := by
  pointwise

theorem ref_eq (X : Vec Ideal S8192x1024 .bf16) (Y : Vec Ideal S8192x1024 .bf16) :
    (truncf (F := Ideal) .bf16 (transpose S1024x1024 [1, 0] (Host.dotGeneral dot_S8192x1024_S8192x1024_S1024x1024_0_0_1_1_n_n none (extf .f32 Y bitsLt_bf16_f32) (extf .f32 X bitsLt_bf16_f32)) transposes_S1024x1024_S1024x1024_1_0) bitsLt_bf16_f32)
      = Kernel5Ideal.Wg.grad X Y := by
  funext y
  rw [eq_ix2 y]
  exact (ref_at X Y (y 0) (y 1)).trans (Finset.sum_congr rfl fun t _ => mul_comm _ _)

end Cert.Reference5Ideal.Wg

end
-- ==== Proof.WgProj.lean ====
/- The gradient of the weights of the two projections into the merge: what its call leaves in its array. -/
module

public import proofs.«01_k».proof.Proof.Gen.Kernel6Ideal.Value
public import proofs.«01_k».proof.Proof.Gen.Reference6Ideal.Run
public import proofs.«01_k».proof.Proof.WgSum
public import Idealize.ShloMosaic.Lib.Pointwise

@[expose] public section

set_option maxRecDepth 16384

noncomputable section

namespace Cert.Kernel6Ideal.Wg

open Cert.Kernel6Ideal Cert.Kernel6Ideal.Gen Cert.Kernel6Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt4 (t : Fin cfg0.N) : t.val < 4 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 512) :
    (iblk m c 0 t : Vec Ideal S2048x512 .bf16) (ix2 x k)
      = m ((c : Thread nD τ).loc main_arg0) (ix2 (tok (t.val % 4) (Nat.mod_lt _ (by decide)) x) k) := by
  have hi := idx0 t
  unfold iblk
  rw [View.read_apply]
  refine congrArg (m ((c : Thread nD τ).loc main_arg0)) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 512 + 1 * (k : ℕ) = (k : ℕ); rw [hi.2]; omega

theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem blk1 (t : Fin cfg0.N) (x : Fin 2048) (j : Fin 1024) :
    (iblk m c 1 t : Vec Ideal S2048x1024 .bf16) (ix2 x j)
      = m ((c : Thread nD τ).loc main_arg1) (ix2 (tok (t.val % 4) (Nat.mod_lt _ (by decide)) x) j) := by
  have hi := idx1 t
  unfold iblk
  rw [View.read_apply]
  refine congrArg (m ((c : Thread nD τ).loc main_arg1)) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 1024 + 1 * (j : ℕ) = (j : ℕ); rw [hi.2]; omega

/-! ## The body's values -/

theorem pay1_at (a : Vec Ideal S2048x512 .bf16) (b : Vec Ideal S2048x1024 .bf16) (k : Fin 512) (j : Fin 1024) :
    k0_pay1 (F := Ideal) a b (ix2 k j) = ∑ x : Fin 2048, a (ix2 x k) * b (ix2 x j) := by
  pointwise [k0_pay1]
theorem pay2_at (a : Vec Ideal S2048x512 .bf16) (b : Vec Ideal S2048x1024 .bf16) (k : Fin 512) (j : Fin 1024) :
    k0_pay2 (F := Ideal) a b (ix2 k j) = ∑ x : Fin 2048, a (ix2 x k) * b (ix2 x j) := by
  pointwise [k0_pay2]
  exact pay1_at a b k j
theorem pay3_at (a : Vec Ideal S2048x512 .bf16) (b : Vec Ideal S2048x1024 .bf16) (s : Vec Ideal S512x1024 .f32) (k : Fin 512) (j : Fin 1024) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S512x1024 .f32) (k : Fin 512) (j : Fin 1024) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by have := lt4 t; omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S512x1024) hz]
  simp only [View.readAt_eq_ld, (hs0_0 t).read_unread, (hs0_1 t).read_unread, View.ld_unit_zero (S := S2048x512) hz, View.ld_unit_zero (S := S2048x1024) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S512x1024) hz]
  simp only [View.readAt_eq_ld, (hs0_0 t).read_unread, (hs0_1 t).read_unread, (Memref.isWhole_whole _).read_unread, View.ld_unit_zero (S := S2048x512) hz, View.ld_unit_zero (S := S2048x1024) hz, View.ld_unit_zero (S := S512x1024) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S512x1024) hz]
  simp only [View.readAt_eq_ld, (hs0_0 t).read_unread, (hs0_1 t).read_unread, (Memref.isWhole_whole _).read_unread, View.ld_unit_zero (S := S2048x512) hz, View.ld_unit_zero (S := S2048x1024) hz, View.ld_unit_zero (S := S512x1024) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S512x1024) hz, View.readCov_unit_zero (S := S512x1024) _ hz]
  simp only [View.readAt_eq_ld, (hs0_0 t).read_unread, (hs0_1 t).read_unread, (Memref.isWhole_whole _).read_unread, View.ld_unit_zero (S := S2048x512) hz, View.ld_unit_zero (S := S2048x1024) hz, View.ld_unit_zero (S := S512x1024) hz]

/-! ## The array -/

/-- One token's part of an entry of the gradient. -/
def term (X : Vec Ideal S8192x512 .bf16) (Y : Vec Ideal S8192x1024 .bf16) (k : Fin 512) (j : Fin 1024) (t : Fin 8192) : EReal :=
  X (ix2 t k) * Y (ix2 t j)

theorem part (X : Vec Ideal S8192x512 .bf16) (Y : Vec Ideal S8192x1024 .bf16) (n : ℕ) (k : Fin 512) (j : Fin 1024)
    (a : Vec Ideal S2048x512 .bf16) (b : Vec Ideal S2048x1024 .bf16) (hq : n % 4 < 4)
    (ha : ∀ x, a (ix2 x k) = X (ix2 (tok (n % 4) hq x) k)) (hb : ∀ x, b (ix2 x j) = Y (ix2 (tok (n % 4) hq x) j)) :
    (∑ x : Fin 2048, a (ix2 x k) * b (ix2 x j)) = ∑ x, term X Y k j (tok (n % 4) hq x) :=
  Finset.sum_congr rfl fun x _ => by rw [ha x, hb x]; rfl

theorem sum_at (n : ℕ) (h : n < cfg0.N) (h3 : n % 4 = 3) (k : Fin 512) (j : Fin 1024) :
    (outsAt0 m c n h).2 (ix2 k j) = ∑ t, term (m ((c : Thread nD τ).loc main_arg0)) (m ((c : Thread nD τ).loc main_arg1)) k j t := by
  refine fold_tok (fun n h => (outsAt0 m c n h).2 (ix2 k j)) (fun _ => term (m ((c : Thread nD τ).loc main_arg0)) (m ((c : Thread nD τ).loc main_arg1)) k j) (fun n h h0 => ?_) (fun n h h0 => ?_) n h h3
  · exact (congrFun (sumA m c ⟨n, h⟩ h0) _).trans ((pay2_at _ _ k j).trans (part _ _ n k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n k j _ _ _ (blk0 m c ⟨n, h⟩ · k) (blk1 m c ⟨n, h⟩ · j))))

theorem G_at (k : Fin 512) (j : Fin 1024) :
    G2 m c (ix2 k j) = ∑ t, term (m ((c : Thread nD τ).loc main_arg0)) (m ((c : Thread nD τ).loc main_arg1)) k j t := by
  have hk := k.isLt
  have hj := j.isLt
  have hp : pt2Of (ix2 k j) = 3 := by
    show 4 * (1 * (k.val / 512 - 0) + 1 * (j.val / 1024 - 0)) + 3 = _
    omega
  have hl : loc2Of (ix2 k j) = ix2 k j := by
    funext a
    match a with
    | ⟨0, _⟩ => exact Fin.ext (show k.val % 512 = k.val by omega)
    | ⟨1, _⟩ => exact Fin.ext (show j.val % 1024 = j.val by omega)
  have hN : pt2Of (ix2 k j) < cfg0.N := by rw [hp]; exact lt_of_lt_of_eq (by omega) N_0.symm
  have h3 : pt2Of (ix2 k j) % 4 = 3 := by omega
  unfold G2
  rw [dif_pos hN, ← outsAt0_sweep m c _ hN, hl]
  refine (congrFun (outC m c ⟨_, hN⟩ (by show ¬pt2Of (ix2 k j) % 4 = 0; omega) h3) _).trans ((pay4_at _ k j).trans (sum_at m c _ hN h3 k j))

/-! ## The reference -/

/-- The gradient as one array: the token products of each entry, summed. -/
def grad (X : Vec Ideal S8192x512 .bf16) (Y : Vec Ideal S8192x1024 .bf16) : Vec Ideal S512x1024 .bf16 :=
  fun y => ∑ t, term X Y (y 0) (y 1) t

theorem G_eq : G2 m c = grad (m ((c : Thread nD τ).loc main_arg0)) (m ((c : Thread nD τ).loc main_arg1)) := by
  funext y
  rw [eq_ix2 y]
  exact G_at m c (y 0) (y 1)

end Cert.Kernel6Ideal.Wg

namespace Cert.Reference6Ideal.Wg

open Cert.Reference6Ideal Cert.Reference6Ideal.Gen Cert.Reference6Ideal.Value Idealize.ShloMosaic Idealize.ShloMosaic.TcCoe
open scoped BigOperators

theorem ref_at (X : Vec Ideal S8192x512 .bf16) (Y : Vec Ideal S8192x1024 .bf16) (k : Fin 512) (j : Fin 1024) :
    (truncf (F := Ideal) .bf16 (transpose S512x1024 [1, 0] (Host.dotGeneral dot_S8192x1024_S8192x512_S1024x512_0_0_1_1_n_n none (extf .f32 Y bitsLt_bf16_f32) (extf .f32 X bitsLt_bf16_f32)) transposes_S1024x512_S512x1024_1_0) bitsLt_bf16_f32) (ix2 k j)
      = ∑ t : Fin 8192, Y (ix2 t j) * X (ix2 t k) := by
  pointwise

theorem ref_eq (X : Vec Ideal S8192x512 .bf16) (Y : Vec Ideal S8192x1024 .bf16) :
    (truncf (F := Ideal) .bf16 (transpose S512x1024 [1, 0] (Host.dotGeneral dot_S8192x1024_S8192x512_S1024x512_0_0_1_1_n_n none (extf .f32 Y bitsLt_bf16_f32) (extf .f32 X bitsLt_bf16_f32)) transposes_S1024x512_S512x1024_1_0) bitsLt_bf16_f32)
      = Kernel6Ideal.Wg.grad X Y := by
  funext y
  rw [eq_ix2 y]
  exact (ref_at X Y (y 0) (y 1)).trans (Finset.sum_congr rfl fun t _ => mul_comm _ _)

end Cert.Reference6Ideal.Wg

end
-- ==== Proof.WgGu.lean ====
/- The input projection's weights, columns of the spatial gating unit's two halves: what the call leaves in its array. -/
module

public import proofs.«01_k».proof.Proof.Gen.Kernel8Ideal.Frame
public import proofs.«01_k».proof.Proof.Gen.Reference8Ideal.Run
public import proofs.«01_k».proof.Proof.WgSum
public import Idealize.ShloMosaic.Lib.Pointwise

@[expose] public section

set_option maxRecDepth 16384

noncomputable section

namespace Cert.Kernel8Ideal.Wg

open Cert.Kernel8Ideal Cert.Kernel8Ideal.Gen Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt8 (t : Fin cfg0.N) : t.val < 8 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  rw [← V_main_arg0 m c]
  unfold iblk
  rw [View.read_apply]
  refine congrArg (V m c main_arg0) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem blk1 (t : Fin cfg0.N) (x : Fin 2048) (j : Fin 1536) :
    (iblk m c 1 t : Vec Ideal S2048x1536 .bf16) (ix2 x j)
      = m ((c : Thread nD τ).loc main_arg1) (ix2 (tok (t.val % 4) (Nat.mod_lt _ (by decide)) x) ⟨1536 * (t.val / 4) + j.val, by have := lt8 t; omega⟩) := by
  have hi := idx1 t
  rw [← V_main_arg1 m c]
  unfold iblk
  rw [View.read_apply]
  refine congrArg (V m c main_arg1) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 1536 + 1 * (j : ℕ) = 1536 * (t.val / 4) + (j : ℕ); rw [hi.2]; omega

/-! ## The body's values -/

theorem pay1_at (a : Vec Ideal S2048x1024 .bf16) (b : Vec Ideal S2048x1536 .bf16) (k : Fin 1024) (j : Fin 1536) :
    k0_pay1 (F := Ideal) a b (ix2 k j) = ∑ x : Fin 2048, a (ix2 x k) * b (ix2 x j) := by
  pointwise [k0_pay1]
theorem pay2_at (a : Vec Ideal S2048x1024 .bf16) (b : Vec Ideal S2048x1536 .bf16) (k : Fin 1024) (j : Fin 1536) :
    k0_pay2 (F := Ideal) a b (ix2 k j) = ∑ x : Fin 2048, a (ix2 x k) * b (ix2 x j) := by
  pointwise [k0_pay2]
  exact pay1_at a b k j
theorem pay3_at (a : Vec Ideal S2048x1024 .bf16) (b : Vec Ideal S2048x1536 .bf16) (s : Vec Ideal S1024x1536 .f32) (k : Fin 1024) (j : Fin 1536) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S1024x1536 .f32) (k : Fin 1024) (j : Fin 1536) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x1536) hz]
  simp only [View.readAt_eq_ld, (hs0_0 t).read_unread, (hs0_1 t).read_unread, View.ld_unit_zero (S := S2048x1024) hz, View.ld_unit_zero (S := S2048x1536) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x1536) hz]
  simp only [View.readAt_eq_ld, (hs0_0 t).read_unread, (hs0_1 t).read_unread, (Memref.isWhole_whole _).read_unread, View.ld_unit_zero (S := S2048x1024) hz, View.ld_unit_zero (S := S2048x1536) hz, View.ld_unit_zero (S := S1024x1536) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x1536) hz]
  simp only [View.readAt_eq_ld, (hs0_0 t).read_unread, (hs0_1 t).read_unread, (Memref.isWhole_whole _).read_unread, View.ld_unit_zero (S := S2048x1024) hz, View.ld_unit_zero (S := S2048x1536) hz, View.ld_unit_zero (S := S1024x1536) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1024x1536) hz, View.readCov_unit_zero (S := S1024x1536) _ hz]
  simp only [View.readAt_eq_ld, (hs0_0 t).read_unread, (hs0_1 t).read_unread, (Memref.isWhole_whole _).read_unread, View.ld_unit_zero (S := S2048x1024) hz, View.ld_unit_zero (S := S2048x1536) hz, View.ld_unit_zero (S := S1024x1536) hz]

/-! ## The array -/

theorem slice_at (A : Vec Ideal S1024x7680 .bf16) (k : Fin 1024) (q : Fin 3072) :
    extractStridedSlice S1024x3072 ![0, 4608] A slices_S1024x7680_S1024x3072_0_4608 (ix2 k q) = A (ix2 k ⟨4608 + q.val, by omega⟩) := by
  pointwise

/-- One token's part of an entry of the gradient (`n` the half of the columns). -/
def term (X : Vec Ideal S8192x1024 .bf16) (Y : Vec Ideal S8192x3072 .bf16) (k : Fin 1024) (j : Fin 1536) (n : ℕ) (t : Fin 8192) : EReal :=
  X (ix2 t k) * Y (ix2 t ⟨1536 * (n % 2) + j.val, by omega⟩)

theorem term_eq (X : Vec Ideal S8192x1024 .bf16) (Y : Vec Ideal S8192x3072 .bf16) (k : Fin 1024) (j : Fin 1536) (n : ℕ) (hn : n < 2) (t : Fin 8192)
    (k' : Fin 1024) (hk : k'.val = k.val) (q : Fin 3072) (hq : q.val = 1536 * n + j.val) : term X Y k j n t = X (ix2 t k') * Y (ix2 t q) := by
  obtain rfl : k' = k := Fin.ext hk
  refine congrArg (fun r => X (ix2 t k') * Y (ix2 t r)) (Fin.ext ?_)
  rw [hq]
  show 1536 * (n % 2) + j.val = 1536 * n + j.val
  omega

theorem part (X : Vec Ideal S8192x1024 .bf16) (Y : Vec Ideal S8192x3072 .bf16) (n : ℕ) (hn : n < 8) (k : Fin 1024) (j : Fin 1536)
    (a : Vec Ideal S2048x1024 .bf16) (b : Vec Ideal S2048x1536 .bf16) (hq : n % 4 < 4)
    (ha : ∀ x, a (ix2 x k) = X (ix2 (tok (n % 4) hq x) k)) (hb : ∀ x, b (ix2 x j) = Y (ix2 (tok (n % 4) hq x) ⟨1536 * (n / 4) + j.val, by omega⟩)) :
    (∑ x : Fin 2048, a (ix2 x k) * b (ix2 x j)) = ∑ x, term X Y k j (n / 4) (tok (n % 4) hq x) := by
  refine Finset.sum_congr rfl fun x _ => ?_
  rw [ha x, hb x]
  refine congrArg (fun q => X (ix2 (tok (n % 4) hq x) k) * Y (ix2 (tok (n % 4) hq x) q)) (Fin.ext ?_)
  show 1536 * (n / 4) + j.val = 1536 * (n / 4 % 2) + j.val
  omega

theorem sum_at (n : ℕ) (h : n < cfg0.N) (h3 : n % 4 = 3) (k : Fin 1024) (j : Fin 1536) :
    (outsAt0 m c n h).2 (ix2 k j) = ∑ t, term (m ((c : Thread nD τ).loc main_arg0)) (m ((c : Thread nD τ).loc main_arg1)) k j (n / 4) t := by
  refine fold_tok (fun n h => (outsAt0 m c n h).2 (ix2 k j)) _ (fun n h h0 => ?_) (fun n h h0 => ?_) n h h3
  · exact (congrFun (sumA m c ⟨n, h⟩ h0) _).trans ((pay2_at _ _ k j).trans (part _ _ n (lt8 ⟨n, h⟩) k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n (lt8 ⟨n, h⟩) k j _ _ _ (blk0 m c ⟨n, h⟩ · k) (blk1 m c ⟨n, h⟩ · j))))

/-- The gradient of the two halves' columns. -/
def grad (X : Vec Ideal S8192x1024 .bf16) (Y : Vec Ideal S8192x3072 .bf16) : Vec Ideal S1024x3072 .bf16 :=
  fun y => ∑ t, X (ix2 t (y 0)) * Y (ix2 t (y 1))

/-- The array the call ends with: the gradient in the two halves' columns, what was there elsewhere. -/
def full (X : Vec Ideal S8192x1024 .bf16) (Y : Vec Ideal S8192x3072 .bf16) (Z : Vec Ideal S1024x7680 .bf16) : Vec Ideal S1024x7680 .bf16 :=
  fun y => if h : 4608 ≤ (y 1).val then grad X Y (ix2 (y 0) ⟨(y 1).val - 4608, by have : (y 1).val < 7680 := (y 1).isLt; omega⟩) else Z y

theorem idx2 : ∀ t : Fin cfg0.N, win0_2.index t 0 = 0 ∧ win0_2.index t 1 = 3 + t.val / 4 :=
  (by decide +kernel : ∀ t : Fin grid0.N, win0_2.index t 0 = 0 ∧ win0_2.index t 1 = 3 + t.val / 4)

theorem flushed_eq (Z : Vec Ideal S1024x7680 .bf16) (t : Fin cfg0.N) (hf : (cfg0.win 2).flush t = true) :
    (dats m 0 c).flushed 2 t = ((cfg0.win 2).blk t).view.read (Elt Ideal)
      (full (m ((c : Thread nD τ).loc main_arg0)) (m ((c : Thread nD τ).loc main_arg1)) Z) := by
  have h3 : t.val % 4 = 3 := (flush0_2 t).mp hf
  have hi := idx2 t
  have ht := lt8 t
  show (cfg0.win 2).cut (grid0.coords t) ((dats m 0 c).after 2 t) = _
  rw [after0_2, outC m c t (by omega) h3]
  funext y
  rw [View.read_apply]
  have hy0 : (y 0).val < 1024 := (y 0).isLt
  have hy1 : (y 1).val < 1536 := (y 1).isLt
  have e0 : (((cfg0.win 2).blk t).view.emb y 0).val = (y 0).val := by
    show win0_2.index t 0 * 1024 + 1 * (y 0).val = _; rw [hi.1]; omega
  have e1 : (((cfg0.win 2).blk t).view.emb y 1).val = 4608 + (1536 * (t.val / 4) + (y 1).val) := by
    show win0_2.index t 1 * 1536 + 1 * (y 1).val = _; rw [hi.2]; omega
  refine Eq.trans (b := ∑ s, term (m ((c : Thread nD τ).loc main_arg0)) (m ((c : Thread nD τ).loc main_arg1)) ⟨(y 0).val, hy0⟩ ⟨(y 1).val, hy1⟩ (t.val / 4) s) ?_ ?_
  · refine Eq.trans (b := k0_pay4 (outsAt0 m c t.val t.isLt).2 (ix2 (⟨(y 0).val, hy0⟩ : Fin 1024) (⟨(y 1).val, hy1⟩ : Fin 1536))) (congrArg (k0_pay4 (outsAt0 m c t.val t.isLt).2) (funext fun a => Fin.ext ?_)) ?_
    · match a with
      | ⟨0, _⟩ => rfl
      | ⟨1, _⟩ => rfl
    · exact (pay4_at _ _ _).trans (sum_at m c t.val t.isLt h3 _ _)
  · unfold full grad
    rw [dif_pos (by rw [e1]; omega)]
    refine Finset.sum_congr rfl fun s _ => ?_
    exact term_eq _ _ ⟨(y 0).val, hy0⟩ ⟨(y 1).val, hy1⟩ (t.val / 4) (by omega) s _ e0 _ (by
      show (((cfg0.win 2).blk t).view.emb y 1).val - 4608 = 1536 * (t.val / 4) + (y 1).val
      rw [e1]; omega)

theorem mem_blk (t : Fin cfg0.N) (i : S1024x7680.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v0).slice (win0_2.rect t)).set ↔ _
  rw [View.set_slice_whole, Rect.mem_set_unit]
  exact Iff.rfl

/-- The array at an index of the two halves' columns. -/
theorem arr_at (k : Fin 1024) (q : Fin 3072) : (dats m 0 c).arrAt 2 cfg0.N (ix2 k (⟨4608 + q.val, by omega⟩ : Fin 7680))
    = grad (m ((c : Thread nD τ).loc main_arg0)) (m ((c : Thread nD τ).loc main_arg1)) (ix2 k q) := by
  have hN : 4 * (q.val / 1536) + 3 < cfg0.N := lt_of_lt_of_eq (by omega) N_0.symm
  refine ((dats m 0 c).arrAt_apply_of_mem 2 _ (flushed_eq m c (fun _ => 0)) cfg0.N ⟨_, hN⟩ _ hN ((flush0_2 ⟨_, hN⟩).mpr (by show (4 * (q.val / 1536) + 3) % 4 = 3; omega)) ?_).trans ?_
  · rw [mem_blk]
    have hx := idx2 ⟨_, hN⟩
    have hx1 : win0_2.index ⟨4 * (q.val / 1536) + 3, hN⟩ 1 = 3 + q.val / 1536 := by rw [hx.2]; show 3 + (4 * (q.val / 1536) + 3) / 4 = _; omega
    have hk := k.isLt
    intro a
    match a with
    | ⟨0, _⟩ => show win0_2.index _ 0 * 1024 ≤ k.val ∧ k.val < win0_2.index _ 0 * 1024 + 1024; rw [hx.1]; omega
    | ⟨1, _⟩ => show win0_2.index _ 1 * 1536 ≤ 4608 + q.val ∧ 4608 + q.val < win0_2.index _ 1 * 1536 + 1536; rw [hx1]; omega
  · refine (dif_pos (show 4608 ≤ 4608 + q.val by omega)).trans ?_
    refine col_congr (fun r => grad (m ((c : Thread nD τ).loc main_arg0)) (m ((c : Thread nD τ).loc main_arg1)) (ix2 k r)) ?_
    show 4608 + q.val - 4608 = q.val
    omega

/-- What the slice of the array is at the end. -/
theorem result : Pipeline.afterTail₀ cfgs (dats m) 0 (V0 m) [hostOps1] c main_v1
    = grad (m ((c : Thread nD τ).loc main_arg0)) (m ((c : Thread nD τ).loc main_arg1)) := by
  have e : Pipeline.afterTail₀ cfgs (dats m) 0 (V0 m) [hostOps1] c main_v1
      = extractStridedSlice S1024x3072 ![0, 4608] ((dats m 0 c).arrAt 2 cfg0.N) slices_S1024x7680_S1024x3072_0_4608 := by
    unfold Pipeline.afterTail₀
    show StableHlo.after hostOps1 _ (Proc.devRef .tc main_v1) = _
    after_results
    exact congrArg (fun A => extractStridedSlice S1024x3072 ![0, 4608] A slices_S1024x7680_S1024x3072_0_4608)
      (Pipeline.withArrays_arr spec0 launch0.win.arr_inj c (V0 m c) (fun w => (dats m 0 c).arrAt w cfg0.N) 2)
  rw [e]
  funext y
  rw [eq_ix2 y]
  refine Eq.trans ?_ (arr_at m c (y 0) (y 1))
  exact slice_at _ (y 0) (y 1)

/-- The run: the slice at the gradient, the arguments as they were. -/
theorem run (ρ : Dev nD → PrngReg) : θ_run defs (onTc (τ := τ) (main (F := Ideal))) ⟨m, fun _ => 0, ρ⟩ fun r => ∀ c : Dev nD,
    r.2.mem ((c : Thread nD τ).loc main_v1) = grad (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.2 c).2 main_v1 (Pipeline.mem_restRefs_of _ rfl (by decide))).trans (result m c), h.1 c⟩)
    (θ_run_and (unchanged m ρ) (run_main m ρ))

end Cert.Kernel8Ideal.Wg

namespace Cert.Reference8Ideal.Wg

open Cert.Reference8Ideal Cert.Reference8Ideal.Gen Cert.Reference8Ideal.Value Idealize.ShloMosaic Idealize.ShloMosaic.TcCoe
open scoped BigOperators

theorem mat_at (X : Vec Ideal S8192x1024 .bf16) (Y : Vec Ideal S8192x3072 .bf16) (k : Fin 1024) (j : Fin 3072) :
    (truncf (F := Ideal) .bf16 (transpose S1024x3072 [1, 0] (Host.dotGeneral dot_S8192x3072_S8192x1024_S3072x1024_0_0_1_1_n_n none (extf .f32 Y bitsLt_bf16_f32) (extf .f32 X bitsLt_bf16_f32)) transposes_S3072x1024_S1024x3072_1_0) bitsLt_bf16_f32) (ix2 k j)
      = ∑ t : Fin 8192, Y (ix2 t j) * X (ix2 t k) := by
  pointwise

theorem ref_eq (X : Vec Ideal S8192x1024 .bf16) (Y : Vec Ideal S8192x3072 .bf16) :
    (truncf (F := Ideal) .bf16 (transpose S1024x3072 [1, 0] (Host.dotGeneral dot_S8192x3072_S8192x1024_S3072x1024_0_0_1_1_n_n none (extf .f32 Y bitsLt_bf16_f32) (extf .f32 X bitsLt_bf16_f32)) transposes_S3072x1024_S1024x3072_1_0) bitsLt_bf16_f32)
      = Kernel8Ideal.Wg.grad X Y := by
  funext y
  rw [eq_ix2 y]
  exact (mat_at X Y (y 0) (y 1)).trans (Finset.sum_congr rfl fun t _ => mul_comm _ _)

end Cert.Reference8Ideal.Wg

end
-- ==== Proof.WgIn1.lean ====
/- The input projection's weights, columns of the second dilation: what the call leaves in its array. -/
module

public import proofs.«01_k».proof.Proof.Gen.Kernel10Ideal.Value
public import proofs.«01_k».proof.Proof.Gen.Reference10Ideal.Run
public import proofs.«01_k».proof.Proof.WgSum
public import Idealize.ShloMosaic.Lib.Pointwise

@[expose] public section

set_option maxRecDepth 16384

noncomputable section

namespace Cert.Kernel10Ideal.Wg

open Cert.Kernel10Ideal Cert.Kernel10Ideal.Gen Cert.Kernel10Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt12 (t : Fin cfg0.N) : t.val < 12 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  rw [← V_main_arg0 m c]
  unfold iblk
  rw [View.read_apply]
  refine congrArg (V m c main_arg0) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem blk1 (t : Fin cfg0.N) (x : Fin 2048) (j : Fin 512) :
    (iblk m c 1 t : Vec Ideal S2048x512 .bf16) (ix2 x j)
      = m ((c : Thread nD τ).loc main_arg1) (ix2 (tok (t.val % 4) (Nat.mod_lt _ (by decide)) x) ⟨512 * (t.val / 4) + j.val, by have := lt12 t; omega⟩) := by
  have hi := idx1 t
  rw [← V_main_arg1 m c]
  unfold iblk
  rw [View.read_apply]
  refine congrArg (V m c main_arg1) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 512 + 1 * (j : ℕ) = 512 * (t.val / 4) + (j : ℕ); rw [hi.2]; omega

/-! ## The body's values -/

theorem pay1_at (a : Vec Ideal S2048x1024 .bf16) (b : Vec Ideal S2048x512 .bf16) (k : Fin 1024) (j : Fin 512) :
    k0_pay1 (F := Ideal) a b (ix2 k j) = ∑ x : Fin 2048, a (ix2 x k) * b (ix2 x j) := by
  pointwise [k0_pay1]
theorem pay2_at (a : Vec Ideal S2048x1024 .bf16) (b : Vec Ideal S2048x512 .bf16) (k : Fin 1024) (j : Fin 512) :
    k0_pay2 (F := Ideal) a b (ix2 k j) = ∑ x : Fin 2048, a (ix2 x k) * b (ix2 x j) := by
  pointwise [k0_pay2]
  exact pay1_at a b k j
theorem pay3_at (a : Vec Ideal S2048x1024 .bf16) (b : Vec Ideal S2048x512 .bf16) (s : Vec Ideal S1024x512 .f32) (k : Fin 1024) (j : Fin 512) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S1024x512 .f32) (k : Fin 1024) (j : Fin 512) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x512) hz]
  simp only [View.readAt_eq_ld, (hs0_0 t).read_unread, (hs0_1 t).read_unread, View.ld_unit_zero (S := S2048x1024) hz, View.ld_unit_zero (S := S2048x512) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1024x512) hz, View.readCov_unit_zero (S := S1024x512) _ hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-! ## The array -/

/-- One token's part of an entry of the gradient (`n` the part of the columns: query, key, value). -/
def term (X : Vec Ideal S8192x1024 .bf16) (Y : Vec Ideal S8192x1536 .bf16) (k : Fin 1024) (j : Fin 512) (n : ℕ) (t : Fin 8192) : EReal :=
  X (ix2 t k) * Y (ix2 t ⟨512 * (n % 3) + j.val, by omega⟩)

theorem part (X : Vec Ideal S8192x1024 .bf16) (Y : Vec Ideal S8192x1536 .bf16) (n : ℕ) (hn : n < 12) (k : Fin 1024) (j : Fin 512)
    (a : Vec Ideal S2048x1024 .bf16) (b : Vec Ideal S2048x512 .bf16) (hq : n % 4 < 4)
    (ha : ∀ x, a (ix2 x k) = X (ix2 (tok (n % 4) hq x) k)) (hb : ∀ x, b (ix2 x j) = Y (ix2 (tok (n % 4) hq x) ⟨512 * (n / 4) + j.val, by omega⟩)) :
    (∑ x : Fin 2048, a (ix2 x k) * b (ix2 x j)) = ∑ x, term X Y k j (n / 4) (tok (n % 4) hq x) := by
  refine Finset.sum_congr rfl fun x _ => ?_
  rw [ha x, hb x]
  refine congrArg (fun q => X (ix2 (tok (n % 4) hq x) k) * Y (ix2 (tok (n % 4) hq x) q)) (Fin.ext ?_)
  show 512 * (n / 4) + j.val = 512 * (n / 4 % 3) + j.val
  omega

theorem sum_at (n : ℕ) (h : n < cfg0.N) (h3 : n % 4 = 3) (k : Fin 1024) (j : Fin 512) :
    (outsAt0 m c n h).2 (ix2 k j) = ∑ t, term (m ((c : Thread nD τ).loc main_arg0)) (m ((c : Thread nD τ).loc main_arg1)) k j (n / 4) t := by
  refine fold_tok (fun n h => (outsAt0 m c n h).2 (ix2 k j)) _ (fun n h h0 => ?_) (fun n h h0 => ?_) n h h3
  · exact (congrFun (sumA m c ⟨n, h⟩ h0) _).trans ((pay2_at _ _ k j).trans (part _ _ n (lt12 ⟨n, h⟩) k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n (lt12 ⟨n, h⟩) k j _ _ _ (blk0 m c ⟨n, h⟩ · k) (blk1 m c ⟨n, h⟩ · j))))

/-- The array the call of dilation `g` ends with: the gradient in the dilation's three blocks of columns, what was there elsewhere. -/
def gradOf (g : ℕ) (X : Vec Ideal S8192x1024 .bf16) (Y : Vec Ideal S8192x1536 .bf16) (Z : Vec Ideal S1024x7680 .bf16) : Vec Ideal S1024x7680 .bf16 :=
  fun y => if (y 1).val / 512 < 9 ∧ (y 1).val / 512 % 3 = g then ∑ t, term X Y (y 0) ⟨(y 1).val % 512, Nat.mod_lt _ (by decide)⟩ ((y 1).val / 512 / 3) t else Z y

/-- The dilation's place among the three. -/
abbrev grp : ℕ := 1

theorem idx2 : ∀ t : Fin cfg0.N, win0_2.index t 0 = 0 ∧ win0_2.index t 1 = 3 * (t.val / 4) + grp :=
  (by decide +kernel : ∀ t : Fin grid0.N, win0_2.index t 0 = 0 ∧ win0_2.index t 1 = 3 * (t.val / 4) + grp)

theorem entry : V m c (Pipeline.arrRef spec0 2) = m ((c : Thread nD τ).loc main_arg2) := by
  show StableHlo.after hostOps0 (fun b => m (c, b)) (Proc.devRef .tc main_v0) = _
  after_results
  rfl

theorem flushed_eq (t : Fin cfg0.N) (hf : (cfg0.win 2).flush t = true) :
    (dats m 0 c).flushed 2 t = ((cfg0.win 2).blk t).view.read (Elt Ideal)
      (gradOf grp (m ((c : Thread nD τ).loc main_arg0)) (m ((c : Thread nD τ).loc main_arg1)) (m ((c : Thread nD τ).loc main_arg2))) := by
  have h3 : t.val % 4 = 3 := (flush0_2 t).mp hf
  have hi := idx2 t
  have ht := lt12 t
  rw [flushed2, outC m c t (by omega) h3]
  funext y
  rw [View.read_apply]
  have hy0 : (y 0).val < 1024 := (y 0).isLt
  have hy1 : (y 1).val < 512 := (y 1).isLt
  have e0 : (((cfg0.win 2).blk t).view.emb y 0).val = (y 0).val := by
    show win0_2.index t 0 * 1024 + 1 * (y 0).val = _; rw [hi.1]; omega
  have e1 : (((cfg0.win 2).blk t).view.emb y 1).val = 512 * (3 * (t.val / 4) + grp) + (y 1).val := by
    show win0_2.index t 1 * 512 + 1 * (y 1).val = _; rw [hi.2]; omega
  refine Eq.trans (b := ∑ s, term (m ((c : Thread nD τ).loc main_arg0)) (m ((c : Thread nD τ).loc main_arg1)) ⟨(y 0).val, hy0⟩ ⟨(y 1).val, hy1⟩ (t.val / 4) s) ?_ ?_
  · refine Eq.trans (b := k0_pay4 (outsAt0 m c t.val t.isLt).2 (ix2 (⟨(y 0).val, hy0⟩ : Fin 1024) (⟨(y 1).val, hy1⟩ : Fin 512))) (congrArg (k0_pay4 (outsAt0 m c t.val t.isLt).2) (funext fun a => Fin.ext ?_)) ?_
    · match a with
      | ⟨0, _⟩ => rfl
      | ⟨1, _⟩ => rfl
    · exact (pay4_at _ _ _).trans (sum_at m c t.val t.isLt h3 _ _)
  · unfold gradOf
    rw [if_pos (by rw [e1]; unfold grp; omega)]
    refine Finset.sum_congr rfl fun s _ => ?_
    have q0 : (((cfg0.win 2).blk t).view.emb y 0) = (⟨(y 0).val, hy0⟩ : Fin 1024) := Fin.ext e0
    have q1 : (((cfg0.win 2).blk t).view.emb y 1).val / 512 / 3 = t.val / 4 := by rw [e1]; unfold grp; omega
    have q2 : (⟨(((cfg0.win 2).blk t).view.emb y 1).val % 512, Nat.mod_lt _ (by decide)⟩ : Fin 512) = ⟨(y 1).val, hy1⟩ := Fin.ext (by show (((cfg0.win 2).blk t).view.emb y 1).val % 512 = (y 1).val; rw [e1]; unfold grp; omega)
    rw [q0, q1, q2]

theorem mem_blk (t : Fin cfg0.N) (i : S1024x7680.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

theorem arr_eq : (dats m 0 c).arrAt 2 cfg0.N
    = gradOf grp (m ((c : Thread nD τ).loc main_arg0)) (m ((c : Thread nD τ).loc main_arg1)) (m ((c : Thread nD τ).loc main_arg2)) := by
  funext i
  have hi0 : (i 0).val < 1024 := (i 0).isLt
  have hi1 : (i 1).val < 7680 := (i 1).isLt
  by_cases hc : (i 1).val / 512 < 9 ∧ (i 1).val / 512 % 3 = grp
  · have hN : 4 * ((i 1).val / 512 / 3) + 3 < cfg0.N := lt_of_lt_of_eq (by omega) N_0.symm
    refine (dats m 0 c).arrAt_apply_of_mem 2 _ (flushed_eq m c) cfg0.N ⟨_, hN⟩ i hN ((flush0_2 ⟨_, hN⟩).mpr (by show (4 * ((i 1).val / 512 / 3) + 3) % 4 = 3; omega)) ?_
    rw [mem_blk]
    have hx := idx2 ⟨_, hN⟩
    have hx1 : win0_2.index ⟨4 * ((i 1).val / 512 / 3) + 3, hN⟩ 1 = 3 * ((i 1).val / 512 / 3) + grp := by rw [hx.2]; show 3 * ((4 * ((i 1).val / 512 / 3) + 3) / 4) + grp = _; omega
    intro a
    match a with
    | ⟨0, _⟩ => show win0_2.index _ 0 * 1024 ≤ (i 0).val ∧ (i 0).val < win0_2.index _ 0 * 1024 + 1024; rw [hx.1]; omega
    | ⟨1, _⟩ => show win0_2.index _ 1 * 512 ≤ (i 1).val ∧ (i 1).val < win0_2.index _ 1 * 512 + 512; rw [hx1]; omega
  · rw [entry2 m c i (fun t hf hm => hc ?_), entry m c]
    · unfold gradOf
      rw [if_neg hc]
    · rw [mem_blk] at hm
      have b1 : win0_2.index t 1 * 512 ≤ (i 1).val ∧ (i 1).val < win0_2.index t 1 * 512 + 512 := hm 1
      rw [(idx2 t).2] at b1
      have ht := lt12 t
      unfold grp at b1 ⊢
      omega

end Cert.Kernel10Ideal.Wg

namespace Cert.Reference10Ideal.Wg

open Cert.Reference10Ideal Cert.Reference10Ideal.Gen Cert.Reference10Ideal.Value Idealize.ShloMosaic Idealize.ShloMosaic.TcCoe
open scoped BigOperators

theorem cat_at (W : Vec Ideal S1024x1536 .bf16) (Z : Vec Ideal S1024x7680 .bf16) (k : Fin 1024) (q : Fin 7680) :
    (concatenate S1024x7680 1 [⟨S1024x512, extractStridedSlice S1024x512 ![0, 0] Z slices_S1024x7680_S1024x512_0_0⟩, ⟨S1024x512, extractStridedSlice S1024x512 ![0, 0] W slices_S1024x1536_S1024x512_0_0⟩,
      ⟨S1024x1024, extractStridedSlice S1024x1024 ![0, 1024] Z slices_S1024x7680_S1024x1024_0_1024⟩, ⟨S1024x512, extractStridedSlice S1024x512 ![0, 512] W slices_S1024x1536_S1024x512_0_512⟩,
      ⟨S1024x1024, extractStridedSlice S1024x1024 ![0, 2560] Z slices_S1024x7680_S1024x1024_0_2560⟩, ⟨S1024x512, extractStridedSlice S1024x512 ![0, 1024] W slices_S1024x1536_S1024x512_0_1024⟩,
      ⟨S1024x3584, extractStridedSlice S1024x3584 ![0, 4096] Z slices_S1024x7680_S1024x3584_0_4096⟩]
      concatenates_S1024x512_S1024x512_S1024x1024_S1024x512_S1024x1024_S1024x512_S1024x3584_S1024x7680_d1 : Vec Ideal S1024x7680 .bf16) (ix2 k q)
      = if q.val / 512 < 9 ∧ q.val / 512 % 3 = 1 then W (ix2 k ⟨512 * (q.val / 512 / 3 % 3) + q.val % 512, by omega⟩) else Z (ix2 k q) := by
  pointwise
  have hq := q.isLt
  by_cases hc : q.val / 512 < 9 ∧ q.val / 512 % 3 = 1
  · rw [if_pos hc]
    split_ifs <;> first
      | (exfalso; omega)
      | (refine Cert.Wg.col_congr (fun r => W (ix2 k r)) ?_; omega)
  · rw [if_neg hc]
    split_ifs <;> first
      | (exfalso; omega)
      | (refine Cert.Wg.col_congr (fun r => Z (ix2 k r)) ?_; omega)

theorem mat_at (X : Vec Ideal S8192x1024 .bf16) (Y : Vec Ideal S8192x1536 .bf16) (k : Fin 1024) (j : Fin 1536) :
    (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) (ix2 k j)
      = ∑ t : Fin 8192, Y (ix2 t j) * X (ix2 t k) := by
  pointwise

theorem ref_eq (X : Vec Ideal S8192x1024 .bf16) (Y : Vec Ideal S8192x1536 .bf16) (Z : Vec Ideal S1024x7680 .bf16) :
    (concatenate S1024x7680 1 [⟨S1024x512, extractStridedSlice S1024x512 ![0, 0] Z slices_S1024x7680_S1024x512_0_0⟩, ⟨S1024x512, extractStridedSlice S1024x512 ![0, 0] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_0⟩,
      ⟨S1024x1024, extractStridedSlice S1024x1024 ![0, 1024] Z slices_S1024x7680_S1024x1024_0_1024⟩, ⟨S1024x512, extractStridedSlice S1024x512 ![0, 512] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_512⟩,
      ⟨S1024x1024, extractStridedSlice S1024x1024 ![0, 2560] Z slices_S1024x7680_S1024x1024_0_2560⟩, ⟨S1024x512, extractStridedSlice S1024x512 ![0, 1024] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_1024⟩,
      ⟨S1024x3584, extractStridedSlice S1024x3584 ![0, 4096] Z slices_S1024x7680_S1024x3584_0_4096⟩]
      concatenates_S1024x512_S1024x512_S1024x1024_S1024x512_S1024x1024_S1024x512_S1024x3584_S1024x7680_d1 : Vec Ideal S1024x7680 .bf16)
      = Kernel10Ideal.Wg.gradOf 1 X Y Z := by
  funext y
  rw [eq_ix2 y]
  refine (cat_at _ Z (y 0) (y 1)).trans ?_
  unfold Kernel10Ideal.Wg.gradOf
  refine if_congr Iff.rfl ?_ rfl
  exact (mat_at X Y (y 0) _).trans (Finset.sum_congr rfl fun t _ => mul_comm _ _)

end Cert.Reference10Ideal.Wg

end
-- ==== Proof.WgIn0.lean ====
/- The input projection's weights, columns of the first dilation: what the call leaves in its array. -/
module

public import proofs.«01_k».proof.Proof.Gen.Kernel9Ideal.Value
public import proofs.«01_k».proof.Proof.Gen.Reference9Ideal.Run
public import proofs.«01_k».proof.Proof.WgIn1
public import Idealize.ShloMosaic.Lib.Pointwise

@[expose] public section

set_option maxRecDepth 16384

noncomputable section

namespace Cert.Kernel9Ideal.Wg

open Cert.Kernel10Ideal.Wg (term part gradOf)
open Cert.Kernel9Ideal Cert.Kernel9Ideal.Gen Cert.Kernel9Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt12 (t : Fin cfg0.N) : t.val < 12 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  rw [← V_main_arg0 m c]
  unfold iblk
  rw [View.read_apply]
  refine congrArg (V m c main_arg0) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem blk1 (t : Fin cfg0.N) (x : Fin 2048) (j : Fin 512) :
    (iblk m c 1 t : Vec Ideal S2048x512 .bf16) (ix2 x j)
      = m ((c : Thread nD τ).loc main_arg1) (ix2 (tok (t.val % 4) (Nat.mod_lt _ (by decide)) x) ⟨512 * (t.val / 4) + j.val, by have := lt12 t; omega⟩) := by
  have hi := idx1 t
  rw [← V_main_arg1 m c]
  unfold iblk
  rw [View.read_apply]
  refine congrArg (V m c main_arg1) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 512 + 1 * (j : ℕ) = 512 * (t.val / 4) + (j : ℕ); rw [hi.2]; omega

/-! ## The body's values -/

theorem pay1_at (a : Vec Ideal S2048x1024 .bf16) (b : Vec Ideal S2048x512 .bf16) (k : Fin 1024) (j : Fin 512) :
    k0_pay1 (F := Ideal) a b (ix2 k j) = ∑ x : Fin 2048, a (ix2 x k) * b (ix2 x j) := by
  pointwise [k0_pay1]
theorem pay2_at (a : Vec Ideal S2048x1024 .bf16) (b : Vec Ideal S2048x512 .bf16) (k : Fin 1024) (j : Fin 512) :
    k0_pay2 (F := Ideal) a b (ix2 k j) = ∑ x : Fin 2048, a (ix2 x k) * b (ix2 x j) := by
  pointwise [k0_pay2]
  exact pay1_at a b k j
theorem pay3_at (a : Vec Ideal S2048x1024 .bf16) (b : Vec Ideal S2048x512 .bf16) (s : Vec Ideal S1024x512 .f32) (k : Fin 1024) (j : Fin 512) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S1024x512 .f32) (k : Fin 1024) (j : Fin 512) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x512) hz]
  simp only [View.readAt_eq_ld, (hs0_0 t).read_unread, (hs0_1 t).read_unread, View.ld_unit_zero (S := S2048x1024) hz, View.ld_unit_zero (S := S2048x512) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1024x512) hz, View.readCov_unit_zero (S := S1024x512) _ hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-! ## The array -/

theorem sum_at (n : ℕ) (h : n < cfg0.N) (h3 : n % 4 = 3) (k : Fin 1024) (j : Fin 512) :
    (outsAt0 m c n h).2 (ix2 k j) = ∑ t, term (m ((c : Thread nD τ).loc main_arg0)) (m ((c : Thread nD τ).loc main_arg1)) k j (n / 4) t := by
  refine fold_tok (fun n h => (outsAt0 m c n h).2 (ix2 k j)) _ (fun n h h0 => ?_) (fun n h h0 => ?_) n h h3
  · exact (congrFun (sumA m c ⟨n, h⟩ h0) _).trans ((pay2_at _ _ k j).trans (part _ _ n (lt12 ⟨n, h⟩) k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n (lt12 ⟨n, h⟩) k j _ _ _ (blk0 m c ⟨n, h⟩ · k) (blk1 m c ⟨n, h⟩ · j))))

/-- The dilation's place among the three. -/
abbrev grp : ℕ := 0

theorem idx2 : ∀ t : Fin cfg0.N, win0_2.index t 0 = 0 ∧ win0_2.index t 1 = 3 * (t.val / 4) + grp :=
  (by decide +kernel : ∀ t : Fin grid0.N, win0_2.index t 0 = 0 ∧ win0_2.index t 1 = 3 * (t.val / 4) + grp)

theorem entry : V m c (Pipeline.arrRef spec0 2) = m ((c : Thread nD τ).loc main_arg2) := by
  show StableHlo.after hostOps0 (fun b => m (c, b)) (Proc.devRef .tc main_v0) = _
  after_results
  rfl

theorem flushed_eq (t : Fin cfg0.N) (hf : (cfg0.win 2).flush t = true) :
    (dats m 0 c).flushed 2 t = ((cfg0.win 2).blk t).view.read (Elt Ideal)
      (gradOf grp (m ((c : Thread nD τ).loc main_arg0)) (m ((c : Thread nD τ).loc main_arg1)) (m ((c : Thread nD τ).loc main_arg2))) := by
  have h3 : t.val % 4 = 3 := (flush0_2 t).mp hf
  have hi := idx2 t
  have ht := lt12 t
  rw [flushed2, outC m c t (by omega) h3]
  funext y
  rw [View.read_apply]
  have hy0 : (y 0).val < 1024 := (y 0).isLt
  have hy1 : (y 1).val < 512 := (y 1).isLt
  have e0 : (((cfg0.win 2).blk t).view.emb y 0).val = (y 0).val := by
    show win0_2.index t 0 * 1024 + 1 * (y 0).val = _; rw [hi.1]; omega
  have e1 : (((cfg0.win 2).blk t).view.emb y 1).val = 512 * (3 * (t.val / 4) + grp) + (y 1).val := by
    show win0_2.index t 1 * 512 + 1 * (y 1).val = _; rw [hi.2]; omega
  refine Eq.trans (b := ∑ s, term (m ((c : Thread nD τ).loc main_arg0)) (m ((c : Thread nD τ).loc main_arg1)) ⟨(y 0).val, hy0⟩ ⟨(y 1).val, hy1⟩ (t.val / 4) s) ?_ ?_
  · refine Eq.trans (b := k0_pay4 (outsAt0 m c t.val t.isLt).2 (ix2 (⟨(y 0).val, hy0⟩ : Fin 1024) (⟨(y 1).val, hy1⟩ : Fin 512))) (congrArg (k0_pay4 (outsAt0 m c t.val t.isLt).2) (funext fun a => Fin.ext ?_)) ?_
    · match a with
      | ⟨0, _⟩ => rfl
      | ⟨1, _⟩ => rfl
    · exact (pay4_at _ _ _).trans (sum_at m c t.val t.isLt h3 _ _)
  · unfold gradOf
    rw [if_pos (by rw [e1]; unfold grp; omega)]
    refine Finset.sum_congr rfl fun s _ => ?_
    have q0 : (((cfg0.win 2).blk t).view.emb y 0) = (⟨(y 0).val, hy0⟩ : Fin 1024) := Fin.ext e0
    have q1 : (((cfg0.win 2).blk t).view.emb y 1).val / 512 / 3 = t.val / 4 := by rw [e1]; unfold grp; omega
    have q2 : (⟨(((cfg0.win 2).blk t).view.emb y 1).val % 512, Nat.mod_lt _ (by decide)⟩ : Fin 512) = ⟨(y 1).val, hy1⟩ := Fin.ext (by show (((cfg0.win 2).blk t).view.emb y 1).val % 512 = (y 1).val; rw [e1]; unfold grp; omega)
    rw [q0, q1, q2]

theorem mem_blk (t : Fin cfg0.N) (i : S1024x7680.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

theorem arr_eq : (dats m 0 c).arrAt 2 cfg0.N
    = gradOf grp (m ((c : Thread nD τ).loc main_arg0)) (m ((c : Thread nD τ).loc main_arg1)) (m ((c : Thread nD τ).loc main_arg2)) := by
  funext i
  have hi0 : (i 0).val < 1024 := (i 0).isLt
  have hi1 : (i 1).val < 7680 := (i 1).isLt
  by_cases hc : (i 1).val / 512 < 9 ∧ (i 1).val / 512 % 3 = grp
  · have hN : 4 * ((i 1).val / 512 / 3) + 3 < cfg0.N := lt_of_lt_of_eq (by omega) N_0.symm
    refine (dats m 0 c).arrAt_apply_of_mem 2 _ (flushed_eq m c) cfg0.N ⟨_, hN⟩ i hN ((flush0_2 ⟨_, hN⟩).mpr (by show (4 * ((i 1).val / 512 / 3) + 3) % 4 = 3; omega)) ?_
    rw [mem_blk]
    have hx := idx2 ⟨_, hN⟩
    have hx1 : win0_2.index ⟨4 * ((i 1).val / 512 / 3) + 3, hN⟩ 1 = 3 * ((i 1).val / 512 / 3) + grp := by rw [hx.2]; show 3 * ((4 * ((i 1).val / 512 / 3) + 3) / 4) + grp = _; omega
    intro a
    match a with
    | ⟨0, _⟩ => show win0_2.index _ 0 * 1024 ≤ (i 0).val ∧ (i 0).val < win0_2.index _ 0 * 1024 + 1024; rw [hx.1]; omega
    | ⟨1, _⟩ => show win0_2.index _ 1 * 512 ≤ (i 1).val ∧ (i 1).val < win0_2.index _ 1 * 512 + 512; rw [hx1]; omega
  · rw [entry2 m c i (fun t hf hm => hc ?_), entry m c]
    · unfold gradOf
      rw [if_neg hc]
    · rw [mem_blk] at hm
      have b1 : win0_2.index t 1 * 512 ≤ (i 1).val ∧ (i 1).val < win0_2.index t 1 * 512 + 512 := hm 1
      rw [(idx2 t).2] at b1
      have ht := lt12 t
      unfold grp at b1 ⊢
      omega

end Cert.Kernel9Ideal.Wg

namespace Cert.Reference9Ideal.Wg

open Cert.Reference9Ideal Cert.Reference9Ideal.Gen Cert.Reference9Ideal.Value Idealize.ShloMosaic Idealize.ShloMosaic.TcCoe
open scoped BigOperators

theorem cat_at (W : Vec Ideal S1024x1536 .bf16) (Z : Vec Ideal S1024x7680 .bf16) (k : Fin 1024) (q : Fin 7680) :
    (concatenate S1024x7680 1 [⟨S1024x512, extractStridedSlice S1024x512 ![0, 0] W slices_S1024x1536_S1024x512_0_0⟩,
      ⟨S1024x1024, extractStridedSlice S1024x1024 ![0, 512] Z slices_S1024x7680_S1024x1024_0_512⟩,
      ⟨S1024x512, extractStridedSlice S1024x512 ![0, 512] W slices_S1024x1536_S1024x512_0_512⟩,
      ⟨S1024x1024, extractStridedSlice S1024x1024 ![0, 2048] Z slices_S1024x7680_S1024x1024_0_2048⟩,
      ⟨S1024x512, extractStridedSlice S1024x512 ![0, 1024] W slices_S1024x1536_S1024x512_0_1024⟩,
      ⟨S1024x4096, extractStridedSlice S1024x4096 ![0, 3584] Z slices_S1024x7680_S1024x4096_0_3584⟩]
      concatenates_S1024x512_S1024x1024_S1024x512_S1024x1024_S1024x512_S1024x4096_S1024x7680_d1 : Vec Ideal S1024x7680 .bf16) (ix2 k q)
      = if q.val / 512 < 9 ∧ q.val / 512 % 3 = 0 then W (ix2 k ⟨512 * (q.val / 512 / 3 % 3) + q.val % 512, by omega⟩) else Z (ix2 k q) := by
  pointwise
  have hq := q.isLt
  by_cases hc : q.val / 512 < 9 ∧ q.val / 512 % 3 = 0
  · rw [if_pos hc]
    split_ifs <;> first
      | (exfalso; omega)
      | (refine Cert.Wg.col_congr (fun r => W (ix2 k r)) ?_; omega)
  · rw [if_neg hc]
    split_ifs <;> first
      | (exfalso; omega)
      | (refine Cert.Wg.col_congr (fun r => Z (ix2 k r)) ?_; omega)

theorem mat_at (X : Vec Ideal S8192x1024 .bf16) (Y : Vec Ideal S8192x1536 .bf16) (k : Fin 1024) (j : Fin 1536) :
    (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) (ix2 k j)
      = ∑ t : Fin 8192, Y (ix2 t j) * X (ix2 t k) := by
  pointwise

theorem ref_eq (X : Vec Ideal S8192x1024 .bf16) (Y : Vec Ideal S8192x1536 .bf16) (Z : Vec Ideal S1024x7680 .bf16) :
    (concatenate S1024x7680 1 [⟨S1024x512, extractStridedSlice S1024x512 ![0, 0] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_0⟩,
      ⟨S1024x1024, extractStridedSlice S1024x1024 ![0, 512] Z slices_S1024x7680_S1024x1024_0_512⟩,
      ⟨S1024x512, extractStridedSlice S1024x512 ![0, 512] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_512⟩,
      ⟨S1024x1024, extractStridedSlice S1024x1024 ![0, 2048] Z slices_S1024x7680_S1024x1024_0_2048⟩,
      ⟨S1024x512, extractStridedSlice S1024x512 ![0, 1024] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_1024⟩,
      ⟨S1024x4096, extractStridedSlice S1024x4096 ![0, 3584] Z slices_S1024x7680_S1024x4096_0_3584⟩]
      concatenates_S1024x512_S1024x1024_S1024x512_S1024x1024_S1024x512_S1024x4096_S1024x7680_d1 : Vec Ideal S1024x7680 .bf16)
      = Kernel10Ideal.Wg.gradOf 0 X Y Z := by
  funext y
  rw [eq_ix2 y]
  refine (cat_at _ Z (y 0) (y 1)).trans ?_
  unfold Kernel10Ideal.Wg.gradOf
  refine if_congr Iff.rfl ?_ rfl
  exact (mat_at X Y (y 0) _).trans (Finset.sum_congr rfl fun t _ => mul_comm _ _)

end Cert.Reference9Ideal.Wg

end
-- ==== Proof.WgIn2.lean ====
/- The input projection's weights, columns of the third dilation: what the call leaves in its array. -/
module

public import proofs.«01_k».proof.Proof.Gen.Kernel11Ideal.Value
public import proofs.«01_k».proof.Proof.Gen.Reference11Ideal.Run
public import proofs.«01_k».proof.Proof.WgIn1
public import Idealize.ShloMosaic.Lib.Pointwise

@[expose] public section

set_option maxRecDepth 16384

noncomputable section

namespace Cert.Kernel11Ideal.Wg

open Cert.Kernel10Ideal.Wg (term part gradOf)
open Cert.Kernel11Ideal Cert.Kernel11Ideal.Gen Cert.Kernel11Ideal.Value Cert.Wg Idealize.ShloMosaic Idealize.ShloMosaic.TcCoe
open scoped BigOperators

theorem hz : (![0, 0] : Fin 2 → ℕ) = fun _ => 0 := by funext a; match a with | ⟨0, _⟩ => rfl | ⟨1, _⟩ => rfl

variable (m : (ℓ : Loc nD τ sig) → Buf (Elt Ideal) ℓ) (c : Dev nD)

/-! ## The blocks read -/

theorem lt12 (t : Fin cfg0.N) : t.val < 12 := lt_of_lt_of_eq t.isLt N_0

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)

theorem blk0 (t : Fin cfg0.N) (x : Fin 2048) (k : Fin 1024) :
    (iblk m c 0 t : Vec Ideal S2048x1024 .bf16) (ix2 x k)
      = m ((c : Thread nD τ).loc main_arg0) (ix2 (tok (t.val % 4) (Nat.mod_lt _ (by decide)) x) k) := by
  have hi := idx0 t
  rw [← V_main_arg0 m c]
  unfold iblk
  rw [View.read_apply]
  refine congrArg (V m c main_arg0) (funext fun a => Fin.ext ?_)
  match a with
  | ⟨0, _⟩ => show win0_0.index t 0 * 2048 + 1 * (x : ℕ) = 2048 * (t.val % 4) + (x : ℕ); rw [hi.1]; omega
  | ⟨1, _⟩ => show win0_0.index t 1 * 1024 + 1 * (k : ℕ) = (k : ℕ); rw [hi.2]; omega

theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem blk1 (t : Fin cfg0.N) (x : Fin 2048) (j : Fin 512) :
    (iblk m c 1 t : Vec Ideal S2048x512 .bf16) (ix2 x j)
      = m ((c : Thread nD τ).loc main_arg1) (ix2 (tok (t.val % 4) (Nat.mod_lt _ (by decide)) x) ⟨512 * (t.val / 4) + j.val, by have := lt12 t; omega⟩) := by
  have hi := idx1 t
  rw [← V_main_arg1 m c]
  unfold iblk
  rw [View.read_apply]
  refine congrArg (V m c main_arg1) (funext fun a => Fin.ext ?_)
  match a with
  | ⟨0, _⟩ => show win0_1.index t 0 * 2048 + 1 * (x : ℕ) = 2048 * (t.val % 4) + (x : ℕ); rw [hi.1]; omega
  | ⟨1, _⟩ => show win0_1.index t 1 * 512 + 1 * (j : ℕ) = 512 * (t.val / 4) + (j : ℕ); rw [hi.2]; omega

/-! ## The body's values -/

theorem pay1_at (a : Vec Ideal S2048x1024 .bf16) (b : Vec Ideal S2048x512 .bf16) (k : Fin 1024) (j : Fin 512) :
    k0_pay1 (F := Ideal) a b (ix2 k j) = ∑ x : Fin 2048, a (ix2 x k) * b (ix2 x j) := by
  pointwise [k0_pay1]
theorem pay2_at (a : Vec Ideal S2048x1024 .bf16) (b : Vec Ideal S2048x512 .bf16) (k : Fin 1024) (j : Fin 512) :
    k0_pay2 (F := Ideal) a b (ix2 k j) = ∑ x : Fin 2048, a (ix2 x k) * b (ix2 x j) := by
  pointwise [k0_pay2]
  exact pay1_at a b k j
theorem pay3_at (a : Vec Ideal S2048x1024 .bf16) (b : Vec Ideal S2048x512 .bf16) (s : Vec Ideal S1024x512 .f32) (k : Fin 1024) (j : Fin 512) :
    k0_pay3 (F := Ideal) a b s (ix2 k j) = s (ix2 k j) + ∑ x : Fin 2048, a (ix2 x k) * b (ix2 x j) := by
  pointwise [k0_pay3]
  exact congrArg _ (pay1_at a b k j)
theorem pay4_at (s : Vec Ideal S1024x512 .f32) (k : Fin 1024) (j : Fin 512) : k0_pay4 (F := Ideal) s (ix2 k j) = s (ix2 k j) := by
  pointwise [k0_pay4]

/-! ## What a point leaves in the running sum -/

theorem sumA (t : Fin cfg0.N) (h0 : t.val % 4 = 0) : (outsAt0 m c t.val t.isLt).2 = k0_pay2 (iblk m c 0 t) (iblk m c 1 t) := by
  rw [outsAt0_A m c t h0 (by omega) (by omega)]
  dsimp only
  unfold sout0_A_0
  rw [View.read_writes_eq_canon _ _ _ (scover0_A_0 c _ _ _ _ _ _ _ _ _ _ _ _ _ _)]
  unfold kernelRun0_A
  dsimp only
  sl_unfold_words
  rw [View.canon_unit_zero (S := S1024x512) hz]
  simp only [View.readAt_eq_ld, (hs0_0 t).read_unread, (hs0_1 t).read_unread, View.ld_unit_zero (S := S2048x1024) hz, View.ld_unit_zero (S := S2048x512) hz]

theorem sumB (t : Fin cfg0.N) (h0 : ¬t.val % 4 = 0) (h2 : ¬t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_B m c t h0 (by omega) h2]
  dsimp only
  unfold sout0_B_0
  rw [View.read_writes_eq_canon _ _ _ (scover0_B_0 c _ _ _ _ _ _ _ _ _ _ _ _ _ _ _)]
  unfold kernelRun0_B
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

theorem sumC (t : Fin cfg0.N) (h0 : ¬t.val % 4 = 0) (h2 : t.val % 4 = 3) :
    (outsAt0 m c t.val t.isLt).2 = k0_pay3 (iblk m c 0 t) (iblk m c 1 t) (outsAt0 m c (t.val - 1) (Nat.lt_of_le_of_lt (Nat.sub_le _ _) t.isLt)).2 := by
  rw [outsAt0_C m c t h0 (by omega) h2]
  dsimp only
  unfold sout0_C_0
  rw [View.read_writes_eq_canon _ _ _ (scover0_C_0 c _ _ _ _ _ _ _ _ _ _ _ _ _ _ _)]
  unfold kernelRun0_C
  dsimp only
  sl_unfold_words
  rw [View.canon_unit_zero (S := S1024x512) hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-- The last point of a block's four writes the sum out. -/
theorem outC (t : Fin cfg0.N) (h0 : ¬t.val % 4 = 0) (h2 : t.val % 4 = 3) :
    (outsAt0 m c t.val t.isLt).1 = k0_pay4 (outsAt0 m c t.val t.isLt).2 := by
  rw [sumC m c t h0 h2, outsAt0_C m c t h0 (by omega) h2]
  dsimp only
  unfold out0_C_2
  rw [View.read_writes_eq_canon _ _ _ (cover0_C_2 c _ _ _ _ _ _ _ _ _ _ _ _ _ _ _)]
  unfold kernelRun0_C
  dsimp only
  sl_unfold_words
  rw [View.canon_unit_zero (S := S1024x512) hz, View.readCov_unit_zero (S := S1024x512) _ hz]
  simp only [View.readAt_eq_ld, (hs0_0 t).read_unread, (hs0_1 t).read_unread, (Memref.isWhole_whole _).read_unread, View.ld_unit_zero (S := S2048x1024) hz, View.ld_unit_zero (S := S2048x512) hz, View.ld_unit_zero (S := S1024x512) hz]

/-! ## The array -/

theorem sum_at (n : ℕ) (h : n < cfg0.N) (h3 : n % 4 = 3) (k : Fin 1024) (j : Fin 512) :
    (outsAt0 m c n h).2 (ix2 k j) = ∑ t, term (m ((c : Thread nD τ).loc main_arg0)) (m ((c : Thread nD τ).loc main_arg1)) k j (n / 4) t := by
  refine fold_tok (fun n h => (outsAt0 m c n h).2 (ix2 k j)) _ (fun n h h0 => ?_) (fun n h h0 => ?_) n h h3
  · exact (congrFun (sumA m c ⟨n, h⟩ h0) _).trans ((pay2_at _ _ k j).trans (part _ _ n (lt12 ⟨n, h⟩) k j _ _ _ (blk0 m c ⟨n, h⟩ · k) (blk1 m c ⟨n, h⟩ · j)))
  · have e : (outsAt0 m c n h).2 = k0_pay3 (iblk m c 0 ⟨n, h⟩) (iblk m c 1 ⟨n, h⟩) (outsAt0 m c (n - 1) (Nat.lt_of_le_of_lt (Nat.sub_le _ _) h)).2 := by
      by_cases h2 : n % 4 = 3
      · exact sumC m c ⟨n, h⟩ h0 h2
      · exact sumB m c ⟨n, h⟩ h0 h2
    exact (congrFun e _).trans ((pay3_at _ _ _ k j).trans (congrArg _ (part _ _ n (lt12 ⟨n, h⟩) k j _ _ _ (blk0 m c ⟨n, h⟩ · k) (blk1 m c ⟨n, h⟩ · j))))

/-- The dilation's place among the three. -/
abbrev grp : ℕ := 2

theorem idx2 : ∀ t : Fin cfg0.N, win0_2.index t 0 = 0 ∧ win0_2.index t 1 = 3 * (t.val / 4) + grp :=
  (by decide +kernel : ∀ t : Fin grid0.N, win0_2.index t 0 = 0 ∧ win0_2.index t 1 = 3 * (t.val / 4) + grp)

theorem entry : V m c (Pipeline.arrRef spec0 2) = m ((c : Thread nD τ).loc main_arg2) := by
  show StableHlo.after hostOps0 (fun b => m (c, b)) (Proc.devRef .tc main_v0) = _
  after_results
  rfl

theorem flushed_eq (t : Fin cfg0.N) (hf : (cfg0.win 2).flush t = true) :
    (dats m 0 c).flushed 2 t = ((cfg0.win 2).blk t).view.read (Elt Ideal)
      (gradOf grp (m ((c : Thread nD τ).loc main_arg0)) (m ((c : Thread nD τ).loc main_arg1)) (m ((c : Thread nD τ).loc main_arg2))) := by
  have h3 : t.val % 4 = 3 := (flush0_2 t).mp hf
  have hi := idx2 t
  have ht := lt12 t
  rw [flushed2, outC m c t (by omega) h3]
  funext y
  rw [View.read_apply]
  have hy0 : (y 0).val < 1024 := (y 0).isLt
  have hy1 : (y 1).val < 512 := (y 1).isLt
  have e0 : (((cfg0.win 2).blk t).view.emb y 0).val = (y 0).val := by
    show win0_2.index t 0 * 1024 + 1 * (y 0).val = _; rw [hi.1]; omega
  have e1 : (((cfg0.win 2).blk t).view.emb y 1).val = 512 * (3 * (t.val / 4) + grp) + (y 1).val := by
    show win0_2.index t 1 * 512 + 1 * (y 1).val = _; rw [hi.2]; omega
  refine Eq.trans (b := ∑ s, term (m ((c : Thread nD τ).loc main_arg0)) (m ((c : Thread nD τ).loc main_arg1)) ⟨(y 0).val, hy0⟩ ⟨(y 1).val, hy1⟩ (t.val / 4) s) ?_ ?_
  · refine Eq.trans (b := k0_pay4 (outsAt0 m c t.val t.isLt).2 (ix2 (⟨(y 0).val, hy0⟩ : Fin 1024) (⟨(y 1).val, hy1⟩ : Fin 512))) (congrArg (k0_pay4 (outsAt0 m c t.val t.isLt).2) (funext fun a => Fin.ext ?_)) ?_
    · match a with
      | ⟨0, _⟩ => rfl
      | ⟨1, _⟩ => rfl
    · exact (pay4_at _ _ _).trans (sum_at m c t.val t.isLt h3 _ _)
  · unfold gradOf
    rw [if_pos (by rw [e1]; unfold grp; omega)]
    refine Finset.sum_congr rfl fun s _ => ?_
    have q0 : (((cfg0.win 2).blk t).view.emb y 0) = (⟨(y 0).val, hy0⟩ : Fin 1024) := Fin.ext e0
    have q1 : (((cfg0.win 2).blk t).view.emb y 1).val / 512 / 3 = t.val / 4 := by rw [e1]; unfold grp; omega
    have q2 : (⟨(((cfg0.win 2).blk t).view.emb y 1).val % 512, Nat.mod_lt _ (by decide)⟩ : Fin 512) = ⟨(y 1).val, hy1⟩ := Fin.ext (by show (((cfg0.win 2).blk t).view.emb y 1).val % 512 = (y 1).val; rw [e1]; unfold grp; omega)
    rw [q0, q1, q2]

theorem mem_blk (t : Fin cfg0.N) (i : S1024x7680.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

theorem arr_eq : (dats m 0 c).arrAt 2 cfg0.N
    = gradOf grp (m ((c : Thread nD τ).loc main_arg0)) (m ((c : Thread nD τ).loc main_arg1)) (m ((c : Thread nD τ).loc main_arg2)) := by
  funext i
  have hi0 : (i 0).val < 1024 := (i 0).isLt
  have hi1 : (i 1).val < 7680 := (i 1).isLt
  by_cases hc : (i 1).val / 512 < 9 ∧ (i 1).val / 512 % 3 = grp
  · have hN : 4 * ((i 1).val / 512 / 3) + 3 < cfg0.N := lt_of_lt_of_eq (by omega) N_0.symm
    refine (dats m 0 c).arrAt_apply_of_mem 2 _ (flushed_eq m c) cfg0.N ⟨_, hN⟩ i hN ((flush0_2 ⟨_, hN⟩).mpr (by show (4 * ((i 1).val / 512 / 3) + 3) % 4 = 3; omega)) ?_
    rw [mem_blk]
    have hx := idx2 ⟨_, hN⟩
    have hx1 : win0_2.index ⟨4 * ((i 1).val / 512 / 3) + 3, hN⟩ 1 = 3 * ((i 1).val / 512 / 3) + grp := by rw [hx.2]; show 3 * ((4 * ((i 1).val / 512 / 3) + 3) / 4) + grp = _; omega
    intro a
    match a with
    | ⟨0, _⟩ => show win0_2.index _ 0 * 1024 ≤ (i 0).val ∧ (i 0).val < win0_2.index _ 0 * 1024 + 1024; rw [hx.1]; omega
    | ⟨1, _⟩ => show win0_2.index _ 1 * 512 ≤ (i 1).val ∧ (i 1).val < win0_2.index _ 1 * 512 + 512; rw [hx1]; omega
  · rw [entry2 m c i (fun t hf hm => hc ?_), entry m c]
    · unfold gradOf
      rw [if_neg hc]
    · rw [mem_blk] at hm
      have b1 : win0_2.index t 1 * 512 ≤ (i 1).val ∧ (i 1).val < win0_2.index t 1 * 512 + 512 := hm 1
      rw [(idx2 t).2] at b1
      have ht := lt12 t
      unfold grp at b1 ⊢
      omega

end Cert.Kernel11Ideal.Wg

namespace Cert.Reference11Ideal.Wg

open Cert.Reference11Ideal Cert.Reference11Ideal.Gen Cert.Reference11Ideal.Value Idealize.ShloMosaic Idealize.ShloMosaic.TcCoe
open scoped BigOperators

theorem cat_at (W : Vec Ideal S1024x1536 .bf16) (Z : Vec Ideal S1024x7680 .bf16) (k : Fin 1024) (q : Fin 7680) :
    (concatenate S1024x7680 1 [⟨S1024x1024, extractStridedSlice S1024x1024 ![0, 0] Z slices_S1024x7680_S1024x1024_0_0⟩,
      ⟨S1024x512, extractStridedSlice S1024x512 ![0, 0] W slices_S1024x1536_S1024x512_0_0⟩,
      ⟨S1024x1024, extractStridedSlice S1024x1024 ![0, 1536] Z slices_S1024x7680_S1024x1024_0_1536⟩,
      ⟨S1024x512, extractStridedSlice S1024x512 ![0, 512] W slices_S1024x1536_S1024x512_0_512⟩,
      ⟨S1024x1024, extractStridedSlice S1024x1024 ![0, 3072] Z slices_S1024x7680_S1024x1024_0_3072⟩,
      ⟨S1024x512, extractStridedSlice S1024x512 ![0, 1024] W slices_S1024x1536_S1024x512_0_1024⟩,
      ⟨S1024x3072, extractStridedSlice S1024x3072 ![0, 4608] Z slices_S1024x7680_S1024x3072_0_4608⟩]
      concatenates_S1024x1024_S1024x512_S1024x1024_S1024x512_S1024x1024_S1024x512_S1024x3072_S1024x7680_d1 : Vec Ideal S1024x7680 .bf16) (ix2 k q)
      = if q.val / 512 < 9 ∧ q.val / 512 % 3 = 2 then W (ix2 k ⟨512 * (q.val / 512 / 3 % 3) + q.val % 512, by omega⟩) else Z (ix2 k q) := by
  pointwise
  have hq := q.isLt
  by_cases hc : q.val / 512 < 9 ∧ q.val / 512 % 3 = 2
  · rw [if_pos hc]
    split_ifs <;> first
      | (exfalso; omega)
      | (refine Cert.Wg.col_congr (fun r => W (ix2 k r)) ?_; omega)
  · rw [if_neg hc]
    split_ifs <;> first
      | (exfalso; omega)
      | (refine Cert.Wg.col_congr (fun r => Z (ix2 k r)) ?_; omega)

theorem mat_at (X : Vec Ideal S8192x1024 .bf16) (Y : Vec Ideal S8192x1536 .bf16) (k : Fin 1024) (j : Fin 1536) :
    (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) (ix2 k j)
      = ∑ t : Fin 8192, Y (ix2 t j) * X (ix2 t k) := by
  pointwise

theorem ref_eq (X : Vec Ideal S8192x1024 .bf16) (Y : Vec Ideal S8192x1536 .bf16) (Z : Vec Ideal S1024x7680 .bf16) :
    (concatenate S1024x7680 1 [⟨S1024x1024, extractStridedSlice S1024x1024 ![0, 0] Z slices_S1024x7680_S1024x1024_0_0⟩,
      ⟨S1024x512, extractStridedSlice S1024x512 ![0, 0] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_0⟩,
      ⟨S1024x1024, extractStridedSlice S1024x1024 ![0, 1536] Z slices_S1024x7680_S1024x1024_0_1536⟩,
      ⟨S1024x512, extractStridedSlice S1024x512 ![0, 512] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_512⟩,
      ⟨S1024x1024, extractStridedSlice S1024x1024 ![0, 3072] Z slices_S1024x7680_S1024x1024_0_3072⟩,
      ⟨S1024x512, extractStridedSlice S1024x512 ![0, 1024] (truncf (F := Ideal) .bf16 (transpose S1024x1536 [1, 0] (Host.dotGeneral dot_S8192x1536_S8192x1024_S1536x1024_0_0_1_1_n_n none (extf .f32 Y bitsLt_bf16_f32) (extf .f32 X bitsLt_bf16_f32)) transposes_S1536x1024_S1024x1536_1_0) bitsLt_bf16_f32) slices_S1024x1536_S1024x512_0_1024⟩,
      ⟨S1024x3072, extractStridedSlice S1024x3072 ![0, 4608] Z slices_S1024x7680_S1024x3072_0_4608⟩]
      concatenates_S1024x1024_S1024x512_S1024x1024_S1024x512_S1024x1024_S1024x512_S1024x3072_S1024x7680_d1 : Vec Ideal S1024x7680 .bf16)
      = Kernel10Ideal.Wg.gradOf 2 X Y Z := by
  funext y
  rw [eq_ix2 y]
  refine (cat_at _ Z (y 0) (y 1)).trans ?_
  unfold Kernel10Ideal.Wg.gradOf
  refine if_congr Iff.rfl ?_ rfl
  exact (mat_at X Y (y 0) _).trans (Finset.sum_congr rfl fun t _ => mul_comm _ _)

end Cert.Reference11Ideal.Wg

end
-- ==== Proof.InpSlab.lean ====
/- The slabs of the input projection's backward: rows stored at a stride, read back in the tokens' order. -/
module

public import proofs.«01_k».proof.Proof.Gen.Kernel7Ideal.Frame
public import proofs.«01_k».proof.Proof.Rows
public import Idealize.ShloMosaic.Lib.Pointwise

@[expose] public section

set_option maxRecDepth 16384

noncomputable section

namespace Cert.Kernel7Ideal.Inproj

open Cert.Kernel7Ideal Cert.Kernel7Ideal.Gen Idealize.ShloMosaic Idealize.ShloMosaic.TcCoe

/-- A block's value at two naturals, zero outside. -/
def at2 (v : FVec Ideal S512x1024 .f32) (a b : ℕ) : EReal :=
  if h : a < 512 ∧ b < 1024 then v (ix2 ⟨a, h.1⟩ ⟨b, h.2⟩) else 0

theorem at2_of {v : FVec Ideal S512x1024 .f32} {a b : ℕ} (ha : a < 512) (hb : b < 1024) : at2 v a b = v (ix2 ⟨a, ha⟩ ⟨b, hb⟩) := dif_pos ⟨ha, hb⟩

/-- What a slab holds at lane chunk, row and lane: the row `row / d` of class `row % d`, of `N` rows a class. -/
def slab (v : FVec Ideal S512x1024 .f32) (d N : ℕ) (y : S8x512x128.Idx) : EReal :=
  at2 v ((y 1).val % d * N + (y 1).val / d) (128 * (y 0).val + (y 2).val)

/-- A store's values are those of the slab where it stores them. -/
def Agrees (v : FVec Ideal S512x1024 .f32) (d N : ℕ) (p : View.Piece (Elt Ideal) S8x512x128 .f32) : Prop :=
  ∀ x : p.1.shape.Idx, p.2 x = slab v d N (p.1.emb x)

/-- One class's store of one lane chunk. -/
abbrev stored (d N cs r : ℕ) (sz : Fin 2 → ℕ) (i1 : ∀ a, (![cs, 0, 0] : Fin 3 → ℕ) a + S1x512x128.size a ≤ S8x512x128.size a)
    (i2 : ∀ a, sz a = 0 ∨ (![r, 0] : Fin 2 → ℕ) a + (![d, 1] : Fin 2 → ℕ) a * (sz a - 1) < S512x128.size a)
    (i3 : ∀ a, 0 < (![d, 1] : Fin 2 → ℕ) a) (h0 : (![1, 512, 128] : Fin 3 → ℕ) 0 = 1)
    (hs : ∀ i, (![1, 512, 128] : Fin 3 → ℕ) i.succ = (![512, 128] : Fin 2 → ℕ) i) (h : ∀ a, (Rect.unit (s := S8x512x128) ![cs, 0, 0] S1x512x128.size i1).stride a = 1) : Rect S8x512x128 :=
  (Rect.unit (s := S8x512x128) ![cs, 0, 0] S1x512x128.size i1).within
    ((⟨⟨![r, 0], sz, ![d, 1], i2⟩, i3⟩ : Rect S512x128).consLift ![1, 512, 128] h0 hs) h

theorem agrees_of (v : FVec Ideal S512x1024 .f32) (d N cs r : ℕ) (hr : r < d) (i1 : ∀ a, (![cs, 0, 0] : Fin 3 → ℕ) a + S1x512x128.size a ≤ S8x512x128.size a)
    (i2 : ∀ a, (![N, 128] : Fin 2 → ℕ) a = 0 ∨ (![r, 0] : Fin 2 → ℕ) a + (![d, 1] : Fin 2 → ℕ) a * ((![N, 128] : Fin 2 → ℕ) a - 1) < S512x128.size a)
    (i3 : ∀ a, 0 < (![d, 1] : Fin 2 → ℕ) a) (h0 : (![1, 512, 128] : Fin 3 → ℕ) 0 = 1)
    (hs : ∀ i, (![1, 512, 128] : Fin 3 → ℕ) i.succ = (![512, 128] : Fin 2 → ℕ) i) (h : ∀ a, (Rect.unit (s := S8x512x128) ![cs, 0, 0] S1x512x128.size i1).stride a = 1)
    (w : (⟨2, ![N, 128]⟩ : Shape).Idx → EReal) (hR : (stored d N cs r ![N, 128] i1 i2 i3 h0 hs h).shape.numel = (⟨⟨![r, 0], ![N, 128], ![d, 1], i2⟩, i3⟩ : Rect S512x128).shape.numel)
    (hw : ∀ (q : Fin N) (l : Fin 128), w (ix2 q l) = at2 v (r * N + q.val) (128 * cs + l.val)) :
    Agrees v d N ⟨stored d N cs r ![N, 128] i1 i2 i3 h0 hs h, Rect.payAlong (r := (⟨⟨![r, 0], ![N, 128], ![d, 1], i2⟩, i3⟩ : Rect S512x128)) hR w⟩ := by
  intro x
  have e := Rect.payAlong_consLift (⟨⟨![r, 0], ![N, 128], ![d, 1], i2⟩, i3⟩ : Rect S512x128) (sz := ![1, 512, 128]) h0 hs w hR x
    (ix2 (x 1) (x 2)) (fun a => by match a with | ⟨0, _⟩ => rfl | ⟨1, _⟩ => rfl)
  refine e.trans ((hw (x 1) (x 2)).trans ?_)
  have h1 : ((stored d N cs r ![N, 128] i1 i2 i3 h0 hs h).emb x 1).val = r + d * (x 1).val := by
    show 0 + (r) + d * (x 1).val = _; omega
  have hx : (x 0).val < 1 := (x 0).isLt
  have h0' : ((stored d N cs r ![N, 128] i1 i2 i3 h0 hs h).emb x 0).val = cs := by
    show cs + 0 + 1 * (x 0).val = cs; omega
  have h2 : ((stored d N cs r ![N, 128] i1 i2 i3 h0 hs h).emb x 2).val = (x 2).val := by
    show 0 + 0 + 1 * (x 2).val = _; omega
  show _ = at2 v _ _
  rw [h1, h0', h2, Nat.add_mul_mod_self_left, Nat.mod_eq_of_lt hr, Nat.add_mul_div_left _ _ (by omega), Nat.div_eq_of_lt hr, Nat.zero_add]

theorem cut_at {N : ℕ} (v : FVec Ideal S512x1024 .f32) (a b : ℕ) (h1 h2 h3) (q : Fin N) (l : Fin 128) :
    (shapeCast (⟨2, ![N, 128]⟩ : Shape) (extractStridedSlice (⟨2, ![N, 128]⟩ : Shape) ![0, b] (extractStridedSlice (⟨2, ![N, 1024]⟩ : Shape) ![a, 0] v h1) h2) h3) (ix2 q l)
      = at2 v (a + q.val) (b + l.val) := by
  have hq := q.isLt
  have hl := l.isLt
  have ha : a + N ≤ 512 := h1.2 0
  have hb : b + 128 ≤ 1024 := h2.2 1
  rw [at2_of (by omega) (by omega), shapeCast_self,
    extractStridedSlice_apply _ _ h2 (ix2 q l) (ix2 q ⟨b + l.val, by omega⟩) (fun z => by
      match z with
      | ⟨0, _⟩ => exact (Nat.zero_add _).symm
      | ⟨1, _⟩ => rfl),
    extractStridedSlice_apply _ _ h1 (ix2 q ⟨b + l.val, by omega⟩) (ix2 ⟨a + q.val, by omega⟩ ⟨b + l.val, by omega⟩) (fun z => by
      match z with
      | ⟨0, _⟩ => rfl
      | ⟨1, _⟩ => exact (Nat.zero_add _).symm)]

theorem rows_ok {a N : ℕ} (h : a + N ≤ 512) : S512x1024.Slices ![a, 0] (⟨2, ![N, 1024]⟩ : Shape) :=
  ⟨rfl, fun z => by match z with | ⟨0, _⟩ => exact h | ⟨1, _⟩ => exact Nat.le_refl _⟩

theorem lanes_ok {b N : ℕ} (h : b + 128 ≤ 1024) : (⟨2, ![N, 1024]⟩ : Shape).Slices ![0, b] (⟨2, ![N, 128]⟩ : Shape) :=
  ⟨rfl, fun z => by match z with | ⟨0, _⟩ => exact (Nat.zero_add N).le | ⟨1, _⟩ => exact h⟩

theorem agrees_cut (v : FVec Ideal S512x1024 .f32) (d N cs r a b : ℕ) (hr : r < d) (ha : a = r * N) (hb : b = 128 * cs) (h1 : a + N ≤ 512) (h2 : b + 128 ≤ 1024)
    (i1 : ∀ a, (![cs, 0, 0] : Fin 3 → ℕ) a + S1x512x128.size a ≤ S8x512x128.size a)
    (i2 : ∀ a, (![N, 128] : Fin 2 → ℕ) a = 0 ∨ (![r, 0] : Fin 2 → ℕ) a + (![d, 1] : Fin 2 → ℕ) a * ((![N, 128] : Fin 2 → ℕ) a - 1) < S512x128.size a)
    (i3 : ∀ a, 0 < (![d, 1] : Fin 2 → ℕ) a) (h0 : (![1, 512, 128] : Fin 3 → ℕ) 0 = 1)
    (hs : ∀ i, (![1, 512, 128] : Fin 3 → ℕ) i.succ = (![512, 128] : Fin 2 → ℕ) i) (h : ∀ a, (Rect.unit (s := S8x512x128) ![cs, 0, 0] S1x512x128.size i1).stride a = 1)
    (hR : (stored d N cs r ![N, 128] i1 i2 i3 h0 hs h).shape.numel = (⟨⟨![r, 0], ![N, 128], ![d, 1], i2⟩, i3⟩ : Rect S512x128).shape.numel) (h3) :
    Agrees v d N ⟨stored d N cs r ![N, 128] i1 i2 i3 h0 hs h, Rect.payAlong (r := (⟨⟨![r, 0], ![N, 128], ![d, 1], i2⟩, i3⟩ : Rect S512x128)) hR
      (shapeCast (⟨2, ![N, 128]⟩ : Shape) (extractStridedSlice (⟨2, ![N, 128]⟩ : Shape) ![0, b] (extractStridedSlice (⟨2, ![N, 1024]⟩ : Shape) ![a, 0] v (rows_ok h1)) (lanes_ok h2)) h3)⟩ := by
  subst ha hb
  exact agrees_of v d N cs r hr i1 i2 i3 h0 hs h _ hR (fun q l => cut_at v _ _ (rows_ok h1) (lanes_ok h2) h3 q l)

/-- Whether the list holds the store of every class and lane chunk, in the body's order. -/
def complete (d N : ℕ) (L : List (View.Piece (Elt Ideal) S8x512x128 .f32)) : Bool :=
  (List.range 8).all fun cs => (List.range d).all fun r =>
    match L[8 * (d - 1 - r) + (7 - cs)]? with
    | none => false
    | some p => p.1.off (0 : Fin 3) == cs && p.1.off (1 : Fin 3) == r && p.1.off (2 : Fin 3) == 0
        && p.1.size (0 : Fin 3) == 1 && p.1.size (1 : Fin 3) == N && p.1.size (2 : Fin 3) == 128
        && p.1.stride (0 : Fin 3) == 1 && p.1.stride (1 : Fin 3) == d && p.1.stride (2 : Fin 3) == 1

/-- A lane chunk of the slab, rows in the tokens' order. -/
def chunk (v : FVec Ideal S512x1024 .f32) (d N cs : ℕ) : Vec Ideal S1x512x128 .f32 :=
  fun x => at2 v ((x 1).val % d * N + (x 1).val / d) (128 * cs + (x 2).val)

theorem chunk_read (v : FVec Ideal S512x1024 .f32) (d N : ℕ) (hd : 0 < d) (hN : d * N = 512) (cs : ℕ)
    (L : List (View.Piece (Elt Ideal) S8x512x128 .f32)) (hL : ∀ p ∈ L, Agrees v d N p) (hc : complete d N L = true)
    {sg : RefSig} {κ : Kind} {sp : Space} (vw : View sg κ sp S8x512x128 .f32)
    (inb : ∀ a, (![cs, 0, 0] : Fin 3 → ℕ) a + S1x512x128.size a ≤ S8x512x128.size a) :
    vw.readCov L (Rect.unit (s := S8x512x128) ![cs, 0, 0] S1x512x128.size inb).toLoadRect = chunk v d N cs := by
  have hcs : cs + 1 ≤ 8 := inb 0
  rw [View.readCov_eq_canon']
  funext x
  have x0 : (x 0).val < 1 := (x 0).isLt
  have x1 : (x 1).val < 512 := (x 1).isLt
  have x2 : (x 2).val < 128 := (x 2).isLt
  have y0 : ((Rect.unit (s := S8x512x128) ![cs, 0, 0] S1x512x128.size inb).idx x 0).val = cs := by
    show cs + 1 * (x 0).val = cs; omega
  have y1 : ((Rect.unit (s := S8x512x128) ![cs, 0, 0] S1x512x128.size inb).idx x 1).val = (x 1).val := by
    show 0 + 1 * (x 1).val = _; omega
  have y2 : ((Rect.unit (s := S8x512x128) ![cs, 0, 0] S1x512x128.size inb).idx x 2).val = (x 2).val := by
    show 0 + 1 * (x 2).val = _; omega
  have hm : ∃ p ∈ L, (Rect.unit (s := S8x512x128) ![cs, 0, 0] S1x512x128.size inb).idx x ∈ p.1.set := by
    have h := List.all_eq_true.1 (List.all_eq_true.1 hc cs (List.mem_range.2 (by omega))) ((x 1).val % d) (List.mem_range.2 (Nat.mod_lt _ hd))
    revert h
    split
    · intro h; exact absurd h (by simp)
    · rename_i p hp
      intro h
      simp only [Bool.and_eq_true, beq_iff_eq] at h
      obtain ⟨⟨⟨⟨⟨⟨⟨⟨o0, o1⟩, o2⟩, z0⟩, z1⟩, z2⟩, s0⟩, s1⟩, s2⟩ := h
      refine ⟨p, List.mem_of_getElem? hp, p.1.mem_set.2 fun a => ?_⟩
      match a with
      | ⟨0, _⟩ => exact ⟨0, z0.symm ▸ Nat.one_pos, y0.trans (o0.symm.trans (by show _ = p.1.off (0 : Fin 3) + p.1.stride (0 : Fin 3) * 0; omega))⟩
      | ⟨1, _⟩ => exact ⟨(x 1).val / d, z1.symm ▸ (Nat.div_lt_of_lt_mul (by rw [hN]; exact x1)),
          y1.trans (by show _ = p.1.off (1 : Fin 3) + p.1.stride (1 : Fin 3) * _; rw [o1, s1]; exact (Nat.mod_add_div _ _).symm)⟩
      | ⟨2, _⟩ => exact ⟨(x 2).val, z2.symm ▸ x2, y2.trans (by show _ = p.1.off (2 : Fin 3) + p.1.stride (2 : Fin 3) * _; rw [o2, s2]; omega)⟩
  refine (View.canon_apply_of_pieces (Val := Elt Ideal) (e := .f32) (S := S8x512x128) (slab v d N) L (fun p hp => hL p hp) _ hm).trans ?_
  unfold slab chunk
  rw [y0, y1, y2]

variable (c : Dev nD) (arg3 : Memref sig .tc .vmem S4x128x1536 .bf16) (harg3 : arg3.IsWhole) (arg4 : Memref sig .tc .vmem S16x32x1536 .bf16) (harg4 : arg4.IsWhole)
  (arg10 : Memref sig .tc .vmem S1024x512 .bf16) (harg10 : arg10.IsWhole) (arg11 : Memref sig .tc .vmem S1024x512 .bf16) (harg11 : arg11.IsWhole)
  (arg12 : Memref sig .tc .vmem S1024x512 .bf16) (harg12 : arg12.IsWhole) (arg13 : Memref sig .tc .vmem S1024x512 .bf16) (harg13 : arg13.IsWhole)
  (arg14 : Memref sig .tc .vmem S1024x512 .bf16) (harg14 : arg14.IsWhole) (arg15 : Memref sig .tc .vmem S1024x512 .bf16) (harg15 : arg15.IsWhole)
  (x2 : Vec Ideal S4x128x1536 .bf16) (x3 : Vec Ideal S16x32x1536 .bf16) (x9 x10 x11 x12 x13 x14 : Vec Ideal S1024x512 .bf16)

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

theorem list0A : ∀ p ∈ kernelRun0_A.sl.HS0_32 c arg3 harg3 arg10 harg10 arg11 harg11 arg12 harg12 x2 x9 x10 x11,
    Agrees (kernelRun0_A.sl.r c arg3 harg3 arg10 harg10 arg11 harg11 arg12 harg12 x2 x9 x10 x11) 4 128 p := by
  iterate 32 refine List.forall_mem_cons.mpr ⟨agrees_cut _ 4 128 _ _ _ _ (by decide) (by decide) (by decide) (by decide) (by decide) _ _ _ _ _ _ _ _, ?_⟩
  exact List.forall_mem_nil _

theorem list1A : ∀ p ∈ kernelRun0_A.sl.HS1_128 c arg4 harg4 arg13 harg13 arg14 harg14 arg15 harg15 x3 x12 x13 x14,
    Agrees (kernelRun0_A.sl.r_10 c arg4 harg4 arg13 harg13 arg14 harg14 arg15 harg15 x3 x12 x13 x14) 16 32 p := by
  iterate 128 refine List.forall_mem_cons.mpr ⟨agrees_cut _ 16 32 _ _ _ _ (by decide) (by decide) (by decide) (by decide) (by decide) _ _ _ _ _ _ _ _, ?_⟩
  exact List.forall_mem_nil _

theorem full0A : complete 4 128 (kernelRun0_A.sl.HS0_32 c arg3 harg3 arg10 harg10 arg11 harg11 arg12 harg12 x2 x9 x10 x11) = true := by
  sl_kernel_rfl

theorem full1A : complete 16 32 (kernelRun0_A.sl.HS1_128 c arg4 harg4 arg13 harg13 arg14 harg14 arg15 harg15 x3 x12 x13 x14) = true := by
  sl_kernel_rfl

end Cert.Kernel7Ideal.Inproj
-- ==== Proof.InpRun.lean ====
/- What the input projection's backward leaves in its staging buffers at one grid point, as its body's values. -/
module

public import proofs.«01_k».proof.Proof.InpSlab

@[expose] public section

set_option maxRecDepth 16384

noncomputable section

namespace Cert.Kernel7Ideal.Inproj

open Cert.Kernel7Ideal Cert.Kernel7Ideal.Gen Idealize.ShloMosaic Idealize.ShloMosaic.TcCoe

/-- The gate's and the value's columns of the gated unit's gradient block. -/
abbrev left : Rect S512x3072 := Rect.unit (s := S512x3072) ![0, 0] S512x1536.size inb_S512x3072_S512x1536_0_0
abbrev right : Rect S512x3072 := Rect.unit (s := S512x3072) ![0, 1536] S512x1536.size inb_S512x3072_S512x1536_0_1536

/-- The gradient at the normed activation, of the products before the norm. -/
abbrev DH (x0 : Vec Ideal S512x3072 .bf16) (x1 : Vec Ideal S1x512x1536 .bf16) (x2 : Vec Ideal S4x128x1536 .bf16) (x3 : Vec Ideal S16x32x1536 .bf16) (x4 x5 : Vec Ideal S1024x1536 .bf16)
    (x6 x7 x8 x9 x10 x11 x12 x13 x14 : Vec Ideal S1024x512 .bf16) (P0 P1 : FVec Ideal S512x1024 .f32) : FVec Ideal S512x1024 .f32 :=
  k0_pay218 (k0_pay214 (k0_pay213 (View.ld x0 left) x4 (View.ld x0 right) x5 x1 x6 x7 x8)
      (chunk P0 4 128 0) (chunk P0 4 128 1) (chunk P0 4 128 2) (chunk P0 4 128 3) (chunk P0 4 128 4) (chunk P0 4 128 5) (chunk P0 4 128 6) (chunk P0 4 128 7))
    (k0_pay215 (chunk P1 16 32 0)) (k0_pay216 (chunk P1 16 32 1)) (k0_pay217 (chunk P1 16 32 2))
    (chunk P1 16 32 3) (chunk P1 16 32 4) (chunk P1 16 32 5) (chunk P1 16 32 6) (chunk P1 16 32 7)

/-- The gain's gradient, one block's rows added to what the earlier blocks left. -/
def DG (D x : FVec Ideal S512x1024 .f32) (acc : FVec Ideal S1x1024 .f32) : FVec Ideal S1x1024 .f32 :=
  addf (shapeCast S1x1024 acc shapeCasts_S1x1024_S1x1024)
    (shapeCast S1x1024 (multiReduction .add [0] S1024 (mulf D (k0_pay220 x)) 0x00000000#32 reduces_S512x1024_S1024 (.inl rfl) rfl) shapeCasts_S1024_S1x1024)

variable (c : Dev nD) (i : grid0.Coords) (arg1 : Memref sig .tc .vmem S512x3072 .bf16) (harg1 : arg1.IsWhole) (arg2 : Memref sig .tc .vmem S1x512x1536 .bf16) (harg2 : arg2.IsWhole) (arg3 : Memref sig .tc .vmem S4x128x1536 .bf16) (harg3 : arg3.IsWhole) (arg4 : Memref sig .tc .vmem S16x32x1536 .bf16) (harg4 : arg4.IsWhole) (arg5 : Memref sig .tc .vmem S1024x1536 .bf16) (harg5 : arg5.IsWhole) (arg6 : Memref sig .tc .vmem S1024x1536 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S512x1024 .f32) (harg16 : arg16.IsWhole) (arg17 : Memref sig .tc .vmem S512x1024 .f32) (harg17 : arg17.IsWhole) (arg18 : Memref sig .tc .vmem S1x1024 .f32) (harg18 : arg18.IsWhole) (arg19 : Memref sig .tc .vmem S512x1024 .f32) (harg19 : arg19.IsWhole) (arg20 : Memref sig .tc .vmem S1x1024 .f32) (harg20 : arg20.IsWhole) (arg21 : Memref sig .tc .vmem S8x512x128 .f32) (harg21 : arg21.IsWhole) (arg22 : Memref sig .tc .vmem S8x512x128 .f32) (harg22 : arg22.IsWhole)
  (x0 : Vec Ideal S512x3072 .bf16) (x1 : Vec Ideal S1x512x1536 .bf16) (x2 : Vec Ideal S4x128x1536 .bf16) (x3 : Vec Ideal S16x32x1536 .bf16) (x4 : Vec Ideal S1024x1536 .bf16) (x5 : Vec Ideal S1024x1536 .bf16) (x6 : Vec Ideal S1024x512 .bf16) (x7 : Vec Ideal S1024x512 .bf16) (x8 : Vec Ideal S1024x512 .bf16) (x9 : Vec Ideal S1024x512 .bf16) (x10 : Vec Ideal S1024x512 .bf16) (x11 : Vec Ideal S1024x512 .bf16) (x12 : Vec Ideal S1024x512 .bf16) (x13 : Vec Ideal S1024x512 .bf16) (x14 : Vec Ideal S1024x512 .bf16) (x15 : Vec Ideal S512x1024 .f32) (x16 : Vec Ideal S512x1024 .f32) (x17 : Vec Ideal S1x1024 .f32)

theorem part0 : kernelRun0_A.sl.r c arg3 harg3 arg10 harg10 arg11 harg11 arg12 harg12 x2 x9 x10 x11 = k0_pay3 (F := Ideal) x2 x9 x10 x11 := by
  unfold kernelRun0_A.sl.r
  simp only [View.readAt_eq_ld, Memref.IsWhole.read_unread, View.ld_unit_zero (S := S1024x512) hz2, View.ld_unit_zero (S := S4x128x1536) hz3]

theorem part1 : kernelRun0_A.sl.r_10 c arg4 harg4 arg13 harg13 arg14 harg14 arg15 harg15 x3 x12 x13 x14 = k0_pay45 (F := Ideal) x3 x12 x13 x14 := by
  unfold kernelRun0_A.sl.r_10
  simp only [View.readAt_eq_ld, Memref.IsWhole.read_unread, View.ld_unit_zero (S := S1024x512) hz2, View.ld_unit_zero (S := S16x32x1536) hz3]

theorem readA0 (cs : ℕ) (inb) : arg21.view.readCov (kernelRun0_A.sl.HS0_32 c arg3 harg3 arg10 harg10 arg11 harg11 arg12 harg12 x2 x9 x10 x11) (Rect.unit (s := S8x512x128) ![cs, 0, 0] ![1, 512, 128] inb).toLoadRect
    = chunk (k0_pay3 (F := Ideal) x2 x9 x10 x11) 4 128 cs :=
  (chunk_read _ 4 128 (by decide) rfl cs _ (list0A c arg3 harg3 arg10 harg10 arg11 harg11 arg12 harg12 x2 x9 x10 x11) (full0A c arg3 harg3 arg10 harg10 arg11 harg11 arg12 harg12 x2 x9 x10 x11) arg21.view inb).trans
    (congrArg (fun v => chunk v 4 128 cs) (part0 c arg3 harg3 arg10 harg10 arg11 harg11 arg12 harg12 x2 x9 x10 x11))

theorem readA1 (cs : ℕ) (inb) : arg22.view.readCov (kernelRun0_A.sl.HS1_128 c arg4 harg4 arg13 harg13 arg14 harg14 arg15 harg15 x3 x12 x13 x14) (Rect.unit (s := S8x512x128) ![cs, 0, 0] ![1, 512, 128] inb).toLoadRect
    = chunk (k0_pay45 (F := Ideal) x3 x12 x13 x14) 16 32 cs :=
  (chunk_read _ 16 32 (by decide) rfl cs _ (list1A c arg4 harg4 arg13 harg13 arg14 harg14 arg15 harg15 x3 x12 x13 x14) (full1A c arg4 harg4 arg13 harg13 arg14 harg14 arg15 harg15 x3 x12 x13 x14) arg22.view inb).trans
    (congrArg (fun v => chunk v 16 32 cs) (part1 c arg4 harg4 arg13 harg13 arg14 harg14 arg15 harg15 x3 x12 x13 x14))

theorem dhA : kernelRun0_A.sl.r_59 c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 = DH x0 x1 x2 x3 x4 x5 x6 x7 x8 x9 x10 x11 x12 x13 x14 (k0_pay3 x2 x9 x10 x11) (k0_pay45 x3 x12 x13 x14) := by
  unfold kernelRun0_A.sl.r_59 kernelRun0_A.sl.r_58 kernelRun0_A.sl.r_57 kernelRun0_A.sl.r_56 kernelRun0_A.sl.r_55 kernelRun0_A.sl.r_54
    kernelRun0_A.sl.v1030 kernelRun0_A.sl.v1032 kernelRun0_A.sl.v1034 kernelRun0_A.sl.v1036 kernelRun0_A.sl.v1038 kernelRun0_A.sl.v1040 kernelRun0_A.sl.v1042 kernelRun0_A.sl.v1044
    kernelRun0_A.sl.v1048 kernelRun0_A.sl.v1050 kernelRun0_A.sl.v1052 kernelRun0_A.sl.v1054 kernelRun0_A.sl.v1056 kernelRun0_A.sl.v1058 kernelRun0_A.sl.v1060 kernelRun0_A.sl.v1062
  simp only [readA0, readA1]
  simp only [View.readAt_eq_ld, Memref.IsWhole.read_unread, View.ld_unit_zero (S := S1024x512) hz2, View.ld_unit_zero (S := S1024x1536) hz2, View.ld_unit_zero (S := S1x512x1536) hz3]

theorem dhB : kernelRun0_B.sl.r_59 (F := Ideal) c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 = kernelRun0_A.sl.r_59 c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 := by
  rfl

theorem A_18 (hc0 : cond0_0 i) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = k0_pay1 (F := Ideal) (DH x0 x1 x2 x3 x4 x5 x6 x7 x8 x9 x10 x11 x12 x13 x14 (k0_pay3 x2 x9 x10 x11) (k0_pay45 x3 x12 x13 x14)) (k0_pay219 x15) (k0_pay220 x15) x16 (k0_pay222 x17) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17)]
  unfold kernelRun0_A
  dsimp only
  rw [View.canon_unit_zero (S := S512x1024) hz2, dhA]
  unfold kernelRun0_A.sl.r_60 kernelRun0_A.sl.r_61 kernelRun0_A.sl.r_62 kernelRun0_A.sl.r_63
  simp only [View.readAt_eq_ld, Memref.IsWhole.read_unread, View.ld_unit_zero (S := S512x1024) hz2, View.ld_unit_zero (S := S1x1024) hz2]

theorem B_18 (hc0 : ¬ cond0_0 i) (xo19 : Vec Ideal S1x1024 .f32) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo19 = k0_pay1 (F := Ideal) (DH x0 x1 x2 x3 x4 x5 x6 x7 x8 x9 x10 x11 x12 x13 x14 (k0_pay3 x2 x9 x10 x11) (k0_pay45 x3 x12 x13 x14)) (k0_pay219 x15) (k0_pay220 x15) x16 (k0_pay222 x17) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo19)]
  unfold kernelRun0_B
  dsimp only
  rw [View.canon_unit_zero (S := S512x1024) hz2, dhB, dhA]
  unfold kernelRun0_B.sl.r_60 kernelRun0_B.sl.r_61 kernelRun0_B.sl.r_62 kernelRun0_B.sl.r_63
  simp only [View.readAt_eq_ld, Memref.IsWhole.read_unread, View.ld_unit_zero (S := S512x1024) hz2, View.ld_unit_zero (S := S1x1024) hz2]

theorem A_19 (hc0 : cond0_0 i) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 = DG (DH x0 x1 x2 x3 x4 x5 x6 x7 x8 x9 x10 x11 x12 x13 x14 (k0_pay3 x2 x9 x10 x11) (k0_pay45 x3 x12 x13 x14)) x15 (k0_pay2 (F := Ideal)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17)]
  unfold kernelRun0_A
  dsimp only
  rw [View.canon_cons_unit_zero (S := S1x1024) hz2]
  show DG (kernelRun0_A.sl.r_59 c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) _ _ = _
  rw [dhA]
  unfold kernelRun0_A.sl.v1077 kernelRun0_A.sl.H19_1
  rw [View.readCov_unit_zero (S := S1x1024) _ hz2]
  simp only [View.readAt_eq_ld, Memref.IsWhole.read_unread, View.ld_unit_zero (S := S512x1024) hz2, View.ld_unit_zero (S := S1x1024) hz2]

theorem B_19 (hc0 : ¬ cond0_0 i) (xo19 : Vec Ideal S1x1024 .f32) : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo19 = DG (DH x0 x1 x2 x3 x4 x5 x6 x7 x8 x9 x10 x11 x12 x13 x14 (k0_pay3 x2 x9 x10 x11) (k0_pay45 x3 x12 x13 x14)) x15 xo19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 xo19)]
  unfold kernelRun0_B
  dsimp only
  rw [View.canon_unit_zero (S := S1x1024) hz2]
  show DG (kernelRun0_B.sl.r_59 c arg1 harg1 arg2 harg2 arg3 harg3 arg4 harg4 arg5 harg5 arg6 harg6 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14) _ _ = _
  rw [dhB, dhA]
  simp only [View.readAt_eq_ld, Memref.IsWhole.read_unread, View.ld_unit_zero (S := S512x1024) hz2, View.ld_unit_zero (S := S1x1024) hz2]

end Cert.Kernel7Ideal.Inproj
-- ==== Proof.InpSpec.lean ====
/- The input projection's backward on real numbers: the gradient at the normed activation is the sum of the gated
   unit's product with its columns of the weight and of each dilation's product with its own, and the norm's backward
   takes it to the residual stream and to the gain. -/
module

public import proofs.«01_k».proof.Proof.FfnSpec

@[expose] public section

noncomputable section

namespace Cert.Inproj

open Cert.Reals Cert.Ffn
open scoped BigOperators

/-- What the call reads, as real numbers. A dilation's rows lie by their place in the stride, then by the stride. -/
structure Args where
  gu : Fin 8192 → Fin 3072 → ℝ
  q0 : Fin 8192 → Fin 1536 → ℝ
  q1 : Fin 4 → Fin 2048 → Fin 1536 → ℝ
  q2 : Fin 16 → Fin 512 → Fin 1536 → ℝ
  w : Fin 1024 → Fin 7680 → ℝ
  x : Fin 8192 → Row
  dx1 : Fin 8192 → Row
  g1 : Row

/-- The gated unit's columns. -/
def gated (v : Fin 3072 → ℝ) (w : Fin 7680 → ℝ) : ℝ := ∑ j : Fin 3072, v j * w ⟨4608 + j.val, by omega⟩

/-- One dilation's columns of query, key and value. -/
def part (v : Fin 1536 → ℝ) (w : Fin 7680 → ℝ) (g : Fin 3) : ℝ :=
  ∑ p : Fin 3, ∑ j : Fin 512, v ⟨512 * p.val + j.val, by omega⟩ * w ⟨512 * (3 * p.val + g.val) + j.val, by omega⟩

variable (A : Args)

/-- A token's row in the second and third dilation. -/
abbrev row1 (t : Fin 8192) : Fin 1536 → ℝ := A.q1 ⟨t.val % 4, by omega⟩ ⟨t.val / 4, by omega⟩
abbrev row2 (t : Fin 8192) : Fin 1536 → ℝ := A.q2 ⟨t.val % 16, by omega⟩ ⟨t.val / 16, by omega⟩

/-- The gradient at the normed activation. -/
def dh (t : Fin 8192) (k : Fin 1024) : ℝ :=
  gated (A.gu t) (A.w k) + part (A.q0 t) (A.w k) 0 + part (row1 A t) (A.w k) 1 + part (row2 A t) (A.w k) 2

def dx (t : Fin 8192) (k : Fin 1024) : ℝ := A.dx1 t k + back (dh A t) A.g1 (A.x t) k
def dg (k : Fin 1024) : ℝ := ∑ t, dh A t k * hat (A.x t) k

/-! ## The same sum over the columns in their order -/

/-- The gradient at the projection's output: column `j` of the gated unit, or of the dilation the column is of. -/
def cot (gu : Fin 3072 → ℝ) (v0 v1 v2 : Fin 1536 → ℝ) (j : Fin 7680) : ℝ :=
  if h : 4608 ≤ j.val then gu ⟨j.val - 4608, by omega⟩
  else if j.val / 512 % 3 = 0 then v0 ⟨512 * (j.val / 1536) + j.val % 512, by omega⟩
  else if j.val / 512 % 3 = 1 then v1 ⟨512 * (j.val / 1536) + j.val % 512, by omega⟩
  else v2 ⟨512 * (j.val / 1536) + j.val % 512, by omega⟩

theorem sum_split (f : Fin 7680 → ℝ) : ∑ j, f j = (∑ j : Fin 4608, f ⟨j.val, by omega⟩) + ∑ j : Fin 3072, f ⟨4608 + j.val, by omega⟩ :=
  Fin.sum_univ_add (a := 4608) (b := 3072) f

theorem sum_cols (f : Fin 4608 → ℝ) : ∑ j, f j = ∑ p : Fin 3, ∑ g : Fin 3, ∑ j : Fin 512, f ⟨512 * (3 * p.val + g.val) + j.val, by omega⟩ := by
  rw [← (finProdFinEquiv (m := 9) (n := 512)).sum_comp f, Fintype.sum_prod_type,
    ← (finProdFinEquiv (m := 3) (n := 3)).sum_comp, Fintype.sum_prod_type]
  refine Finset.sum_congr rfl fun p _ => Finset.sum_congr rfl fun g _ => Finset.sum_congr rfl fun j _ => congrArg f (Fin.ext ?_)
  show j.val + 512 * (g.val + 3 * p.val) = 512 * (3 * p.val + g.val) + j.val
  omega

theorem cot_gated (gu : Fin 3072 → ℝ) (v0 v1 v2 : Fin 1536 → ℝ) (j : Fin 3072) :
    cot gu v0 v1 v2 ⟨4608 + j.val, by omega⟩ = gu j := by
  unfold cot
  rw [dif_pos (by dsimp only; omega)]
  exact congrArg gu (Fin.ext (by dsimp only; omega))

theorem pick {α : Type} (v0 v1 v2 : α → ℝ) (g : Fin 3) (q : α) :
    (if g.val = 0 then v0 q else if g.val = 1 then v1 q else v2 q) = ![v0, v1, v2] g q :=
  match g with
  | ⟨0, _⟩ => rfl
  | ⟨1, _⟩ => rfl
  | ⟨2, _⟩ => rfl

theorem cot_part (gu : Fin 3072 → ℝ) (v0 v1 v2 : Fin 1536 → ℝ) (p g : Fin 3) (j : Fin 512) :
    cot gu v0 v1 v2 ⟨512 * (3 * p.val + g.val) + j.val, by omega⟩ = (![v0, v1, v2] g) ⟨512 * p.val + j.val, by omega⟩ := by
  unfold cot
  rw [dif_neg (by dsimp only; omega)]
  have hd : (512 * (3 * p.val + g.val) + j.val) / 512 % 3 = g.val := by omega
  have hc : (⟨512 * ((512 * (3 * p.val + g.val) + j.val) / 1536) + (512 * (3 * p.val + g.val) + j.val) % 512, by omega⟩ : Fin 1536) = ⟨512 * p.val + j.val, by omega⟩ :=
    Fin.ext (by dsimp only; omega)
  dsimp only
  rw [hd, hc]
  exact pick v0 v1 v2 g _

theorem sum_cot (gu : Fin 3072 → ℝ) (v0 v1 v2 : Fin 1536 → ℝ) (w : Fin 7680 → ℝ) :
    ∑ j, cot gu v0 v1 v2 j * w j = gated gu w + part v0 w 0 + part v1 w 1 + part v2 w 2 := by
  have hp (g : Fin 3) : ∑ p : Fin 3, ∑ j : Fin 512, cot gu v0 v1 v2 ⟨512 * (3 * p.val + g.val) + j.val, by omega⟩ * w ⟨512 * (3 * p.val + g.val) + j.val, by omega⟩
      = part (![v0, v1, v2] g) w g :=
    Finset.sum_congr rfl fun p _ => Finset.sum_congr rfl fun j _ => congrArg (· * _) (cot_part gu v0 v1 v2 p g j)
  have hg : ∑ j : Fin 3072, cot gu v0 v1 v2 ⟨4608 + j.val, by omega⟩ * w ⟨4608 + j.val, by omega⟩ = gated gu w :=
    Finset.sum_congr rfl fun j _ => congrArg (· * _) (cot_gated gu v0 v1 v2 j)
  rw [sum_split, sum_cols, hg, Finset.sum_comm, Finset.sum_congr rfl fun g _ => hp g, Fin.sum_univ_three]
  show part v0 w 0 + part v1 w 1 + part v2 w 2 + gated gu w = _
  ring

end Cert.Inproj

end
-- ==== Proof.InpPay.lean ====
/- The input projection's backward at one grid point: each value of its body, element by element, on real inputs. -/
module

public import proofs.«01_k».proof.Proof.InpRun
public import proofs.«01_k».proof.Proof.InpSpec
public import proofs.«01_k».proof.Proof.FfnArr

@[expose] public section

set_option maxRecDepth 16384

noncomputable section

namespace Cert.Kernel7Ideal.Inproj

open Cert.Kernel7Ideal Cert.Kernel7Ideal.Gen Cert.Reals Cert.Inproj Idealize.ShloMosaic
open Cert.Ffn hiding Args
open Cert.Kernel2Ideal.Win (row)
open Cert.Kernel2Ideal.Arr (blockSum)
open scoped BigOperators

theorem chunk_at (P : FVec Ideal S512x1024 .f32) (d N cs : ℕ) (i : Fin 512) (j : Fin 128) (k : Fin 1024) (h : 128 * cs + j.val = k.val) :
    chunk P d N cs (ix3 0 i j) = at2 P (i.val % d * N + i.val / d) k.val := by
  rw [← h]; rfl

theorem pay214_at (D P : FVec Ideal S512x1024 .f32) (i : Fin 512) (k : Fin 1024) :
    k0_pay214 (F := Ideal) D (chunk P 4 128 0) (chunk P 4 128 1) (chunk P 4 128 2) (chunk P 4 128 3) (chunk P 4 128 4) (chunk P 4 128 5) (chunk P 4 128 6) (chunk P 4 128 7) (ix2 i k)
      = D (ix2 i k) + at2 P (i.val % 4 * 128 + i.val / 4) k.val := by
  pointwise [k0_pay214]
  have hk := k.isLt
  split_ifs <;> refine congrArg (D (ix2 i k) + ·) (chunk_at P 4 128 _ i _ k ?_) <;> dsimp only <;> omega

theorem pay218_at (D P : FVec Ideal S512x1024 .f32) (i : Fin 512) (k : Fin 1024) :
    k0_pay218 (F := Ideal) D (k0_pay215 (chunk P 16 32 0)) (k0_pay216 (chunk P 16 32 1)) (k0_pay217 (chunk P 16 32 2)) (chunk P 16 32 3) (chunk P 16 32 4) (chunk P 16 32 5) (chunk P 16 32 6) (chunk P 16 32 7) (ix2 i k)
      = D (ix2 i k) + at2 P (i.val % 16 * 32 + i.val / 16) k.val := by
  pointwise [k0_pay218, k0_pay215, k0_pay216, k0_pay217]
  have hk := k.isLt
  split_ifs <;> refine congrArg (D (ix2 i k) + ·) (chunk_at P 16 32 _ i _ k ?_) <;> dsimp only <;> omega

/-! ## A point's blocks -/

/-- What the windows of block `n` hold: its rows of each array, and the weight's columns. -/
structure Block (A : Args) (n : ℕ) (hn : n < 16) (x0 : Vec Ideal S512x3072 .bf16) (x1 : Vec Ideal S1x512x1536 .bf16) (x2 : Vec Ideal S4x128x1536 .bf16) (x3 : Vec Ideal S16x32x1536 .bf16) (x4 x5 : Vec Ideal S1024x1536 .bf16)
    (x6 x7 x8 x9 x10 x11 x12 x13 x14 : Vec Ideal S1024x512 .bf16) (x15 x16 : Vec Ideal S512x1024 .f32) (x17 : Vec Ideal S1x1024 .f32) : Prop where
  gu : ∀ r j, x0 (ix2 r j) = (A.gu (row n hn r) j : EReal)
  q0 : ∀ r j, x1 (ix3 0 r j) = (A.q0 (row n hn r) j : EReal)
  q1 : ∀ r q j, x2 (ix3 r q j) = (A.q1 r ⟨128 * n + q.val, by omega⟩ j : EReal)
  q2 : ∀ r q j, x3 (ix3 r q j) = (A.q2 r ⟨32 * n + q.val, by omega⟩ j : EReal)
  w4 : ∀ k j, x4 (ix2 k j) = (A.w k ⟨4608 + j.val, by omega⟩ : EReal)
  w5 : ∀ k j, x5 (ix2 k j) = (A.w k ⟨6144 + j.val, by omega⟩ : EReal)
  w6 : ∀ k j, x6 (ix2 k j) = (A.w k ⟨512 * 0 + j.val, by omega⟩ : EReal)
  w7 : ∀ k j, x7 (ix2 k j) = (A.w k ⟨512 * 3 + j.val, by omega⟩ : EReal)
  w8 : ∀ k j, x8 (ix2 k j) = (A.w k ⟨512 * 6 + j.val, by omega⟩ : EReal)
  w9 : ∀ k j, x9 (ix2 k j) = (A.w k ⟨512 * 1 + j.val, by omega⟩ : EReal)
  w10 : ∀ k j, x10 (ix2 k j) = (A.w k ⟨512 * 4 + j.val, by omega⟩ : EReal)
  w11 : ∀ k j, x11 (ix2 k j) = (A.w k ⟨512 * 7 + j.val, by omega⟩ : EReal)
  w12 : ∀ k j, x12 (ix2 k j) = (A.w k ⟨512 * 2 + j.val, by omega⟩ : EReal)
  w13 : ∀ k j, x13 (ix2 k j) = (A.w k ⟨512 * 5 + j.val, by omega⟩ : EReal)
  w14 : ∀ k j, x14 (ix2 k j) = (A.w k ⟨512 * 8 + j.val, by omega⟩ : EReal)
  x : Is2 x15 (fun r => A.x (row n hn r))
  dx1 : Is2 x16 (fun r => A.dx1 (row n hn r))
  g1 : ∀ d, x17 (ix2 0 d) = (A.g1 d : EReal)

theorem part_eq (v : Fin 1536 → ℝ) (w : Fin 7680 → ℝ) (g : Fin 3) (a b c : ℕ) (ha : a = g.val) (hb : b = 3 + g.val) (hc : c = 6 + g.val) :
    (∑ j : Fin 512, v ⟨j.val, by omega⟩ * w ⟨512 * a + j.val, by omega⟩) + (∑ j : Fin 512, v ⟨512 + j.val, by omega⟩ * w ⟨512 * b + j.val, by omega⟩)
      + (∑ j : Fin 512, v ⟨1024 + j.val, by omega⟩ * w ⟨512 * c + j.val, by omega⟩) = part v w g := by
  subst ha hb hc
  unfold part
  rw [Fin.sum_univ_three]
  refine congrArg₂ (· + ·) (congrArg₂ (· + ·) ?_ ?_) ?_ <;>
    exact Finset.sum_congr rfl fun j _ => congrArg₂ (· * ·) (congrArg v (Fin.ext (by simp))) (congrArg w (Fin.ext (by simp)))

/-- Cell `b` of class `a`, of `N` cells a class. -/
theorem div_cell (N a b : ℕ) (h : b < N) : (a * N + b) / N = a := by
  rw [Nat.add_comm, Nat.add_mul_div_right _ _ (by omega), Nat.div_eq_of_lt h, Nat.zero_add]

theorem mod_cell (N a b : ℕ) (h : b < N) : (a * N + b) % N = b := by
  rw [Nat.add_comm, Nat.add_mul_mod_self_right, Nat.mod_eq_of_lt h]

theorem gated_eq (v : Fin 3072 → ℝ) (w : Fin 7680 → ℝ) :
    (∑ j : Fin 1536, v ⟨j.val, by omega⟩ * w ⟨4608 + j.val, by omega⟩) + (∑ j : Fin 1536, v ⟨1536 + j.val, by omega⟩ * w ⟨6144 + j.val, by omega⟩) = gated v w := by
  unfold gated
  refine Eq.trans ?_ (Fin.sum_univ_add (a := 1536) (b := 1536) fun j : Fin 3072 => v j * w ⟨4608 + j.val, by omega⟩).symm
  refine congrArg₂ (· + ·) rfl (Finset.sum_congr rfl fun j _ => congrArg₂ (· * ·) rfl (congrArg w (Fin.ext ?_)))
  show 6144 + j.val = 4608 + (1536 + j.val)
  omega

section

variable {A : Args} {n : ℕ} {hn : n < 16} {x0 : Vec Ideal S512x3072 .bf16} {x1 : Vec Ideal S1x512x1536 .bf16} {x2 : Vec Ideal S4x128x1536 .bf16} {x3 : Vec Ideal S16x32x1536 .bf16} {x4 x5 : Vec Ideal S1024x1536 .bf16}
  {x6 x7 x8 x9 x10 x11 x12 x13 x14 : Vec Ideal S1024x512 .bf16} {x15 x16 : Vec Ideal S512x1024 .f32} {x17 : Vec Ideal S1x1024 .f32}
  (B : Block A n hn x0 x1 x2 x3 x4 x5 x6 x7 x8 x9 x10 x11 x12 x13 x14 x15 x16 x17)
include B

theorem part1_at (i : Fin 512) (k : Fin 1024) : k0_pay3 (F := Ideal) x2 x9 x10 x11 (ix2 i k)
    = (part (A.q1 ⟨i.val / 128, by omega⟩ ⟨128 * n + i.val % 128, by omega⟩) (A.w k) 1 : EReal) := by
  pointwise [k0_pay3]
  simp only [B.q1, B.w9, B.w10, B.w11, ← EReal.coe_mul, coe_sum, ← EReal.coe_add]
  exact congrArg _ (part_eq _ _ 1 1 4 7 rfl rfl rfl)

theorem part2_at (i : Fin 512) (k : Fin 1024) : k0_pay45 (F := Ideal) x3 x12 x13 x14 (ix2 i k)
    = (part (A.q2 ⟨i.val / 32, by omega⟩ ⟨32 * n + i.val % 32, by omega⟩) (A.w k) 2 : EReal) := by
  pointwise [k0_pay45]
  simp only [B.q2, B.w12, B.w13, B.w14, ← EReal.coe_mul, coe_sum, ← EReal.coe_add]
  exact congrArg _ (part_eq _ _ 2 2 5 8 rfl rfl rfl)

theorem own_at (i : Fin 512) (k : Fin 1024) : k0_pay213 (F := Ideal) (View.ld x0 left) x4 (View.ld x0 right) x5 x1 x6 x7 x8 (ix2 i k)
    = ((gated (A.gu (row n hn i)) (A.w k) + part (A.q0 (row n hn i)) (A.w k) 0 : ℝ) : EReal) := by
  pointwise [k0_pay213]
  simp only [B.gu, B.q0, B.w4, B.w5, B.w6, B.w7, B.w8, ← EReal.coe_mul, coe_sum, ← EReal.coe_add]
  exact congrArg _ (congrArg₂ (· + ·) (gated_eq _ _) (part_eq _ _ 0 0 3 6 rfl rfl rfl))

theorem dh_at : Is2 (DH x0 x1 x2 x3 x4 x5 x6 x7 x8 x9 x10 x11 x12 x13 x14 (k0_pay3 x2 x9 x10 x11) (k0_pay45 x3 x12 x13 x14)) (fun r => dh A (row n hn r)) := by
  intro i k
  have hi := i.isLt
  refine (pay218_at (k0_pay214 (k0_pay213 (View.ld x0 left) x4 (View.ld x0 right) x5 x1 x6 x7 x8) (chunk (k0_pay3 x2 x9 x10 x11) 4 128 0) (chunk (k0_pay3 x2 x9 x10 x11) 4 128 1) (chunk (k0_pay3 x2 x9 x10 x11) 4 128 2) (chunk (k0_pay3 x2 x9 x10 x11) 4 128 3) (chunk (k0_pay3 x2 x9 x10 x11) 4 128 4) (chunk (k0_pay3 x2 x9 x10 x11) 4 128 5) (chunk (k0_pay3 x2 x9 x10 x11) 4 128 6) (chunk (k0_pay3 x2 x9 x10 x11) 4 128 7)) (k0_pay45 x3 x12 x13 x14) i k).trans ?_
  rw [pay214_at, own_at B, at2_of (by omega) k.isLt, at2_of (by omega) k.isLt, part1_at B, part2_at B, ← EReal.coe_add, ← EReal.coe_add]
  refine congrArg _ (congrArg₂ (· + ·) (congrArg (_ + ·) (congrArg (part · (A.w k) 1) ?_)) (congrArg (part · (A.w k) 2) ?_))
  · exact congrArg₂ A.q1 (Fin.ext ((div_cell 128 _ _ (by omega)).trans (by simp only [row]; omega))) (Fin.ext ((congrArg (128 * n + ·) (mod_cell 128 _ _ (by omega))).trans (by simp only [row]; omega)))
  · exact congrArg₂ A.q2 (Fin.ext ((div_cell 32 _ _ (by omega)).trans (by simp only [row]; omega))) (Fin.ext ((congrArg (32 * n + ·) (mod_cell 32 _ _ (by omega))).trans (by simp only [row]; omega)))

theorem pay219_at : ∀ r : Fin 512, k0_pay219 (F := Ideal) x15 (ix2 r 0) = (rs (A.x (row n hn r)) : EReal) := by
  intro r
  pointwise [k0_pay219]
  simp only [B.x _ _, ← EReal.coe_mul, coe_sum]
  rw [width_f32, eps_f32, div_coe _ (by norm_num), ← EReal.coe_add]
  exact rsqrt_coe (ms_pos (A.x (row n hn r)))

theorem pay220_at : Is2 (k0_pay220 (F := Ideal) x15) (fun r => hat (A.x (row n hn r))) := by
  intro r d
  pointwise [k0_pay220]
  rw [B.x, pay219_at B, ← EReal.coe_mul]
  rfl

theorem dx_at : Is2 (k0_pay1 (F := Ideal) (DH x0 x1 x2 x3 x4 x5 x6 x7 x8 x9 x10 x11 x12 x13 x14 (k0_pay3 x2 x9 x10 x11) (k0_pay45 x3 x12 x13 x14)) (k0_pay219 x15) (k0_pay220 x15) x16 (k0_pay222 x17))
    (fun r => dx A (row n hn r)) := by
  have hD := dh_at B
  revert hD
  generalize DH x0 x1 x2 x3 x4 x5 x6 x7 x8 x9 x10 x11 x12 x13 x14 (k0_pay3 x2 x9 x10 x11) (k0_pay45 x3 x12 x13 x14) = D
  intro hD r d
  pointwise [k0_pay1, k0_pay222]
  simp only [hD _ _, B.dx1 _ _, pay220_at B _ _, pay219_at B _, B.g1, ← EReal.coe_mul, coe_sum]
  rw [width_f32, div_coe _ (by norm_num), ← EReal.coe_mul, ← EReal.coe_sub, ← EReal.coe_mul, ← EReal.coe_add]
  rfl

theorem dg_at (acc : Vec Ideal S1x1024 .f32) (L : Row) (hL : ∀ l, acc (ix2 0 l) = (L l : EReal)) (d : Fin 1024) :
    DG (DH x0 x1 x2 x3 x4 x5 x6 x7 x8 x9 x10 x11 x12 x13 x14 (k0_pay3 x2 x9 x10 x11) (k0_pay45 x3 x12 x13 x14)) x15 acc (ix2 0 d)
      = ((L d + blockSum (fun t => dh A t d * hat (A.x t) d) n : ℝ) : EReal) := by
  have hD := dh_at B
  revert hD
  generalize DH x0 x1 x2 x3 x4 x5 x6 x7 x8 x9 x10 x11 x12 x13 x14 (k0_pay3 x2 x9 x10 x11) (k0_pay45 x3 x12 x13 x14) = D
  intro hD
  pointwise [DG]
  simp only [hD _ _, pay220_at B _ _, ← EReal.coe_mul, coe_sum]
  rw [hL, ← EReal.coe_add]
  unfold blockSum
  rw [dif_pos hn]

end

end Cert.Kernel7Ideal.Inproj

end
-- ==== Proof.InpFinite.lean ====
/- The input projection's backward on finite arguments: each is an array of real numbers. -/
module

public import proofs.«01_k».proof.Pre_finite_rows
public import proofs.«01_k».proof.Proof.InpSpec
public import proofs.«01_k».proof.Proof.FfnFinite

@[expose] public section

set_option maxRecDepth 16384

noncomputable section

namespace Cert.Inproj

open Cert.Pre_finite_rows Cert.Reals Idealize.ShloMosaic

/-- The eight argument arrays hold the call's real numbers. -/
structure Holds (gu : S8192x3072.Idx → EReal) (q0 : S1x8192x1536.Idx → EReal) (q1 : S4x2048x1536.Idx → EReal) (q2 : S16x512x1536.Idx → EReal)
    (w : S1024x7680.Idx → EReal) (x dx1 : S8192x1024.Idx → EReal) (g1 : S1x1024.Idx → EReal) (A : Args) : Prop where
  gu : Is2 gu A.gu
  q0 : ∀ t j, q0 (ix3 0 t j) = (A.q0 t j : EReal)
  q1 : ∀ r t j, q1 (ix3 r t j) = (A.q1 r t j : EReal)
  q2 : ∀ r t j, q2 (ix3 r t j) = (A.q2 r t j : EReal)
  w : Is2 w A.w
  x : Is2 x A.x
  dx1 : Is2 dx1 A.dx1
  g1 : ∀ k, g1 (ix2 0 k) = (A.g1 k : EReal)

/-- The side conditions the precondition's operations take. -/
theorem facts : Cert.Pre_finite_rows.Facts where
  bitsLt_bf16_f32 := by decide
  bcast_S_S8192x3072 := by decide
  reducesTo_S8192x3072_S_d0_1 := by decide
  h_S_ := by decide
  bcast_S_S1x8192x1536 := by decide
  reducesTo_S1x8192x1536_S_d0_1_2 := by decide
  bcast_S_S4x2048x1536 := by decide
  reducesTo_S4x2048x1536_S_d0_1_2 := by decide
  bcast_S_S16x512x1536 := by decide
  reducesTo_S16x512x1536_S_d0_1_2 := by decide
  bcast_S_S1024x7680 := by decide
  reducesTo_S1024x7680_S_d0_1 := by decide
  bcast_S_S8192x1024 := by decide
  reducesTo_S8192x1024_S_d0_1 := by decide
  bcast_S_S1x1024 := by decide
  reducesTo_S1x1024_S_d0_1 := by decide

/-- The numbers arrays of finite entries hold. -/
def argsOf (gu : S8192x3072.Idx → EReal) (q0 : S1x8192x1536.Idx → EReal) (q1 : S4x2048x1536.Idx → EReal) (q2 : S16x512x1536.Idx → EReal)
    (w : S1024x7680.Idx → EReal) (x dx1 : S8192x1024.Idx → EReal) (g1 : S1x1024.Idx → EReal) : Args where
  gu t j := (gu (ix2 t j)).toReal
  q0 t j := (q0 (ix3 0 t j)).toReal
  q1 r t j := (q1 (ix3 r t j)).toReal
  q2 r t j := (q2 (ix3 r t j)).toReal
  w k j := (w (ix2 k j)).toReal
  x t k := (x (ix2 t k)).toReal
  dx1 t k := (dx1 (ix2 t k)).toReal
  g1 k := (g1 (ix2 0 k)).toReal

instance : Subsingleton S_.Idx := ⟨fun a b => funext fun q => nomatch q⟩

/-- Where the precondition is all ones, every argument holds real numbers. -/
theorem holds_of_finite (hf : Cert.Pre_finite_rows.Facts) (gu : FVec Ideal S8192x3072 .bf16) (q0 : FVec Ideal S1x8192x1536 .bf16)
    (q1 : FVec Ideal S4x2048x1536 .bf16) (q2 : FVec Ideal S16x512x1536 .bf16) (w : FVec Ideal S1024x7680 .bf16)
    (x dx1 : FVec Ideal S8192x1024 .f32) (g1 : FVec Ideal S1x1024 .f32)
    (h : Cert.Pre_finite_rows.fn (F := Ideal) gu q0 q1 q2 w x dx1 g1 = fun _ => 1#1) : Holds gu q0 q1 q2 w x dx1 g1 (argsOf gu q0 q1 q2 w x dx1 g1) := by
  have e := congrFun h (fun q => nomatch q)
  unfold Cert.Pre_finite_rows.fn Cert.Pre_finite_rows.fn_part1 Cert.Pre_finite_rows.fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun t j => ?_, fun t j => ?_, fun r t j => ?_, fun r t j => ?_, fun k j => ?_, fun t k => ?_, fun t k => ?_, fun k => ?_⟩
  · have q := Host.reduce_andi_all _ _ _ _ _ e0 (ix2 t j)
    pointwise at q
    exact Ffn.real_of_lt _ _ q
  · have q := Host.reduce_andi_all _ _ _ _ _ e1 (ix3 0 t j)
    pointwise at q
    exact Ffn.real_of_lt _ _ q
  · have q := Host.reduce_andi_all _ _ _ _ _ e2 (ix3 r t j)
    pointwise at q
    exact Ffn.real_of_lt _ _ q
  · have q := Host.reduce_andi_all _ _ _ _ _ e3 (ix3 r t j)
    pointwise at q
    exact Ffn.real_of_lt _ _ q
  · have q := Host.reduce_andi_all _ _ _ _ _ e4 (ix2 k j)
    pointwise at q
    exact Ffn.real_of_lt _ _ q
  · have q := Host.reduce_andi_all _ _ _ _ _ e5 (ix2 t k)
    pointwise at q
    exact Ffn.real_of_lt _ _ q
  · have q := Host.reduce_andi_all _ _ _ _ _ e6 (ix2 t k)
    pointwise at q
    exact Ffn.real_of_lt _ _ q
  · have q := Host.reduce_andi_all _ _ _ _ _ e7 (ix2 0 k)
    pointwise at q
    exact Ffn.real_of_lt _ _ q

end Cert.Inproj

end
-- ==== Proof.InpArr.lean ====
/- The input projection's backward: where a grid point reads and writes, and what the call leaves in its two arrays, as
   the specification's real numbers. -/
module

public import proofs.«01_k».proof.Proof.Gen.Kernel7Ideal.Value
public import proofs.«01_k».proof.Proof.InpPay
public import proofs.«01_k».proof.Proof.InpFinite

@[expose] public section

set_option maxRecDepth 16384

noncomputable section

namespace Cert.Kernel7Ideal.Inproj

open Cert.Kernel7Ideal Cert.Kernel7Ideal.Gen Cert.Kernel7Ideal.Value Cert.Reals Cert.Inproj
open Idealize.ShloMosaic Idealize.ShloMosaic.TcCoe Idealize.SL.Sem
open Idealize.ShloMosaic.Pipeline (Dat)
open Cert.Ffn hiding Args
open Cert.Kernel2Ideal.Win (row)
open Cert.Kernel2Ideal.Arr (blockSum blockSum_all)
open scoped BigOperators

variable (m : (ℓ : Loc nD τ sig) → Buf (Elt Ideal) ℓ) (c : Dev nD)

/-! ## The blocks read -/

theorem lt16 (t : Fin cfg0.N) : t.val < 16 := lt_of_lt_of_eq t.isLt N_0

/-- Row `r` of the block at point `t`. -/
abbrev rowAt (t : Fin cfg0.N) (r : Fin 512) : Fin 8192 := row t.val (lt16 t) r

theorem is2 {n0 n1 : ℕ} (y : (⟨2, ![n0, n1]⟩ : Shape).Idx) (a : Fin n0) (b : Fin n1) (h0 : (y 0).val = a.val) (h1 : (y 1).val = b.val) : y = ix2 a b := by
  funext d
  apply Fin.ext
  match d with
  | ⟨0, _⟩ => exact h0
  | ⟨1, _⟩ => exact h1

theorem is3 {n0 n1 n2 : ℕ} (y : (⟨3, ![n0, n1, n2]⟩ : Shape).Idx) (a : Fin n0) (b : Fin n1) (d : Fin n2) (h0 : (y 0).val = a.val) (h1 : (y 1).val = b.val) (h2 : (y 2).val = d.val) : y = ix3 a b d := by
  funext e
  apply Fin.ext
  match e with
  | ⟨0, _⟩ => exact h0
  | ⟨1, _⟩ => exact h1
  | ⟨2, _⟩ => exact h2

theorem idx0 : ∀ t : Fin cfg0.N, win0_0.index t 0 = t.val ∧ win0_0.index t 1 = 0 :=
  (by decide +kernel : ∀ t : Fin grid0.N, win0_0.index t 0 = t.val ∧ win0_0.index t 1 = 0)

theorem blk0 (t : Fin cfg0.N) (r : Fin 512) (k : Fin 3072) :
    (iblk m c 0 t : Vec Ideal S512x3072 .bf16) (ix2 r k) = m ((c : Thread nD τ).loc main_arg0) (ix2 (rowAt t r) k) := by
  have hi := idx0 t
  unfold iblk
  rw [View.read_apply]
  refine congrArg (V m c main_arg0) (is2 _ _ _ ?_ ?_)
  · show win0_0.index t 0 * 512 + 1 * (r : ℕ) = 512 * t.val + (r : ℕ); rw [hi.1]; omega
  · show win0_0.index t 1 * 3072 + 1 * (k : ℕ) = (k : ℕ); rw [hi.2]; omega

theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem blk1 (t : Fin cfg0.N) (s : Fin 1) (r : Fin 512) (k : Fin 1536) :
    (iblk m c 1 t : Vec Ideal S1x512x1536 .bf16) (ix3 s r k) = m ((c : Thread nD τ).loc main_arg1) (ix3 s (rowAt t r) k) := by
  have hi := idx1 t
  unfold iblk
  rw [View.read_apply]
  refine congrArg (V m c main_arg1) (is3 _ _ _ _ ?_ ?_ ?_)
  · show win0_1.index t 0 * 1 + 1 * (s : ℕ) = (s : ℕ); rw [hi.1]; omega
  · show win0_1.index t 1 * 512 + 1 * (r : ℕ) = 512 * t.val + (r : ℕ); rw [hi.2.1]; omega
  · show win0_1.index t 2 * 1536 + 1 * (k : ℕ) = (k : ℕ); rw [hi.2.2]; omega

theorem idx2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

theorem blk2 (t : Fin cfg0.N) (s : Fin 4) (r : Fin 128) (k : Fin 1536) :
    (iblk m c 2 t : Vec Ideal S4x128x1536 .bf16) (ix3 s r k) = m ((c : Thread nD τ).loc main_arg2) (ix3 s ⟨128 * t.val + r.val, by have := lt16 t; omega⟩ k) := by
  have hi := idx2 t
  unfold iblk
  rw [View.read_apply]
  refine congrArg (V m c main_arg2) (is3 _ _ _ _ ?_ ?_ ?_)
  · show win0_2.index t 0 * 4 + 1 * (s : ℕ) = (s : ℕ); rw [hi.1]; omega
  · show win0_2.index t 1 * 128 + 1 * (r : ℕ) = 128 * t.val + (r : ℕ); rw [hi.2.1]; omega
  · show win0_2.index t 2 * 1536 + 1 * (k : ℕ) = (k : ℕ); rw [hi.2.2]; omega

theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem blk3 (t : Fin cfg0.N) (s : Fin 16) (r : Fin 32) (k : Fin 1536) :
    (iblk m c 3 t : Vec Ideal S16x32x1536 .bf16) (ix3 s r k) = m ((c : Thread nD τ).loc main_arg3) (ix3 s ⟨32 * t.val + r.val, by have := lt16 t; omega⟩ k) := by
  have hi := idx3 t
  unfold iblk
  rw [View.read_apply]
  refine congrArg (V m c main_arg3) (is3 _ _ _ _ ?_ ?_ ?_)
  · show win0_3.index t 0 * 16 + 1 * (s : ℕ) = (s : ℕ); rw [hi.1]; omega
  · show win0_3.index t 1 * 32 + 1 * (r : ℕ) = 32 * t.val + (r : ℕ); rw [hi.2.1]; omega
  · show win0_3.index t 2 * 1536 + 1 * (k : ℕ) = (k : ℕ); rw [hi.2.2]; omega

/-- A window of the weight's columns from `b` on. -/
theorem cols {n : ℕ} (e : (⟨2, ![1024, n]⟩ : Shape).Idx → (⟨2, ![1024, 7680]⟩ : Shape).Idx) (b : ℕ) (h0 : ∀ y, (e y 0).val = (y 0).val) (h1 : ∀ y, (e y 1).val = b + (y 1).val)
    (k : Fin 1024) (j : Fin n) (h : b + j.val < 7680) : e (ix2 k j) = ix2 k ⟨b + j.val, h⟩ :=
  is2 _ _ _ (h0 _) (h1 _)

theorem idx4 : ∀ t : Fin cfg0.N, win0_4.index t 0 = 0 ∧ win0_4.index t 1 = 3 :=
  (by decide +kernel : ∀ t : Fin grid0.N, win0_4.index t 0 = 0 ∧ win0_4.index t 1 = 3)

theorem blk4 (t : Fin cfg0.N) (k : Fin 1024) (j : Fin 1536) :
    (iblk m c 4 t : Vec Ideal S1024x1536 .bf16) (ix2 k j) = m ((c : Thread nD τ).loc main_arg4) (ix2 k ⟨4608 + j.val, by omega⟩) :=
  congrArg (V m c main_arg4) (cols (fun y => ((cfg0.win 4).blk t).view.emb y) 4608 (fun y => by show win0_4.index t 0 * 1024 + 1 * (y 0).val = (y 0).val; rw [(idx4 t).1]; omega)
    (fun y => by show win0_4.index t 1 * 1536 + 1 * (y 1).val = 4608 + (y 1).val; rw [(idx4 t).2]; omega) k j _)

theorem idx5 : ∀ t : Fin cfg0.N, win0_5.index t 0 = 0 ∧ win0_5.index t 1 = 4 :=
  (by decide +kernel : ∀ t : Fin grid0.N, win0_5.index t 0 = 0 ∧ win0_5.index t 1 = 4)

theorem blk5 (t : Fin cfg0.N) (k : Fin 1024) (j : Fin 1536) :
    (iblk m c 5 t : Vec Ideal S1024x1536 .bf16) (ix2 k j) = m ((c : Thread nD τ).loc main_arg4) (ix2 k ⟨6144 + j.val, by omega⟩) :=
  congrArg (V m c main_arg4) (cols (fun y => ((cfg0.win 5).blk t).view.emb y) 6144 (fun y => by show win0_5.index t 0 * 1024 + 1 * (y 0).val = (y 0).val; rw [(idx5 t).1]; omega)
    (fun y => by show win0_5.index t 1 * 1536 + 1 * (y 1).val = 6144 + (y 1).val; rw [(idx5 t).2]; omega) k j _)

theorem idx6 : ∀ t : Fin cfg0.N, win0_6.index t 0 = 0 ∧ win0_6.index t 1 = 0 :=
  (by decide +kernel : ∀ t : Fin grid0.N, win0_6.index t 0 = 0 ∧ win0_6.index t 1 = 0)

theorem blk6 (t : Fin cfg0.N) (k : Fin 1024) (j : Fin 512) :
    (iblk m c 6 t : Vec Ideal S1024x512 .bf16) (ix2 k j) = m ((c : Thread nD τ).loc main_arg4) (ix2 k ⟨512 * 0 + j.val, by omega⟩) :=
  congrArg (V m c main_arg4) (cols (fun y => ((cfg0.win 6).blk t).view.emb y) (512 * 0) (fun y => by show win0_6.index t 0 * 1024 + 1 * (y 0).val = (y 0).val; rw [(idx6 t).1]; omega)
    (fun y => by show win0_6.index t 1 * 512 + 1 * (y 1).val = 512 * 0 + (y 1).val; rw [(idx6 t).2]; omega) k j _)

theorem idx7 : ∀ t : Fin cfg0.N, win0_7.index t 0 = 0 ∧ win0_7.index t 1 = 3 :=
  (by decide +kernel : ∀ t : Fin grid0.N, win0_7.index t 0 = 0 ∧ win0_7.index t 1 = 3)

theorem blk7 (t : Fin cfg0.N) (k : Fin 1024) (j : Fin 512) :
    (iblk m c 7 t : Vec Ideal S1024x512 .bf16) (ix2 k j) = m ((c : Thread nD τ).loc main_arg4) (ix2 k ⟨512 * 3 + j.val, by omega⟩) :=
  congrArg (V m c main_arg4) (cols (fun y => ((cfg0.win 7).blk t).view.emb y) (512 * 3) (fun y => by show win0_7.index t 0 * 1024 + 1 * (y 0).val = (y 0).val; rw [(idx7 t).1]; omega)
    (fun y => by show win0_7.index t 1 * 512 + 1 * (y 1).val = 512 * 3 + (y 1).val; rw [(idx7 t).2]; omega) k j _)

theorem idx8 : ∀ t : Fin cfg0.N, win0_8.index t 0 = 0 ∧ win0_8.index t 1 = 6 :=
  (by decide +kernel : ∀ t : Fin grid0.N, win0_8.index t 0 = 0 ∧ win0_8.index t 1 = 6)

theorem blk8 (t : Fin cfg0.N) (k : Fin 1024) (j : Fin 512) :
    (iblk m c 8 t : Vec Ideal S1024x512 .bf16) (ix2 k j) = m ((c : Thread nD τ).loc main_arg4) (ix2 k ⟨512 * 6 + j.val, by omega⟩) :=
  congrArg (V m c main_arg4) (cols (fun y => ((cfg0.win 8).blk t).view.emb y) (512 * 6) (fun y => by show win0_8.index t 0 * 1024 + 1 * (y 0).val = (y 0).val; rw [(idx8 t).1]; omega)
    (fun y => by show win0_8.index t 1 * 512 + 1 * (y 1).val = 512 * 6 + (y 1).val; rw [(idx8 t).2]; omega) k j _)

theorem idx9 : ∀ t : Fin cfg0.N, win0_9.index t 0 = 0 ∧ win0_9.index t 1 = 1 :=
  (by decide +kernel : ∀ t : Fin grid0.N, win0_9.index t 0 = 0 ∧ win0_9.index t 1 = 1)

theorem blk9 (t : Fin cfg0.N) (k : Fin 1024) (j : Fin 512) :
    (iblk m c 9 t : Vec Ideal S1024x512 .bf16) (ix2 k j) = m ((c : Thread nD τ).loc main_arg4) (ix2 k ⟨512 * 1 + j.val, by omega⟩) :=
  congrArg (V m c main_arg4) (cols (fun y => ((cfg0.win 9).blk t).view.emb y) (512 * 1) (fun y => by show win0_9.index t 0 * 1024 + 1 * (y 0).val = (y 0).val; rw [(idx9 t).1]; omega)
    (fun y => by show win0_9.index t 1 * 512 + 1 * (y 1).val = 512 * 1 + (y 1).val; rw [(idx9 t).2]; omega) k j _)

theorem idx10 : ∀ t : Fin cfg0.N, win0_10.index t 0 = 0 ∧ win0_10.index t 1 = 4 :=
  (by decide +kernel : ∀ t : Fin grid0.N, win0_10.index t 0 = 0 ∧ win0_10.index t 1 = 4)

theorem blk10 (t : Fin cfg0.N) (k : Fin 1024) (j : Fin 512) :
    (iblk m c 10 t : Vec Ideal S1024x512 .bf16) (ix2 k j) = m ((c : Thread nD τ).loc main_arg4) (ix2 k ⟨512 * 4 + j.val, by omega⟩) :=
  congrArg (V m c main_arg4) (cols (fun y => ((cfg0.win 10).blk t).view.emb y) (512 * 4) (fun y => by show win0_10.index t 0 * 1024 + 1 * (y 0).val = (y 0).val; rw [(idx10 t).1]; omega)
    (fun y => by show win0_10.index t 1 * 512 + 1 * (y 1).val = 512 * 4 + (y 1).val; rw [(idx10 t).2]; omega) k j _)

theorem idx11 : ∀ t : Fin cfg0.N, win0_11.index t 0 = 0 ∧ win0_11.index t 1 = 7 :=
  (by decide +kernel : ∀ t : Fin grid0.N, win0_11.index t 0 = 0 ∧ win0_11.index t 1 = 7)

theorem blk11 (t : Fin cfg0.N) (k : Fin 1024) (j : Fin 512) :
    (iblk m c 11 t : Vec Ideal S1024x512 .bf16) (ix2 k j) = m ((c : Thread nD τ).loc main_arg4) (ix2 k ⟨512 * 7 + j.val, by omega⟩) :=
  congrArg (V m c main_arg4) (cols (fun y => ((cfg0.win 11).blk t).view.emb y) (512 * 7) (fun y => by show win0_11.index t 0 * 1024 + 1 * (y 0).val = (y 0).val; rw [(idx11 t).1]; omega)
    (fun y => by show win0_11.index t 1 * 512 + 1 * (y 1).val = 512 * 7 + (y 1).val; rw [(idx11 t).2]; omega) k j _)

theorem idx12 : ∀ t : Fin cfg0.N, win0_12.index t 0 = 0 ∧ win0_12.index t 1 = 2 :=
  (by decide +kernel : ∀ t : Fin grid0.N, win0_12.index t 0 = 0 ∧ win0_12.index t 1 = 2)

theorem blk12 (t : Fin cfg0.N) (k : Fin 1024) (j : Fin 512) :
    (iblk m c 12 t : Vec Ideal S1024x512 .bf16) (ix2 k j) = m ((c : Thread nD τ).loc main_arg4) (ix2 k ⟨512 * 2 + j.val, by omega⟩) :=
  congrArg (V m c main_arg4) (cols (fun y => ((cfg0.win 12).blk t).view.emb y) (512 * 2) (fun y => by show win0_12.index t 0 * 1024 + 1 * (y 0).val = (y 0).val; rw [(idx12 t).1]; omega)
    (fun y => by show win0_12.index t 1 * 512 + 1 * (y 1).val = 512 * 2 + (y 1).val; rw [(idx12 t).2]; omega) k j _)

theorem idx13 : ∀ t : Fin cfg0.N, win0_13.index t 0 = 0 ∧ win0_13.index t 1 = 5 :=
  (by decide +kernel : ∀ t : Fin grid0.N, win0_13.index t 0 = 0 ∧ win0_13.index t 1 = 5)

theorem blk13 (t : Fin cfg0.N) (k : Fin 1024) (j : Fin 512) :
    (iblk m c 13 t : Vec Ideal S1024x512 .bf16) (ix2 k j) = m ((c : Thread nD τ).loc main_arg4) (ix2 k ⟨512 * 5 + j.val, by omega⟩) :=
  congrArg (V m c main_arg4) (cols (fun y => ((cfg0.win 13).blk t).view.emb y) (512 * 5) (fun y => by show win0_13.index t 0 * 1024 + 1 * (y 0).val = (y 0).val; rw [(idx13 t).1]; omega)
    (fun y => by show win0_13.index t 1 * 512 + 1 * (y 1).val = 512 * 5 + (y 1).val; rw [(idx13 t).2]; omega) k j _)

theorem idx14 : ∀ t : Fin cfg0.N, win0_14.index t 0 = 0 ∧ win0_14.index t 1 = 8 :=
  (by decide +kernel : ∀ t : Fin grid0.N, win0_14.index t 0 = 0 ∧ win0_14.index t 1 = 8)

theorem blk14 (t : Fin cfg0.N) (k : Fin 1024) (j : Fin 512) :
    (iblk m c 14 t : Vec Ideal S1024x512 .bf16) (ix2 k j) = m ((c : Thread nD τ).loc main_arg4) (ix2 k ⟨512 * 8 + j.val, by omega⟩) :=
  congrArg (V m c main_arg4) (cols (fun y => ((cfg0.win 14).blk t).view.emb y) (512 * 8) (fun y => by show win0_14.index t 0 * 1024 + 1 * (y 0).val = (y 0).val; rw [(idx14 t).1]; omega)
    (fun y => by show win0_14.index t 1 * 512 + 1 * (y 1).val = 512 * 8 + (y 1).val; rw [(idx14 t).2]; omega) k j _)

theorem idx15 : ∀ t : Fin cfg0.N, win0_15.index t 0 = t.val ∧ win0_15.index t 1 = 0 :=
  (by decide +kernel : ∀ t : Fin grid0.N, win0_15.index t 0 = t.val ∧ win0_15.index t 1 = 0)

theorem blk15 (t : Fin cfg0.N) (r : Fin 512) (k : Fin 1024) :
    (iblk m c 15 t : Vec Ideal S512x1024 .f32) (ix2 r k) = m ((c : Thread nD τ).loc main_arg5) (ix2 (rowAt t r) k) := by
  have hi := idx15 t
  unfold iblk
  rw [View.read_apply]
  refine congrArg (V m c main_arg5) (is2 _ _ _ ?_ ?_)
  · show win0_15.index t 0 * 512 + 1 * (r : ℕ) = 512 * t.val + (r : ℕ); rw [hi.1]; omega
  · show win0_15.index t 1 * 1024 + 1 * (k : ℕ) = (k : ℕ); rw [hi.2]; omega

theorem idx16 : ∀ t : Fin cfg0.N, win0_16.index t 0 = t.val ∧ win0_16.index t 1 = 0 :=
  (by decide +kernel : ∀ t : Fin grid0.N, win0_16.index t 0 = t.val ∧ win0_16.index t 1 = 0)

theorem blk16 (t : Fin cfg0.N) (r : Fin 512) (k : Fin 1024) :
    (iblk m c 16 t : Vec Ideal S512x1024 .f32) (ix2 r k) = m ((c : Thread nD τ).loc main_arg6) (ix2 (rowAt t r) k) := by
  have hi := idx16 t
  unfold iblk
  rw [View.read_apply]
  refine congrArg (V m c main_arg6) (is2 _ _ _ ?_ ?_)
  · show win0_16.index t 0 * 512 + 1 * (r : ℕ) = 512 * t.val + (r : ℕ); rw [hi.1]; omega
  · show win0_16.index t 1 * 1024 + 1 * (k : ℕ) = (k : ℕ); rw [hi.2]; omega

theorem idx17 : ∀ t : Fin cfg0.N, win0_17.index t 0 = 0 ∧ win0_17.index t 1 = 0 :=
  (by decide +kernel : ∀ t : Fin grid0.N, win0_17.index t 0 = 0 ∧ win0_17.index t 1 = 0)

theorem blk17 (t : Fin cfg0.N) (k : Fin 1024) :
    (iblk m c 17 t : Vec Ideal S1x1024 .f32) (ix2 0 k) = m ((c : Thread nD τ).loc main_arg7) (ix2 0 k) := by
  have hi := idx17 t
  unfold iblk
  rw [View.read_apply]
  refine congrArg (V m c main_arg7) (is2 _ _ _ ?_ ?_)
  · show win0_17.index t 0 * 1 + 1 * 0 = 0; rw [hi.1]
  · show win0_17.index t 1 * 1024 + 1 * (k : ℕ) = (k : ℕ); rw [hi.2]; omega

/-! ## The rows written -/

theorem idx18 : ∀ t : Fin cfg0.N, win0_18.index t 0 = t.val ∧ win0_18.index t 1 = 0 :=
  (by decide +kernel : ∀ t : Fin grid0.N, win0_18.index t 0 = t.val ∧ win0_18.index t 1 = 0)

theorem emb18 (t : Fin cfg0.N) (y : S512x1024.Idx) : (((cfg0.win 18).blk t).view.emb y : S8192x1024.Idx) = ix2 (rowAt t (y 0)) (y 1) := by
  have hi := idx18 t
  refine is2 _ _ _ ?_ ?_
  · show win0_18.index t 0 * 512 + 1 * (y 0 : ℕ) = 512 * t.val + (y 0 : ℕ); rw [hi.1]; omega
  · show win0_18.index t 1 * 1024 + 1 * (y 1 : ℕ) = (y 1 : ℕ); rw [hi.2]; omega

theorem cover18 (i : S8192x1024.Idx) : ∃ t : Fin cfg0.N, (cfg0.win 18).flush t = true ∧ i ∈ ((cfg0.win 18).blk t).view.set := by
  have h0 : (i 0 : ℕ) < 8192 := (i 0).isLt
  have hN : cfg0.N = 16 := N_0
  refine ⟨⟨(i 0 : ℕ) / 512, by omega⟩, flush0_18 _, ?_⟩
  refine Finset.mem_map.mpr ⟨ix2 ⟨(i 0 : ℕ) % 512, by omega⟩ (i 1), Finset.mem_univ _, ?_⟩
  rw [emb18]
  refine (is2 _ _ _ ?_ rfl).symm
  show (i 0 : ℕ) = 512 * ((i 0 : ℕ) / 512) + (i 0 : ℕ) % 512
  omega

/-! ## What each point leaves -/

/-- The gradient at the normed activation, of the blocks at point `t`. -/
abbrev DHat (t : Fin cfg0.N) : FVec Ideal S512x1024 .f32 :=
  DH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (k0_pay3 (iblk m c 2 t) (iblk m c 9 t) (iblk m c 10 t) (iblk m c 11 t)) (k0_pay45 (iblk m c 3 t) (iblk m c 12 t) (iblk m c 13 t) (iblk m c 14 t))

/-- The rows' gradient, of the blocks at point `t`. -/
abbrev DXat (t : Fin cfg0.N) : FVec Ideal S512x1024 .f32 :=
  k0_pay1 (DHat m c t) (k0_pay219 (iblk m c 15 t)) (k0_pay220 (iblk m c 15 t)) (iblk m c 16 t) (k0_pay222 (iblk m c 17 t))

theorem atA_18 (t : Fin cfg0.N) (h0 : t.val % 16 = 0) : (outsAt0 m c t.val t.isLt).1 = DXat m c t := by
  have e := A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((hcond0_0 t).mpr h0)
  refine Eq.trans ?_ e
  rw [outsAt0_A m c t h0]

theorem atA_19 (t : Fin cfg0.N) (h0 : t.val % 16 = 0) : (outsAt0 m c t.val t.isLt).2 = DG (DHat m c t) (iblk m c 15 t) (k0_pay2 (F := Ideal)) := by
  have e := A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((hcond0_0 t).mpr h0)
  refine Eq.trans ?_ e
  rw [outsAt0_A m c t h0]

theorem atB_18 (t : Fin cfg0.N) (h0 : ¬t.val % 16 = 0) : (outsAt0 m c t.val t.isLt).1 = DXat m c t := by
  have e := B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => h0 ((hcond0_0 t).mp h)) (outsAt0 m c (t.val - 1) (Nat.lt_of_le_of_lt (Nat.sub_le _ _) t.isLt)).2
  refine Eq.trans ?_ e
  rw [outsAt0_B m c t h0]

theorem atB_19 (t : Fin cfg0.N) (h0 : ¬t.val % 16 = 0) : (outsAt0 m c t.val t.isLt).2 = DG (DHat m c t) (iblk m c 15 t) (outsAt0 m c (t.val - 1) (Nat.lt_of_le_of_lt (Nat.sub_le _ _) t.isLt)).2 := by
  have e := B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => h0 ((hcond0_0 t).mp h)) (outsAt0 m c (t.val - 1) (Nat.lt_of_le_of_lt (Nat.sub_le _ _) t.isLt)).2
  refine Eq.trans ?_ e
  rw [outsAt0_B m c t h0]

section

variable (A : Args) (H : Holds (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) A)
include H

theorem block (t : Fin cfg0.N) : Block A t.val (lt16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) where
  gu r j := (blk0 m c t r j).trans (H.gu _ _)
  q0 r j := (blk1 m c t 0 r j).trans (H.q0 _ _)
  q1 s r j := (blk2 m c t s r j).trans (H.q1 _ _ _)
  q2 s r j := (blk3 m c t s r j).trans (H.q2 _ _ _)
  w4 k j := (blk4 m c t k j).trans (H.w _ _)
  w5 k j := (blk5 m c t k j).trans (H.w _ _)
  w6 k j := (blk6 m c t k j).trans (H.w _ _)
  w7 k j := (blk7 m c t k j).trans (H.w _ _)
  w8 k j := (blk8 m c t k j).trans (H.w _ _)
  w9 k j := (blk9 m c t k j).trans (H.w _ _)
  w10 k j := (blk10 m c t k j).trans (H.w _ _)
  w11 k j := (blk11 m c t k j).trans (H.w _ _)
  w12 k j := (blk12 m c t k j).trans (H.w _ _)
  w13 k j := (blk13 m c t k j).trans (H.w _ _)
  w14 k j := (blk14 m c t k j).trans (H.w _ _)
  x r k := (blk15 m c t r k).trans (H.x _ _)
  dx1 r k := (blk16 m c t r k).trans (H.dx1 _ _)
  g1 k := (blk17 m c t k).trans (H.g1 _)

theorem pt18 (t : Fin cfg0.N) : Is2 (outsAt0 m c t.val t.isLt).1 (fun r => dx A (rowAt t r)) := by
  have e : (outsAt0 m c t.val t.isLt).1 = DXat m c t := by
    by_cases h0 : t.val % 16 = 0
    · exact atA_18 m c t h0
    · exact atB_18 m c t h0
  exact fun r d => (congrFun e _).trans (dx_at (block m c A H t) r d)

/-- A row's part of the gain's gradient. -/
abbrev hrow (A : Args) (d : Fin 1024) (i : Fin 8192) : ℝ := dh A i d * hat (A.x i) d

theorem pt19 : ∀ (n : ℕ) (hn : n < cfg0.N) (d : Fin 1024),
    (outsAt0 m c n hn).2 (ix2 0 d) = ((∑ k ∈ Finset.range (n + 1), blockSum (hrow A d) k : ℝ) : EReal)
  | 0, hn, d => by
    refine (congrFun (atA_19 m c ⟨0, hn⟩ rfl) _).trans ?_
    refine (dg_at (block m c A H ⟨0, hn⟩) (k0_pay2 (F := Ideal)) (fun _ => 0) (fun l => by
      pointwise [k0_pay2]
      exact EReal.coe_zero.symm) d).trans ?_
    rw [Finset.sum_range_one, zero_add]
  | n + 1, hn, d => by
    have hN : cfg0.N = 16 := N_0
    have hB : ¬(⟨n + 1, hn⟩ : Fin cfg0.N).val % 16 = 0 := by dsimp only; omega
    refine (congrFun (atB_19 m c ⟨n + 1, hn⟩ hB) _).trans ?_
    exact (dg_at (block m c A H ⟨n + 1, hn⟩) _ (fun d => ∑ k ∈ Finset.range (n + 1), blockSum (hrow A d) k) (fun d => pt19 n (Nat.lt_of_succ_lt hn) d) d).trans (congrArg _ (Finset.sum_range_succ _ (n + 1)).symm)

/-! ## The arrays -/

theorem arr18 : (dats m 0 c).arrAt 18 cfg0.N = (fun y : S8192x1024.Idx => ((dx A (y 0) (y 1) : ℝ) : EReal)) :=
  (dats m 0 c).arrAt_eq_of_cover 18 (fun y : S8192x1024.Idx => ((dx A (y 0) (y 1) : ℝ) : EReal)) (fun t _ => by
    rw [flushed18]
    funext y
    rw [View.read_apply]
    let z : S512x1024.Idx := y
    have e : (outsAt0 m c t.val t.isLt).1 z = ((dx A (rowAt t (z 0)) (z 1) : ℝ) : EReal) := (congrArg _ (eq_ix2 z)).trans (pt18 m c A H t (z 0) (z 1))
    exact e.trans (congrArg (fun y : S8192x1024.Idx => ((dx A (y 0) (y 1) : ℝ) : EReal)) (emb18 t z).symm)) cover18

abbrev last : Fin cfg0.N := ⟨15, by rw [show cfg0.N = 16 from N_0]; decide⟩

theorem arr19 : (dats m 0 c).arrAt 19 cfg0.N = (fun y : S1x1024.Idx => ((dg A (y 1) : ℝ) : EReal)) := by
  have hN : cfg0.N = 16 := N_0
  refine (dats m 0 c).arrAt_eq_of_cover 19 (fun y : S1x1024.Idx => ((dg A (y 1) : ℝ) : EReal) : Buf (Elt Ideal) ((c : Thread nD τ).loc main_v0_1)) (fun t hf => ?_) fun i => ?_
  · have h15 : t.val = 15 := by have := (flush0_19 t).mp hf; have := t.isLt; omega
    obtain rfl : t = last := Fin.ext h15
    rw [flushed19]
    have hz' : (fun a => win0_19.index last a * main_v0_1.ty.shape.size a) = fun _ => 0 := funext fun a => by fin_cases a <;> decide
    refine Eq.trans ?_ (Memref.read_access_unit_zero (Elt Ideal) main_v0_1 hz' (fun a => by rw [congrFun hz' a]; simp) (fun y : S1x1024.Idx => ((dg A (y 1) : ℝ) : EReal))).symm
    funext y
    let z : S1x1024.Idx := y
    have e : z = ix2 0 (z 1) := (eq_ix2 z).trans (congrArg (fun q : Fin 1 => (ix2 q (z 1) : S1x1024.Idx)) (Subsingleton.elim _ _))
    refine (congrArg _ e).trans ((pt19 m c A H 15 (by omega) (z 1)).trans ?_)
    rw [blockSum_all]
    rfl
  · refine ⟨last, (flush0_19 _).mpr rfl, ?_⟩
    show i ∈ ((View.whole main_v0_1).slice (win0_19.rect last)).set
    rw [View.set_slice_whole, Rect.mem_set_unit]
    intro a
    have h0 : (i 0 : Nat) < 1 := (i 0).isLt
    have h1 : (i 1 : Nat) < 1024 := (i 1).isLt
    match a with
    | ⟨0, _⟩ => show win0_19.index last 0 * win0_19.size 0 ≤ (i 0 : Nat) ∧ (i 0 : Nat) < win0_19.index last 0 * win0_19.size 0 + win0_19.xsize (grid0.coords last) 0
                rw [show win0_19.index last 0 * win0_19.size 0 = 0 from by decide +kernel, show win0_19.xsize (grid0.coords last) 0 = 1 from by decide +kernel]; omega
    | ⟨1, _⟩ => show win0_19.index last 1 * win0_19.size 1 ≤ (i 1 : Nat) ∧ (i 1 : Nat) < win0_19.index last 1 * win0_19.size 1 + win0_19.xsize (grid0.coords last) 1
                rw [show win0_19.index last 1 * win0_19.size 1 = 0 from by decide +kernel, show win0_19.xsize (grid0.coords last) 1 = 1024 from by decide +kernel]; omega

end

end Cert.Kernel7Ideal.Inproj

end
-- ==== Proof.InpRef.lean ====
/- The reference's lines for the input projection's backward, as the specification's real numbers. -/
module

public import proofs.«01_k».proof.Proof.Gen.Reference7Ideal.Run
public import proofs.«01_k».proof.Proof.InpFinite
public import proofs.«01_k».proof.Proof.FfnRef

@[expose] public section

set_option maxRecDepth 16384

noncomputable section

namespace Cert.Reference7Ideal.Inproj

open Cert.Reference7Ideal Cert.Reference7Ideal.Gen Cert.Reference7Ideal.Value Cert.Reals Cert.Ffn
open Idealize.ShloMosaic Idealize.ShloMosaic.TcCoe Idealize.ShloMosaic.StableHlo
open scoped BigOperators

/-- One dilation's gradient by the tokens, in its columns of the attention's part of the projection. -/
def wide0 (a1 : FVec Ideal S1x8192x1536 .bf16) : FVec Ideal S8192x3x3x512 .f32 :=
  pad S8192x3x3x512 ![0, 0, 0, 0] ![0, 0, 2, 0] ![0, 0, 0, 0] (broadcastInDim S8192x3x1x512 ![0, 1, 3] bcast_S8192x3x512_S8192x3x1x512_0_1_3 (shapeCast S8192x3x512 (shapeCast S8192x1536 (transpose S8192x1x1536 [1, 0, 2] (extf .f32 a1 bitsLt_bf16_f32) transposes_S1x8192x1536_S8192x1x1536_1_0_2) shapeCasts_S8192x1x1536_S8192x1536) shapeCasts_S8192x1536_S8192x3x512)) (constant S_ .f32 0x00000000#32) pads_S8192x3x1x512_S8192x3x3x512_000_000_020_000 h_S_
def wide1 (a2 : FVec Ideal S4x2048x1536 .bf16) : FVec Ideal S8192x3x3x512 .f32 :=
  pad S8192x3x3x512 ![0, 0, 1, 0] ![0, 0, 1, 0] ![0, 0, 0, 0] (broadcastInDim S8192x3x1x512 ![0, 1, 3] bcast_S8192x3x512_S8192x3x1x512_0_1_3 (shapeCast S8192x3x512 (shapeCast S8192x1536 (transpose S2048x4x1536 [1, 0, 2] (extf .f32 a2 bitsLt_bf16_f32) transposes_S4x2048x1536_S2048x4x1536_1_0_2) shapeCasts_S2048x4x1536_S8192x1536) shapeCasts_S8192x1536_S8192x3x512)) (constant S_ .f32 0x00000000#32) pads_S8192x3x1x512_S8192x3x3x512_000_000_110_000 h_S_
def wide2 (a3 : FVec Ideal S16x512x1536 .bf16) : FVec Ideal S8192x3x3x512 .f32 :=
  pad S8192x3x3x512 ![0, 0, 2, 0] ![0, 0, 0, 0] ![0, 0, 0, 0] (broadcastInDim S8192x3x1x512 ![0, 1, 3] bcast_S8192x3x512_S8192x3x1x512_0_1_3 (shapeCast S8192x3x512 (shapeCast S8192x1536 (transpose S512x16x1536 [1, 0, 2] (extf .f32 a3 bitsLt_bf16_f32) transposes_S16x512x1536_S512x16x1536_1_0_2) shapeCasts_S512x16x1536_S8192x1536) shapeCasts_S8192x1536_S8192x3x512)) (constant S_ .f32 0x00000000#32) pads_S8192x3x1x512_S8192x3x3x512_000_000_200_000 h_S_

theorem wide0_at (a1 : FVec Ideal S1x8192x1536 .bf16) (t : Fin 8192) (p g : Fin 3) (j : Fin 512) :
    wide0 a1 (ix4 t p g j) = if g.val = 0 then a1 (ix3 0 t ⟨p.val * 512 + j.val, by omega⟩) else 0 := by
  pointwise [wide0]
  split_ifs <;> first | rfl | (exfalso; omega)

theorem wide1_at (a2 : FVec Ideal S4x2048x1536 .bf16) (t : Fin 8192) (p g : Fin 3) (j : Fin 512) :
    wide1 a2 (ix4 t p g j) = if g.val = 1 then a2 (ix3 ⟨t.val % 4, by omega⟩ ⟨t.val / 4, by omega⟩ ⟨p.val * 512 + j.val, by omega⟩) else 0 := by
  pointwise [wide1]
  split_ifs <;> first | rfl | (exfalso; omega)

theorem wide2_at (a3 : FVec Ideal S16x512x1536 .bf16) (t : Fin 8192) (p g : Fin 3) (j : Fin 512) :
    wide2 a3 (ix4 t p g j) = if g.val = 2 then a3 (ix3 ⟨t.val % 16, by omega⟩ ⟨t.val / 16, by omega⟩ ⟨p.val * 512 + j.val, by omega⟩) else 0 := by
  pointwise [wide2]
  split_ifs <;> first | rfl | (exfalso; omega)

/-- The gradient at the projection's output. -/
def full (a0 : FVec Ideal S8192x3072 .bf16) (W : FVec Ideal S8192x3x3x512 .f32) : FVec Ideal S8192x7680 .f32 :=
  addf (pad S8192x7680 ![0, 4608] ![0, 0] ![0, 0] (extf .f32 a0 bitsLt_bf16_f32) (constant S_ .f32 0x00000000#32) pads_S8192x3072_S8192x7680_000_460800 h_S_)
    (pad S8192x7680 ![0, 0] ![0, 3072] ![0, 0] (shapeCast S8192x4608 W shapeCasts_S8192x3x3x512_S8192x4608) (constant S_ .f32 0x00000000#32) pads_S8192x4608_S8192x7680_000_030720 h_S_)

theorem full_at (a0 : FVec Ideal S8192x3072 .bf16) (W : FVec Ideal S8192x3x3x512 .f32) (t : Fin 8192) (j : Fin 7680) :
    full a0 W (ix2 t j) = if h : 4608 ≤ j.val then a0 (ix2 t ⟨j.val - 4608, by omega⟩)
      else W (ix4 t ⟨j.val / 1536, by omega⟩ ⟨j.val / 512 % 3, by omega⟩ ⟨j.val % 512, by omega⟩) := by
  pointwise [full]
  by_cases h : 4608 ≤ j.val
  · rw [dif_pos h, dif_pos ⟨h, by omega⟩, dif_neg (by omega), add_zero]
  · rw [dif_neg h, dif_neg (fun q => h q.1), dif_pos (by omega), zero_add]

variable (a0 : FVec Ideal S8192x3072 .bf16) (a1 : FVec Ideal S1x8192x1536 .bf16) (a2 : FVec Ideal S4x2048x1536 .bf16)
  (a3 : FVec Ideal S16x512x1536 .bf16) (a4 : FVec Ideal S1024x7680 .bf16) (a5 a6 : FVec Ideal S8192x1024 .f32) (a7 : FVec Ideal S1x1024 .f32)

/-- The gradient at the normed activation. -/
def dot : FVec Ideal S8192x1024 .f32 :=
  Host.dotGeneral dot_S8192x7680_S1024x7680_S8192x1024_1_1_0_0_n_n none (full a0 (addf (addf (wide2 a3) (wide1 a2)) (wide0 a1))) (extf .f32 a4 bitsLt_bf16_f32)

/-- The mean square, its reciprocal root, and a row's mean through the root's derivative. -/
def mean : FVec Ideal S8192x1 .f32 :=
  addf (Host.divf (broadcastInDim S8192x1 ![0] bcast_S8192_S8192x1_0 (Host.reduceAdd (mulf a5 a5) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def scaled (D : FVec Ideal S8192x1024 .f32) : FVec Ideal S8192x1024 .f32 := mulf D (broadcastInDim S8192x1024 ![0, 1] bcast_S1x1024_S8192x1024_0_1 a7)
def through (D : FVec Ideal S8192x1024 .f32) : FVec Ideal S8192x1024 .f32 :=
  broadcastInDim S8192x1024 ![0] bcast_S8192_S8192x1024_0 (Host.reduceAdd (Host.divf (mulf (shapeCast S8192x1 (Host.reduceAdd (mulf a5 (scaled a7 D)) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (mean a5)) (mean a5)))) (broadcastInDim S8192x1 ![] bcast_S_S8192x1 (constant S_ .f32 0x44800000#32))) (constant S_ .f32 0x00000000#32) reducesTo_S8192x1_S8192_d1 h_S_)

def outDx (D : FVec Ideal S8192x1024 .f32) : FVec Ideal S8192x1024 .f32 :=
  addf (addf (addf a6 (mulf (scaled a7 D) (broadcastInDim S8192x1024 ![0, 1] bcast_S8192x1_S8192x1024_0_1 (Host.rsqrt (mean a5))))) (mulf a5 (through a5 a7 D))) (mulf (through a5 a7 D) a5)
def normed : FVec Ideal S8192x1024 .f32 := mulf a5 (broadcastInDim S8192x1024 ![0, 1] bcast_S8192x1_S8192x1024_0_1 (Host.rsqrt (mean a5)))
def outDg (D : FVec Ideal S8192x1024 .f32) : FVec Ideal S1x1024 .f32 :=
  shapeCast S1x1024 (Host.reduceAdd (mulf (normed a5) D) (constant S_ .f32 0x00000000#32) reducesTo_S8192x1024_S1024_d0 h_S_) shapeCasts_S1024_S1x1024

/-! ## The lines on real numbers -/

variable (A : Inproj.Args) (H : Inproj.Holds a0 a1 a2 a3 a4 a5 a6 a7 A)
include H

theorem full_eq (t : Fin 8192) (j : Fin 7680) : full a0 (addf (addf (wide2 a3) (wide1 a2)) (wide0 a1)) (ix2 t j)
    = (Inproj.cot (A.gu t) (A.q0 t) (Inproj.row1 A t) (Inproj.row2 A t) j : EReal) := by
  refine (full_at _ _ t j).trans ?_
  unfold Inproj.cot
  by_cases h : 4608 ≤ j.val
  · rw [dif_pos h, dif_pos h]
    exact H.gu _ _
  · rw [dif_neg h, dif_neg h]
    have hc : (⟨j.val / 1536 * 512 + j.val % 512, by omega⟩ : Fin 1536) = ⟨512 * (j.val / 1536) + j.val % 512, by omega⟩ := Fin.ext (by dsimp only; omega)
    refine (congrArg₂ (· + ·) (congrArg₂ (· + ·) (wide2_at _ _ _ _ _) (wide1_at _ _ _ _ _)) (wide0_at _ _ _ _ _)).trans ?_
    dsimp only
    rw [hc, H.q0, H.q1, H.q2]
    have h3 : j.val / 512 % 3 < 3 := Nat.mod_lt _ (by decide)
    split_ifs <;> first | (exfalso; omega) | simp only [zero_add, add_zero]

theorem dot_at : Is2 (dot a0 a1 a2 a3 a4) (Inproj.dh A) := by
  intro t k
  pointwise [dot]
  simp only [full_eq a0 a1 a2 a3 a4 a5 a6 a7 A H, H.w _ _, ← EReal.coe_mul, coe_sum]
  exact congrArg _ (Inproj.sum_cot _ _ _ _ _)

theorem mean_at (t : Fin 8192) (u : Fin 1) : mean a5 (ix2 t u) = (ms (A.x t) : EReal) := by
  pointwise [mean]
  simp only [H.x _ _, ← EReal.coe_mul, coe_sum]
  rw [width_f32, eps_f32, div_coe _ (by norm_num), ← EReal.coe_add]
  rfl

theorem root_at (t : Fin 8192) (u : Fin 1) : Host.rsqrt (mean a5) (ix2 t u) = (rs (A.x t) : EReal) := by
  pointwise
  rw [mean_at a0 a1 a2 a3 a4 a5 a6 a7 A H]
  exact rsqrt_coe (ms_pos (A.x t))

section

variable (D : FVec Ideal S8192x1024 .f32) (hD : Is2 D (Inproj.dh A))
include hD

theorem scaled_at : Is2 (scaled a7 D) (fun t k => Inproj.dh A t k * A.g1 k) := by
  intro t k
  pointwise [scaled]
  rw [hD, H.g1, ← EReal.coe_mul]

theorem through_at : Is2 (through a5 a7 D)
    (fun t _ => (∑ q, A.x t q * (Inproj.dh A t q * A.g1 q)) * (-(1 / 2) * (rs (A.x t) / ms (A.x t))) / 1024) := by
  intro t k
  pointwise [through]
  simp only [H.x _ _, scaled_at a0 a1 a2 a3 a4 a5 a6 a7 A H D hD _ _, ← EReal.coe_mul, coe_sum]
  refine Reference2Ideal.Ffn.unit_sum _ _ fun u => ?_
  have hr := root_at a0 a1 a2 a3 a4 a5 a6 a7 A H t u
  have hm := mean_at a0 a1 a2 a3 a4 a5 a6 a7 A H t u
  pointwise at hr
  rw [hr, hm]
  exact Reference2Ideal.Ffn.mean_coe _ _ (ms_pos (A.x t))

theorem outDx_at : Is2 (outDx a5 a6 a7 D) (Inproj.dx A) := by
  intro t k
  have hr := root_at a0 a1 a2 a3 a4 a5 a6 a7 A H t 0
  pointwise at hr
  pointwise [outDx]
  rw [H.dx1, scaled_at a0 a1 a2 a3 a4 a5 a6 a7 A H D hD, hr, H.x, through_at a0 a1 a2 a3 a4 a5 a6 a7 A H D hD,
    ← EReal.coe_mul, ← EReal.coe_mul, ← EReal.coe_mul, ← EReal.coe_add, ← EReal.coe_add, ← EReal.coe_add]
  refine congrArg _ ?_
  unfold Inproj.dx
  rw [← Reference2Ideal.Ffn.back_eq (Inproj.dh A t) A.g1 (A.x t) k]
  ring

theorem outDg_at (u : Fin 1) (k : Fin 1024) : outDg a5 D (ix2 u k) = (Inproj.dg A k : EReal) := by
  have hn : Is2 (normed a5) (fun t => hat (A.x t)) := by
    intro t k
    have hr := root_at a0 a1 a2 a3 a4 a5 a6 a7 A H t 0
    pointwise at hr
    pointwise [normed]
    rw [hr, H.x, ← EReal.coe_mul]
    rfl
  pointwise [outDg]
  simp only [hn _ _, hD _ _, ← EReal.coe_mul, coe_sum]
  exact congrArg _ (Finset.sum_congr rfl fun t _ => mul_comm _ _)

end

/-! ## The results -/

theorem arr_dx : outDx a5 a6 a7 (dot a0 a1 a2 a3 a4) = fun y => ((Inproj.dx A (y 0) (y 1) : ℝ) : EReal) := by
  funext y
  rw [eq_ix2 y]
  exact outDx_at a0 a1 a2 a3 a4 a5 a6 a7 A H _ (dot_at a0 a1 a2 a3 a4 a5 a6 a7 A H) (y 0) (y 1)

theorem arr_dg : outDg a5 (dot a0 a1 a2 a3 a4) = fun y => ((Inproj.dg A (y 1) : ℝ) : EReal) := by
  funext y
  rw [eq_ix2 y]
  exact outDg_at a0 a1 a2 a3 a4 a5 a6 a7 A H _ (dot_at a0 a1 a2 a3 a4 a5 a6 a7 A H) (y 0) (y 1)

omit H in
theorem res_dx (m : (ℓ : Loc nD τ sig) → Buf (Elt Ideal) ℓ) (c : Dev nD) : res_main_v80 (F := Ideal) m c
    = outDx (m ((c.tc : Thread nD τ).loc main_arg5)) (m ((c.tc : Thread nD τ).loc main_arg6)) (m ((c.tc : Thread nD τ).loc main_arg7))
      (dot (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := by
  unfold res_main_v80
  rfl

end Cert.Reference7Ideal.Inproj

end
-- ==== Proof.MfwSpec.lean ====
/- The gated merge with its residual and normalisation, as plain sums over the extended reals. -/
module

public import proofs.«01_k».proof.Proof.MergeSpec

@[expose] public section

noncomputable section

namespace Cert.MfwSpec

open Idealize.ShloMosaic Cert.MergeSpec
open scoped BigOperators

/-- One row, normalised by its root mean square and scaled, at one column. -/
def normed (h : Fin 1024 → EReal) (g : EReal) (k : Fin 1024) : EReal :=
  h k * Ideal.rsqrt (Ideal.div (∑ j : Fin 1024, h j * h j) (Ideal.ofBits .f32 0x44800000#32) + Ideal.ofBits .f32 0x358637BD#32) * g

variable (attn sgu : Mat 8192 512) (gu : Mat 8192 3072) (x : Mat 8192 1024) (wpa wps : Mat 512 1024) (wout : Mat 1024 1024)
  (g2 : Mat 1 1024)

/-- The two branches' projections, each under its gate. -/
def merged (i : Fin 8192) (k : Fin 1024) : EReal :=
  gcol gu 1024 (by omega) i k * dotP attn wpa i k + gcol gu 2048 (by omega) i k * dotP sgu wps i k

/-- The residual stream after the merge. -/
def stream (i : Fin 8192) (k : Fin 1024) : EReal := x (ix2 i k) + ∑ j : Fin 1024, merged attn sgu gu wpa wps i j * wout (ix2 j k)

/-- The stream normalised for the feed-forward part. -/
def next (i : Fin 8192) (k : Fin 1024) : EReal := normed (stream attn sgu gu x wpa wps wout i) (g2 (ix2 0 k)) k

end Cert.MfwSpec

end
-- ==== Proof.MfwBlock.lean ====
/- What one grid point of the merge writes: every output block, element by element, from the input blocks. -/
module

public import proofs.«01_k».proof.Proof.Gen.Kernel12Ideal.Value
public import proofs.«01_k».proof.Proof.MfwSpec
public import Idealize.ShloMosaic.Lib.Pipeline.Value
public import Idealize.ShloMosaic.Lib.Pointwise

@[expose] public section

set_option maxRecDepth 16384

noncomputable section

namespace Cert.Kernel12Ideal.Block

open Cert.Kernel12Ideal Cert.Kernel12Ideal.Gen Idealize.ShloMosaic Cert.MergeSpec
open scoped BigOperators

variable (x0 x1 : Vec Ideal S512x512 .bf16) (x2 x3 : Vec Ideal S512x1024 .bf16) (x4 : Vec Ideal S512x1024 .f32)
  (x5 x6 : Vec Ideal S512x1024 .bf16) (x7 : Vec Ideal S1024x1024 .bf16) (x8 : Vec Ideal S1x1024 .f32)

theorem hz : (![0, 0] : Fin 2 → Nat) = fun _ => 0 := funext fun a => by fin_cases a <;> rfl

theorem ld0 {e : EltTy} (x : Vec Ideal S512x512 e) : View.ld x r0_0 = x := View.ld_unit_zero hz _ x
theorem ld1 {e : EltTy} (x : Vec Ideal S512x1024 e) : View.ld x r0_1 = x := View.ld_unit_zero hz _ x
theorem ld2 {e : EltTy} (x : Vec Ideal S1024x1024 e) : View.ld x r0_2 = x := View.ld_unit_zero hz _ x
theorem ld3 {e : EltTy} (x : Vec Ideal S1x1024 e) : View.ld x r0_3 = x := View.ld_unit_zero hz _ x

/-- The block's merge of its two branches. -/
def mg (r : Fin 512) (k : Fin 1024) : EReal :=
  Gate.sg (x2 (ix2 r k)) * dotP x0 x5 r k + Gate.sg (x3 (ix2 r k)) * dotP x1 x6 r k

/-- The block's stream after the merge. -/
def st (r : Fin 512) (k : Fin 1024) : EReal := x4 (ix2 r k) + ∑ j : Fin 1024, mg x0 x1 x2 x3 x5 x6 r j * x7 (ix2 j k)

theorem pay4 (r : Fin 512) (k : Fin 1024) : k0_pay4 (F := Ideal) x0 x5 (ix2 r k) = dotP x0 x5 r k := by
  pointwise [k0_pay4]
  rfl

theorem pay5 (r : Fin 512) (k : Fin 1024) : k0_pay5 (F := Ideal) x1 x6 (ix2 r k) = dotP x1 x6 r k := by
  pointwise [k0_pay5]
  rfl

theorem pay6 (r : Fin 512) (k : Fin 1024) : k0_pay6 (F := Ideal) x0 x5 x1 x6 x2 x3 (ix2 r k) = mg x0 x1 x2 x3 x5 x6 r k := by
  unfold mg
  rw [← pay4, ← pay5]
  unfold Gate.sg
  rw [← Gate.half_f32]
  rfl

theorem pay7 (r : Fin 512) (k : Fin 1024) :
    k0_pay7 (F := Ideal) x0 x5 x1 x6 x2 x3 x4 x7 (ix2 r k) = st x0 x1 x2 x3 x4 x5 x6 x7 r k := by
  pointwise [k0_pay7]
  unfold st
  exact congrArg (x4 (ix2 r k) + ·) (Finset.sum_congr rfl fun j _ => by rw [pay6])

theorem pay3 (a : FVec Ideal S512x1024 .f32) (r : Fin 512) (k : Fin 1024) :
    k0_pay3 (F := Ideal) a (mulf a a) x8 (ix2 r k) = MfwSpec.normed (fun j => a (ix2 r j)) (x8 (ix2 0 k)) k := by
  pointwise [k0_pay3]
  rfl

theorem out9 (r : Fin 512) (k : Fin 1024) : out0_9 x0 x1 x2 x3 x4 x5 x6 x7 x8 (ix2 r k) = dotP x0 x5 r k := by
  unfold_out out0_9
  rw [View.canon_unit_zero hz, ld0, ld1]
  exact pay4 x0 x5 r k

theorem out10 (r : Fin 512) (k : Fin 1024) : out0_10 x0 x1 x2 x3 x4 x5 x6 x7 x8 (ix2 r k) = dotP x1 x6 r k := by
  unfold_out out0_10
  rw [View.canon_unit_zero hz, ld0, ld1]
  exact pay5 x1 x6 r k

theorem out11 (r : Fin 512) (k : Fin 1024) : out0_11 x0 x1 x2 x3 x4 x5 x6 x7 x8 (ix2 r k) = mg x0 x1 x2 x3 x5 x6 r k := by
  unfold_out out0_11
  rw [View.canon_unit_zero hz]
  simp only [ld0, ld1]
  exact pay6 x0 x1 x2 x3 x5 x6 r k

theorem out12 (r : Fin 512) (k : Fin 1024) : out0_12 x0 x1 x2 x3 x4 x5 x6 x7 x8 (ix2 r k) = st x0 x1 x2 x3 x4 x5 x6 x7 r k := by
  unfold_out out0_12
  rw [View.canon_unit_zero hz]
  simp only [ld0, ld1, ld2]
  exact pay7 x0 x1 x2 x3 x4 x5 x6 x7 r k

theorem out13 (r : Fin 512) (k : Fin 1024) : out0_13 x0 x1 x2 x3 x4 x5 x6 x7 x8 (ix2 r k)
    = MfwSpec.normed (st x0 x1 x2 x3 x4 x5 x6 x7 r) (x8 (ix2 0 k)) k := by
  unfold_out out0_13
  rw [View.canon_unit_zero hz]
  simp only [ld0, ld1, ld2, ld3]
  refine (pay3 x8 (k0_pay7 (F := Ideal) x0 x5 x1 x6 x2 x3 x4 x7) r k).trans ?_
  exact congrArg (fun h => MfwSpec.normed h (x8 (ix2 0 k)) k) (funext fun j => pay7 x0 x1 x2 x3 x4 x5 x6 x7 r j)

end Cert.Kernel12Ideal.Block

end
-- ==== Proof.MfwArr.lean ====
/- Where a grid point of the merge reads and writes, and its output arrays as the sums of the specification. -/
module

public import proofs.«01_k».proof.Proof.MfwBlock

@[expose] public section

set_option maxRecDepth 16384

noncomputable section

namespace Cert.Kernel12Ideal.Arrays

open Cert.Kernel12Ideal Cert.Kernel12Ideal.Gen Idealize.ShloMosaic Idealize.ShloMosaic.TcCoe Idealize.SL.Sem Cert.MergeSpec
open Idealize.ShloMosaic.Pipeline (Dat)
open scoped BigOperators

variable (m : (ℓ : Loc nD τ sig) → Buf (Elt Ideal) ℓ) (c : Dev nD)

/-- Row `r` of block `t`. -/
abbrev row (t : Fin cfg0.N) (r : Fin 512) : Fin 8192 :=
  ⟨512 * t.val + r.val, by have h := t.isLt; have e : cfg0.N = 16 := N_0; omega⟩

/-- The input windows that move down the rows. -/
theorem idx_rows : ∀ t : Fin cfg0.N, win0_0.index t 0 = t.val ∧ win0_0.index t 1 = 0 ∧ win0_1.index t 0 = t.val ∧ win0_1.index t 1 = 0
    ∧ win0_2.index t 0 = t.val ∧ win0_2.index t 1 = 1 ∧ win0_3.index t 0 = t.val ∧ win0_3.index t 1 = 2
    ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 0
    ∧ win0_2.index t 0 = t.val ∧ win0_2.index t 1 = 1 ∧ win0_3.index t 0 = t.val ∧ win0_3.index t 1 = 2
    ∧ win0_4.index t 0 = t.val ∧ win0_4.index t 1 = 0)

/-- The matrices and the scale stay in place. -/
theorem idx_whole : ∀ t : Fin cfg0.N, win0_5.index t 0 = 0 ∧ win0_5.index t 1 = 0 ∧ win0_6.index t 0 = 0 ∧ win0_6.index t 1 = 0
    ∧ win0_7.index t 0 = 0 ∧ win0_7.index t 1 = 0 ∧ win0_8.index t 0 = 0 ∧ win0_8.index t 1 = 0 :=
  (by decide +kernel : ∀ t : Fin grid0.N, win0_5.index t 0 = 0 ∧ win0_5.index t 1 = 0 ∧ win0_6.index t 0 = 0 ∧ win0_6.index t 1 = 0
    ∧ win0_7.index t 0 = 0 ∧ win0_7.index t 1 = 0 ∧ win0_8.index t 0 = 0 ∧ win0_8.index t 1 = 0)

/-- The output windows move down the rows. -/
theorem idx_out : ∀ t : Fin cfg0.N, win0_9.index t 0 = t.val ∧ win0_9.index t 1 = 0 ∧ win0_10.index t 0 = t.val ∧ win0_10.index t 1 = 0
    ∧ win0_11.index t 0 = t.val ∧ win0_11.index t 1 = 0 ∧ win0_12.index t 0 = t.val ∧ win0_12.index t 1 = 0
    ∧ win0_13.index t 0 = t.val ∧ win0_13.index t 1 = 0 :=
  (by decide +kernel : ∀ t : Fin grid0.N, win0_9.index t 0 = t.val ∧ win0_9.index t 1 = 0 ∧ win0_10.index t 0 = t.val ∧ win0_10.index t 1 = 0
    ∧ win0_11.index t 0 = t.val ∧ win0_11.index t 1 = 0 ∧ win0_12.index t 0 = t.val ∧ win0_12.index t 1 = 0
    ∧ win0_13.index t 0 = t.val ∧ win0_13.index t 1 = 0)

/-- A block's cell in its array: block number times the block's extent, plus the place inside. -/
theorem at_row {b n t r : ℕ} (h : b = t) : b * n + 1 * r = n * t + r := by rw [h, one_mul, mul_comm]
theorem at_col {b n o j : ℕ} (h : b * n = o) : b * n + 1 * j = o + j := by rw [h, one_mul]
theorem at_zero {b n j : ℕ} (h : b = 0) : b * n + 1 * j = j := by rw [h, one_mul, zero_mul, zero_add]

theorem iblk0 (t : Fin cfg0.N) (r : Fin 512) (k : Fin 512) :
    (iblk m c 0 t : Vec Ideal S512x512 .bf16) (ix2 r k) = V m c main_arg0 (ix2 (row t r) k) := by
  have hi := idx_rows t
  unfold iblk
  rw [View.read_apply]
  exact congrArg (V m c main_arg0) (Shape.idx_ext₂ (at_row hi.1) (at_zero hi.2.1))

theorem iblk1 (t : Fin cfg0.N) (r : Fin 512) (k : Fin 512) :
    (iblk m c 1 t : Vec Ideal S512x512 .bf16) (ix2 r k) = V m c main_arg1 (ix2 (row t r) k) := by
  have hi := idx_rows t
  unfold iblk
  rw [View.read_apply]
  exact congrArg (V m c main_arg1) (Shape.idx_ext₂ (at_row hi.2.2.1) (at_zero hi.2.2.2.1))

theorem iblk2 (t : Fin cfg0.N) (r : Fin 512) (k : Fin 1024) :
    (iblk m c 2 t : Vec Ideal S512x1024 .bf16) (ix2 r k) = V m c main_arg2 (ix2 (row t r) ⟨1024 + k.val, by omega⟩) := by
  have hi := idx_rows t
  unfold iblk
  rw [View.read_apply]
  exact congrArg (V m c main_arg2) (Shape.idx_ext₂ (at_row hi.2.2.2.2.1) (at_col (by rw [hi.2.2.2.2.2.1]; rfl)))

theorem iblk3 (t : Fin cfg0.N) (r : Fin 512) (k : Fin 1024) :
    (iblk m c 3 t : Vec Ideal S512x1024 .bf16) (ix2 r k) = V m c main_arg2 (ix2 (row t r) ⟨2048 + k.val, by omega⟩) := by
  have hi := idx_rows t
  unfold iblk
  rw [View.read_apply]
  exact congrArg (V m c main_arg2) (Shape.idx_ext₂ (at_row hi.2.2.2.2.2.2.1) (at_col (by rw [hi.2.2.2.2.2.2.2.1]; rfl)))

theorem iblk4 (t : Fin cfg0.N) (r : Fin 512) (k : Fin 1024) :
    (iblk m c 4 t : Vec Ideal S512x1024 .f32) (ix2 r k) = V m c main_arg3 (ix2 (row t r) k) := by
  have hi := idx_rows t
  unfold iblk
  rw [View.read_apply]
  exact congrArg (V m c main_arg3) (Shape.idx_ext₂ (at_row hi.2.2.2.2.2.2.2.2.1) (at_zero hi.2.2.2.2.2.2.2.2.2))

theorem iblk5 (t : Fin cfg0.N) (r : Fin 512) (k : Fin 1024) :
    (iblk m c 5 t : Vec Ideal S512x1024 .bf16) (ix2 r k) = V m c main_arg4 (ix2 r k) := by
  have hi := idx_whole t
  unfold iblk
  rw [View.read_apply]
  exact congrArg (V m c main_arg4) (Shape.idx_ext₂ (at_zero hi.1) (at_zero hi.2.1))

theorem iblk6 (t : Fin cfg0.N) (r : Fin 512) (k : Fin 1024) :
    (iblk m c 6 t : Vec Ideal S512x1024 .bf16) (ix2 r k) = V m c main_arg5 (ix2 r k) := by
  have hi := idx_whole t
  unfold iblk
  rw [View.read_apply]
  exact congrArg (V m c main_arg5) (Shape.idx_ext₂ (at_zero hi.2.2.1) (at_zero hi.2.2.2.1))

theorem iblk7 (t : Fin cfg0.N) (r : Fin 1024) (k : Fin 1024) :
    (iblk m c 7 t : Vec Ideal S1024x1024 .bf16) (ix2 r k) = V m c main_arg6 (ix2 r k) := by
  have hi := idx_whole t
  unfold iblk
  rw [View.read_apply]
  exact congrArg (V m c main_arg6) (Shape.idx_ext₂ (at_zero hi.2.2.2.2.1) (at_zero hi.2.2.2.2.2.1))

theorem iblk8 (t : Fin cfg0.N) (r : Fin 1) (k : Fin 1024) :
    (iblk m c 8 t : Vec Ideal S1x1024 .f32) (ix2 r k) = V m c main_arg7 (ix2 r k) := by
  have hi := idx_whole t
  unfold iblk
  rw [View.read_apply]
  exact congrArg (V m c main_arg7) (Shape.idx_ext₂ (at_zero hi.2.2.2.2.2.2.1) (at_zero hi.2.2.2.2.2.2.2))

/-- Where an output block's cell lies in its array. -/
abbrev place (t : Fin cfg0.N) (y : S512x1024.Idx) : S8192x1024.Idx := ix2 (row t (y 0)) (y 1)

theorem emb9 (t : Fin cfg0.N) (y : S512x1024.Idx) : (((cfg0.win 9).blk t).view.emb y : S8192x1024.Idx) = place t y :=
  Shape.idx_ext₂ (at_row (idx_out t).1) (at_zero (idx_out t).2.1)
theorem emb10 (t : Fin cfg0.N) (y : S512x1024.Idx) : (((cfg0.win 10).blk t).view.emb y : S8192x1024.Idx) = place t y :=
  Shape.idx_ext₂ (at_row (idx_out t).2.2.1) (at_zero (idx_out t).2.2.2.1)
theorem emb11 (t : Fin cfg0.N) (y : S512x1024.Idx) : (((cfg0.win 11).blk t).view.emb y : S8192x1024.Idx) = place t y :=
  Shape.idx_ext₂ (at_row (idx_out t).2.2.2.2.1) (at_zero (idx_out t).2.2.2.2.2.1)
theorem emb12 (t : Fin cfg0.N) (y : S512x1024.Idx) : (((cfg0.win 12).blk t).view.emb y : S8192x1024.Idx) = place t y :=
  Shape.idx_ext₂ (at_row (idx_out t).2.2.2.2.2.2.1) (at_zero (idx_out t).2.2.2.2.2.2.2.1)
theorem emb13 (t : Fin cfg0.N) (y : S512x1024.Idx) : (((cfg0.win 13).blk t).view.emb y : S8192x1024.Idx) = place t y :=
  Shape.idx_ext₂ (at_row (idx_out t).2.2.2.2.2.2.2.2.1) (at_zero (idx_out t).2.2.2.2.2.2.2.2.2)

/-- Every cell of an output array is some block's. -/
theorem placed (i : S8192x1024.Idx) : ∃ (t : Fin cfg0.N) (y : S512x1024.Idx), place t y = i := by
  have h0 : (i 0 : ℕ) < 8192 := (i 0).isLt
  have hN : cfg0.N = 16 := N_0
  refine ⟨⟨(i 0 : ℕ) / 512, by omega⟩, ix2 ⟨(i 0 : ℕ) % 512, by omega⟩ (i 1), Shape.idx_ext₂ ?_ rfl⟩
  show 512 * ((i 0 : ℕ) / 512) + (i 0 : ℕ) % 512 = (i 0 : ℕ)
  omega

theorem cover9 (i : S8192x1024.Idx) : ∃ t : Fin cfg0.N, (cfg0.win 9).flush t = true ∧ i ∈ ((cfg0.win 9).blk t).view.set :=
  have ⟨t, y, h⟩ := placed i
  ⟨t, flush0_9 _, Finset.mem_map.mpr ⟨y, Finset.mem_univ _, (emb9 t y).trans h⟩⟩
theorem cover10 (i : S8192x1024.Idx) : ∃ t : Fin cfg0.N, (cfg0.win 10).flush t = true ∧ i ∈ ((cfg0.win 10).blk t).view.set :=
  have ⟨t, y, h⟩ := placed i
  ⟨t, flush0_10 _, Finset.mem_map.mpr ⟨y, Finset.mem_univ _, (emb10 t y).trans h⟩⟩
theorem cover11 (i : S8192x1024.Idx) : ∃ t : Fin cfg0.N, (cfg0.win 11).flush t = true ∧ i ∈ ((cfg0.win 11).blk t).view.set :=
  have ⟨t, y, h⟩ := placed i
  ⟨t, flush0_11 _, Finset.mem_map.mpr ⟨y, Finset.mem_univ _, (emb11 t y).trans h⟩⟩
theorem cover12 (i : S8192x1024.Idx) : ∃ t : Fin cfg0.N, (cfg0.win 12).flush t = true ∧ i ∈ ((cfg0.win 12).blk t).view.set :=
  have ⟨t, y, h⟩ := placed i
  ⟨t, flush0_12 _, Finset.mem_map.mpr ⟨y, Finset.mem_univ _, (emb12 t y).trans h⟩⟩
theorem cover13 (i : S8192x1024.Idx) : ∃ t : Fin cfg0.N, (cfg0.win 13).flush t = true ∧ i ∈ ((cfg0.win 13).blk t).view.set :=
  have ⟨t, y, h⟩ := placed i
  ⟨t, flush0_13 _, Finset.mem_map.mpr ⟨y, Finset.mem_univ _, (emb13 t y).trans h⟩⟩

abbrev attn : Mat 8192 512 := m ((c : Thread nD τ).loc main_arg0)
abbrev sgu : Mat 8192 512 := m ((c : Thread nD τ).loc main_arg1)
abbrev gu : Mat 8192 3072 := m ((c : Thread nD τ).loc main_arg2)
abbrev xs : Mat 8192 1024 := m ((c : Thread nD τ).loc main_arg3)
abbrev wpa : Mat 512 1024 := m ((c : Thread nD τ).loc main_arg4)
abbrev wps : Mat 512 1024 := m ((c : Thread nD τ).loc main_arg5)
abbrev wout : Mat 1024 1024 := m ((c : Thread nD τ).loc main_arg6)
abbrev g2 : Mat 1 1024 := m ((c : Thread nD τ).loc main_arg7)

/-- The specification's arrays, from this device's arguments. -/
abbrev R9 (y : S8192x1024.Idx) : EReal := dotP (attn m c) (wpa m c) (y 0) (y 1)
abbrev R10 (y : S8192x1024.Idx) : EReal := dotP (sgu m c) (wps m c) (y 0) (y 1)
abbrev R11 (y : S8192x1024.Idx) : EReal := MfwSpec.merged (attn m c) (sgu m c) (gu m c) (wpa m c) (wps m c) (y 0) (y 1)
abbrev R12 (y : S8192x1024.Idx) : EReal := MfwSpec.stream (attn m c) (sgu m c) (gu m c) (xs m c) (wpa m c) (wps m c) (wout m c) (y 0) (y 1)
abbrev R13 (y : S8192x1024.Idx) : EReal := MfwSpec.next (attn m c) (sgu m c) (gu m c) (xs m c) (wpa m c) (wps m c) (wout m c) (g2 m c) (y 0) (y 1)

theorem pa_eq (t : Fin cfg0.N) (r : Fin 512) (k : Fin 1024) :
    dotP (iblk m c 0 t : Vec Ideal S512x512 .bf16) (iblk m c 5 t : Vec Ideal S512x1024 .bf16) r k = dotP (attn m c) (wpa m c) (row t r) k := by
  unfold dotP
  exact Finset.sum_congr rfl fun j _ => by rw [iblk0, iblk5, V_main_arg0, V_main_arg4]

theorem ps_eq (t : Fin cfg0.N) (r : Fin 512) (k : Fin 1024) :
    dotP (iblk m c 1 t : Vec Ideal S512x512 .bf16) (iblk m c 6 t : Vec Ideal S512x1024 .bf16) r k = dotP (sgu m c) (wps m c) (row t r) k := by
  unfold dotP
  exact Finset.sum_congr rfl fun j _ => by rw [iblk1, iblk6, V_main_arg1, V_main_arg5]

theorem mg_eq (t : Fin cfg0.N) (r : Fin 512) (k : Fin 1024) :
    Block.mg (iblk m c 0 t) (iblk m c 1 t) (iblk m c 2 t) (iblk m c 3 t) (iblk m c 5 t) (iblk m c 6 t) r k
    = MfwSpec.merged (attn m c) (sgu m c) (gu m c) (wpa m c) (wps m c) (row t r) k := by
  unfold Block.mg MfwSpec.merged
  rw [pa_eq, ps_eq, iblk2, iblk3, V_main_arg2]
  rfl

theorem st_eq (t : Fin cfg0.N) (r : Fin 512) (k : Fin 1024) :
    Block.st (iblk m c 0 t) (iblk m c 1 t) (iblk m c 2 t) (iblk m c 3 t) (iblk m c 4 t) (iblk m c 5 t) (iblk m c 6 t) (iblk m c 7 t) r k
    = MfwSpec.stream (attn m c) (sgu m c) (gu m c) (xs m c) (wpa m c) (wps m c) (wout m c) (row t r) k := by
  unfold Block.st MfwSpec.stream
  rw [iblk4, V_main_arg3]
  exact congrArg (xs m c (ix2 (row t r) k) + ·) (Finset.sum_congr rfl fun j _ => by rw [mg_eq, iblk7, V_main_arg6])

theorem next_eq (t : Fin cfg0.N) (r : Fin 512) (k : Fin 1024) :
    MfwSpec.normed (Block.st (iblk m c 0 t) (iblk m c 1 t) (iblk m c 2 t) (iblk m c 3 t) (iblk m c 4 t) (iblk m c 5 t) (iblk m c 6 t) (iblk m c 7 t) r)
      ((iblk m c 8 t : Vec Ideal S1x1024 .f32) (ix2 0 k)) k
    = MfwSpec.next (attn m c) (sgu m c) (gu m c) (xs m c) (wpa m c) (wps m c) (wout m c) (g2 m c) (row t r) k := by
  unfold MfwSpec.next
  rw [iblk8, V_main_arg7]
  exact congrArg (fun h => MfwSpec.normed h (g2 m c (ix2 0 k)) k) (funext fun j => st_eq m c t r j)

theorem point9 (t : Fin cfg0.N) (r : Fin 512) (k : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r k) = R9 m c (ix2 (row t r) k) := by
  rw [Block.out9, pa_eq]; rfl

theorem point10 (t : Fin cfg0.N) (r : Fin 512) (k : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix2 r k) = R10 m c (ix2 (row t r) k) := by
  rw [Block.out10, ps_eq]; rfl

theorem point11 (t : Fin cfg0.N) (r : Fin 512) (k : Fin 1024) :
    out0_11 (F := Ideal) (iblk m c 0 t) (iblk m c 1 t) (iblk m c 2 t) (iblk m c 3 t) (iblk m c 4 t) (iblk m c 5 t) (iblk m c 6 t) (iblk m c 7 t) (iblk m c 8 t) (ix2 r k) = R11 m c (ix2 (row t r) k) := by
  rw [Block.out11, mg_eq]; rfl

theorem point12 (t : Fin cfg0.N) (r : Fin 512) (k : Fin 1024) :
    out0_12 (F := Ideal) (iblk m c 0 t) (iblk m c 1 t) (iblk m c 2 t) (iblk m c 3 t) (iblk m c 4 t) (iblk m c 5 t) (iblk m c 6 t) (iblk m c 7 t) (iblk m c 8 t) (ix2 r k) = R12 m c (ix2 (row t r) k) := by
  rw [Block.out12, st_eq]; rfl

theorem point13 (t : Fin cfg0.N) (r : Fin 512) (k : Fin 1024) :
    out0_13 (F := Ideal) (iblk m c 0 t) (iblk m c 1 t) (iblk m c 2 t) (iblk m c 3 t) (iblk m c 4 t) (iblk m c 5 t) (iblk m c 6 t) (iblk m c 7 t) (iblk m c 8 t) (ix2 r k) = R13 m c (ix2 (row t r) k) := by
  rw [Block.out13, next_eq]; rfl

theorem final9 : (dats m 0 c).arrAt 9 cfg0.N = R9 m c :=
  (dats m 0 c).arrAt_eq_of_cover 9 (R9 m c) (fun t _ => by
    rw [Value.flushed9]
    funext y
    rw [View.read_apply]
    show out0_9 (F := Ideal) (iblk m c 0 t) (iblk m c 1 t) (iblk m c 2 t) (iblk m c 3 t) (iblk m c 4 t) (iblk m c 5 t) (iblk m c 6 t) (iblk m c 7 t) (iblk m c 8 t) y = R9 m c (((cfg0.win 9).blk t).view.emb y)
    let z : S512x1024.Idx := y
    exact (congrArg (out0_9 (F := Ideal) (iblk m c 0 t) (iblk m c 1 t) (iblk m c 2 t) (iblk m c 3 t) (iblk m c 4 t) (iblk m c 5 t) (iblk m c 6 t) (iblk m c 7 t) (iblk m c 8 t)) (eq_ix2 z)).trans
      ((point9 m c t (z 0) (z 1)).trans (congrArg (R9 m c) (emb9 t z).symm))) cover9

theorem final10 : (dats m 0 c).arrAt 10 cfg0.N = R10 m c :=
  (dats m 0 c).arrAt_eq_of_cover 10 (R10 m c) (fun t _ => by
    rw [Value.flushed10]
    funext y
    rw [View.read_apply]
    show out0_10 (F := Ideal) (iblk m c 0 t) (iblk m c 1 t) (iblk m c 2 t) (iblk m c 3 t) (iblk m c 4 t) (iblk m c 5 t) (iblk m c 6 t) (iblk m c 7 t) (iblk m c 8 t) y = R10 m c (((cfg0.win 10).blk t).view.emb y)
    let z : S512x1024.Idx := y
    exact (congrArg (out0_10 (F := Ideal) (iblk m c 0 t) (iblk m c 1 t) (iblk m c 2 t) (iblk m c 3 t) (iblk m c 4 t) (iblk m c 5 t) (iblk m c 6 t) (iblk m c 7 t) (iblk m c 8 t)) (eq_ix2 z)).trans
      ((point10 m c t (z 0) (z 1)).trans (congrArg (R10 m c) (emb10 t z).symm))) cover10

theorem final11 : (dats m 0 c).arrAt 11 cfg0.N = R11 m c :=
  (dats m 0 c).arrAt_eq_of_cover 11 (R11 m c) (fun t _ => by
    rw [Value.flushed11]
    funext y
    rw [View.read_apply]
    show out0_11 (F := Ideal) (iblk m c 0 t) (iblk m c 1 t) (iblk m c 2 t) (iblk m c 3 t) (iblk m c 4 t) (iblk m c 5 t) (iblk m c 6 t) (iblk m c 7 t) (iblk m c 8 t) y = R11 m c (((cfg0.win 11).blk t).view.emb y)
    let z : S512x1024.Idx := y
    exact (congrArg (out0_11 (F := Ideal) (iblk m c 0 t) (iblk m c 1 t) (iblk m c 2 t) (iblk m c 3 t) (iblk m c 4 t) (iblk m c 5 t) (iblk m c 6 t) (iblk m c 7 t) (iblk m c 8 t)) (eq_ix2 z)).trans
      ((point11 m c t (z 0) (z 1)).trans (congrArg (R11 m c) (emb11 t z).symm))) cover11

theorem final12 : (dats m 0 c).arrAt 12 cfg0.N = R12 m c :=
  (dats m 0 c).arrAt_eq_of_cover 12 (R12 m c) (fun t _ => by
    rw [Value.flushed12]
    funext y
    rw [View.read_apply]
    show out0_12 (F := Ideal) (iblk m c 0 t) (iblk m c 1 t) (iblk m c 2 t) (iblk m c 3 t) (iblk m c 4 t) (iblk m c 5 t) (iblk m c 6 t) (iblk m c 7 t) (iblk m c 8 t) y = R12 m c (((cfg0.win 12).blk t).view.emb y)
    let z : S512x1024.Idx := y
    exact (congrArg (out0_12 (F := Ideal) (iblk m c 0 t) (iblk m c 1 t) (iblk m c 2 t) (iblk m c 3 t) (iblk m c 4 t) (iblk m c 5 t) (iblk m c 6 t) (iblk m c 7 t) (iblk m c 8 t)) (eq_ix2 z)).trans
      ((point12 m c t (z 0) (z 1)).trans (congrArg (R12 m c) (emb12 t z).symm))) cover12

theorem final13 : (dats m 0 c).arrAt 13 cfg0.N = R13 m c :=
  (dats m 0 c).arrAt_eq_of_cover 13 (R13 m c) (fun t _ => by
    rw [Value.flushed13]
    funext y
    rw [View.read_apply]
    show out0_13 (F := Ideal) (iblk m c 0 t) (iblk m c 1 t) (iblk m c 2 t) (iblk m c 3 t) (iblk m c 4 t) (iblk m c 5 t) (iblk m c 6 t) (iblk m c 7 t) (iblk m c 8 t) y = R13 m c (((cfg0.win 13).blk t).view.emb y)
    let z : S512x1024.Idx := y
    exact (congrArg (out0_13 (F := Ideal) (iblk m c 0 t) (iblk m c 1 t) (iblk m c 2 t) (iblk m c 3 t) (iblk m c 4 t) (iblk m c 5 t) (iblk m c 6 t) (iblk m c 7 t) (iblk m c 8 t)) (eq_ix2 z)).trans
      ((point13 m c t (z 0) (z 1)).trans (congrArg (R13 m c) (emb13 t z).symm))) cover13

end Cert.Kernel12Ideal.Arrays

end
-- ==== Proof.MfwRef.lean ====
/- The reference's five results of the merge, read as the plain sums of the specification. -/
module

public import proofs.«01_k».proof.Proof.Gen.Reference12Ideal.Run
public import proofs.«01_k».proof.Proof.MfwSpec
public import Idealize.ShloMosaic.Lib.Pointwise

@[expose] public section

set_option maxRecDepth 16384

noncomputable section

namespace Cert.Reference12Ideal.Mfw

open Cert.Reference12Ideal Cert.Reference12Ideal.Gen Idealize.ShloMosaic Idealize.ShloMosaic.TcCoe
open scoped BigOperators

variable (attn sgu : FVec Ideal S8192x512 .bf16) (gu : FVec Ideal S8192x3072 .bf16) (x : FVec Ideal S8192x1024 .f32)
  (wpa wps : FVec Ideal S512x1024 .bf16) (wout : FVec Ideal S1024x1024 .bf16) (g2 : FVec Ideal S1x1024 .f32)

/-- The gate over one third of the columns, as the reference spells it. -/
abbrev gate (off : Fin 2 → ℕ) (h : S8192x3072.Slices off S8192x1024) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 off (extf .f32 gu bitsLt_bf16_f32) h))))

/-- One branch's projection, as the reference spells it. -/
abbrev proj (x : FVec Ideal S8192x512 .bf16) (w : FVec Ideal S512x1024 .bf16) : FVec Ideal S8192x1024 .f32 :=
  Host.dotGeneral dot_S8192x512_S512x1024_S8192x1024_1_0_0_1_n_n none (extf .f32 x bitsLt_bf16_f32) (extf .f32 w bitsLt_bf16_f32)

/-- The merge, as the reference spells it. -/
abbrev merged : FVec Ideal S8192x1024 .f32 :=
  addf (mulf (gate gu ![0, 1024] slices_S8192x3072_S8192x1024_0_1024) (proj attn wpa))
    (mulf (gate gu ![0, 2048] slices_S8192x3072_S8192x1024_0_2048) (proj sgu wps))

/-- The stream after the merge, as the reference spells it. -/
abbrev stream : FVec Ideal S8192x1024 .f32 :=
  addf x (Host.dotGeneral dot_S8192x1024_S1024x1024_S8192x1024_1_0_0_1_n_n none (merged attn sgu gu wpa wps) (extf .f32 wout bitsLt_bf16_f32))

/-- The normalisation, as the reference spells it. -/
abbrev norm (h : FVec Ideal S8192x1024 .f32) : FVec Ideal S8192x1024 .f32 :=
  mulf (mulf h (broadcastInDim S8192x1024 ![0, 1] bcast_S8192x1_S8192x1024_0_1 (Host.rsqrt (addf (Host.divf (broadcastInDim S8192x1 ![0] bcast_S8192_S8192x1_0 (Host.reduceAdd (mulf h h) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g2)

theorem proj_apply (x : FVec Ideal S8192x512 .bf16) (w : FVec Ideal S512x1024 .bf16) (i : Fin 8192) (j : Fin 1024) :
    proj x w (ix2 i j) = MergeSpec.dotP x w i j := by
  pointwise
  rfl

theorem gate1_apply (i : Fin 8192) (j : Fin 1024) :
    gate gu ![0, 1024] slices_S8192x3072_S8192x1024_0_1024 (ix2 i j) = MergeSpec.gcol gu 1024 (by omega) i j := by
  pointwise
  exact Gate.div_eq _

theorem gate2_apply (i : Fin 8192) (j : Fin 1024) :
    gate gu ![0, 2048] slices_S8192x3072_S8192x1024_0_2048 (ix2 i j) = MergeSpec.gcol gu 2048 (by omega) i j := by
  pointwise
  exact Gate.div_eq _

theorem merged_apply (i : Fin 8192) (j : Fin 1024) :
    merged attn sgu gu wpa wps (ix2 i j) = MfwSpec.merged attn sgu gu wpa wps i j := by
  unfold MfwSpec.merged
  rw [← gate1_apply, ← gate2_apply, ← proj_apply, ← proj_apply]
  rfl

theorem out_apply (a : FVec Ideal S8192x1024 .f32) (i : Fin 8192) (j : Fin 1024) :
    addf x (Host.dotGeneral dot_S8192x1024_S1024x1024_S8192x1024_1_0_0_1_n_n none a (extf .f32 wout bitsLt_bf16_f32)) (ix2 i j)
    = x (ix2 i j) + ∑ k : Fin 1024, a (ix2 i k) * wout (ix2 k j) := by
  pointwise

theorem stream_apply (i : Fin 8192) (j : Fin 1024) :
    stream attn sgu gu x wpa wps wout (ix2 i j) = MfwSpec.stream attn sgu gu x wpa wps wout i j := by
  refine (out_apply x wout (merged attn sgu gu wpa wps) i j).trans ?_
  unfold MfwSpec.stream
  exact congrArg (x (ix2 i j) + ·) (Finset.sum_congr rfl fun k _ => by rw [merged_apply])

theorem norm_apply (h : FVec Ideal S8192x1024 .f32) (i : Fin 8192) (j : Fin 1024) :
    norm g2 h (ix2 i j) = MfwSpec.normed (fun k => h (ix2 i k)) (g2 (ix2 0 j)) j := by
  pointwise
  rfl

theorem next_apply (i : Fin 8192) (j : Fin 1024) :
    norm g2 (stream attn sgu gu x wpa wps wout) (ix2 i j) = MfwSpec.next attn sgu gu x wpa wps wout g2 i j := by
  refine (norm_apply g2 (stream attn sgu gu x wpa wps wout) i j).trans ?_
  exact congrArg (fun h => MfwSpec.normed h (g2 (ix2 0 j)) j) (funext fun k => stream_apply attn sgu gu x wpa wps wout i k)

/-- The last of the five results is the normalised stream. -/
theorem res_next (m : (ℓ : Loc nD τ sig) → Buf (Elt Ideal) ℓ) (c : Dev nD) : Value.res_main_v42 (F := Ideal) m c
    = truncf .bf16 (norm (m ((c.tc : Thread nD τ).loc main_arg7)) (stream (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)))) bitsLt_bf16_f32 := by
  unfold Value.res_main_v42
  rfl

end Cert.Reference12Ideal.Mfw

end
-- ==== Proof.Guv.lean ====
/- The gate and value columns of the input projection: what a grid point writes, and the output array as one product. -/
module

public import proofs.«01_k».proof.Proof.Gen.Kernel13Ideal.Value
public import proofs.«01_k».proof.Proof.Gen.Reference13Ideal.Run
public import proofs.«01_k».proof.Proof.MergeSpec
public import Idealize.ShloMosaic.Lib.Pipeline.Value
public import Idealize.ShloMosaic.Lib.Pointwise

@[expose] public section

set_option maxRecDepth 16384

noncomputable section

namespace Cert.Guv

open Idealize.ShloMosaic Cert.MergeSpec
open scoped BigOperators

/-- The stream through the last columns of the projection matrix. -/
def spec (h : Mat 8192 1024) (w : Mat 1024 7680) (i : Fin 8192) (j : Fin 3072) : EReal :=
  ∑ k : Fin 1024, h (ix2 i k) * w (ix2 k ⟨4608 + j.val, by omega⟩)

end Cert.Guv

namespace Cert.Kernel13Ideal.Guv

open Cert.Kernel13Ideal Cert.Kernel13Ideal.Gen Idealize.ShloMosaic Idealize.ShloMosaic.TcCoe Idealize.SL.Sem Cert.MergeSpec
open Idealize.ShloMosaic.Pipeline (Dat)
open scoped BigOperators

theorem hz : (![0, 0] : Fin 2 → Nat) = fun _ => 0 := funext fun a => by fin_cases a <;> rfl

theorem ld0 {e : EltTy} (x : Vec Ideal S1024x1024 e) : View.ld x r0_0 = x := View.ld_unit_zero hz _ x
theorem ld1 {e : EltTy} (x : Vec Ideal S1024x1536 e) : View.ld x r0_1 = x := View.ld_unit_zero hz _ x

section Block
variable (x0 : Vec Ideal S1024x1024 .bf16) (x1 x2 : Vec Ideal S1024x1536 .bf16)

theorem pay1 (x : Vec Ideal S1024x1536 .bf16) (r : Fin 1024) (k : Fin 1536) : k0_pay1 (F := Ideal) x0 x (ix2 r k) = dotP x0 x r k := by
  pointwise [k0_pay1]
  rfl

theorem pay2 (x : Vec Ideal S1024x1536 .bf16) (r : Fin 1024) (k : Fin 1536) : k0_pay2 (F := Ideal) x0 x (ix2 r k) = dotP x0 x r k := by
  pointwise [k0_pay2]
  rfl

/-- The block: the first window's product, then the second's. -/
def both (y : S1024x3072.Idx) : EReal :=
  if h : (y 1 : ℕ) < 1536 then dotP x0 x1 (y 0) ⟨(y 1 : ℕ), h⟩
  else dotP x0 x2 (y 0) ⟨(y 1 : ℕ) - 1536, by have : (y 1 : ℕ) < 3072 := (y 1).isLt; omega⟩

theorem both_lt (r : Fin 1024) (k : Fin 3072) (h : k.val < 1536) : both x0 x1 x2 (ix2 r k) = dotP x0 x1 r ⟨k.val, h⟩ := dif_pos h
theorem both_ge (r : Fin 1024) (k : Fin 3072) (h : ¬ k.val < 1536) :
    both x0 x1 x2 (ix2 r k) = dotP x0 x2 r ⟨k.val - 1536, by have := k.isLt; omega⟩ := dif_neg h

theorem both_second (x : S1024x1536.Idx) : k0_pay2 (F := Ideal) x0 x2 x = both x0 x1 x2 (r0_3.emb x) := by
  have hx : (x 1 : ℕ) < 1536 := (x 1).isLt
  have h1 : ((r0_3.emb x) 1 : ℕ) = 1536 + x 1 := by rw [Rect.emb_apply]; show 1536 + 1 * (x 1 : ℕ) = _; omega
  have h0 : ((r0_3.emb x) 0 : ℕ) = x 0 := by rw [Rect.emb_apply]; show 0 + 1 * (x 0 : ℕ) = _; omega
  unfold both
  rw [dif_neg (by omega)]
  refine ((congrArg _ (eq_ix2 x)).trans (pay2 x0 x2 (x 0) (x 1))).trans ?_
  refine congr (congrArg (dotP x0 x2) (Fin.ext h0.symm)) (Fin.ext ?_)
  show (x 1 : ℕ) = (r0_3.emb x) 1 - 1536
  omega

theorem both_first (x : S1024x1536.Idx) : k0_pay1 (F := Ideal) x0 x1 x = both x0 x1 x2 (r0_2.emb x) := by
  have hx : (x 1 : ℕ) < 1536 := (x 1).isLt
  have h1 : ((r0_2.emb x) 1 : ℕ) = x 1 := by rw [Rect.emb_apply]; show 0 + 1 * (x 1 : ℕ) = _; omega
  have h0 : ((r0_2.emb x) 0 : ℕ) = x 0 := by rw [Rect.emb_apply]; show 0 + 1 * (x 0 : ℕ) = _; omega
  unfold both
  rw [dif_pos (by omega)]
  refine ((congrArg _ (eq_ix2 x)).trans (pay1 x0 x1 (x 0) (x 1))).trans ?_
  exact congr (congrArg (dotP x0 x1) (Fin.ext h0.symm)) (Fin.ext h1.symm)

theorem out3 (y : S1024x3072.Idx) : out0_3 x0 x1 x2 y = both x0 x1 x2 y := by
  unfold out0_3
  simp only [ld0, ld1]
  refine View.canon_apply_of_pieces (Val := Elt Ideal) (e := .bf16) (both x0 x1 x2) _ ?_ y (cover0_3 _ _ y)
  intro p hp x
  simp only [List.mem_cons, List.not_mem_nil, or_false] at hp
  rcases hp with rfl | rfl
  · exact both_second x0 x1 x2 x
  · exact both_first x0 x1 x2 x

end Block

variable (m : (ℓ : Loc nD τ sig) → Buf (Elt Ideal) ℓ) (c : Dev nD)

/-- Row `r` of block `t`. -/
abbrev row (t : Fin cfg0.N) (r : Fin 1024) : Fin 8192 :=
  ⟨1024 * t.val + r.val, by have h := t.isLt; have e : cfg0.N = 8 := N_0; omega⟩

/-- The stream and the result move down the rows; the two thirds of the matrix stay in place. -/
theorem idx : ∀ t : Fin cfg0.N, win0_0.index t 0 = t.val ∧ win0_0.index t 1 = 0 ∧ win0_1.index t 0 = 0 ∧ win0_1.index t 1 = 3
    ∧ win0_2.index t 0 = 0 ∧ win0_2.index t 1 = 4 ∧ win0_3.index t 0 = t.val ∧ win0_3.index t 1 = 0 :=
  (by decide +kernel : ∀ t : Fin grid0.N, win0_0.index t 0 = t.val ∧ win0_0.index t 1 = 0 ∧ win0_1.index t 0 = 0 ∧ win0_1.index t 1 = 3
    ∧ win0_2.index t 0 = 0 ∧ win0_2.index t 1 = 4 ∧ win0_3.index t 0 = t.val ∧ win0_3.index t 1 = 0)

/-- A block's cell in its array: block number times the block's extent, plus the place inside. -/
theorem at_row {b n t r : ℕ} (h : b = t) : b * n + 1 * r = n * t + r := by rw [h, one_mul, mul_comm]
theorem at_col {b n o j : ℕ} (h : b * n = o) : b * n + 1 * j = o + j := by rw [h, one_mul]
theorem at_zero {b n j : ℕ} (h : b = 0) : b * n + 1 * j = j := by rw [h, one_mul, zero_mul, zero_add]

theorem iblk0 (t : Fin cfg0.N) (r : Fin 1024) (k : Fin 1024) :
    (iblk m c 0 t : Vec Ideal S1024x1024 .bf16) (ix2 r k) = V m c main_arg0 (ix2 (row t r) k) := by
  have hi := idx t
  unfold iblk
  rw [View.read_apply]
  exact congrArg (V m c main_arg0) (Shape.idx_ext₂ (at_row hi.1) (at_zero hi.2.1))

theorem iblk1 (t : Fin cfg0.N) (r : Fin 1024) (k : Fin 1536) :
    (iblk m c 1 t : Vec Ideal S1024x1536 .bf16) (ix2 r k) = V m c main_arg1 (ix2 r ⟨4608 + k.val, by omega⟩) := by
  have hi := idx t
  unfold iblk
  rw [View.read_apply]
  exact congrArg (V m c main_arg1) (Shape.idx_ext₂ (at_zero hi.2.2.1) (at_col (by rw [hi.2.2.2.1]; rfl)))

theorem iblk2 (t : Fin cfg0.N) (r : Fin 1024) (k : Fin 1536) :
    (iblk m c 2 t : Vec Ideal S1024x1536 .bf16) (ix2 r k) = V m c main_arg1 (ix2 r ⟨6144 + k.val, by omega⟩) := by
  have hi := idx t
  unfold iblk
  rw [View.read_apply]
  exact congrArg (V m c main_arg1) (Shape.idx_ext₂ (at_zero hi.2.2.2.2.1) (at_col (by rw [hi.2.2.2.2.2.1]; rfl)))

theorem emb3 (t : Fin cfg0.N) (y : S1024x3072.Idx) :
    (((cfg0.win 3).blk t).view.emb y : S8192x3072.Idx) = ix2 (row t (y 0)) (y 1) :=
  Shape.idx_ext₂ (at_row (idx t).2.2.2.2.2.2.1) (at_zero (idx t).2.2.2.2.2.2.2)

theorem cover3 (i : S8192x3072.Idx) : ∃ t : Fin cfg0.N, (cfg0.win 3).flush t = true ∧ i ∈ ((cfg0.win 3).blk t).view.set := by
  have h0 : (i 0 : ℕ) < 8192 := (i 0).isLt
  have hN : cfg0.N = 8 := N_0
  refine ⟨⟨(i 0 : ℕ) / 1024, by omega⟩, flush0_3 _, ?_⟩
  refine Finset.mem_map.mpr ⟨ix2 ⟨(i 0 : ℕ) % 1024, by omega⟩ (i 1), Finset.mem_univ _, ?_⟩
  rw [emb3]
  refine Shape.idx_ext₂ ?_ rfl
  show 1024 * ((i 0 : ℕ) / 1024) + (i 0 : ℕ) % 1024 = (i 0 : ℕ)
  omega

abbrev h : Mat 8192 1024 := m ((c : Thread nD τ).loc main_arg0)
abbrev w : Mat 1024 7680 := m ((c : Thread nD τ).loc main_arg1)

/-- The specification's array, from this device's arguments. -/
abbrev R3 (y : S8192x3072.Idx) : EReal := Cert.Guv.spec (h m c) (w m c) (y 0) (y 1)

theorem point3 (t : Fin cfg0.N) (r : Fin 1024) (k : Fin 3072) :
    both (iblk m c 0 t) (iblk m c 1 t) (iblk m c 2 t) (ix2 r k) = R3 m c (ix2 (row t r) k) := by
  have hk := k.isLt
  by_cases h : k.val < 1536
  · rw [both_lt _ _ _ r k h]
    unfold dotP
    exact Finset.sum_congr rfl fun j _ => by rw [iblk0, iblk1, V_main_arg0, V_main_arg1]; rfl
  · rw [both_ge _ _ _ r k h]
    unfold dotP
    refine Finset.sum_congr rfl fun j _ => ?_
    rw [iblk0, iblk2, V_main_arg0, V_main_arg1]
    refine congrArg (Guv.h m c (ix2 (row t r) j) * w m c ·) (Shape.idx_ext₂ rfl ?_)
    show 6144 + (k.val - 1536) = 4608 + k.val
    omega

theorem final3 : (dats m 0 c).arrAt 3 cfg0.N = R3 m c :=
  (dats m 0 c).arrAt_eq_of_cover 3 (R3 m c) (fun t _ => by
    rw [Value.flushed3]
    funext y
    rw [View.read_apply]
    show out0_3 (F := Ideal) (iblk m c 0 t) (iblk m c 1 t) (iblk m c 2 t) y = R3 m c (((cfg0.win 3).blk t).view.emb y)
    let z : S1024x3072.Idx := y
    exact (out3 (iblk m c 0 t) (iblk m c 1 t) (iblk m c 2 t) z).trans ((congrArg (both (iblk m c 0 t) (iblk m c 1 t) (iblk m c 2 t)) (eq_ix2 z)).trans
      ((point3 m c t (z 0) (z 1)).trans (congrArg (R3 m c) (emb3 t z).symm)))) cover3

end Cert.Kernel13Ideal.Guv

namespace Cert.Reference13Ideal.Guv

open Cert.Reference13Ideal Cert.Reference13Ideal.Gen Idealize.ShloMosaic Idealize.ShloMosaic.TcCoe

theorem out_apply (h : FVec Ideal S8192x1024 .bf16) (w : FVec Ideal S1024x7680 .bf16) (i : Fin 8192) (j : Fin 3072) :
    truncf .bf16 (Host.dotGeneral dot_S8192x1024_S1024x3072_S8192x3072_1_0_0_1_n_n none (extf .f32 h bitsLt_bf16_f32) (extf .f32 (extractStridedSlice S1024x3072 ![0, 4608] w slices_S1024x7680_S1024x3072_0_4608) bitsLt_bf16_f32)) bitsLt_bf16_f32 (ix2 i j)
    = Cert.Guv.spec h w i j := by
  pointwise
  rfl

end Cert.Reference13Ideal.Guv

end
-- ==== Proof.QkvSpec.lean ====
/- One dilation group of the input projection: queries, keys and values, the first two turned by their positions. -/
module

public import proofs.«01_k».proof.Proof.MergeSpec

@[expose] public section

noncomputable section

namespace Cert.QkvSpec

open Idealize.ShloMosaic Cert.MergeSpec
open scoped BigOperators

/-- The query scale, one eighth. -/
abbrev eighth : EReal := Ideal.ofBits .f32 0x3E000000#32

/-- The columns of the projection matrix that begin at `o`. -/
def cols (w : Mat 1024 7680) (o : ℕ) (ho : o + 512 ≤ 7680) : Mat 1024 512 :=
  fun y => w (ix2 (y 0) ⟨o + (y 1).val, by have : (y 1).val < 512 := (y 1).isLt; omega⟩)

/-- Row `i` of the queries or keys turned: in each head of 64 columns the first eight pair with the next eight, and every
    pair turns by its angle; the other columns stay. -/
def rot (cs sn : Mat 8192 8) (z : Fin 512 → EReal) (i : Fin 8192) (j : Fin 512) : EReal :=
  if h : j.val % 64 < 8 then z j * cs (ix2 i ⟨j.val % 64, h⟩) - z ⟨j.val + 8, by omega⟩ * sn (ix2 i ⟨j.val % 64, h⟩)
  else if h2 : j.val % 64 < 16 then
    z j * cs (ix2 i ⟨j.val % 64 - 8, by omega⟩) + z ⟨j.val - 8, by omega⟩ * sn (ix2 i ⟨j.val % 64 - 8, by omega⟩)
  else z j

/-- Queries, keys and values side by side. -/
def qkv (cs sn : Mat 8192 8) (h : Mat 8192 1024) (wq wk wv : Mat 1024 512) (i : Fin 8192) (j : Fin 1536) : EReal :=
  if hq : j.val < 512 then rot cs sn (dotP h wq i) i ⟨j.val, hq⟩ * eighth
  else if hk : j.val < 1024 then rot cs sn (dotP h wk i) i ⟨j.val - 512, by omega⟩
  else dotP h wv i ⟨j.val - 1024, by have := j.isLt; omega⟩

end Cert.QkvSpec

end
-- ==== Proof.QkvBlock.lean ====
/- What one grid point of a group's projection writes, element by element, and that it is the specification's row. -/
module

public import proofs.«01_k».proof.Proof.Gen.Kernel14Ideal.Value
public import proofs.«01_k».proof.Proof.QkvSpec
public import Idealize.ShloMosaic.Lib.Pipeline.Value
public import Idealize.ShloMosaic.Lib.Pointwise

@[expose] public section

set_option maxRecDepth 16384

noncomputable section

namespace Cert.Kernel14Ideal.Qkv

open Cert.Kernel14Ideal Cert.Kernel14Ideal.Gen Idealize.ShloMosaic Cert.MergeSpec Cert.QkvSpec
open scoped BigOperators

theorem hz : (![0, 0] : Fin 2 → Nat) = fun _ => 0 := funext fun a => by fin_cases a <;> rfl

theorem ld0 {e : EltTy} (x : Vec Ideal S1024x1024 e) : View.ld x r0_0 = x := View.ld_unit_zero hz _ x
theorem ld1 {e : EltTy} (x : Vec Ideal S1024x128 e) : View.ld x r0_1 = x := View.ld_unit_zero hz _ x
theorem ld2 {e : EltTy} (x : Vec Ideal S1024x512 e) : View.ld x r0_2 = x := View.ld_unit_zero hz _ x

variable (x0 : Vec Ideal S1024x1024 .bf16) (x1 x2 x3 : Vec Ideal S1024x512 .bf16) (x4 x5 : Vec Ideal S1024x128 .f32)

/-- Row `r` turned with the lane tables: each lane's partner lies eight lanes on or eight lanes back. -/
def turned (C S : Mat 1024 128) (P : Mat 1024 512) (r : Fin 1024) (k : Fin 512) : EReal :=
  P (ix2 r k) * C (ix2 r ⟨k.val % 128, by omega⟩)
    + (if k.val % 64 < 8 then P (ix2 r ⟨k.val / 128 * 128 + (k.val + 8) % 128, by omega⟩)
       else P (ix2 r ⟨k.val / 128 * 128 + (k.val + 120) % 128, by omega⟩)) * S (ix2 r ⟨k.val % 128, by omega⟩)

/-- The lanes whose partner lies ahead. -/
theorem mask (r : Fin 1024) (l : Fin 128) : k0_pay6 (ix2 r l) = if l.val % 64 < 8 then 1#1 else 0#1 := by
  pointwise [k0_pay6]
  revert l
  decide +kernel

theorem mask' : k0_pay13 = k0_pay6 := rfl

theorem lane (C S : Mat 1024 128) (P : Mat 1024 512) (r : Fin 1024) (k a b d : Fin 512) (l : Fin 128) (hl : l.val = k.val % 128)
    (ha : a.val = k.val) (hb : b.val = k.val / 128 * 128 + (k.val + 8) % 128) (hd : d.val = k.val / 128 * 128 + (k.val + 120) % 128) :
    P (ix2 r a) * C (ix2 r l) + Scalar.select (k0_pay6 (ix2 r l)) (P (ix2 r b)) (P (ix2 r d)) * S (ix2 r l) = turned C S P r k := by
  obtain rfl : a = k := Fin.ext ha
  clear ha
  have pl : a.val % 128 < 128 := Nat.mod_lt _ (by decide)
  have pb : a.val / 128 * 128 + (a.val + 8) % 128 < 512 := hb ▸ b.isLt
  have pd : a.val / 128 * 128 + (a.val + 120) % 128 < 512 := hd ▸ d.isLt
  have el : l = ⟨a.val % 128, pl⟩ := Fin.ext hl
  have eb : b = ⟨a.val / 128 * 128 + (a.val + 8) % 128, pb⟩ := Fin.ext hb
  have ed : d = ⟨a.val / 128 * 128 + (a.val + 120) % 128, pd⟩ := Fin.ext hd
  rw [el, eb, ed]
  rw [mask]
  unfold turned
  have e : a.val % 128 % 64 = a.val % 64 := by omega
  dsimp only
  rw [e]
  by_cases h : a.val % 64 < 8
  · rw [if_pos h, if_pos h]; rfl
  · rw [if_neg h, if_neg h]; rfl

theorem pay5 (r : Fin 1024) (k : Fin 512) : k0_pay5 (F := Ideal) x0 x1 (ix2 r k) = dotP x0 x1 r k := by
  pointwise [k0_pay5]
  rfl

theorem pay12 : k0_pay12 (F := Ideal) x0 x1 = k0_pay5 x0 x1 := rfl

theorem pay2 (r : Fin 1024) (k : Fin 512) : k0_pay2 (F := Ideal) x0 x3 (ix2 r k) = dotP x0 x3 r k := by
  pointwise [k0_pay2]
  rfl

theorem pay11 (r : Fin 1024) (k : Fin 512) :
    k0_pay11 (F := Ideal) (k0_pay3 x4) (k0_pay4 x5) (k0_pay5 x0 x1) k0_pay6 (k0_pay7 x0 x4 x5 x1) (k0_pay9 x0 x4 x1) (k0_pay10 x0 x5 x1) (ix2 r k)
    = turned x4 x5 (k0_pay5 (F := Ideal) x0 x1) r k * eighth := by
  have hk := k.isLt
  pointwise [k0_pay11, k0_pay7, k0_pay9, k0_pay10, k0_pay8, k0_pay3, k0_pay4]
  refine congrArg (· * eighth) ?_
  split_ifs with h1 h2 h3 <;>
    exact lane x4 x5 (k0_pay5 (F := Ideal) x0 x1) r k _ _ _ _ (by first | (dsimp only; done) | (dsimp only; omega) | omega) (by first | (dsimp only; done) | (dsimp only; omega) | omega)
      (by first | (dsimp only; done) | (dsimp only; omega) | omega) (by first | (dsimp only; done) | (dsimp only; omega) | omega)

theorem keys (P : FVec Ideal S1024x512 .f32) (r : Fin 1024) (k : Fin 512) :
    k0_pay1 (F := Ideal) x4 x5 P k0_pay6 (extractStridedSlice S1024x128 ![0, 0] P slices_S1024x512_o0_0_S1024x128) (ix2 r k) = turned x4 x5 P r k := by
  have hk := k.isLt
  pointwise [k0_pay1]
  split_ifs with h1 h2 h3 <;>
    exact lane x4 x5 P r k _ _ _ _ (by first | (dsimp only; done) | (dsimp only; omega) | omega) (by first | (dsimp only; done) | (dsimp only; omega) | omega)
      (by first | (dsimp only; done) | (dsimp only; omega) | omega) (by first | (dsimp only; done) | (dsimp only; omega) | omega)

theorem pay3 : k0_pay3 (F := Ideal) x4 = x4 := shapeCast_self ..
theorem pay4 : k0_pay4 (F := Ideal) x5 = x5 := shapeCast_self ..

theorem pay1 (r : Fin 1024) (k : Fin 512) :
    k0_pay1 (F := Ideal) (k0_pay3 x4) (k0_pay4 x5) (k0_pay12 x0 x2) k0_pay13 (k0_pay14 x0 x2) (ix2 r k)
    = turned x4 x5 (k0_pay5 (F := Ideal) x0 x2) r k := by
  rw [pay3, pay4, mask', pay12]
  exact keys x4 x5 (k0_pay5 (F := Ideal) x0 x2) r k

/-- The block: queries, keys and values side by side. -/
def blk (y : S1024x1536.Idx) : EReal :=
  if hq : (y 1 : ℕ) < 512 then turned x4 x5 (k0_pay5 (F := Ideal) x0 x1) (y 0) ⟨(y 1 : ℕ), hq⟩ * eighth
  else if hk : (y 1 : ℕ) < 1024 then turned x4 x5 (k0_pay5 (F := Ideal) x0 x2) (y 0) ⟨(y 1 : ℕ) - 512, by omega⟩
  else dotP x0 x3 (y 0) ⟨(y 1 : ℕ) - 1024, by have : (y 1 : ℕ) < 1536 := (y 1).isLt; omega⟩

theorem blk_q (r : Fin 1024) (k : Fin 1536) (h : k.val < 512) :
    blk x0 x1 x2 x3 x4 x5 (ix2 r k) = turned x4 x5 (k0_pay5 (F := Ideal) x0 x1) r ⟨k.val, h⟩ * eighth := dif_pos h
theorem blk_k (r : Fin 1024) (k : Fin 1536) (h : ¬ k.val < 512) (h2 : k.val < 1024) :
    blk x0 x1 x2 x3 x4 x5 (ix2 r k) = turned x4 x5 (k0_pay5 (F := Ideal) x0 x2) r ⟨k.val - 512, by omega⟩ := (dif_neg h).trans (dif_pos h2)
theorem blk_v (r : Fin 1024) (k : Fin 1536) (h : ¬ k.val < 512) (h2 : ¬ k.val < 1024) :
    blk x0 x1 x2 x3 x4 x5 (ix2 r k) = dotP x0 x3 r ⟨k.val - 1024, by have := k.isLt; omega⟩ := (dif_neg h).trans (dif_neg h2)

theorem emb3 (x : S1024x512.Idx) : r0_3.emb x = (ix2 (x 0) ⟨(x 1 : ℕ), by have : (x 1 : ℕ) < 512 := (x 1).isLt; omega⟩ : S1024x1536.Idx) :=
  Shape.idx_ext₂ (by rw [Rect.emb_apply]; show 0 + 1 * (x 0 : ℕ) = x 0; omega) (by rw [Rect.emb_apply]; show 0 + 1 * (x 1 : ℕ) = x 1; omega)
theorem emb4 (x : S1024x512.Idx) : r0_4.emb x = (ix2 (x 0) ⟨512 + (x 1 : ℕ), by have : (x 1 : ℕ) < 512 := (x 1).isLt; omega⟩ : S1024x1536.Idx) :=
  Shape.idx_ext₂ (by rw [Rect.emb_apply]; show 0 + 1 * (x 0 : ℕ) = x 0; omega) (by rw [Rect.emb_apply]; show 512 + 1 * (x 1 : ℕ) = 512 + x 1; omega)
theorem emb5 (x : S1024x512.Idx) : r0_5.emb x = (ix2 (x 0) ⟨1024 + (x 1 : ℕ), by have : (x 1 : ℕ) < 512 := (x 1).isLt; omega⟩ : S1024x1536.Idx) :=
  Shape.idx_ext₂ (by rw [Rect.emb_apply]; show 0 + 1 * (x 0 : ℕ) = x 0; omega) (by rw [Rect.emb_apply]; show 1024 + 1 * (x 1 : ℕ) = 1024 + x 1; omega)

theorem piece_q (x : S1024x512.Idx) :
    k0_pay11 (F := Ideal) (k0_pay3 x4) (k0_pay4 x5) (k0_pay5 x0 x1) k0_pay6 (k0_pay7 x0 x4 x5 x1) (k0_pay9 x0 x4 x1) (k0_pay10 x0 x5 x1) x
    = blk x0 x1 x2 x3 x4 x5 (r0_3.emb x) := by
  have hx : (x 1 : ℕ) < 512 := (x 1).isLt
  refine ((congrArg _ (eq_ix2 x)).trans (pay11 x0 x1 x4 x5 (x 0) (x 1))).trans ?_
  exact ((congrArg (blk x0 x1 x2 x3 x4 x5) (emb3 x)).trans (blk_q x0 x1 x2 x3 x4 x5 (x 0) ⟨(x 1 : ℕ), by omega⟩ hx)).symm

theorem piece_k (x : S1024x512.Idx) :
    k0_pay1 (F := Ideal) (k0_pay3 x4) (k0_pay4 x5) (k0_pay12 x0 x2) k0_pay13 (k0_pay14 x0 x2) x = blk x0 x1 x2 x3 x4 x5 (r0_4.emb x) := by
  have hx : (x 1 : ℕ) < 512 := (x 1).isLt
  refine ((congrArg _ (eq_ix2 x)).trans (pay1 x0 x2 x4 x5 (x 0) (x 1))).trans ?_
  refine Eq.trans ?_ ((congrArg (blk x0 x1 x2 x3 x4 x5) (emb4 x)).trans (blk_k x0 x1 x2 x3 x4 x5 (x 0) ⟨512 + (x 1 : ℕ), by omega⟩
    (by dsimp only; omega) (by dsimp only; omega))).symm
  exact congrArg (turned x4 x5 (k0_pay5 (F := Ideal) x0 x2) (x 0)) (Fin.ext (Nat.add_sub_cancel_left ..).symm)

theorem piece_v (x : S1024x512.Idx) : k0_pay2 (F := Ideal) x0 x3 x = blk x0 x1 x2 x3 x4 x5 (r0_5.emb x) := by
  have hx : (x 1 : ℕ) < 512 := (x 1).isLt
  refine ((congrArg _ (eq_ix2 x)).trans (pay2 x0 x3 (x 0) (x 1))).trans ?_
  refine Eq.trans ?_ ((congrArg (blk x0 x1 x2 x3 x4 x5) (emb5 x)).trans (blk_v x0 x1 x2 x3 x4 x5 (x 0) ⟨1024 + (x 1 : ℕ), by omega⟩
    (by dsimp only; omega) (by dsimp only; omega))).symm
  exact congrArg (dotP x0 x3 (x 0)) (Fin.ext (Nat.add_sub_cancel_left ..).symm)

theorem out6 (y : S1024x1536.Idx) : out0_6 x0 x1 x2 x3 x4 x5 y = blk x0 x1 x2 x3 x4 x5 y := by
  unfold_out out0_6
  simp only [ld0, ld1, ld2]
  refine View.canon_apply_of_pieces (Val := Elt Ideal) (e := .bf16) (blk x0 x1 x2 x3 x4 x5) _ ?_ y (cover0_6 _ _ _ y)
  intro p hp x
  simp only [List.mem_cons, List.not_mem_nil, or_false] at hp
  rcases hp with rfl | rfl | rfl
  · exact piece_v x0 x1 x2 x3 x4 x5 x
  · exact piece_k x0 x1 x2 x3 x4 x5 x
  · exact piece_q x0 x1 x2 x3 x4 x5 x

/-- The lane tables' cells: the pair's cosine, and its sine with the sign of the place in the pair; one and zero beyond. -/
def laneCos (cs : Mat 8192 8) (i : Fin 8192) (l : Fin 128) : EReal :=
  if h : l.val % 64 < 8 then cs (ix2 i ⟨l.val % 64, h⟩)
  else if h2 : l.val % 64 < 16 then cs (ix2 i ⟨l.val % 64 - 8, by omega⟩) else 1
def laneSin (sn : Mat 8192 8) (i : Fin 8192) (l : Fin 128) : EReal :=
  if h : l.val % 64 < 8 then -sn (ix2 i ⟨l.val % 64, h⟩)
  else if h2 : l.val % 64 < 16 then sn (ix2 i ⟨l.val % 64 - 8, by omega⟩) else 0

theorem turned_eq (cs sn : Mat 8192 8) (C S : Mat 1024 128) (P : Mat 1024 512) (z : Fin 512 → EReal) (r : Fin 1024) (i : Fin 8192)
    (hC : ∀ l, C (ix2 r l) = laneCos cs i l) (hS : ∀ l, S (ix2 r l) = laneSin sn i l) (hP : ∀ k, P (ix2 r k) = z k) (k : Fin 512) :
    turned C S P r k = rot cs sn z i k := by
  have e : k.val % 128 % 64 = k.val % 64 := by omega
  unfold turned rot
  simp only [hC, hS, hP]
  unfold laneCos laneSin
  simp only [e]
  by_cases h : k.val % 64 < 8
  · rw [dif_pos h, if_pos h, dif_pos h, dif_pos h, mul_neg, sub_eq_add_neg]
    exact congrArg (fun q => z k * cs (ix2 i ⟨k.val % 64, h⟩) + -(z q * sn (ix2 i ⟨k.val % 64, h⟩))) (Fin.ext (by dsimp only; omega))
  by_cases h2 : k.val % 64 < 16
  · rw [dif_neg h, dif_pos h2, if_neg h, dif_neg h, dif_pos h2, dif_neg h, dif_pos h2]
    exact congrArg (fun q => z k * cs (ix2 i ⟨k.val % 64 - 8, by omega⟩) + z q * sn (ix2 i ⟨k.val % 64 - 8, by omega⟩)) (Fin.ext (by dsimp only; omega))
  · rw [dif_neg h, dif_neg h2, dif_neg h, dif_neg h2, dif_neg h, dif_neg h2, mul_one, mul_zero, add_zero]

/-- A block's cell in its array: block number times the block's extent, plus the place inside. -/
theorem at_row {b n t r : ℕ} (h : b = t) : b * n + 1 * r = n * t + r := by rw [h, one_mul, mul_comm]
theorem at_col {b n o j : ℕ} (h : b * n = o) : b * n + 1 * j = o + j := by rw [h, one_mul]
theorem at_zero {b n j : ℕ} (h : b = 0) : b * n + 1 * j = j := by rw [h, one_mul, zero_mul, zero_add]

/-- The angles: each position times each frequency. -/
def angle (pos : IVec S8192 32) : FVec Ideal S8192x8 .f32 :=
  mulf (broadcastInDim S8192x8 ![0, 1] bcast_S8192x1_S8192x8_0_1 (broadcastInDim S8192x1 ![0] bcast_S8192_S8192x1_0 (sitofp .f32 pos))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The pairs' cosines and sines. -/
def cosOf (pos : IVec S8192 32) : FVec Ideal S8192x8 .f32 := Host.cos (angle pos)
def sinOf (pos : IVec S8192 32) : FVec Ideal S8192x8 .f32 := Host.sin (angle pos)

/-- A lane table: one head's eight first places, eight second places and a constant, for two heads. -/
def head (a b : FVec Ideal S8192x8 .f32) (o : BitVec 32) : FVec Ideal S8192x64 .f32 :=
  concatenate S8192x64 1 [⟨S8192x8, a⟩, ⟨S8192x8, b⟩, ⟨S8192x48, broadcastInDim S8192x48 ![] bcast_S_S8192x48 (constant (F := Ideal) S_ .f32 o)⟩] concatenates_S8192x8_S8192x8_S8192x48_S8192x64_d1
def lanes (a b : FVec Ideal S8192x8 .f32) (o : BitVec 32) : FVec Ideal S8192x128 .f32 :=
  concatenate S8192x128 1 [⟨S8192x64, head a b o⟩, ⟨S8192x64, head a b o⟩] concatenates_S8192x64_S8192x64_S8192x128_d1

theorem head_apply (a b : FVec Ideal S8192x8 .f32) (o : BitVec 32) (i : Fin 8192) (l : Fin 64) :
    head a b o (ix2 i l) = if h : l.val < 8 then a (ix2 i ⟨l.val, h⟩)
      else if h2 : l.val < 16 then b (ix2 i ⟨l.val - 8, by omega⟩) else Ideal.ofBits .f32 o := by
  have hl := l.isLt
  pointwise [head]
  by_cases h : l.val < 8
  · rw [dif_pos h, dif_pos h]
  by_cases h2 : l.val < 16
  · rw [dif_neg h, dif_neg h, dif_pos h2, dif_pos (by omega)]
  · rw [dif_neg h, dif_neg h, dif_neg h2, dif_neg (by omega)]

theorem lanes_apply (a b : FVec Ideal S8192x8 .f32) (o : BitVec 32) (i : Fin 8192) (l : Fin 128) :
    lanes a b o (ix2 i l) = head a b o (ix2 i ⟨l.val % 64, Nat.mod_lt _ (by decide)⟩) := by
  have hl := l.isLt
  pointwise [lanes]
  split_ifs with h e
  · exact congrArg (head a b o) (Shape.idx_ext₂ rfl (Nat.mod_eq_of_lt h).symm)
  · refine congrArg (head a b o) (Shape.idx_ext₂ rfl ?_)
    show l.val - 64 = l.val % 64
    omega
  · exact absurd rfl e

theorem lanes_cos (pos : IVec S8192 32) (i : Fin 8192) (l : Fin 128) :
    lanes (cosOf pos) (cosOf pos) 0x3F800000#32 (ix2 i l) = laneCos (cosOf pos) i l := by
  rw [lanes_apply, head_apply, Ideal.ofBits_one_f32]
  rfl

theorem lanes_sin (pos : IVec S8192 32) (i : Fin 8192) (l : Fin 128) :
    lanes (Host.negf (sinOf pos)) (sinOf pos) 0x00000000#32 (ix2 i l) = laneSin (sinOf pos) i l := by
  rw [lanes_apply, head_apply, Ideal.ofBits_zero_f32]
  rfl

/-- A grid point's row is the specification's, when its windows hold the specification's row, columns and table rows. -/
theorem point (cs sn : Mat 8192 8) (h : Mat 8192 1024) (wq wk wv : Mat 1024 512) (r : Fin 1024) (i : Fin 8192)
    (h0 : ∀ k, x0 (ix2 r k) = h (ix2 i k)) (h1 : ∀ j k, x1 (ix2 j k) = wq (ix2 j k)) (h2 : ∀ j k, x2 (ix2 j k) = wk (ix2 j k))
    (h3 : ∀ j k, x3 (ix2 j k) = wv (ix2 j k)) (h4 : ∀ l, x4 (ix2 r l) = laneCos cs i l) (h5 : ∀ l, x5 (ix2 r l) = laneSin sn i l)
    (k : Fin 1536) : blk x0 x1 x2 x3 x4 x5 (ix2 r k) = qkv cs sn h wq wk wv i k := by
  unfold qkv
  by_cases hq : k.val < 512
  · rw [blk_q _ _ _ _ _ _ r k hq, dif_pos hq]
    refine congrArg (· * eighth) (turned_eq cs sn x4 x5 _ (dotP h wq i) r i h4 h5 (fun j => ?_) _)
    rw [pay5]
    exact Finset.sum_congr rfl fun n _ => by rw [h0, h1]
  by_cases hk : k.val < 1024
  · rw [blk_k _ _ _ _ _ _ r k hq hk, dif_neg hq, dif_pos hk]
    refine turned_eq cs sn x4 x5 _ (dotP h wk i) r i h4 h5 (fun j => ?_) _
    rw [pay5]
    exact Finset.sum_congr rfl fun n _ => by rw [h0, h2]
  · rw [blk_v _ _ _ _ _ _ r k hq hk, dif_neg hq, dif_neg hk]
    exact Finset.sum_congr rfl fun n _ => by rw [h0, h3]

end Cert.Kernel14Ideal.Qkv

end
-- ==== Proof.Qkv0.lean ====
/- The first dilation of the input projection: where a grid point reads and writes, and the output array as the specification's. -/
module

public import proofs.«01_k».proof.Proof.QkvBlock

@[expose] public section

set_option maxRecDepth 16384

noncomputable section

namespace Cert.Kernel14Ideal.Qkv

open Cert.Kernel14Ideal Cert.Kernel14Ideal.Gen Idealize.ShloMosaic Idealize.ShloMosaic.TcCoe Idealize.SL.Sem Cert.MergeSpec Cert.QkvSpec
open Idealize.ShloMosaic.Pipeline (Dat)
open scoped BigOperators

variable (m : (ℓ : Loc nD τ sig) → Buf (Elt Ideal) ℓ) (c : Dev nD)

abbrev h : Mat 8192 1024 := m ((c : Thread nD τ).loc main_arg0)
abbrev pos : IVec S8192 32 := m ((c : Thread nD τ).loc main_arg1)
abbrev w : Mat 1024 7680 := m ((c : Thread nD τ).loc main_arg2)

/-- The lane tables the host builds. -/
theorem V23 : V m c main_v23 = lanes (cosOf (pos m c)) (cosOf (pos m c)) 0x3F800000#32 := by
  unfold V; after_results_simp; rfl
theorem V24 : V m c main_v24 = lanes (Host.negf (sinOf (pos m c))) (sinOf (pos m c)) 0x00000000#32 := by
  unfold V; after_results_simp; rfl

/-- Row `r` of block `t`. -/
abbrev row (t : Fin cfg0.N) (r : Fin 1024) : Fin 8192 :=
  ⟨1024 * t.val + r.val, by have h := t.isLt; have e : cfg0.N = 8 := N_0; omega⟩

/-- The stream, the tables and the result move down the rows. -/
theorem idx_rows : ∀ t : Fin cfg0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0 :=
  (by decide +kernel : ∀ t : Fin grid0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0)

/-- The three slices of the matrix stay in place. -/
theorem idx_w : ∀ t : Fin cfg0.N, win0_1.index t 0 = 0 ∧ win0_1.index t 1 = 0 ∧ win0_2.index t 0 = 0
    ∧ win0_2.index t 1 = 3 ∧ win0_3.index t 0 = 0 ∧ win0_3.index t 1 = 6 :=
  (by decide +kernel : ∀ t : Fin grid0.N, win0_1.index t 0 = 0 ∧ win0_1.index t 1 = 0 ∧ win0_2.index t 0 = 0
    ∧ win0_2.index t 1 = 3 ∧ win0_3.index t 0 = 0 ∧ win0_3.index t 1 = 6)

theorem iblk0 (t : Fin cfg0.N) (r k : Fin 1024) : (iblk m c 0 t : Vec Ideal S1024x1024 .bf16) (ix2 r k) = h m c (ix2 (row t r) k) := by
  have hi := idx_rows t
  unfold iblk
  rw [View.read_apply, V_main_arg0]
  exact congrArg (h m c) (Shape.idx_ext₂ (at_row hi.1) (at_zero hi.2.1))

theorem iblk1 (t : Fin cfg0.N) (j : Fin 1024) (k : Fin 512) :
    (iblk m c 1 t : Vec Ideal S1024x512 .bf16) (ix2 j k) = cols (w m c) 0 (by decide) (ix2 j k) := by
  have hi := idx_w t
  unfold iblk
  rw [View.read_apply, V_main_arg2]
  exact congrArg (w m c) (Shape.idx_ext₂ (at_zero hi.1) (at_col (by rw [hi.2.1]; rfl)))

theorem iblk2 (t : Fin cfg0.N) (j : Fin 1024) (k : Fin 512) :
    (iblk m c 2 t : Vec Ideal S1024x512 .bf16) (ix2 j k) = cols (w m c) 1536 (by decide) (ix2 j k) := by
  have hi := idx_w t
  unfold iblk
  rw [View.read_apply, V_main_arg2]
  exact congrArg (w m c) (Shape.idx_ext₂ (at_zero hi.2.2.1) (at_col (by rw [hi.2.2.2.1]; rfl)))

theorem iblk3 (t : Fin cfg0.N) (j : Fin 1024) (k : Fin 512) :
    (iblk m c 3 t : Vec Ideal S1024x512 .bf16) (ix2 j k) = cols (w m c) 3072 (by decide) (ix2 j k) := by
  have hi := idx_w t
  unfold iblk
  rw [View.read_apply, V_main_arg2]
  exact congrArg (w m c) (Shape.idx_ext₂ (at_zero hi.2.2.2.2.1) (at_col (by rw [hi.2.2.2.2.2]; rfl)))

theorem iblk4 (t : Fin cfg0.N) (r : Fin 1024) (l : Fin 128) :
    (iblk m c 4 t : Vec Ideal S1024x128 .f32) (ix2 r l) = laneCos (cosOf (pos m c)) (row t r) l := by
  have hi := idx_rows t
  unfold iblk
  rw [View.read_apply, V23]
  exact (congrArg (lanes _ _ _) (Shape.idx_ext₂ (at_row hi.2.2.1) (at_zero hi.2.2.2.1))).trans (lanes_cos (pos m c) (row t r) l)

theorem iblk5 (t : Fin cfg0.N) (r : Fin 1024) (l : Fin 128) :
    (iblk m c 5 t : Vec Ideal S1024x128 .f32) (ix2 r l) = laneSin (sinOf (pos m c)) (row t r) l := by
  have hi := idx_rows t
  unfold iblk
  rw [View.read_apply, V24]
  exact (congrArg (lanes _ _ _) (Shape.idx_ext₂ (at_row hi.2.2.2.2.1) (at_zero hi.2.2.2.2.2.1))).trans (lanes_sin (pos m c) (row t r) l)

theorem emb6 (t : Fin cfg0.N) (y : S1024x1536.Idx) :
    (((cfg0.win 6).blk t).view.emb y : S8192x1536.Idx) = ix2 (row t (y 0)) (y 1) :=
  Shape.idx_ext₂ (at_row (idx_rows t).2.2.2.2.2.2.1) (at_zero (idx_rows t).2.2.2.2.2.2.2)

theorem cover6 (i : S8192x1536.Idx) : ∃ t : Fin cfg0.N, (cfg0.win 6).flush t = true ∧ i ∈ ((cfg0.win 6).blk t).view.set := by
  have h0 : (i 0 : ℕ) < 8192 := (i 0).isLt
  have hN : cfg0.N = 8 := N_0
  refine ⟨⟨(i 0 : ℕ) / 1024, by omega⟩, flush0_6 _, ?_⟩
  refine Finset.mem_map.mpr ⟨ix2 ⟨(i 0 : ℕ) % 1024, by omega⟩ (i 1), Finset.mem_univ _, ?_⟩
  rw [emb6]
  refine Shape.idx_ext₂ ?_ rfl
  show 1024 * ((i 0 : ℕ) / 1024) + (i 0 : ℕ) % 1024 = (i 0 : ℕ)
  omega

/-- The specification's array, from this device's arguments. -/
abbrev R6 (y : S8192x1536.Idx) : EReal :=
  qkv (cosOf (pos m c)) (sinOf (pos m c)) (h m c) (cols (w m c) 0 (by decide)) (cols (w m c) 1536 (by decide)) (cols (w m c) 3072 (by decide)) (y 0) (y 1)

theorem point6 (t : Fin cfg0.N) (r : Fin 1024) (k : Fin 1536) :
    blk (iblk m c 0 t) (iblk m c 1 t) (iblk m c 2 t) (iblk m c 3 t) (iblk m c 4 t) (iblk m c 5 t) (ix2 r k) = R6 m c (ix2 (row t r) k) :=
  point (iblk m c 0 t) (iblk m c 1 t) (iblk m c 2 t) (iblk m c 3 t) (iblk m c 4 t) (iblk m c 5 t) _ _ _ _ _ _ r (row t r)
    (iblk0 m c t r) (iblk1 m c t) (iblk2 m c t) (iblk3 m c t) (iblk4 m c t r) (iblk5 m c t r) k

theorem final6 : (dats m 0 c).arrAt 6 cfg0.N = R6 m c :=
  (dats m 0 c).arrAt_eq_of_cover 6 (R6 m c) (fun t _ => by
    rw [Value.flushed6]
    funext y
    rw [View.read_apply]
    show out0_6 (F := Ideal) (iblk m c 0 t) (iblk m c 1 t) (iblk m c 2 t) (iblk m c 3 t) (iblk m c 4 t) (iblk m c 5 t) y
      = R6 m c (((cfg0.win 6).blk t).view.emb y)
    let z : S1024x1536.Idx := y
    exact (out6 (iblk m c 0 t) (iblk m c 1 t) (iblk m c 2 t) (iblk m c 3 t) (iblk m c 4 t) (iblk m c 5 t) z).trans
      ((congrArg (blk (iblk m c 0 t) (iblk m c 1 t) (iblk m c 2 t) (iblk m c 3 t) (iblk m c 4 t) (iblk m c 5 t)) (eq_ix2 z)).trans
        ((point6 m c t (z 0) (z 1)).trans (congrArg (R6 m c) (emb6 t z).symm)))) cover6

end Cert.Kernel14Ideal.Qkv

end
-- ==== Proof.Qkv1.lean ====
/- The second dilation of the input projection: where a grid point reads and writes, and the output array as the specification's. -/
module

public import proofs.«01_k».proof.Proof.QkvBlock
public import proofs.«01_k».proof.Proof.Gen.Kernel15Ideal.Value

@[expose] public section

set_option maxRecDepth 16384

noncomputable section

namespace Cert.Kernel15Ideal.Qkv

open Cert.Kernel15Ideal Cert.Kernel15Ideal.Gen Idealize.ShloMosaic Idealize.ShloMosaic.TcCoe Idealize.SL.Sem Cert.MergeSpec Cert.QkvSpec
open Idealize.ShloMosaic.Pipeline (Dat)
open Cert.Kernel14Ideal.Qkv (angle cosOf sinOf lanes lanes_cos lanes_sin laneCos laneSin blk point at_row at_col at_zero)
open scoped BigOperators

/-- A grid point writes what it writes for the first dilation. -/
theorem out6 (x0 : Vec Ideal S1024x1024 .bf16) (x1 x2 x3 : Vec Ideal S1024x512 .bf16) (x4 x5 : Vec Ideal S1024x128 .f32) (y : S1024x1536.Idx) :
    out0_6 x0 x1 x2 x3 x4 x5 y = blk x0 x1 x2 x3 x4 x5 y :=
  Eq.trans (b := Cert.Kernel14Ideal.Gen.out0_6 x0 x1 x2 x3 x4 x5 y) rfl (Cert.Kernel14Ideal.Qkv.out6 x0 x1 x2 x3 x4 x5 y)

variable (m : (ℓ : Loc nD τ sig) → Buf (Elt Ideal) ℓ) (c : Dev nD)

abbrev h : Mat 8192 1024 := m ((c : Thread nD τ).loc main_arg0)
abbrev pos : IVec S8192 32 := m ((c : Thread nD τ).loc main_arg1)
abbrev w : Mat 1024 7680 := m ((c : Thread nD τ).loc main_arg2)

/-- The lane tables the host builds. -/
theorem V23 : V m c main_v23 = lanes (cosOf (pos m c)) (cosOf (pos m c)) 0x3F800000#32 := by
  unfold V; after_results_simp; rfl
theorem V24 : V m c main_v24 = lanes (Host.negf (sinOf (pos m c))) (sinOf (pos m c)) 0x00000000#32 := by
  unfold V; after_results_simp; rfl

/-- Row `r` of block `t`. -/
abbrev row (t : Fin cfg0.N) (r : Fin 1024) : Fin 8192 :=
  ⟨1024 * t.val + r.val, by have h := t.isLt; have e : cfg0.N = 8 := N_0; omega⟩

/-- The stream, the tables and the result move down the rows. -/
theorem idx_rows : ∀ t : Fin cfg0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0 :=
  (by decide +kernel : ∀ t : Fin grid0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0)

/-- The three slices of the matrix stay in place. -/
theorem idx_w : ∀ t : Fin cfg0.N, win0_1.index t 0 = 0 ∧ win0_1.index t 1 = 1 ∧ win0_2.index t 0 = 0
    ∧ win0_2.index t 1 = 4 ∧ win0_3.index t 0 = 0 ∧ win0_3.index t 1 = 7 :=
  (by decide +kernel : ∀ t : Fin grid0.N, win0_1.index t 0 = 0 ∧ win0_1.index t 1 = 1 ∧ win0_2.index t 0 = 0
    ∧ win0_2.index t 1 = 4 ∧ win0_3.index t 0 = 0 ∧ win0_3.index t 1 = 7)

theorem iblk0 (t : Fin cfg0.N) (r k : Fin 1024) : (iblk m c 0 t : Vec Ideal S1024x1024 .bf16) (ix2 r k) = h m c (ix2 (row t r) k) := by
  have hi := idx_rows t
  unfold iblk
  rw [View.read_apply, V_main_arg0]
  exact congrArg (h m c) (Shape.idx_ext₂ (at_row hi.1) (at_zero hi.2.1))

theorem iblk1 (t : Fin cfg0.N) (j : Fin 1024) (k : Fin 512) :
    (iblk m c 1 t : Vec Ideal S1024x512 .bf16) (ix2 j k) = cols (w m c) 512 (by decide) (ix2 j k) := by
  have hi := idx_w t
  unfold iblk
  rw [View.read_apply, V_main_arg2]
  exact congrArg (w m c) (Shape.idx_ext₂ (at_zero hi.1) (at_col (by rw [hi.2.1]; rfl)))

theorem iblk2 (t : Fin cfg0.N) (j : Fin 1024) (k : Fin 512) :
    (iblk m c 2 t : Vec Ideal S1024x512 .bf16) (ix2 j k) = cols (w m c) 2048 (by decide) (ix2 j k) := by
  have hi := idx_w t
  unfold iblk
  rw [View.read_apply, V_main_arg2]
  exact congrArg (w m c) (Shape.idx_ext₂ (at_zero hi.2.2.1) (at_col (by rw [hi.2.2.2.1]; rfl)))

theorem iblk3 (t : Fin cfg0.N) (j : Fin 1024) (k : Fin 512) :
    (iblk m c 3 t : Vec Ideal S1024x512 .bf16) (ix2 j k) = cols (w m c) 3584 (by decide) (ix2 j k) := by
  have hi := idx_w t
  unfold iblk
  rw [View.read_apply, V_main_arg2]
  exact congrArg (w m c) (Shape.idx_ext₂ (at_zero hi.2.2.2.2.1) (at_col (by rw [hi.2.2.2.2.2]; rfl)))

theorem iblk4 (t : Fin cfg0.N) (r : Fin 1024) (l : Fin 128) :
    (iblk m c 4 t : Vec Ideal S1024x128 .f32) (ix2 r l) = laneCos (cosOf (pos m c)) (row t r) l := by
  have hi := idx_rows t
  unfold iblk
  rw [View.read_apply, V23]
  exact (congrArg (lanes _ _ _) (Shape.idx_ext₂ (at_row hi.2.2.1) (at_zero hi.2.2.2.1))).trans (lanes_cos (pos m c) (row t r) l)

theorem iblk5 (t : Fin cfg0.N) (r : Fin 1024) (l : Fin 128) :
    (iblk m c 5 t : Vec Ideal S1024x128 .f32) (ix2 r l) = laneSin (sinOf (pos m c)) (row t r) l := by
  have hi := idx_rows t
  unfold iblk
  rw [View.read_apply, V24]
  exact (congrArg (lanes _ _ _) (Shape.idx_ext₂ (at_row hi.2.2.2.2.1) (at_zero hi.2.2.2.2.2.1))).trans (lanes_sin (pos m c) (row t r) l)

theorem emb6 (t : Fin cfg0.N) (y : S1024x1536.Idx) :
    (((cfg0.win 6).blk t).view.emb y : S8192x1536.Idx) = ix2 (row t (y 0)) (y 1) :=
  Shape.idx_ext₂ (at_row (idx_rows t).2.2.2.2.2.2.1) (at_zero (idx_rows t).2.2.2.2.2.2.2)

theorem cover6 (i : S8192x1536.Idx) : ∃ t : Fin cfg0.N, (cfg0.win 6).flush t = true ∧ i ∈ ((cfg0.win 6).blk t).view.set := by
  have h0 : (i 0 : ℕ) < 8192 := (i 0).isLt
  have hN : cfg0.N = 8 := N_0
  refine ⟨⟨(i 0 : ℕ) / 1024, by omega⟩, flush0_6 _, ?_⟩
  refine Finset.mem_map.mpr ⟨ix2 ⟨(i 0 : ℕ) % 1024, by omega⟩ (i 1), Finset.mem_univ _, ?_⟩
  rw [emb6]
  refine Shape.idx_ext₂ ?_ rfl
  show 1024 * ((i 0 : ℕ) / 1024) + (i 0 : ℕ) % 1024 = (i 0 : ℕ)
  omega

/-- The specification's array, from this device's arguments. -/
abbrev R6 (y : S8192x1536.Idx) : EReal :=
  qkv (cosOf (pos m c)) (sinOf (pos m c)) (h m c) (cols (w m c) 512 (by decide)) (cols (w m c) 2048 (by decide)) (cols (w m c) 3584 (by decide)) (y 0) (y 1)

theorem point6 (t : Fin cfg0.N) (r : Fin 1024) (k : Fin 1536) :
    blk (iblk m c 0 t) (iblk m c 1 t) (iblk m c 2 t) (iblk m c 3 t) (iblk m c 4 t) (iblk m c 5 t) (ix2 r k) = R6 m c (ix2 (row t r) k) :=
  point (iblk m c 0 t) (iblk m c 1 t) (iblk m c 2 t) (iblk m c 3 t) (iblk m c 4 t) (iblk m c 5 t) _ _ _ _ _ _ r (row t r)
    (iblk0 m c t r) (iblk1 m c t) (iblk2 m c t) (iblk3 m c t) (iblk4 m c t r) (iblk5 m c t r) k

theorem final6 : (dats m 0 c).arrAt 6 cfg0.N = R6 m c :=
  (dats m 0 c).arrAt_eq_of_cover 6 (R6 m c) (fun t _ => by
    rw [Value.flushed6]
    funext y
    rw [View.read_apply]
    show out0_6 (F := Ideal) (iblk m c 0 t) (iblk m c 1 t) (iblk m c 2 t) (iblk m c 3 t) (iblk m c 4 t) (iblk m c 5 t) y
      = R6 m c (((cfg0.win 6).blk t).view.emb y)
    let z : S1024x1536.Idx := y
    exact (out6 (iblk m c 0 t) (iblk m c 1 t) (iblk m c 2 t) (iblk m c 3 t) (iblk m c 4 t) (iblk m c 5 t) z).trans
      ((congrArg (blk (iblk m c 0 t) (iblk m c 1 t) (iblk m c 2 t) (iblk m c 3 t) (iblk m c 4 t) (iblk m c 5 t)) (eq_ix2 z)).trans
        ((point6 m c t (z 0) (z 1)).trans (congrArg (R6 m c) (emb6 t z).symm)))) cover6

end Cert.Kernel15Ideal.Qkv

end
-- ==== Proof.Qkv2.lean ====
/- The third dilation of the input projection: where a grid point reads and writes, and the output array as the specification's. -/
module

public import proofs.«01_k».proof.Proof.QkvBlock
public import proofs.«01_k».proof.Proof.Gen.Kernel16Ideal.Value

@[expose] public section

set_option maxRecDepth 16384

noncomputable section

namespace Cert.Kernel16Ideal.Qkv

open Cert.Kernel16Ideal Cert.Kernel16Ideal.Gen Idealize.ShloMosaic Idealize.ShloMosaic.TcCoe Idealize.SL.Sem Cert.MergeSpec Cert.QkvSpec
open Idealize.ShloMosaic.Pipeline (Dat)
open Cert.Kernel14Ideal.Qkv (angle cosOf sinOf lanes lanes_cos lanes_sin laneCos laneSin blk point at_row at_col at_zero)
open scoped BigOperators

/-- A grid point writes what it writes for the first dilation. -/
theorem out6 (x0 : Vec Ideal S1024x1024 .bf16) (x1 x2 x3 : Vec Ideal S1024x512 .bf16) (x4 x5 : Vec Ideal S1024x128 .f32) (y : S1024x1536.Idx) :
    out0_6 x0 x1 x2 x3 x4 x5 y = blk x0 x1 x2 x3 x4 x5 y :=
  Eq.trans (b := Cert.Kernel14Ideal.Gen.out0_6 x0 x1 x2 x3 x4 x5 y) rfl (Cert.Kernel14Ideal.Qkv.out6 x0 x1 x2 x3 x4 x5 y)

variable (m : (ℓ : Loc nD τ sig) → Buf (Elt Ideal) ℓ) (c : Dev nD)

abbrev h : Mat 8192 1024 := m ((c : Thread nD τ).loc main_arg0)
abbrev pos : IVec S8192 32 := m ((c : Thread nD τ).loc main_arg1)
abbrev w : Mat 1024 7680 := m ((c : Thread nD τ).loc main_arg2)

/-- The lane tables the host builds. -/
theorem V23 : V m c main_v23 = lanes (cosOf (pos m c)) (cosOf (pos m c)) 0x3F800000#32 := by
  unfold V; after_results_simp; rfl
theorem V24 : V m c main_v24 = lanes (Host.negf (sinOf (pos m c))) (sinOf (pos m c)) 0x00000000#32 := by
  unfold V; after_results_simp; rfl

/-- Row `r` of block `t`. -/
abbrev row (t : Fin cfg0.N) (r : Fin 1024) : Fin 8192 :=
  ⟨1024 * t.val + r.val, by have h := t.isLt; have e : cfg0.N = 8 := N_0; omega⟩

/-- The stream, the tables and the result move down the rows. -/
theorem idx_rows : ∀ t : Fin cfg0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0 :=
  (by decide +kernel : ∀ t : Fin grid0.N, win0_0.index t 0 = t.val ∧ win0_0.index t 1 = 0 ∧ win0_4.index t 0 = t.val ∧ win0_4.index t 1 = 0
    ∧ win0_5.index t 0 = t.val ∧ win0_5.index t 1 = 0 ∧ win0_6.index t 0 = t.val ∧ win0_6.index t 1 = 0)

/-- The three slices of the matrix stay in place. -/
theorem idx_w : ∀ t : Fin cfg0.N, win0_1.index t 0 = 0 ∧ win0_1.index t 1 = 2 ∧ win0_2.index t 0 = 0
    ∧ win0_2.index t 1 = 5 ∧ win0_3.index t 0 = 0 ∧ win0_3.index t 1 = 8 :=
  (by decide +kernel : ∀ t : Fin grid0.N, win0_1.index t 0 = 0 ∧ win0_1.index t 1 = 2 ∧ win0_2.index t 0 = 0
    ∧ win0_2.index t 1 = 5 ∧ win0_3.index t 0 = 0 ∧ win0_3.index t 1 = 8)

theorem iblk0 (t : Fin cfg0.N) (r k : Fin 1024) : (iblk m c 0 t : Vec Ideal S1024x1024 .bf16) (ix2 r k) = h m c (ix2 (row t r) k) := by
  have hi := idx_rows t
  unfold iblk
  rw [View.read_apply, V_main_arg0]
  exact congrArg (h m c) (Shape.idx_ext₂ (at_row hi.1) (at_zero hi.2.1))

theorem iblk1 (t : Fin cfg0.N) (j : Fin 1024) (k : Fin 512) :
    (iblk m c 1 t : Vec Ideal S1024x512 .bf16) (ix2 j k) = cols (w m c) 1024 (by decide) (ix2 j k) := by
  have hi := idx_w t
  unfold iblk
  rw [View.read_apply, V_main_arg2]
  exact congrArg (w m c) (Shape.idx_ext₂ (at_zero hi.1) (at_col (by rw [hi.2.1]; rfl)))

theorem iblk2 (t : Fin cfg0.N) (j : Fin 1024) (k : Fin 512) :
    (iblk m c 2 t : Vec Ideal S1024x512 .bf16) (ix2 j k) = cols (w m c) 2560 (by decide) (ix2 j k) := by
  have hi := idx_w t
  unfold iblk
  rw [View.read_apply, V_main_arg2]
  exact congrArg (w m c) (Shape.idx_ext₂ (at_zero hi.2.2.1) (at_col (by rw [hi.2.2.2.1]; rfl)))

theorem iblk3 (t : Fin cfg0.N) (j : Fin 1024) (k : Fin 512) :
    (iblk m c 3 t : Vec Ideal S1024x512 .bf16) (ix2 j k) = cols (w m c) 4096 (by decide) (ix2 j k) := by
  have hi := idx_w t
  unfold iblk
  rw [View.read_apply, V_main_arg2]
  exact congrArg (w m c) (Shape.idx_ext₂ (at_zero hi.2.2.2.2.1) (at_col (by rw [hi.2.2.2.2.2]; rfl)))

theorem iblk4 (t : Fin cfg0.N) (r : Fin 1024) (l : Fin 128) :
    (iblk m c 4 t : Vec Ideal S1024x128 .f32) (ix2 r l) = laneCos (cosOf (pos m c)) (row t r) l := by
  have hi := idx_rows t
  unfold iblk
  rw [View.read_apply, V23]
  exact (congrArg (lanes _ _ _) (Shape.idx_ext₂ (at_row hi.2.2.1) (at_zero hi.2.2.2.1))).trans (lanes_cos (pos m c) (row t r) l)

theorem iblk5 (t : Fin cfg0.N) (r : Fin 1024) (l : Fin 128) :
    (iblk m c 5 t : Vec Ideal S1024x128 .f32) (ix2 r l) = laneSin (sinOf (pos m c)) (row t r) l := by
  have hi := idx_rows t
  unfold iblk
  rw [View.read_apply, V24]
  exact (congrArg (lanes _ _ _) (Shape.idx_ext₂ (at_row hi.2.2.2.2.1) (at_zero hi.2.2.2.2.2.1))).trans (lanes_sin (pos m c) (row t r) l)

theorem emb6 (t : Fin cfg0.N) (y : S1024x1536.Idx) :
    (((cfg0.win 6).blk t).view.emb y : S8192x1536.Idx) = ix2 (row t (y 0)) (y 1) :=
  Shape.idx_ext₂ (at_row (idx_rows t).2.2.2.2.2.2.1) (at_zero (idx_rows t).2.2.2.2.2.2.2)

theorem cover6 (i : S8192x1536.Idx) : ∃ t : Fin cfg0.N, (cfg0.win 6).flush t = true ∧ i ∈ ((cfg0.win 6).blk t).view.set := by
  have h0 : (i 0 : ℕ) < 8192 := (i 0).isLt
  have hN : cfg0.N = 8 := N_0
  refine ⟨⟨(i 0 : ℕ) / 1024, by omega⟩, flush0_6 _, ?_⟩
  refine Finset.mem_map.mpr ⟨ix2 ⟨(i 0 : ℕ) % 1024, by omega⟩ (i 1), Finset.mem_univ _, ?_⟩
  rw [emb6]
  refine Shape.idx_ext₂ ?_ rfl
  show 1024 * ((i 0 : ℕ) / 1024) + (i 0 : ℕ) % 1024 = (i 0 : ℕ)
  omega

/-- The specification's array, from this device's arguments. -/
abbrev R6 (y : S8192x1536.Idx) : EReal :=
  qkv (cosOf (pos m c)) (sinOf (pos m c)) (h m c) (cols (w m c) 1024 (by decide)) (cols (w m c) 2560 (by decide)) (cols (w m c) 4096 (by decide)) (y 0) (y 1)

theorem point6 (t : Fin cfg0.N) (r : Fin 1024) (k : Fin 1536) :
    blk (iblk m c 0 t) (iblk m c 1 t) (iblk m c 2 t) (iblk m c 3 t) (iblk m c 4 t) (iblk m c 5 t) (ix2 r k) = R6 m c (ix2 (row t r) k) :=
  point (iblk m c 0 t) (iblk m c 1 t) (iblk m c 2 t) (iblk m c 3 t) (iblk m c 4 t) (iblk m c 5 t) _ _ _ _ _ _ r (row t r)
    (iblk0 m c t r) (iblk1 m c t) (iblk2 m c t) (iblk3 m c t) (iblk4 m c t r) (iblk5 m c t r) k

theorem final6 : (dats m 0 c).arrAt 6 cfg0.N = R6 m c :=
  (dats m 0 c).arrAt_eq_of_cover 6 (R6 m c) (fun t _ => by
    rw [Value.flushed6]
    funext y
    rw [View.read_apply]
    show out0_6 (F := Ideal) (iblk m c 0 t) (iblk m c 1 t) (iblk m c 2 t) (iblk m c 3 t) (iblk m c 4 t) (iblk m c 5 t) y
      = R6 m c (((cfg0.win 6).blk t).view.emb y)
    let z : S1024x1536.Idx := y
    exact (out6 (iblk m c 0 t) (iblk m c 1 t) (iblk m c 2 t) (iblk m c 3 t) (iblk m c 4 t) (iblk m c 5 t) z).trans
      ((congrArg (blk (iblk m c 0 t) (iblk m c 1 t) (iblk m c 2 t) (iblk m c 3 t) (iblk m c 4 t) (iblk m c 5 t)) (eq_ix2 z)).trans
        ((point6 m c t (z 0) (z 1)).trans (congrArg (R6 m c) (emb6 t z).symm)))) cover6

end Cert.Kernel16Ideal.Qkv

end
-- ==== Proof.QkvRef.lean ====
/- The reference's projection of one dilation: the queries and keys turned as the problem spells it, read entry by entry. -/
module

public import proofs.«01_k».proof.Proof.QkvBlock
public import proofs.«01_k».proof.Proof.Gen.Reference14Ideal.Run
public import proofs.«01_k».proof.Proof.Gen.Reference15Ideal.Run
public import proofs.«01_k».proof.Proof.Gen.Reference16Ideal.Run

@[expose] public section

set_option maxRecDepth 16384

noncomputable section

namespace Cert.Reference14Ideal.Qkv

open Cert.Reference14Ideal Cert.Reference14Ideal.Gen Idealize.ShloMosaic Idealize.ShloMosaic.TcCoe Cert.MergeSpec Cert.QkvSpec
open Cert.Kernel14Ideal.Qkv (cosOf sinOf)
open scoped BigOperators

/-- The stream through one slice of the projection matrix. -/
abbrev part (h : FVec Ideal S8192x1024 .bf16) (v : FVec Ideal S1024x512 .f32) : FVec Ideal S8192x512 .f32 :=
  Host.dotGeneral dot_S8192x1024_S1024x512_S8192x512_1_0_0_1_n_n none (extf .f32 h bitsLt_bf16_f32) v

abbrev heads (z : FVec Ideal S8192x512 .f32) : FVec Ideal S8192x8x64 .f32 := shapeCast S8192x8x64 z shapeCasts_S8192x512_S8192x8x64

abbrev spread (a : FVec Ideal S8192x8 .f32) : FVec Ideal S8192x8x8 .f32 :=
  broadcastInDim S8192x8x8 ![0, 1, 2] bcast_S8192x1x8_S8192x8x8_0_1_2 (broadcastInDim S8192x1x8 ![0, 2] bcast_S8192x8_S8192x1x8_0_2 a)

/-- Heads turned: the first eight columns of a head pair with its next eight. -/
def turn3 (cs sn : FVec Ideal S8192x8 .f32) (z : FVec Ideal S8192x8x64 .f32) : FVec Ideal S8192x8x64 .f32 :=
  concatenate S8192x8x64 2
    [⟨S8192x8x8, subf (mulf (extractStridedSlice S8192x8x8 ![0, 0, 0] z slices_S8192x8x64_S8192x8x8_0_0_0) (spread cs))
        (mulf (extractStridedSlice S8192x8x8 ![0, 0, 8] z slices_S8192x8x64_S8192x8x8_0_0_8) (spread sn))⟩,
     ⟨S8192x8x8, addf (mulf (extractStridedSlice S8192x8x8 ![0, 0, 8] z slices_S8192x8x64_S8192x8x8_0_0_8) (spread cs))
        (mulf (extractStridedSlice S8192x8x8 ![0, 0, 0] z slices_S8192x8x64_S8192x8x8_0_0_0) (spread sn))⟩,
     ⟨S8192x8x48, extractStridedSlice S8192x8x48 ![0, 0, 16] z slices_S8192x8x64_S8192x8x48_0_0_16⟩]
    concatenates_S8192x8x8_S8192x8x8_S8192x8x48_S8192x8x64_d2

theorem turn3_apply (cs sn : FVec Ideal S8192x8 .f32) (z : FVec Ideal S8192x8x64 .f32) (i : Fin 8192) (a : Fin 8) (l : Fin 64) :
    turn3 cs sn z (ix3 i a l)
    = if h : l.val < 8 then z (ix3 i a l) * cs (ix2 i ⟨l.val, h⟩) - z (ix3 i a ⟨l.val + 8, by omega⟩) * sn (ix2 i ⟨l.val, h⟩)
      else if h2 : l.val < 16 then
        z (ix3 i a l) * cs (ix2 i ⟨l.val - 8, by omega⟩) + z (ix3 i a ⟨l.val - 8, by omega⟩) * sn (ix2 i ⟨l.val - 8, by omega⟩)
      else z (ix3 i a l) := by
  have hl := l.isLt
  pointwise [turn3]
  by_cases h : l.val < 8
  · rw [dif_pos h, dif_pos h]
    exact congrArg (fun t => z (ix3 i a l) * cs (ix2 i ⟨l.val, h⟩) - z (ix3 i a t) * sn (ix2 i ⟨l.val, h⟩)) (Fin.ext (Nat.add_comm 8 l.val))
  by_cases h2 : l.val < 16
  · rw [dif_neg h, dif_neg h, dif_pos (by omega), dif_pos h2]
    refine congrArg (fun t => z (ix3 i a t) * cs (ix2 i ⟨l.val - 8, by omega⟩) + z (ix3 i a ⟨l.val - 8, by omega⟩) * sn (ix2 i ⟨l.val - 8, by omega⟩))
      (Fin.ext ?_)
    show 8 + (l.val - 8) = l.val
    omega
  · rw [dif_neg h, dif_neg h, dif_neg (by omega), dif_neg h2]
    refine congrArg (fun t => z (ix3 i a t)) (Fin.ext ?_)
    show 16 + (l.val - 8 - 8) = l.val
    omega

theorem heads_apply (z : FVec Ideal S8192x512 .f32) (i : Fin 8192) (a : Fin 8) (l : Fin 64) :
    heads z (ix3 i a l) = z (ix2 i ⟨64 * a.val + l.val, by omega⟩) := by
  pointwise
  exact congrArg (fun t => z (ix2 i t)) (Fin.ext (congrArg (· + l.val) (Nat.mul_comm a.val 64)))

theorem flat_apply (z : FVec Ideal S8192x8x64 .f32) (i : Fin 8192) (j : Fin 512) :
    shapeCast S8192x512 z shapeCasts_S8192x8x64_S8192x512 (ix2 i j) = z (ix3 i ⟨j.val / 64, by omega⟩ ⟨j.val % 64, by omega⟩) := by
  pointwise

/-- Queries or keys, turned. -/
def turn (cs sn : FVec Ideal S8192x8 .f32) (z : FVec Ideal S8192x512 .f32) : FVec Ideal S8192x512 .f32 :=
  shapeCast S8192x512 (turn3 cs sn (heads z)) shapeCasts_S8192x8x64_S8192x512

theorem turn_apply (cs sn : FVec Ideal S8192x8 .f32) (z : FVec Ideal S8192x512 .f32) (i : Fin 8192) (j : Fin 512) :
    turn cs sn z (ix2 i j) = rot cs sn (fun k => z (ix2 i k)) i j := by
  have e : ∀ l : Fin 64, ∀ k : Fin 512, 64 * (j.val / 64) + l.val = k.val →
      heads z (ix3 i ⟨j.val / 64, by omega⟩ l) = z (ix2 i k) := fun l k hk =>
    (heads_apply z i ⟨j.val / 64, by omega⟩ l).trans (congrArg (fun t => z (ix2 i t)) (Fin.ext hk))
  have hj := j.isLt
  unfold turn rot
  rw [flat_apply, turn3_apply]
  have e0 := e ⟨j.val % 64, by omega⟩ j (by dsimp only; omega)
  by_cases h : j.val % 64 < 8
  · rw [dif_pos h, dif_pos h, e0, e ⟨j.val % 64 + 8, by omega⟩ ⟨j.val + 8, by omega⟩ (by dsimp only; omega)]
  by_cases h2 : j.val % 64 < 16
  · rw [dif_neg h, dif_neg h, dif_pos h2, dif_pos h2, e0, e ⟨j.val % 64 - 8, by omega⟩ ⟨j.val - 8, by omega⟩ (by dsimp only; omega)]
  · rw [dif_neg h, dif_neg h, dif_neg h2, dif_neg h2, e0]

/-- One slice of the matrix, from column `o`. -/
theorem cols_eq (w : FVec Ideal S1024x7680 .bf16) (o : ℕ) (ho : o + 512 ≤ 7680) (hs) :
    extractStridedSlice S1024x512 ![0, o] (extf .f32 w bitsLt_bf16_f32) hs = cols w o ho := by
  funext y
  refine congrArg w (Shape.idx_ext₂ ?_ ?_)
  · show 0 + (y 0 : ℕ) = y 0
    omega
  · rfl

/-- The whole result. -/
def out (cs sn : FVec Ideal S8192x8 .f32) (h : FVec Ideal S8192x1024 .bf16) (wq wk wv : FVec Ideal S1024x512 .f32) : FVec Ideal S8192x1536 .bf16 :=
  truncf .bf16 (concatenate S8192x1536 1
    [⟨S8192x512, mulf (turn cs sn (part h wq)) (broadcastInDim S8192x512 ![] bcast_S_S8192x512 (constant S_ .f32 0x3E000000#32))⟩,
     ⟨S8192x512, turn cs sn (part h wk)⟩, ⟨S8192x512, part h wv⟩] concatenates_S8192x512_S8192x512_S8192x512_S8192x1536_d1) bitsLt_bf16_f32

theorem part_apply (h : FVec Ideal S8192x1024 .bf16) (v : FVec Ideal S1024x512 .f32) (i : Fin 8192) (j : Fin 512) :
    part h v (ix2 i j) = dotP h v i j := by
  pointwise
  rfl

theorem out_apply (cs sn : FVec Ideal S8192x8 .f32) (h : FVec Ideal S8192x1024 .bf16) (wq wk wv : FVec Ideal S1024x512 .f32)
    (i : Fin 8192) (j : Fin 1536) : out cs sn h wq wk wv (ix2 i j) = qkv cs sn h wq wk wv i j := by
  have hj := j.isLt
  have r : ∀ v, (fun k => part h v (ix2 i k)) = dotP h v i := fun v => funext fun k => part_apply h v i k
  unfold qkv
  by_cases hq : j.val < 512
  · rw [dif_pos hq, ← r, ← turn_apply]
    pointwise [out]
    rw [dif_pos hq]
  by_cases hk : j.val < 1024
  · rw [dif_neg hq, dif_pos hk, ← r, ← turn_apply]
    pointwise [out]
    rw [dif_neg hq, dif_pos (by omega)]
  · rw [dif_neg hq, dif_neg hk, ← part_apply]
    pointwise [out]
    rw [dif_neg hq, dif_neg (by omega)]
    exact congrArg (dotP h wv i) (Fin.ext (Nat.sub_sub j.val 512 512))

/-- With the three slices of the matrix: the specification's array. -/
theorem arr (p : IVec S8192 32) (h : FVec Ideal S8192x1024 .bf16) (w : FVec Ideal S1024x7680 .bf16) (q k v : ℕ)
    (hq : q + 512 ≤ 7680) (hk : k + 512 ≤ 7680) (hv : v + 512 ≤ 7680) (sq sk sv) :
    out (cosOf p) (sinOf p) h (extractStridedSlice S1024x512 ![0, q] (extf .f32 w bitsLt_bf16_f32) sq)
      (extractStridedSlice S1024x512 ![0, k] (extf .f32 w bitsLt_bf16_f32) sk) (extractStridedSlice S1024x512 ![0, v] (extf .f32 w bitsLt_bf16_f32) sv)
    = fun y => qkv (cosOf p) (sinOf p) h (cols w q hq) (cols w k hk) (cols w v hv) (y 0) (y 1) := by
  rw [cols_eq _ q hq, cols_eq _ k hk, cols_eq _ v hv]
  funext y
  exact (congrArg _ (eq_ix2 y)).trans (out_apply _ _ _ _ _ _ (y 0) (y 1))

end Cert.Reference14Ideal.Qkv

namespace Cert.Reference14Ideal.Qkv

open Cert.Reference14Ideal Cert.Reference14Ideal.Gen Cert.Reference14Ideal.Value Idealize.ShloMosaic Idealize.ShloMosaic.TcCoe
open Cert.Kernel14Ideal.Qkv (cosOf sinOf)

theorem res (m : (ℓ : Loc nD τ sig) → Buf (Elt Ideal) ℓ) (c : Dev nD) : res_main_v83 (F := Ideal) m c
    = out (cosOf (m ((c.tc : Thread nD τ).loc main_arg1))) (sinOf (m ((c.tc : Thread nD τ).loc main_arg1))) (m ((c.tc : Thread nD τ).loc main_arg0))
      (extractStridedSlice S1024x512 ![0, 0] (extf .f32 (m ((c.tc : Thread nD τ).loc main_arg2)) bitsLt_bf16_f32) slices_S1024x7680_S1024x512_0_0)
      (extractStridedSlice S1024x512 ![0, 1536] (extf .f32 (m ((c.tc : Thread nD τ).loc main_arg2)) bitsLt_bf16_f32) slices_S1024x7680_S1024x512_0_1536)
      (extractStridedSlice S1024x512 ![0, 3072] (extf .f32 (m ((c.tc : Thread nD τ).loc main_arg2)) bitsLt_bf16_f32) slices_S1024x7680_S1024x512_0_3072) := by
  unfold res_main_v83 out Cert.Reference14Ideal.Qkv.turn Cert.Reference14Ideal.Qkv.turn3 cosOf sinOf Cert.Kernel14Ideal.Qkv.angle
  rfl

end Cert.Reference14Ideal.Qkv

namespace Cert.Reference15Ideal.Qkv

open Cert.Reference15Ideal Cert.Reference15Ideal.Gen Cert.Reference15Ideal.Value Idealize.ShloMosaic Idealize.ShloMosaic.TcCoe
open Cert.Kernel14Ideal.Qkv (cosOf sinOf)
open Cert.Reference14Ideal.Qkv (out)

theorem res (m : (ℓ : Loc nD τ sig) → Buf (Elt Ideal) ℓ) (c : Dev nD) : res_main_v83 (F := Ideal) m c
    = out (cosOf (m ((c.tc : Thread nD τ).loc main_arg1))) (sinOf (m ((c.tc : Thread nD τ).loc main_arg1))) (m ((c.tc : Thread nD τ).loc main_arg0))
      (extractStridedSlice S1024x512 ![0, 512] (extf .f32 (m ((c.tc : Thread nD τ).loc main_arg2)) bitsLt_bf16_f32) slices_S1024x7680_S1024x512_0_512)
      (extractStridedSlice S1024x512 ![0, 2048] (extf .f32 (m ((c.tc : Thread nD τ).loc main_arg2)) bitsLt_bf16_f32) slices_S1024x7680_S1024x512_0_2048)
      (extractStridedSlice S1024x512 ![0, 3584] (extf .f32 (m ((c.tc : Thread nD τ).loc main_arg2)) bitsLt_bf16_f32) slices_S1024x7680_S1024x512_0_3584) := by
  unfold res_main_v83 out Cert.Reference14Ideal.Qkv.turn Cert.Reference14Ideal.Qkv.turn3 cosOf sinOf Cert.Kernel14Ideal.Qkv.angle
  rfl

end Cert.Reference15Ideal.Qkv

namespace Cert.Reference16Ideal.Qkv

open Cert.Reference16Ideal Cert.Reference16Ideal.Gen Cert.Reference16Ideal.Value Idealize.ShloMosaic Idealize.ShloMosaic.TcCoe
open Cert.Kernel14Ideal.Qkv (cosOf sinOf)
open Cert.Reference14Ideal.Qkv (out)

theorem res (m : (ℓ : Loc nD τ sig) → Buf (Elt Ideal) ℓ) (c : Dev nD) : res_main_v83 (F := Ideal) m c
    = out (cosOf (m ((c.tc : Thread nD τ).loc main_arg1))) (sinOf (m ((c.tc : Thread nD τ).loc main_arg1))) (m ((c.tc : Thread nD τ).loc main_arg0))
      (extractStridedSlice S1024x512 ![0, 1024] (extf .f32 (m ((c.tc : Thread nD τ).loc main_arg2)) bitsLt_bf16_f32) slices_S1024x7680_S1024x512_0_1024)
      (extractStridedSlice S1024x512 ![0, 2560] (extf .f32 (m ((c.tc : Thread nD τ).loc main_arg2)) bitsLt_bf16_f32) slices_S1024x7680_S1024x512_0_2560)
      (extractStridedSlice S1024x512 ![0, 4096] (extf .f32 (m ((c.tc : Thread nD τ).loc main_arg2)) bitsLt_bf16_f32) slices_S1024x7680_S1024x512_0_4096) := by
  unfold res_main_v83 out Cert.Reference14Ideal.Qkv.turn Cert.Reference14Ideal.Qkv.turn3 cosOf sinOf Cert.Kernel14Ideal.Qkv.angle
  rfl

end Cert.Reference16Ideal.Qkv

end
-- ==== Proof.lean ====
/- The claims: for each program the three frames, the idealization, and the equation of the kernel's
   results with the gradient of the reference's lines. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Arrays
public import proofs.«01_k».proof.Proof.RefGrad
public import proofs.«01_k».proof.Proof.FfnRun
public import proofs.«01_k».proof.Proof.FfnRef
public import proofs.«01_k».proof.Proof.WgUp
public import proofs.«01_k».proof.Proof.WgDown
public import proofs.«01_k».proof.Proof.WgOut
public import proofs.«01_k».proof.Proof.WgProj
public import proofs.«01_k».proof.Proof.WgGu
public import proofs.«01_k».proof.Proof.WgIn0
public import proofs.«01_k».proof.Proof.WgIn1
public import proofs.«01_k».proof.Proof.WgIn2
public import proofs.«01_k».proof.Proof.InpArr
public import proofs.«01_k».proof.Proof.InpRef
public import proofs.«01_k».proof.Proof.MfwArr
public import proofs.«01_k».proof.Proof.MfwRef
public import proofs.«01_k».proof.Proof.Guv
public import proofs.«01_k».proof.Proof.Qkv0
public import proofs.«01_k».proof.Proof.Qkv1
public import proofs.«01_k».proof.Proof.Qkv2
public import proofs.«01_k».proof.Proof.QkvRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem preserves : Cert.preserves_Kernel_KernelIdeal := trivial

/-- Both programs end with the specification's five arrays. -/
theorem algebraic : Cert.algebraic_KernelIdeal_ReferenceIdeal := by
  intro m ρ m' ρ' _ hagree
  refine ⟨Cert.KernelIdeal.Arrays.R8 m, Cert.KernelIdeal.Arrays.R9 m, Cert.KernelIdeal.Arrays.R10 m,
    Cert.KernelIdeal.Arrays.R11 m, Cert.KernelIdeal.Arrays.R12 m, ?_, ?_⟩
  · refine (θ_run Cert.KernelIdeal.defs _ _).mono (fun _ h c => ?_) (Cert.KernelIdeal.Value.run_blocks (F := Ideal) m ρ)
    obtain ⟨h8, h9, h10, h11, h12, h⟩ := h c
    exact ⟨h8.trans (Cert.KernelIdeal.Arrays.final8 m c), h9.trans (Cert.KernelIdeal.Arrays.final9 m c),
      h10.trans (Cert.KernelIdeal.Arrays.final10 m c), h11.trans (Cert.KernelIdeal.Arrays.final11 m c),
      h12.trans (Cert.KernelIdeal.Arrays.final12 m c), h⟩
  · refine (θ_run Cert.ReferenceIdeal.defs _ _).mono (fun _ h c => ?_) (Cert.ReferenceIdeal.Value.run (F := Ideal) m' ρ')
    obtain ⟨h8, h9, h10, h11, h12, h⟩ := h c
    obtain ⟨a0, a1, a2, a3, a4, a5, a6⟩ := hagree c
    rw [a0, a1, a2, a3, a4, a5, a6] at h8
    rw [a2, a5, a6] at h9 h10
    rw [a2, a3, a5, a6] at h11
    rw [a2, a4, a5, a6] at h12
    refine ⟨h8.trans ?_, h9.trans ?_, h10.trans ?_, h11.trans ?_, h12.trans ?_, h⟩
    · funext y
      exact (congrArg _ (eq_ix2 y)).trans (Cert.ReferenceIdeal.Grad.dgu_apply _ _ _ _ _ _ _ (y 0) (y 1))
    · funext y
      exact (congrArg _ (eq_ix2 y)).trans (Cert.ReferenceIdeal.Grad.dpa_apply _ _ _ (y 0) (y 1))
    · funext y
      exact (congrArg _ (eq_ix2 y)).trans (Cert.ReferenceIdeal.Grad.dps_apply _ _ _ (y 0) (y 1))
    · funext y
      refine (congrArg _ (eq_ix2 y)).trans ((Cert.ReferenceIdeal.Grad.back_apply _ _ (y 0) (y 1)).trans ?_)
      exact Finset.sum_congr rfl fun k _ => congrArg (· * _) (Cert.ReferenceIdeal.Grad.dpa_apply _ _ _ (y 0) k)
    · funext y
      refine (congrArg _ (eq_ix2 y)).trans ((Cert.ReferenceIdeal.Grad.back_apply _ _ (y 0) (y 1)).trans ?_)
      exact Finset.sum_congr rfl fun k _ => congrArg (· * _) (Cert.ReferenceIdeal.Grad.dps_apply _ _ _ (y 0) k)

/-! ## The feed-forward sub-layer and the loss -/

instance : Cert.Pre_finite.Facts := Cert.Ffn.facts

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ideal2_finite : Cert.quiescent_Kernel2Ideal_pre_finite := fun m ρ _ => Cert.Kernel2Ideal.Gen.frame m ρ
theorem frame_reference2 : Cert.quiescent_Reference2Ideal := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)
theorem frame_reference2_finite : Cert.quiescent_Reference2Ideal_pre_finite := fun m ρ _ => frame_reference2 m ρ trivial

theorem preserves2 : Cert.preserves_Kernel2_Kernel2Ideal := trivial

open Cert.Kernel2Ideal.Run Cert.Kernel2Ideal.Arr in
/-- Both programs end with the specification's loss and gradients. -/
theorem algebraic2 : Cert.algebraic_Kernel2Ideal_Reference2Ideal_pre_finite := by
  intro m ρ m' ρ' hpre hagree
  obtain ⟨A, H⟩ : ∃ A : Dev Cert.Kernel2Ideal.nD → Cert.Ffn.Args, ∀ c : Dev Cert.Kernel2Ideal.nD, Cert.Ffn.Holds
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)) (A c) :=
    ⟨_, fun c => Cert.Ffn.holds_of_finite Cert.Ffn.facts _ _ _ _ _ _ _ (hpre c)⟩
  refine ⟨fun c => lossArr (A c), fun c => rows (Cert.Ffn.dx1 (A c)), fun c => rows (Cert.Ffn.dx1 (A c)),
    fun c => dg2Arr (A c), fun c => dgfArr (A c), Cert.Kernel2Ideal.Run.run m ρ A H, ?_⟩
  refine (θ_run Cert.Reference2Ideal.defs _ _).mono (fun _ h c => ?_) (Cert.Reference2Ideal.Value.run (F := Ideal) m' ρ')
  have G : Cert.Reference2Ideal.Ffn.Given (StableHlo.launchContents m' c) (A c) := by
    obtain ⟨a0, a1, a2, a3, a4, a5, a6⟩ := hagree c
    have q := H c
    rw [← a0, ← a1, ← a2, ← a3, ← a4, ← a5, ← a6] at q
    exact q
  obtain ⟨h0, h1, h2, h3, h4, h⟩ := h c
  exact ⟨h0.trans (Cert.Reference2Ideal.Ffn.arr_loss _ _ G), h1.trans (Cert.Reference2Ideal.Ffn.arr_dx1 _ _ G),
    h2.trans (Cert.Reference2Ideal.Ffn.arr_dx1 _ _ G), h3.trans (Cert.Reference2Ideal.Ffn.arr_dg2 _ _ G),
    h4.trans (Cert.Reference2Ideal.Ffn.arr_dgf _ _ G), h⟩

/-! ## The weights' gradients -/

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves3 : Cert.preserves_Kernel3_Kernel3Ideal := trivial
theorem algebraic3 : Cert.algebraic_Kernel3Ideal_Reference3Ideal := fun m ρ m' ρ' _ hagree => by
  refine ⟨Cert.Kernel3Ideal.Value.G2 m, Cert.Kernel3Ideal.Value.run (F := Ideal) m ρ, ?_⟩
  refine (θ_run Cert.Reference3Ideal.defs _ _).mono (fun _ h c => ⟨(h c).1.trans ((Cert.Reference3Ideal.Wg.ref_eq _ _).trans ?_), (h c).2⟩)
    (Cert.Reference3Ideal.Value.run (F := Ideal) m' ρ')
  rw [(hagree c).1, (hagree c).2]
  exact (Cert.Kernel3Ideal.Wg.G_eq m c).symm

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)
theorem preserves4 : Cert.preserves_Kernel4_Kernel4Ideal := trivial
theorem algebraic4 : Cert.algebraic_Kernel4Ideal_Reference4Ideal := fun m ρ m' ρ' _ hagree => by
  refine ⟨Cert.Kernel4Ideal.Value.G2 m, Cert.Kernel4Ideal.Value.run (F := Ideal) m ρ, ?_⟩
  refine (θ_run Cert.Reference4Ideal.defs _ _).mono (fun _ h c => ⟨(h c).1.trans ((Cert.Reference4Ideal.Wg.ref_eq _ _).trans ?_), (h c).2⟩)
    (Cert.Reference4Ideal.Value.run (F := Ideal) m' ρ')
  rw [(hagree c).1, (hagree c).2]
  exact (Cert.Kernel4Ideal.Wg.G_eq m c).symm

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)
theorem preserves5 : Cert.preserves_Kernel5_Kernel5Ideal := trivial
theorem algebraic5 : Cert.algebraic_Kernel5Ideal_Reference5Ideal := fun m ρ m' ρ' _ hagree => by
  refine ⟨Cert.Kernel5Ideal.Value.G2 m, Cert.Kernel5Ideal.Value.run (F := Ideal) m ρ, ?_⟩
  refine (θ_run Cert.Reference5Ideal.defs _ _).mono (fun _ h c => ⟨(h c).1.trans ((Cert.Reference5Ideal.Wg.ref_eq _ _).trans ?_), (h c).2⟩)
    (Cert.Reference5Ideal.Value.run (F := Ideal) m' ρ')
  rw [(hagree c).1, (hagree c).2]
  exact (Cert.Kernel5Ideal.Wg.G_eq m c).symm

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)
theorem preserves6 : Cert.preserves_Kernel6_Kernel6Ideal := trivial
theorem algebraic6 : Cert.algebraic_Kernel6Ideal_Reference6Ideal := fun m ρ m' ρ' _ hagree => by
  refine ⟨Cert.Kernel6Ideal.Value.G2 m, Cert.Kernel6Ideal.Value.run (F := Ideal) m ρ, ?_⟩
  refine (θ_run Cert.Reference6Ideal.defs _ _).mono (fun _ h c => ⟨(h c).1.trans ((Cert.Reference6Ideal.Wg.ref_eq _ _).trans ?_), (h c).2⟩)
    (Cert.Reference6Ideal.Value.run (F := Ideal) m' ρ')
  rw [(hagree c).1, (hagree c).2]
  exact (Cert.Kernel6Ideal.Wg.G_eq m c).symm

/-! ## The input projection's weights: the two halves' columns, then the three dilations' -/

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)
theorem preserves8 : Cert.preserves_Kernel8_Kernel8Ideal := trivial
theorem algebraic8 : Cert.algebraic_Kernel8Ideal_Reference8Ideal := fun m ρ m' ρ' _ hagree => by
  refine ⟨_, Cert.Kernel8Ideal.Wg.run m ρ, ?_⟩
  refine (θ_run Cert.Reference8Ideal.defs _ _).mono (fun _ h c => ⟨(h c).1.trans ((Cert.Reference8Ideal.Wg.ref_eq _ _).trans ?_), (h c).2⟩)
    (Cert.Reference8Ideal.Value.run (F := Ideal) m' ρ')
  rw [(hagree c).1, (hagree c).2]

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)
theorem preserves9 : Cert.preserves_Kernel9_Kernel9Ideal := trivial
theorem algebraic9 : Cert.algebraic_Kernel9Ideal_Reference9Ideal := fun m ρ m' ρ' _ hagree => by
  refine ⟨_, Cert.Kernel9Ideal.Value.run_blocks (F := Ideal) m ρ, ?_⟩
  refine (θ_run Cert.Reference9Ideal.defs _ _).mono (fun _ h c => ⟨(h c).1.trans ((Cert.Reference9Ideal.Wg.ref_eq _ _ _).trans ?_), (h c).2⟩)
    (Cert.Reference9Ideal.Value.run (F := Ideal) m' ρ')
  rw [(hagree c).1, (hagree c).2.1, (hagree c).2.2]
  exact (Cert.Kernel9Ideal.Wg.arr_eq m c).symm

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)
theorem preserves10 : Cert.preserves_Kernel10_Kernel10Ideal := trivial
theorem algebraic10 : Cert.algebraic_Kernel10Ideal_Reference10Ideal := fun m ρ m' ρ' _ hagree => by
  refine ⟨_, Cert.Kernel10Ideal.Value.run_blocks (F := Ideal) m ρ, ?_⟩
  refine (θ_run Cert.Reference10Ideal.defs _ _).mono (fun _ h c => ⟨(h c).1.trans ((Cert.Reference10Ideal.Wg.ref_eq _ _ _).trans ?_), (h c).2⟩)
    (Cert.Reference10Ideal.Value.run (F := Ideal) m' ρ')
  rw [(hagree c).1, (hagree c).2.1, (hagree c).2.2]
  exact (Cert.Kernel10Ideal.Wg.arr_eq m c).symm

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_reference11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)
theorem preserves11 : Cert.preserves_Kernel11_Kernel11Ideal := trivial
theorem algebraic11 : Cert.algebraic_Kernel11Ideal_Reference11Ideal := fun m ρ m' ρ' _ hagree => by
  refine ⟨_, Cert.Kernel11Ideal.Value.run_blocks (F := Ideal) m ρ, ?_⟩
  refine (θ_run Cert.Reference11Ideal.defs _ _).mono (fun _ h c => ⟨(h c).1.trans ((Cert.Reference11Ideal.Wg.ref_eq _ _ _).trans ?_), (h c).2⟩)
    (Cert.Reference11Ideal.Value.run (F := Ideal) m' ρ')
  rw [(hagree c).1, (hagree c).2.1, (hagree c).2.2]
  exact (Cert.Kernel11Ideal.Wg.arr_eq m c).symm

/-! ## The input projection's backward -/

instance : Cert.Pre_finite_rows.Facts := Cert.Inproj.facts

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_ideal7_finite : Cert.quiescent_Kernel7Ideal_pre_finite_rows := fun m ρ _ => Cert.Kernel7Ideal.Gen.frame m ρ
theorem frame_reference7 : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)
theorem frame_reference7_finite : Cert.quiescent_Reference7Ideal_pre_finite_rows := fun m ρ _ => frame_reference7 m ρ trivial

theorem preserves7 : Cert.preserves_Kernel7_Kernel7Ideal := trivial

/-- Both programs end with the specification's two arrays. -/
theorem algebraic7 : Cert.algebraic_Kernel7Ideal_Reference7Ideal_pre_finite_rows := by
  intro m ρ m' ρ' hpre hagree
  obtain ⟨A, H⟩ : ∃ A : Dev Cert.Kernel7Ideal.nD → Cert.Inproj.Args, ∀ c : Dev Cert.Kernel7Ideal.nD, Cert.Inproj.Holds
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))
      (m ((c.tc : Thread Cert.Kernel7Ideal.nD Cert.Kernel7Ideal.τ).loc Cert.Kernel7Ideal.main_arg4))
      (m ((c.tc : Thread Cert.Kernel7Ideal.nD Cert.Kernel7Ideal.τ).loc Cert.Kernel7Ideal.main_arg5))
      (m ((c.tc : Thread Cert.Kernel7Ideal.nD Cert.Kernel7Ideal.τ).loc Cert.Kernel7Ideal.main_arg6))
      (m ((c.tc : Thread Cert.Kernel7Ideal.nD Cert.Kernel7Ideal.τ).loc Cert.Kernel7Ideal.main_arg7)) (A c) :=
    ⟨_, fun c => Cert.Inproj.holds_of_finite Cert.Inproj.facts _ _ _ _ _ _ _ _ (hpre c)⟩
  refine ⟨fun c => fun y => ((Cert.Inproj.dx (A c) (y 0) (y 1) : ℝ) : EReal), fun c => fun y => ((Cert.Inproj.dg (A c) (y 1) : ℝ) : EReal), ?_, ?_⟩
  · refine (θ_run Cert.Kernel7Ideal.defs _ _).mono (fun _ h c => ?_) (Cert.Kernel7Ideal.Value.run_blocks (F := Ideal) m ρ)
    obtain ⟨h0, h1, h⟩ := h c
    exact ⟨h0.trans (Cert.Kernel7Ideal.Inproj.arr18 m c (A c) (H c)), h1.trans (Cert.Kernel7Ideal.Inproj.arr19 m c (A c) (H c)), h⟩
  · refine (θ_run Cert.Reference7Ideal.defs _ _).mono (fun _ h c => ?_) (Cert.Reference7Ideal.Value.run (F := Ideal) m' ρ')
    obtain ⟨h0, h1, h⟩ := h c
    have q := H c
    obtain ⟨a0, a1, a2, a3, a4, a5, a6, a7⟩ := hagree c
    rw [← a0, ← a1, ← a2, ← a3, ← a4, ← a5, ← a6, ← a7] at q
    exact ⟨h0.trans ((Cert.Reference7Ideal.Inproj.res_dx m' c).trans (Cert.Reference7Ideal.Inproj.arr_dx _ _ _ _ _ _ _ _ _ q)),
      h1.trans (Cert.Reference7Ideal.Inproj.arr_dg _ _ _ _ _ _ _ _ _ q), h⟩

/-! ## The merge of the block, forward -/

theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_reference12 : Cert.quiescent_Reference12Ideal := fun m ρ _ =>
  (θ_run Cert.Reference12Ideal.defs _ _).mono (fun r h => ⟨fun c => (h c).2.2.2.2.2,
      Idealize.ShloMosaic.sem_eq_zero_of_no_sems (by decide) r.2⟩)
    (Cert.Reference12Ideal.Value.run (F := Ideal) m ρ)

theorem preserves12 : Cert.preserves_Kernel12_Kernel12Ideal := trivial

theorem algebraic12 : Cert.algebraic_Kernel12Ideal_Reference12Ideal := by
  intro m ρ m' ρ' _ hagree
  refine ⟨Cert.Kernel12Ideal.Arrays.R9 m, Cert.Kernel12Ideal.Arrays.R10 m, Cert.Kernel12Ideal.Arrays.R11 m,
    Cert.Kernel12Ideal.Arrays.R12 m, Cert.Kernel12Ideal.Arrays.R13 m, ?_, ?_⟩
  · refine (θ_run Cert.Kernel12Ideal.defs _ _).mono (fun _ h c => ?_) (Cert.Kernel12Ideal.Value.run_blocks (F := Ideal) m ρ)
    obtain ⟨h9, h10, h11, h12, h13, h⟩ := h c
    exact ⟨h9.trans (Cert.Kernel12Ideal.Arrays.final9 m c), h10.trans (Cert.Kernel12Ideal.Arrays.final10 m c),
      h11.trans (Cert.Kernel12Ideal.Arrays.final11 m c), h12.trans (Cert.Kernel12Ideal.Arrays.final12 m c),
      h13.trans (Cert.Kernel12Ideal.Arrays.final13 m c), h⟩
  · refine (θ_run Cert.Reference12Ideal.defs _ _).mono (fun _ h c => ?_) (Cert.Reference12Ideal.Value.run (F := Ideal) m' ρ')
    obtain ⟨h9, h10, h11, h12, h13, h⟩ := h c
    obtain ⟨a0, a1, a2, a3, a4, a5, a6, a7⟩ := hagree c
    rw [a0, a4] at h9
    rw [a1, a5] at h10
    rw [a0, a1, a2, a4, a5] at h11
    rw [a0, a1, a2, a3, a4, a5, a6] at h12
    rw [Cert.Reference12Ideal.Mfw.res_next, a0, a1, a2, a3, a4, a5, a6, a7] at h13
    refine ⟨h9.trans ?_, h10.trans ?_, h11.trans ?_, h12.trans ?_, h13.trans ?_, h⟩
    · funext y
      exact (congrArg _ (eq_ix2 y)).trans (Cert.Reference12Ideal.Mfw.proj_apply _ _ (y 0) (y 1))
    · funext y
      exact (congrArg _ (eq_ix2 y)).trans (Cert.Reference12Ideal.Mfw.proj_apply _ _ (y 0) (y 1))
    · funext y
      exact (congrArg _ (eq_ix2 y)).trans (Cert.Reference12Ideal.Mfw.merged_apply _ _ _ _ _ (y 0) (y 1))
    · funext y
      exact (congrArg _ (eq_ix2 y)).trans (Cert.Reference12Ideal.Mfw.stream_apply _ _ _ _ _ _ _ (y 0) (y 1))
    · funext y
      exact (congrArg _ (eq_ix2 y)).trans (Cert.Reference12Ideal.Mfw.next_apply _ _ _ _ _ _ _ _ (y 0) (y 1))

/-! ## The gate and value columns of the input projection -/

theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_reference13 : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

theorem preserves13 : Cert.preserves_Kernel13_Kernel13Ideal := trivial

theorem algebraic13 : Cert.algebraic_Kernel13Ideal_Reference13Ideal := by
  intro m ρ m' ρ' _ hagree
  refine ⟨Cert.Kernel13Ideal.Guv.R3 m, ?_, ?_⟩
  · exact (θ_run Cert.Kernel13Ideal.defs _ _).mono (fun _ h c => ⟨(h c).1.trans (Cert.Kernel13Ideal.Guv.final3 m c), (h c).2⟩)
      (Cert.Kernel13Ideal.Value.run_blocks (F := Ideal) m ρ)
  · refine (θ_run Cert.Reference13Ideal.defs _ _).mono (fun _ h c => ?_) (Cert.Reference13Ideal.Value.run (F := Ideal) m' ρ')
    obtain ⟨h3, h⟩ := h c
    obtain ⟨a0, a1⟩ := hagree c
    rw [a0, a1] at h3
    refine ⟨h3.trans ?_, h⟩
    funext y
    exact (congrArg _ (eq_ix2 y)).trans (Cert.Reference13Ideal.Guv.out_apply _ _ (y 0) (y 1))

/-! ## The queries, keys and values of the three dilations -/

theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_reference14 : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

theorem preserves14 : Cert.preserves_Kernel14_Kernel14Ideal := trivial

theorem algebraic14 : Cert.algebraic_Kernel14Ideal_Reference14Ideal := by
  intro m ρ m' ρ' _ hagree
  refine ⟨Cert.Kernel14Ideal.Qkv.R6 m, ?_, ?_⟩
  · exact (θ_run Cert.Kernel14Ideal.defs _ _).mono (fun _ h c => ⟨(h c).1.trans (Cert.Kernel14Ideal.Qkv.final6 m c), (h c).2⟩)
      (Cert.Kernel14Ideal.Value.run_blocks (F := Ideal) m ρ)
  · refine (θ_run Cert.Reference14Ideal.defs _ _).mono (fun _ h c => ?_) (Cert.Reference14Ideal.Value.run (F := Ideal) m' ρ')
    obtain ⟨h6, h⟩ := h c
    obtain ⟨a0, a1, a2⟩ := hagree c
    rw [Cert.Reference14Ideal.Qkv.res, a0, a1, a2] at h6
    exact ⟨h6.trans (Cert.Reference14Ideal.Qkv.arr _ _ _ _ _ _ (by decide) (by decide) (by decide) _ _ _), h⟩

theorem frame_kernel15 : Cert.quiescent_Kernel15 := fun m ρ _ => Cert.Kernel15.Gen.frame m ρ
theorem frame_ideal15 : Cert.quiescent_Kernel15Ideal := fun m ρ _ => Cert.Kernel15Ideal.Gen.frame m ρ
theorem frame_reference15 : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem preserves15 : Cert.preserves_Kernel15_Kernel15Ideal := trivial

theorem algebraic15 : Cert.algebraic_Kernel15Ideal_Reference15Ideal := by
  intro m ρ m' ρ' _ hagree
  refine ⟨Cert.Kernel15Ideal.Qkv.R6 m, ?_, ?_⟩
  · exact (θ_run Cert.Kernel15Ideal.defs _ _).mono (fun _ h c => ⟨(h c).1.trans (Cert.Kernel15Ideal.Qkv.final6 m c), (h c).2⟩)
      (Cert.Kernel15Ideal.Value.run_blocks (F := Ideal) m ρ)
  · refine (θ_run Cert.Reference15Ideal.defs _ _).mono (fun _ h c => ?_) (Cert.Reference15Ideal.Value.run (F := Ideal) m' ρ')
    obtain ⟨h6, h⟩ := h c
    obtain ⟨a0, a1, a2⟩ := hagree c
    rw [Cert.Reference15Ideal.Qkv.res, a0, a1, a2] at h6
    exact ⟨h6.trans (Cert.Reference14Ideal.Qkv.arr _ _ _ _ _ _ (by decide) (by decide) (by decide) _ _ _), h⟩

theorem frame_kernel16 : Cert.quiescent_Kernel16 := fun m ρ _ => Cert.Kernel16.Gen.frame m ρ
theorem frame_ideal16 : Cert.quiescent_Kernel16Ideal := fun m ρ _ => Cert.Kernel16Ideal.Gen.frame m ρ
theorem frame_reference16 : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

theorem preserves16 : Cert.preserves_Kernel16_Kernel16Ideal := trivial

theorem algebraic16 : Cert.algebraic_Kernel16Ideal_Reference16Ideal := by
  intro m ρ m' ρ' _ hagree
  refine ⟨Cert.Kernel16Ideal.Qkv.R6 m, ?_, ?_⟩
  · exact (θ_run Cert.Kernel16Ideal.defs _ _).mono (fun _ h c => ⟨(h c).1.trans (Cert.Kernel16Ideal.Qkv.final6 m c), (h c).2⟩)
      (Cert.Kernel16Ideal.Value.run_blocks (F := Ideal) m ρ)
  · refine (θ_run Cert.Reference16Ideal.defs _ _).mono (fun _ h c => ?_) (Cert.Reference16Ideal.Value.run (F := Ideal) m' ρ')
    obtain ⟨h6, h⟩ := h c
    obtain ⟨a0, a1, a2⟩ := hagree c
    rw [Cert.Reference16Ideal.Qkv.res, a0, a1, a2] at h6
    exact ⟨h6.trans (Cert.Reference14Ideal.Qkv.arr _ _ _ _ _ _ (by decide) (by decide) (by decide) _ _ _), h⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel7.Gen.facts, Cert.Kernel7Ideal.Gen.facts, Cert.Reference7Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Ffn.facts, Cert.Inproj.facts,
  frame_kernel, frame_ideal, frame_reference, frame_kernel2, frame_ideal2, frame_ideal2_finite, frame_reference2,
  frame_reference2_finite,
  frame_kernel3, frame_ideal3, frame_reference3, frame_kernel4, frame_ideal4, frame_reference4, frame_kernel5, frame_ideal5, frame_reference5, frame_kernel6, frame_ideal6, frame_reference6,
  frame_kernel8, frame_ideal8, frame_reference8, frame_kernel9, frame_ideal9, frame_reference9, frame_kernel10, frame_ideal10, frame_reference10, frame_kernel11, frame_ideal11, frame_reference11,
  frame_kernel7, frame_ideal7, frame_ideal7_finite, frame_reference7, frame_reference7_finite,
  frame_kernel12, frame_ideal12, frame_reference12, frame_kernel13, frame_ideal13, frame_reference13, frame_kernel14, frame_ideal14, frame_reference14, frame_kernel15, frame_ideal15, frame_reference15, frame_kernel16, frame_ideal16, frame_reference16,
  preserves, algebraic, preserves2, algebraic2,
  preserves3, algebraic3, preserves4, algebraic4, preserves5, algebraic5, preserves6, algebraic6,
  preserves8, algebraic8, preserves9, algebraic9, preserves10, algebraic10, preserves11, algebraic11, preserves7, algebraic7,
  preserves12, algebraic12, preserves13, algebraic13, preserves14, algebraic14, preserves15, algebraic15, preserves16, algebraic16⟩

end Cert.Proof

end
